-- ==== Defs.lean ====
def Pre_Kernel [hPre_indices_name_rows : Cert.Pre_indices_name_rows.Facts] (m : (ℓ : Loc Cert.Kernel.nD Cert.Kernel.τ Cert.Kernel.sig) → Buf (Elt Bits) ℓ) : Prop :=
  ∀ c : Dev Cert.Kernel.nD,
    (Cert.Pre_indices_name_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).1 = (fun _ => 1#1)
    ∧ (Cert.Pre_indices_name_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.1 = (fun _ => 1#1)
    ∧ (Cert.Pre_indices_name_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.1 = (fun _ => 1#1)
    ∧ (Cert.Pre_indices_name_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2 = (fun _ => 1#1)

def Pre_KernelIdeal [hPre_indices_name_rows : Cert.Pre_indices_name_rows.Facts] (m : (ℓ : Loc Cert.KernelIdeal.nD Cert.KernelIdeal.τ Cert.KernelIdeal.sig) → Buf (Elt Ideal) ℓ) : Prop :=
  ∀ c : Dev Cert.KernelIdeal.nD,
    (Cert.Pre_indices_name_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_indices_name_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_indices_name_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_indices_name_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_KernelIdeal_finite_rows [hPre_finite_rows : Cert.Pre_finite_rows.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows [hPre_finite_rows : Cert.Pre_finite_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] [hPre_indices_name_rows : Cert.Pre_indices_name_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_indices_name_rows : Cert.Pre_indices_name_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_rows [hKernelIdeal : Cert.KernelIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_rows [hReferenceIdeal : Cert.ReferenceIdeal.Facts] [hPre_finite_rows : Cert.Pre_finite_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_rows [hKernelIdeal : Cert.KernelIdeal.Facts] [hReferenceIdeal : Cert.ReferenceIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_indices_name_rows : Cert.Pre_indices_name_rows.Facts) (hPre_finite_rows : Cert.Pre_finite_rows.Facts),
    quiescent_Kernel (hKernel := hKernel) (hPre_indices_name_rows := hPre_indices_name_rows)
    ∧ quiescent_KernelIdeal (hKernelIdeal := hKernelIdeal) (hPre_indices_name_rows := hPre_indices_name_rows)
    ∧ quiescent_KernelIdeal_pre_finite_rows (hKernelIdeal := hKernelIdeal) (hPre_finite_rows := hPre_finite_rows)
    ∧ quiescent_ReferenceIdeal (hReferenceIdeal := hReferenceIdeal)
    ∧ quiescent_ReferenceIdeal_pre_finite_rows (hReferenceIdeal := hReferenceIdeal) (hPre_finite_rows := hPre_finite_rows)
    ∧ preserves_Kernel_KernelIdeal
    ∧ algebraic_KernelIdeal_ReferenceIdeal_pre_finite_rows (hKernelIdeal := hKernelIdeal) (hReferenceIdeal := hReferenceIdeal) (hPre_finite_rows := hPre_finite_rows)
-- ==== Pre_finite_rows.lean ====
abbrev S100000x128 : Shape := ⟨2, ![100000, 128]⟩
abbrev S100000 : Shape := ⟨1, ![100000]⟩
abbrev S500000 : Shape := ⟨1, ![500000]⟩
abbrev S_ : Shape := ⟨0, ![]⟩

class Facts : Prop where
  bcast_S_S100000x128 : S_.BroadcastsInDim S100000x128 (![] : Fin 0 → Fin S100000x128.rank)
  bcast_S_S100000 : S_.BroadcastsInDim S100000 (![] : Fin 0 → Fin S100000.rank)
  bcast_S_S500000 : S_.BroadcastsInDim S500000 (![] : Fin 0 → Fin S500000.rank)

variable [Facts]

def fn_part1 {F : FTy → Type} [FloatOps F] (main_arg4 : IVec S500000 32) (main_v2 : IVec S100000x128 1) (main_v7 : IVec S100000 1) (main_v12 : IVec S100000 1) (main_v14 : IVec S500000 1) (main_v16 : IVec S500000 1) : IVec S100000x128 1 × IVec S100000 1 × IVec S100000 1 × IVec S500000 1 × IVec S500000 1 :=
  let main_v17 : IVec S500000 1 := andi main_v14 main_v16
  let main_c_5 : IVec S_ 32 := constantI S_ 32 0#32
  let main_v18 : IVec S500000 32 := broadcastInDim S500000 ![] bcast_S_S500000 main_c_5
  let main_v19 : IVec S500000 1 := cmpi .sge main_arg4 main_v18
  let main_c_6 : IVec S_ 32 := constantI S_ 32 100000#32
  let main_v20 : IVec S500000 32 := broadcastInDim S500000 ![] bcast_S_S500000 main_c_6
  let main_v21 : IVec S500000 1 := cmpi .slt main_arg4 main_v20
  let main_v22 : IVec S500000 1 := andi main_v19 main_v21
  (main_v2, main_v7, main_v12, main_v17, main_v22)

def fn {F : FTy → Type} [FloatOps F] (main_arg0 : FVec F S100000x128 .f32) (main_arg1 : IVec S100000 32) (main_arg2 : IVec S100000 32) (main_arg3 : IVec S500000 32) (main_arg4 : IVec S500000 32) : IVec S100000x128 1 × IVec S100000 1 × IVec S100000 1 × IVec S500000 1 × IVec S500000 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 32 := constantI S_ 32 0#32
  let main_v3 : IVec S100000 32 := broadcastInDim S100000 ![] bcast_S_S100000 main_c
  let main_v4 : IVec S100000 1 := cmpi .sge main_arg1 main_v3
  let main_c_0 : IVec S_ 32 := constantI S_ 32 100000#32
  let main_v5 : IVec S100000 32 := broadcastInDim S100000 ![] bcast_S_S100000 main_c_0
  let main_v6 : IVec S100000 1 := cmpi .slt main_arg1 main_v5
  let main_v7 : IVec S100000 1 := andi main_v4 main_v6
  let main_c_1 : IVec S_ 32 := constantI S_ 32 0#32
  let main_v8 : IVec S100000 32 := broadcastInDim S100000 ![] bcast_S_S100000 main_c_1
  let main_v9 : IVec S100000 1 := cmpi .sge main_arg2 main_v8
  let main_c_2 : IVec S_ 32 := constantI S_ 32 100000#32
  let main_v10 : IVec S100000 32 := broadcastInDim S100000 ![] bcast_S_S100000 main_c_2
  let main_v11 : IVec S100000 1 := cmpi .slt main_arg2 main_v10
  let main_v12 : IVec S100000 1 := andi main_v9 main_v11
  let main_c_3 : IVec S_ 32 := constantI S_ 32 0#32
  let main_v13 : IVec S500000 32 := broadcastInDim S500000 ![] bcast_S_S500000 main_c_3
  let main_v14 : IVec S500000 1 := cmpi .sge main_arg3 main_v13
  let main_c_4 : IVec S_ 32 := constantI S_ 32 100000#32
  let main_v15 : IVec S500000 32 := broadcastInDim S500000 ![] bcast_S_S500000 main_c_4
  let main_v16 : IVec S500000 1 := cmpi .slt main_arg3 main_v15
  fn_part1 (F := F) main_arg4 main_v2 main_v7 main_v12 main_v14 main_v16
-- ==== Pre_indices_name_rows.lean ====
abbrev S100000x128 : Shape := ⟨2, ![100000, 128]⟩
abbrev S100000 : Shape := ⟨1, ![100000]⟩
abbrev S500000 : Shape := ⟨1, ![500000]⟩
abbrev S_ : Shape := ⟨0, ![]⟩

class Facts : Prop where
  bcast_S_S100000 : S_.BroadcastsInDim S100000 (![] : Fin 0 → Fin S100000.rank)
  bcast_S_S500000 : S_.BroadcastsInDim S500000 (![] : Fin 0 → Fin S500000.rank)

variable [Facts]

def fn_part1 {F : FTy → Type} [FloatOps F] (main_arg4 : IVec S500000 32) (main_v4 : IVec S100000 1) (main_v9 : IVec S100000 1) (main_v14 : IVec S500000 1) (main_v16 : IVec S500000 1) : IVec S100000 1 × IVec S100000 1 × IVec S500000 1 × IVec S500000 1 :=
  let main_c_6 : IVec S_ 32 := constantI S_ 32 100000#32
  let main_v17 : IVec S500000 32 := broadcastInDim S500000 ![] bcast_S_S500000 main_c_6
  let main_v18 : IVec S500000 1 := cmpi .slt main_arg4 main_v17
  let main_v19 : IVec S500000 1 := andi main_v16 main_v18
  (main_v4, main_v9, main_v14, main_v19)

def fn {F : FTy → Type} [FloatOps F] (main_arg0 : FVec F S100000x128 .f32) (main_arg1 : IVec S100000 32) (main_arg2 : IVec S100000 32) (main_arg3 : IVec S500000 32) (main_arg4 : IVec S500000 32) : IVec S100000 1 × IVec S100000 1 × IVec S500000 1 × IVec S500000 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 100000#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 32 := constantI S_ 32 0#32
  let main_v5 : IVec S100000 32 := broadcastInDim S100000 ![] bcast_S_S100000 main_c_1
  let main_v6 : IVec S100000 1 := cmpi .sge main_arg2 main_v5
  let main_c_2 : IVec S_ 32 := constantI S_ 32 100000#32
  let main_v7 : IVec S100000 32 := broadcastInDim S100000 ![] bcast_S_S100000 main_c_2
  let main_v8 : IVec S100000 1 := cmpi .slt main_arg2 main_v7
  let main_v9 : IVec S100000 1 := andi main_v6 main_v8
  let main_c_3 : IVec S_ 32 := constantI S_ 32 0#32
  let main_v10 : IVec S500000 32 := broadcastInDim S500000 ![] bcast_S_S500000 main_c_3
  let main_v11 : IVec S500000 1 := cmpi .sge main_arg3 main_v10
  let main_c_4 : IVec S_ 32 := constantI S_ 32 100000#32
  let main_v12 : IVec S500000 32 := broadcastInDim S500000 ![] bcast_S_S500000 main_c_4
  let main_v13 : IVec S500000 1 := cmpi .slt main_arg3 main_v12
  let main_v14 : IVec S500000 1 := andi main_v11 main_v13
  let main_c_5 : IVec S_ 32 := constantI S_ 32 0#32
  let main_v15 : IVec S500000 32 := broadcastInDim S500000 ![] bcast_S_S500000 main_c_5
  let main_v16 : IVec S500000 1 := cmpi .sge main_arg4 main_v15
  fn_part1 (F := F) main_arg4 main_v4 main_v9 main_v14 main_v16
-- ==== Kernel.lean ====
abbrev S100000x128 : Shape := ⟨2, ![100000, 128]⟩
abbrev S100000 : Shape := ⟨1, ![100000]⟩
abbrev S500000 : Shape := ⟨1, ![500000]⟩
abbrev S_ : Shape := ⟨0, ![]⟩
abbrev S100352 : Shape := ⟨1, ![100352]⟩
abbrev S501760 : Shape := ⟨1, ![501760]⟩
abbrev S602112 : Shape := ⟨1, ![602112]⟩
abbrev S512 : Shape := ⟨1, ![512]⟩
abbrev S3136 : Shape := ⟨1, ![3136]⟩
abbrev S15680 : Shape := ⟨1, ![15680]⟩
abbrev S16x128 : Shape := ⟨2, ![16, 128]⟩
abbrev S80x128 : Shape := ⟨2, ![80, 128]⟩
abbrev S16x17 : Shape := ⟨2, ![16, 17]⟩
abbrev S80 : Shape := ⟨1, ![80]⟩
abbrev S16 : Shape := ⟨1, ![16]⟩
abbrev S1x16 : Shape := ⟨2, ![1, 16]⟩
abbrev S784x128 : Shape := ⟨2, ![784, 128]⟩
abbrev S3920x128 : Shape := ⟨2, ![3920, 128]⟩
abbrev S4x128 : Shape := ⟨2, ![4, 128]⟩
abbrev S2x128 : Shape := ⟨2, ![2, 128]⟩
abbrev S1x784x128 : Shape := ⟨3, ![1, 784, 128]⟩
abbrev S1 : Shape := ⟨1, ![1]⟩
abbrev S1x1x1 : Shape := ⟨3, ![1, 1, 1]⟩
abbrev S1x3920x128 : Shape := ⟨3, ![1, 3920, 128]⟩
abbrev S1x4x128 : Shape := ⟨3, ![1, 4, 128]⟩
abbrev S1x128 : Shape := ⟨2, ![1, 128]⟩
abbrev S1x1 : Shape := ⟨2, ![1, 1]⟩

abbrev nBuf : Table → Nat
  | .hbm => 31
  | .local .tc .vmem => 4
  | .local .scVector .vmem => 18
  | _ => 0

abbrev bufTy : (tb : Table) → Fin (nBuf tb) → BufTy
  | .hbm, ⟨0, _⟩ => ⟨S100000x128, .f32⟩
  | .hbm, ⟨1, _⟩ => ⟨S100000, .i32⟩
  | .hbm, ⟨2, _⟩ => ⟨S100000, .i32⟩
  | .hbm, ⟨3, _⟩ => ⟨S500000, .i32⟩
  | .hbm, ⟨4, _⟩ => ⟨S500000, .i32⟩
  | .hbm, ⟨5, _⟩ => ⟨S_, .i32⟩
  | .hbm, ⟨6, _⟩ => ⟨S_, .i32⟩
  | .hbm, ⟨7, _⟩ => ⟨S100352, .i32⟩
  | .hbm, ⟨8, _⟩ => ⟨S_, .i32⟩
  | .hbm, ⟨9, _⟩ => ⟨S_, .i32⟩
  | .hbm, ⟨10, _⟩ => ⟨S501760, .i32⟩
  | .hbm, ⟨11, _⟩ => ⟨S602112, .i32⟩
  | .hbm, ⟨12, _⟩ => ⟨S_, .i32⟩
  | .hbm, ⟨13, _⟩ => ⟨S_, .i32⟩
  | .hbm, ⟨14, _⟩ => ⟨S100352, .i32⟩
  | .hbm, ⟨15, _⟩ => ⟨S_, .i32⟩
  | .hbm, ⟨16, _⟩ => ⟨S_, .i32⟩
  | .hbm, ⟨17, _⟩ => ⟨S501760, .i32⟩
  | .hbm, ⟨18, _⟩ => ⟨S602112, .i32⟩
  | .hbm, ⟨19, _⟩ => ⟨S602112, .f32⟩
  | .hbm, ⟨20, _⟩ => ⟨S512, .f32⟩
  | .hbm, ⟨21, _⟩ => ⟨S100352, .f32⟩
  | .hbm, ⟨22, _⟩ => ⟨S784x128, .f32⟩
  | .hbm, ⟨23, _⟩ => ⟨S501760, .f32⟩
  | .hbm, ⟨24, _⟩ => ⟨S3920x128, .f32⟩
  | .hbm, ⟨25, _⟩ => ⟨S4x128, .f32⟩
  | .hbm, ⟨26, _⟩ => ⟨S2x128, .f32⟩
  | .hbm, ⟨27, _⟩ => ⟨S1x1, .f32⟩
  | .hbm, ⟨28, _⟩ => ⟨S_, .f32⟩
  | .hbm, ⟨29, _⟩ => ⟨S1x1, .f32⟩
  | .hbm, ⟨30, _⟩ => ⟨S_, .f32⟩
  | .local .tc .vmem, ⟨0, _⟩ => ⟨S784x128, .f32⟩
  | .local .tc .vmem, ⟨1, _⟩ => ⟨S3920x128, .f32⟩
  | .local .tc .vmem, ⟨2, _⟩ => ⟨S4x128, .f32⟩
  | .local .tc .vmem, ⟨3, _⟩ => ⟨S2x128, .f32⟩
  | .local .scVector .vmem, ⟨0, _⟩ => ⟨S3136, .i32⟩
  | .local .scVector .vmem, ⟨1, _⟩ => ⟨S3136, .i32⟩
  | .local .scVector .vmem, ⟨2, _⟩ => ⟨S15680, .i32⟩
  | .local .scVector .vmem, ⟨3, _⟩ => ⟨S15680, .i32⟩
  | .local .scVector .vmem, ⟨4, _⟩ => ⟨S16x128, .f32⟩
  | .local .scVector .vmem, ⟨5, _⟩ => ⟨S16x128, .f32⟩
  | .local .scVector .vmem, ⟨6, _⟩ => ⟨S80x128, .f32⟩
  | .local .scVector .vmem, ⟨7, _⟩ => ⟨S80x128, .f32⟩
  | .local .scVector .vmem, ⟨8, _⟩ => ⟨S16x128, .f32⟩
  | .local .scVector .vmem, ⟨9, _⟩ => ⟨S16x128, .f32⟩
  | .local .scVector .vmem, ⟨10, _⟩ => ⟨S80x128, .f32⟩
  | .local .scVector .vmem, ⟨11, _⟩ => ⟨S80x128, .f32⟩
  | .local .scVector .vmem, ⟨12, _⟩ => ⟨S16x17, .f32⟩
  | .local .scVector .vmem, ⟨13, _⟩ => ⟨S16x17, .f32⟩
  | .local .scVector .vmem, ⟨14, _⟩ => ⟨S16x17, .f32⟩
  | .local .scVector .vmem, ⟨15, _⟩ => ⟨S80, .f32⟩
  | .local .scVector .vmem, ⟨16, _⟩ => ⟨S3136, .f32⟩
  | .local .scVector .vmem, ⟨17, _⟩ => ⟨S15680, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_c_1 : Ref sig .tc := ⟨.hbm, 12, rfl⟩
abbrev main_call2_v0 : Ref sig .tc := ⟨.hbm, 13, rfl⟩
abbrev main_v3 : Ref sig .tc := ⟨.hbm, 14, rfl⟩
abbrev main_c_2 : Ref sig .tc := ⟨.hbm, 15, rfl⟩
abbrev main_call3_v0 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_arg0_scv : Ref sig .scVector := ⟨.hbm, 0, rfl⟩
abbrev main_v2_scv : Ref sig .scVector := ⟨.hbm, 11, rfl⟩
abbrev main_v5_scv : Ref sig .scVector := ⟨.hbm, 18, rfl⟩
abbrev main_v6_0_scv : Ref sig .scVector := ⟨.hbm, 19, rfl⟩
abbrev main_v6_1_scv : Ref sig .scVector := ⟨.hbm, 20, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev cc0_scratch15 : Ref sig .scVector := ⟨.vmem, 15, rfl⟩
abbrev cc0_scratch16 : Ref sig .scVector := ⟨.vmem, 16, rfl⟩
abbrev cc0_scratch17 : Ref sig .scVector := ⟨.vmem, 17, rfl⟩
abbrev cc1_sem0_0 : DmaSem sig := 15
abbrev cc1_sem1_0 : DmaSem sig := 16
abbrev cc1_sem2_0 : DmaSem sig := 17
abbrev cc1_sem3_0 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v2 : BitVec 32 := Scalar.muli v1 c3136_i32
  ![v2.toNat]
def k0_off2 (i : grid0.Coords) : Fin 1 → Nat :=
  let c100352_i32 : BitVec 32 := 100352#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15680_i32 : BitVec 32 := 15680#32
  let v3 : BitVec 32 := Scalar.muli v1 c15680_i32
  let v4 : BitVec 32 := Scalar.addi c100352_i32 v3
  ![v4.toNat]
@[reducible] def k0_t1_loop : Scf.Loop 32 :=
  let c0_i32_11 : BitVec 32 := 0#32
  let c98_i32 : BitVec 32 := 98#32
  let v15 : BitVec 32 := Scalar.addi c0_i32_11 c98_i32
  let c1_i32 : BitVec 32 := 1#32
  ⟨c0_i32_11, v15, c1_i32⟩
def k0_off3 (k0_t1 : Fin k0_t1_loop.trips) : Fin 1 → Nat :=
  let c2_i32_13 : BitVec 32 := 2#32
  let c0_i32_11 : BitVec 32 := 0#32
  let c1_i32 : BitVec 32 := 1#32
  let arg33 : BitVec 32 := Scf.iv c0_i32_11 c1_i32 k0_t1
  let v19 : BitVec 32 := Scalar.muli c2_i32_13 arg33
  let c16_i32_14 : BitVec 32 := 16#32
  let v20 : BitVec 32 := Scalar.muli v19 c16_i32_14
  ![v20.toNat]
def k0_off4 (k0_t1 : Fin k0_t1_loop.trips) : Fin 1 → Nat :=
  let c2_i32_13 : BitVec 32 := 2#32
  let c0_i32_11 : BitVec 32 := 0#32
  let c1_i32 : BitVec 32 := 1#32
  let arg33 : BitVec 32 := Scf.iv c0_i32_11 c1_i32 k0_t1
  let v19 : BitVec 32 := Scalar.muli c2_i32_13 arg33
  let c80_i32 : BitVec 32 := 80#32
  let v26 : BitVec 32 := Scalar.muli v19 c80_i32
  ![v26.toNat]
def k0_off5 (k0_t1 : Fin k0_t1_loop.trips) : Fin 1 → Nat :=
  let c2_i32_13 : BitVec 32 := 2#32
  let c0_i32_11 : BitVec 32 := 0#32
  let c1_i32 : BitVec 32 := 1#32
  let arg33 : BitVec 32 := Scf.iv c0_i32_11 c1_i32 k0_t1
  let v19 : BitVec 32 := Scalar.muli c2_i32_13 arg33
  let c1_i32_25 : BitVec 32 := 1#32
  let v32 : BitVec 32 := Scalar.addi v19 c1_i32_25
  let c16_i32_26 : BitVec 32 := 16#32
  let v33 : BitVec 32 := Scalar.muli v32 c16_i32_26
  ![v33.toNat]
def k0_off6 (k0_t1 : Fin k0_t1_loop.trips) : Fin 1 → Nat :=
  let c2_i32_13 : BitVec 32 := 2#32
  let c0_i32_11 : BitVec 32 := 0#32
  let c1_i32 : BitVec 32 := 1#32
  let arg33 : BitVec 32 := Scf.iv c0_i32_11 c1_i32 k0_t1
  let v19 : BitVec 32 := Scalar.muli c2_i32_13 arg33
  let c1_i32_25 : BitVec 32 := 1#32
  let v32 : BitVec 32 := Scalar.addi v19 c1_i32_25
  let c80_i32_32 : BitVec 32 := 80#32
  let v39 : BitVec 32 := Scalar.muli v32 c80_i32_32
  ![v39.toNat]

def k0_chk1 (v5 : IVec S16 32) (v1469 : IVec S16 32) : Prop :=
  (∀ a x, ((![v5, v1469] : Fin 2 → IVec S16 32) a x).toNat < S16x17.size a) ∧
  (∀ a x, ((![v5, v1469] : Fin 2 → IVec S16 32) a x).toNat < S16x17.size a) ∧
  (∀ a x, ((![v5, v1469] : Fin 2 → IVec S16 32) a x).toNat < S16x17.size a)
theorem k0_idx1_inb : ∀ (v5 : IVec S16 32) (v1469 : IVec S16 32) (k0_hw1 : k0_chk1 v5 v1469), ∀ a x, ((![v5, v1469] : Fin 2 → IVec S16 32) a x).toNat < S16x17.size a := fun v5 v1469 k0_hw1 => k0_hw1.1
theorem k0_idx17_inb : ∀ (v5 : IVec S16 32) (v1469 : IVec S16 32) (k0_hw1 : k0_chk1 v5 v1469), ∀ a x, ((![v5, v1469] : Fin 2 → IVec S16 32) a x).toNat < S16x17.size a := fun v5 v1469 k0_hw1 => k0_hw1.2.1
theorem k0_idx33_inb : ∀ (v5 : IVec S16 32) (v1469 : IVec S16 32) (k0_hw1 : k0_chk1 v5 v1469), ∀ a x, ((![v5, v1469] : Fin 2 → IVec S16 32) a x).toNat < S16x17.size a := fun v5 v1469 k0_hw1 => k0_hw1.2.2

def k0_chk2 (v5 : IVec S16 32) (v1470 : IVec S16 32) : Prop :=
  (∀ a x, ((![v5, v1470] : Fin 2 → IVec S16 32) a x).toNat < S16x17.size a) ∧
  (∀ a x, ((![v5, v1470] : Fin 2 → IVec S16 32) a x).toNat < S16x17.size a) ∧
  (∀ a x, ((![v5, v1470] : Fin 2 → IVec S16 32) a x).toNat < S16x17.size a)
theorem k0_idx2_inb : ∀ (v5 : IVec S16 32) (v1470 : IVec S16 32) (k0_hw2 : k0_chk2 v5 v1470), ∀ a x, ((![v5, v1470] : Fin 2 → IVec S16 32) a x).toNat < S16x17.size a := fun v5 v1470 k0_hw2 => k0_hw2.1
theorem k0_idx18_inb : ∀ (v5 : IVec S16 32) (v1470 : IVec S16 32) (k0_hw2 : k0_chk2 v5 v1470), ∀ a x, ((![v5, v1470] : Fin 2 → IVec S16 32) a x).toNat < S16x17.size a := fun v5 v1470 k0_hw2 => k0_hw2.2.1
theorem k0_idx34_inb : ∀ (v5 : IVec S16 32) (v1470 : IVec S16 32) (k0_hw2 : k0_chk2 v5 v1470), ∀ a x, ((![v5, v1470] : Fin 2 → IVec S16 32) a x).toNat < S16x17.size a := fun v5 v1470 k0_hw2 => k0_hw2.2.2

def k0_chk3 (v5 : IVec S16 32) (v1471 : IVec S16 32) : Prop :=
  (∀ a x, ((![v5, v1471] : Fin 2 → IVec S16 32) a x).toNat < S16x17.size a) ∧
  (∀ a x, ((![v5, v1471] : Fin 2 → IVec S16 32) a x).toNat < S16x17.size a) ∧
  (∀ a x, ((![v5, v1471] : Fin 2 → IVec S16 32) a x).toNat < S16x17.size a)
theorem k0_idx3_inb : ∀ (v5 : IVec S16 32) (v1471 : IVec S16 32) (k0_hw3 : k0_chk3 v5 v1471), ∀ a x, ((![v5, v1471] : Fin 2 → IVec S16 32) a x).toNat < S16x17.size a := fun v5 v1471 k0_hw3 => k0_hw3.1
theorem k0_idx19_inb : ∀ (v5 : IVec S16 32) (v1471 : IVec S16 32) (k0_hw3 : k0_chk3 v5 v1471), ∀ a x, ((![v5, v1471] : Fin 2 → IVec S16 32) a x).toNat < S16x17.size a := fun v5 v1471 k0_hw3 => k0_hw3.2.1
theorem k0_idx35_inb : ∀ (v5 : IVec S16 32) (v1471 : IVec S16 32) (k0_hw3 : k0_chk3 v5 v1471), ∀ a x, ((![v5, v1471] : Fin 2 → IVec S16 32) a x).toNat < S16x17.size a := fun v5 v1471 k0_hw3 => k0_hw3.2.2

def k0_chk4 (v5 : IVec S16 32) (v1472 : IVec S16 32) : Prop :=
  (∀ a x, ((![v5, v1472] : Fin 2 → IVec S16 32) a x).toNat < S16x17.size a) ∧
  (∀ a x, ((![v5, v1472] : Fin 2 → IVec S16 32) a x).toNat < S16x17.size a) ∧
  (∀ a x, ((![v5, v1472] : Fin 2 → IVec S16 32) a x).toNat < S16x17.size a)
theorem k0_idx4_inb : ∀ (v5 : IVec S16 32) (v1472 : IVec S16 32) (k0_hw4 : k0_chk4 v5 v1472), ∀ a x, ((![v5, v1472] : Fin 2 → IVec S16 32) a x).toNat < S16x17.size a := fun v5 v1472 k0_hw4 => k0_hw4.1
theorem k0_idx20_inb : ∀ (v5 : IVec S16 32) (v1472 : IVec S16 32) (k0_hw4 : k0_chk4 v5 v1472), ∀ a x, ((![v5, v1472] : Fin 2 → IVec S16 32) a x).toNat < S16x17.size a := fun v5 v1472 k0_hw4 => k0_hw4.2.1
theorem k0_idx36_inb : ∀ (v5 : IVec S16 32) (v1472 : IVec S16 32) (k0_hw4 : k0_chk4 v5 v1472), ∀ a x, ((![v5, v1472] : Fin 2 → IVec S16 32) a x).toNat < S16x17.size a := fun v5 v1472 k0_hw4 => k0_hw4.2.2

def k0_chk5 (v5 : IVec S16 32) (v1473 : IVec S16 32) : Prop :=
  (∀ a x, ((![v5, v1473] : Fin 2 → IVec S16 32) a x).toNat < S16x17.size a) ∧
  (∀ a x, ((![v5, v1473] : Fin 2 → IVec S16 32) a x).toNat < S16x17.size a) ∧
  (∀ a x, ((![v5, v1473] : Fin 2 → IVec S16 32) a x).toNat < S16x17.size a)
theorem k0_idx5_inb : ∀ (v5 : IVec S16 32) (v1473 : IVec S16 32) (k0_hw5 : k0_chk5 v5 v1473), ∀ a x, ((![v5, v1473] : Fin 2 → IVec S16 32) a x).toNat < S16x17.size a := fun v5 v1473 k0_hw5 => k0_hw5.1
theorem k0_idx21_inb : ∀ (v5 : IVec S16 32) (v1473 : IVec S16 32) (k0_hw5 : k0_chk5 v5 v1473), ∀ a x, ((![v5, v1473] : Fin 2 → IVec S16 32) a x).toNat < S16x17.size a := fun v5 v1473 k0_hw5 => k0_hw5.2.1
theorem k0_idx37_inb : ∀ (v5 : IVec S16 32) (v1473 : IVec S16 32) (k0_hw5 : k0_chk5 v5 v1473), ∀ a x, ((![v5, v1473] : Fin 2 → IVec S16 32) a x).toNat < S16x17.size a := fun v5 v1473 k0_hw5 => k0_hw5.2.2

def k0_chk6 (v5 : IVec S16 32) (v1474 : IVec S16 32) : Prop :=
  (∀ a x, ((![v5, v1474] : Fin 2 → IVec S16 32) a x).toNat < S16x17.size a) ∧
  (∀ a x, ((![v5, v1474] : Fin 2 → IVec S16 32) a x).toNat < S16x17.size a) ∧
  (∀ a x, ((![v5, v1474] : Fin 2 → IVec S16 32) a x).toNat < S16x17.size a)
theorem k0_idx6_inb : ∀ (v5 : IVec S16 32) (v1474 : IVec S16 32) (k0_hw6 : k0_chk6 v5 v1474), ∀ a x, ((![v5, v1474] : Fin 2 → IVec S16 32) a x).toNat < S16x17.size a := fun v5 v1474 k0_hw6 => k0_hw6.1
theorem k0_idx22_inb : ∀ (v5 : IVec S16 32) (v1474 : IVec S16 32) (k0_hw6 : k0_chk6 v5 v1474), ∀ a x, ((![v5, v1474] : Fin 2 → IVec S16 32) a x).toNat < S16x17.size a := fun v5 v1474 k0_hw6 => k0_hw6.2.1
theorem k0_idx38_inb : ∀ (v5 : IVec S16 32) (v1474 : IVec S16 32) (k0_hw6 : k0_chk6 v5 v1474), ∀ a x, ((![v5, v1474] : Fin 2 → IVec S16 32) a x).toNat < S16x17.size a := fun v5 v1474 k0_hw6 => k0_hw6.2.2

def k0_chk7 (v5 : IVec S16 32) (v1475 : IVec S16 32) : Prop :=
  (∀ a x, ((![v5, v1475] : Fin 2 → IVec S16 32) a x).toNat < S16x17.size a) ∧
  (∀ a x, ((![v5, v1475] : Fin 2 → IVec S16 32) a x).toNat < S16x17.size a) ∧
  (∀ a x, ((![v5, v1475] : Fin 2 → IVec S16 32) a x).toNat < S16x17.size a)
theorem k0_idx7_inb : ∀ (v5 : IVec S16 32) (v1475 : IVec S16 32) (k0_hw7 : k0_chk7 v5 v1475), ∀ a x, ((![v5, v1475] : Fin 2 → IVec S16 32) a x).toNat < S16x17.size a := fun v5 v1475 k0_hw7 => k0_hw7.1
theorem k0_idx23_inb : ∀ (v5 : IVec S16 32) (v1475 : IVec S16 32) (k0_hw7 : k0_chk7 v5 v1475), ∀ a x, ((![v5, v1475] : Fin 2 → IVec S16 32) a x).toNat < S16x17.size a := fun v5 v1475 k0_hw7 => k0_hw7.2.1
theorem k0_idx39_inb : ∀ (v5 : IVec S16 32) (v1475 : IVec S16 32) (k0_hw7 : k0_chk7 v5 v1475), ∀ a x, ((![v5, v1475] : Fin 2 → IVec S16 32) a x).toNat < S16x17.size a := fun v5 v1475 k0_hw7 => k0_hw7.2.2

def k0_chk8 (v5 : IVec S16 32) (v1476 : IVec S16 32) : Prop :=
  (∀ a x, ((![v5, v1476] : Fin 2 → IVec S16 32) a x).toNat < S16x17.size a) ∧
  (∀ a x, ((![v5, v1476] : Fin 2 → IVec S16 32) a x).toNat < S16x17.size a) ∧
  (∀ a x, ((![v5, v1476] : Fin 2 → IVec S16 32) a x).toNat < S16x17.size a)
theorem k0_idx8_inb : ∀ (v5 : IVec S16 32) (v1476 : IVec S16 32) (k0_hw8 : k0_chk8 v5 v1476), ∀ a x, ((![v5, v1476] : Fin 2 → IVec S16 32) a x).toNat < S16x17.size a := fun v5 v1476 k0_hw8 => k0_hw8.1
theorem k0_idx24_inb : ∀ (v5 : IVec S16 32) (v1476 : IVec S16 32) (k0_hw8 : k0_chk8 v5 v1476), ∀ a x, ((![v5, v1476] : Fin 2 → IVec S16 32) a x).toNat < S16x17.size a := fun v5 v1476 k0_hw8 => k0_hw8.2.1
theorem k0_idx40_inb : ∀ (v5 : IVec S16 32) (v1476 : IVec S16 32) (k0_hw8 : k0_chk8 v5 v1476), ∀ a x, ((![v5, v1476] : Fin 2 → IVec S16 32) a x).toNat < S16x17.size a := fun v5 v1476 k0_hw8 => k0_hw8.2.2

def k0_chk9 (v5 : IVec S16 32) (v1477 : IVec S16 32) : Prop :=
  (∀ a x, ((![v5, v1477] : Fin 2 → IVec S16 32) a x).toNat < S16x17.size a) ∧
  (∀ a x, ((![v5, v1477] : Fin 2 → IVec S16 32) a x).toNat < S16x17.size a) ∧
  (∀ a x, ((![v5, v1477] : Fin 2 → IVec S16 32) a x).toNat < S16x17.size a)
theorem k0_idx9_inb : ∀ (v5 : IVec S16 32) (v1477 : IVec S16 32) (k0_hw9 : k0_chk9 v5 v1477), ∀ a x, ((![v5, v1477] : Fin 2 → IVec S16 32) a x).toNat < S16x17.size a := fun v5 v1477 k0_hw9 => k0_hw9.1
theorem k0_idx25_inb : ∀ (v5 : IVec S16 32) (v1477 : IVec S16 32) (k0_hw9 : k0_chk9 v5 v1477), ∀ a x, ((![v5, v1477] : Fin 2 → IVec S16 32) a x).toNat < S16x17.size a := fun v5 v1477 k0_hw9 => k0_hw9.2.1
theorem k0_idx41_inb : ∀ (v5 : IVec S16 32) (v1477 : IVec S16 32) (k0_hw9 : k0_chk9 v5 v1477), ∀ a x, ((![v5, v1477] : Fin 2 → IVec S16 32) a x).toNat < S16x17.size a := fun v5 v1477 k0_hw9 => k0_hw9.2.2

def k0_chk10 (v5 : IVec S16 32) (v1478 : IVec S16 32) : Prop :=
  (∀ a x, ((![v5, v1478] : Fin 2 → IVec S16 32) a x).toNat < S16x17.size a) ∧
  (∀ a x, ((![v5, v1478] : Fin 2 → IVec S16 32) a x).toNat < S16x17.size a) ∧
  (∀ a x, ((![v5, v1478] : Fin 2 → IVec S16 32) a x).toNat < S16x17.size a)
theorem k0_idx10_inb : ∀ (v5 : IVec S16 32) (v1478 : IVec S16 32) (k0_hw10 : k0_chk10 v5 v1478), ∀ a x, ((![v5, v1478] : Fin 2 → IVec S16 32) a x).toNat < S16x17.size a := fun v5 v1478 k0_hw10 => k0_hw10.1
theorem k0_idx26_inb : ∀ (v5 : IVec S16 32) (v1478 : IVec S16 32) (k0_hw10 : k0_chk10 v5 v1478), ∀ a x, ((![v5, v1478] : Fin 2 → IVec S16 32) a x).toNat < S16x17.size a := fun v5 v1478 k0_hw10 => k0_hw10.2.1
theorem k0_idx42_inb : ∀ (v5 : IVec S16 32) (v1478 : IVec S16 32) (k0_hw10 : k0_chk10 v5 v1478), ∀ a x, ((![v5, v1478] : Fin 2 → IVec S16 32) a x).toNat < S16x17.size a := fun v5 v1478 k0_hw10 => k0_hw10.2.2

def k0_chk11 (v5 : IVec S16 32) (v1479 : IVec S16 32) : Prop :=
  (∀ a x, ((![v5, v1479] : Fin 2 → IVec S16 32) a x).toNat < S16x17.size a) ∧
  (∀ a x, ((![v5, v1479] : Fin 2 → IVec S16 32) a x).toNat < S16x17.size a) ∧
  (∀ a x, ((![v5, v1479] : Fin 2 → IVec S16 32) a x).toNat < S16x17.size a)
theorem k0_idx11_inb : ∀ (v5 : IVec S16 32) (v1479 : IVec S16 32) (k0_hw11 : k0_chk11 v5 v1479), ∀ a x, ((![v5, v1479] : Fin 2 → IVec S16 32) a x).toNat < S16x17.size a := fun v5 v1479 k0_hw11 => k0_hw11.1
theorem k0_idx27_inb : ∀ (v5 : IVec S16 32) (v1479 : IVec S16 32) (k0_hw11 : k0_chk11 v5 v1479), ∀ a x, ((![v5, v1479] : Fin 2 → IVec S16 32) a x).toNat < S16x17.size a := fun v5 v1479 k0_hw11 => k0_hw11.2.1
theorem k0_idx43_inb : ∀ (v5 : IVec S16 32) (v1479 : IVec S16 32) (k0_hw11 : k0_chk11 v5 v1479), ∀ a x, ((![v5, v1479] : Fin 2 → IVec S16 32) a x).toNat < S16x17.size a := fun v5 v1479 k0_hw11 => k0_hw11.2.2

def k0_chk12 (v5 : IVec S16 32) (v1480 : IVec S16 32) : Prop :=
  (∀ a x, ((![v5, v1480] : Fin 2 → IVec S16 32) a x).toNat < S16x17.size a) ∧
  (∀ a x, ((![v5, v1480] : Fin 2 → IVec S16 32) a x).toNat < S16x17.size a) ∧
  (∀ a x, ((![v5, v1480] : Fin 2 → IVec S16 32) a x).toNat < S16x17.size a)
theorem k0_idx12_inb : ∀ (v5 : IVec S16 32) (v1480 : IVec S16 32) (k0_hw12 : k0_chk12 v5 v1480), ∀ a x, ((![v5, v1480] : Fin 2 → IVec S16 32) a x).toNat < S16x17.size a := fun v5 v1480 k0_hw12 => k0_hw12.1
theorem k0_idx28_inb : ∀ (v5 : IVec S16 32) (v1480 : IVec S16 32) (k0_hw12 : k0_chk12 v5 v1480), ∀ a x, ((![v5, v1480] : Fin 2 → IVec S16 32) a x).toNat < S16x17.size a := fun v5 v1480 k0_hw12 => k0_hw12.2.1
theorem k0_idx44_inb : ∀ (v5 : IVec S16 32) (v1480 : IVec S16 32) (k0_hw12 : k0_chk12 v5 v1480), ∀ a x, ((![v5, v1480] : Fin 2 → IVec S16 32) a x).toNat < S16x17.size a := fun v5 v1480 k0_hw12 => k0_hw12.2.2

def k0_chk13 (v5 : IVec S16 32) (v1481 : IVec S16 32) : Prop :=
  (∀ a x, ((![v5, v1481] : Fin 2 → IVec S16 32) a x).toNat < S16x17.size a) ∧
  (∀ a x, ((![v5, v1481] : Fin 2 → IVec S16 32) a x).toNat < S16x17.size a) ∧
  (∀ a x, ((![v5, v1481] : Fin 2 → IVec S16 32) a x).toNat < S16x17.size a)
theorem k0_idx13_inb : ∀ (v5 : IVec S16 32) (v1481 : IVec S16 32) (k0_hw13 : k0_chk13 v5 v1481), ∀ a x, ((![v5, v1481] : Fin 2 → IVec S16 32) a x).toNat < S16x17.size a := fun v5 v1481 k0_hw13 => k0_hw13.1
theorem k0_idx29_inb : ∀ (v5 : IVec S16 32) (v1481 : IVec S16 32) (k0_hw13 : k0_chk13 v5 v1481), ∀ a x, ((![v5, v1481] : Fin 2 → IVec S16 32) a x).toNat < S16x17.size a := fun v5 v1481 k0_hw13 => k0_hw13.2.1
theorem k0_idx45_inb : ∀ (v5 : IVec S16 32) (v1481 : IVec S16 32) (k0_hw13 : k0_chk13 v5 v1481), ∀ a x, ((![v5, v1481] : Fin 2 → IVec S16 32) a x).toNat < S16x17.size a := fun v5 v1481 k0_hw13 => k0_hw13.2.2

def k0_chk14 (v5 : IVec S16 32) (v1482 : IVec S16 32) : Prop :=
  (∀ a x, ((![v5, v1482] : Fin 2 → IVec S16 32) a x).toNat < S16x17.size a) ∧
  (∀ a x, ((![v5, v1482] : Fin 2 → IVec S16 32) a x).toNat < S16x17.size a) ∧
  (∀ a x, ((![v5, v1482] : Fin 2 → IVec S16 32) a x).toNat < S16x17.size a)
theorem k0_idx14_inb : ∀ (v5 : IVec S16 32) (v1482 : IVec S16 32) (k0_hw14 : k0_chk14 v5 v1482), ∀ a x, ((![v5, v1482] : Fin 2 → IVec S16 32) a x).toNat < S16x17.size a := fun v5 v1482 k0_hw14 => k0_hw14.1
theorem k0_idx30_inb : ∀ (v5 : IVec S16 32) (v1482 : IVec S16 32) (k0_hw14 : k0_chk14 v5 v1482), ∀ a x, ((![v5, v1482] : Fin 2 → IVec S16 32) a x).toNat < S16x17.size a := fun v5 v1482 k0_hw14 => k0_hw14.2.1
theorem k0_idx46_inb : ∀ (v5 : IVec S16 32) (v1482 : IVec S16 32) (k0_hw14 : k0_chk14 v5 v1482), ∀ a x, ((![v5, v1482] : Fin 2 → IVec S16 32) a x).toNat < S16x17.size a := fun v5 v1482 k0_hw14 => k0_hw14.2.2

def k0_chk15 (v5 : IVec S16 32) (v1483 : IVec S16 32) : Prop :=
  (∀ a x, ((![v5, v1483] : Fin 2 → IVec S16 32) a x).toNat < S16x17.size a) ∧
  (∀ a x, ((![v5, v1483] : Fin 2 → IVec S16 32) a x).toNat < S16x17.size a) ∧
  (∀ a x, ((![v5, v1483] : Fin 2 → IVec S16 32) a x).toNat < S16x17.size a)
theorem k0_idx15_inb : ∀ (v5 : IVec S16 32) (v1483 : IVec S16 32) (k0_hw15 : k0_chk15 v5 v1483), ∀ a x, ((![v5, v1483] : Fin 2 → IVec S16 32) a x).toNat < S16x17.size a := fun v5 v1483 k0_hw15 => k0_hw15.1
theorem k0_idx31_inb : ∀ (v5 : IVec S16 32) (v1483 : IVec S16 32) (k0_hw15 : k0_chk15 v5 v1483), ∀ a x, ((![v5, v1483] : Fin 2 → IVec S16 32) a x).toNat < S16x17.size a := fun v5 v1483 k0_hw15 => k0_hw15.2.1
theorem k0_idx47_inb : ∀ (v5 : IVec S16 32) (v1483 : IVec S16 32) (k0_hw15 : k0_chk15 v5 v1483), ∀ a x, ((![v5, v1483] : Fin 2 → IVec S16 32) a x).toNat < S16x17.size a := fun v5 v1483 k0_hw15 => k0_hw15.2.2

def k0_chk16 (v5 : IVec S16 32) (v1484 : IVec S16 32) : Prop :=
  (∀ a x, ((![v5, v1484] : Fin 2 → IVec S16 32) a x).toNat < S16x17.size a) ∧
  (∀ a x, ((![v5, v1484] : Fin 2 → IVec S16 32) a x).toNat < S16x17.size a) ∧
  (∀ a x, ((![v5, v1484] : Fin 2 → IVec S16 32) a x).toNat < S16x17.size a)
theorem k0_idx16_inb : ∀ (v5 : IVec S16 32) (v1484 : IVec S16 32) (k0_hw16 : k0_chk16 v5 v1484), ∀ a x, ((![v5, v1484] : Fin 2 → IVec S16 32) a x).toNat < S16x17.size a := fun v5 v1484 k0_hw16 => k0_hw16.1
theorem k0_idx32_inb : ∀ (v5 : IVec S16 32) (v1484 : IVec S16 32) (k0_hw16 : k0_chk16 v5 v1484), ∀ a x, ((![v5, v1484] : Fin 2 → IVec S16 32) a x).toNat < S16x17.size a := fun v5 v1484 k0_hw16 => k0_hw16.2.1
theorem k0_idx48_inb : ∀ (v5 : IVec S16 32) (v1484 : IVec S16 32) (k0_hw16 : k0_chk16 v5 v1484), ∀ a x, ((![v5, v1484] : Fin 2 → IVec S16 32) a x).toNat < S16x17.size a := fun v5 v1484 k0_hw16 => k0_hw16.2.2
def k0_off7 (k0_t1 : Fin k0_t1_loop.trips) : Fin 1 → Nat :=
  let c2_i32_13 : BitVec 32 := 2#32
  let c0_i32_11 : BitVec 32 := 0#32
  let c1_i32 : BitVec 32 := 1#32
  let arg33 : BitVec 32 := Scf.iv c0_i32_11 c1_i32 k0_t1
  let v19 : BitVec 32 := Scalar.muli c2_i32_13 arg33
  let c16_i32_698 : BitVec 32 := 16#32
  let v1598 : BitVec 32 := Scalar.muli v19 c16_i32_698
  let v1599 : Index := Scalar.indexCast v1598
  ![v1599.toNat]

def k0_chk17 (v5 : IVec S16 32) (v3025 : IVec S16 32) : Prop :=
  (∀ a x, ((![v5, v3025] : Fin 2 → IVec S16 32) a x).toNat < S16x17.size a) ∧
  (∀ a x, ((![v5, v3025] : Fin 2 → IVec S16 32) a x).toNat < S16x17.size a) ∧
  (∀ a x, ((![v5, v3025] : Fin 2 → IVec S16 32) a x).toNat < S16x17.size a)
theorem k0_idx49_inb : ∀ (v5 : IVec S16 32) (v3025 : IVec S16 32) (k0_hw17 : k0_chk17 v5 v3025), ∀ a x, ((![v5, v3025] : Fin 2 → IVec S16 32) a x).toNat < S16x17.size a := fun v5 v3025 k0_hw17 => k0_hw17.1
theorem k0_idx65_inb : ∀ (v5 : IVec S16 32) (v3025 : IVec S16 32) (k0_hw17 : k0_chk17 v5 v3025), ∀ a x, ((![v5, v3025] : Fin 2 → IVec S16 32) a x).toNat < S16x17.size a := fun v5 v3025 k0_hw17 => k0_hw17.2.1
theorem k0_idx81_inb : ∀ (v5 : IVec S16 32) (v3025 : IVec S16 32) (k0_hw17 : k0_chk17 v5 v3025), ∀ a x, ((![v5, v3025] : Fin 2 → IVec S16 32) a x).toNat < S16x17.size a := fun v5 v3025 k0_hw17 => k0_hw17.2.2

def k0_chk18 (v5 : IVec S16 32) (v3026 : IVec S16 32) : Prop :=
  (∀ a x, ((![v5, v3026] : Fin 2 → IVec S16 32) a x).toNat < S16x17.size a) ∧
  (∀ a x, ((![v5, v3026] : Fin 2 → IVec S16 32) a x).toNat < S16x17.size a) ∧
  (∀ a x, ((![v5, v3026] : Fin 2 → IVec S16 32) a x).toNat < S16x17.size a)
theorem k0_idx50_inb : ∀ (v5 : IVec S16 32) (v3026 : IVec S16 32) (k0_hw18 : k0_chk18 v5 v3026), ∀ a x, ((![v5, v3026] : Fin 2 → IVec S16 32) a x).toNat < S16x17.size a := fun v5 v3026 k0_hw18 => k0_hw18.1
theorem k0_idx66_inb : ∀ (v5 : IVec S16 32) (v3026 : IVec S16 32) (k0_hw18 : k0_chk18 v5 v3026), ∀ a x, ((![v5, v3026] : Fin 2 → IVec S16 32) a x).toNat < S16x17.size a := fun v5 v3026 k0_hw18 => k0_hw18.2.1
theorem k0_idx82_inb : ∀ (v5 : IVec S16 32) (v3026 : IVec S16 32) (k0_hw18 : k0_chk18 v5 v3026), ∀ a x, ((![v5, v3026] : Fin 2 → IVec S16 32) a x).toNat < S16x17.size a := fun v5 v3026 k0_hw18 => k0_hw18.2.2

def k0_chk19 (v5 : IVec S16 32) (v3027 : IVec S16 32) : Prop :=
  (∀ a x, ((![v5, v3027] : Fin 2 → IVec S16 32) a x).toNat < S16x17.size a) ∧
  (∀ a x, ((![v5, v3027] : Fin 2 → IVec S16 32) a x).toNat < S16x17.size a) ∧
  (∀ a x, ((![v5, v3027] : Fin 2 → IVec S16 32) a x).toNat < S16x17.size a)
theorem k0_idx51_inb : ∀ (v5 : IVec S16 32) (v3027 : IVec S16 32) (k0_hw19 : k0_chk19 v5 v3027), ∀ a x, ((![v5, v3027] : Fin 2 → IVec S16 32) a x).toNat < S16x17.size a := fun v5 v3027 k0_hw19 => k0_hw19.1
theorem k0_idx67_inb : ∀ (v5 : IVec S16 32) (v3027 : IVec S16 32) (k0_hw19 : k0_chk19 v5 v3027), ∀ a x, ((![v5, v3027] : Fin 2 → IVec S16 32) a x).toNat < S16x17.size a := fun v5 v3027 k0_hw19 => k0_hw19.2.1
theorem k0_idx83_inb : ∀ (v5 : IVec S16 32) (v3027 : IVec S16 32) (k0_hw19 : k0_chk19 v5 v3027), ∀ a x, ((![v5, v3027] : Fin 2 → IVec S16 32) a x).toNat < S16x17.size a := fun v5 v3027 k0_hw19 => k0_hw19.2.2

def k0_chk20 (v5 : IVec S16 32) (v3028 : IVec S16 32) : Prop :=
  (∀ a x, ((![v5, v3028] : Fin 2 → IVec S16 32) a x).toNat < S16x17.size a) ∧
  (∀ a x, ((![v5, v3028] : Fin 2 → IVec S16 32) a x).toNat < S16x17.size a) ∧
  (∀ a x, ((![v5, v3028] : Fin 2 → IVec S16 32) a x).toNat < S16x17.size a)
theorem k0_idx52_inb : ∀ (v5 : IVec S16 32) (v3028 : IVec S16 32) (k0_hw20 : k0_chk20 v5 v3028), ∀ a x, ((![v5, v3028] : Fin 2 → IVec S16 32) a x).toNat < S16x17.size a := fun v5 v3028 k0_hw20 => k0_hw20.1
theorem k0_idx68_inb : ∀ (v5 : IVec S16 32) (v3028 : IVec S16 32) (k0_hw20 : k0_chk20 v5 v3028), ∀ a x, ((![v5, v3028] : Fin 2 → IVec S16 32) a x).toNat < S16x17.size a := fun v5 v3028 k0_hw20 => k0_hw20.2.1
theorem k0_idx84_inb : ∀ (v5 : IVec S16 32) (v3028 : IVec S16 32) (k0_hw20 : k0_chk20 v5 v3028), ∀ a x, ((![v5, v3028] : Fin 2 → IVec S16 32) a x).toNat < S16x17.size a := fun v5 v3028 k0_hw20 => k0_hw20.2.2

def k0_chk21 (v5 : IVec S16 32) (v3029 : IVec S16 32) : Prop :=
  (∀ a x, ((![v5, v3029] : Fin 2 → IVec S16 32) a x).toNat < S16x17.size a) ∧
  (∀ a x, ((![v5, v3029] : Fin 2 → IVec S16 32) a x).toNat < S16x17.size a) ∧
  (∀ a x, ((![v5, v3029] : Fin 2 → IVec S16 32) a x).toNat < S16x17.size a)
theorem k0_idx53_inb : ∀ (v5 : IVec S16 32) (v3029 : IVec S16 32) (k0_hw21 : k0_chk21 v5 v3029), ∀ a x, ((![v5, v3029] : Fin 2 → IVec S16 32) a x).toNat < S16x17.size a := fun v5 v3029 k0_hw21 => k0_hw21.1
theorem k0_idx69_inb : ∀ (v5 : IVec S16 32) (v3029 : IVec S16 32) (k0_hw21 : k0_chk21 v5 v3029), ∀ a x, ((![v5, v3029] : Fin 2 → IVec S16 32) a x).toNat < S16x17.size a := fun v5 v3029 k0_hw21 => k0_hw21.2.1
theorem k0_idx85_inb : ∀ (v5 : IVec S16 32) (v3029 : IVec S16 32) (k0_hw21 : k0_chk21 v5 v3029), ∀ a x, ((![v5, v3029] : Fin 2 → IVec S16 32) a x).toNat < S16x17.size a := fun v5 v3029 k0_hw21 => k0_hw21.2.2

def k0_chk22 (v5 : IVec S16 32) (v3030 : IVec S16 32) : Prop :=
  (∀ a x, ((![v5, v3030] : Fin 2 → IVec S16 32) a x).toNat < S16x17.size a) ∧
  (∀ a x, ((![v5, v3030] : Fin 2 → IVec S16 32) a x).toNat < S16x17.size a) ∧
  (∀ a x, ((![v5, v3030] : Fin 2 → IVec S16 32) a x).toNat < S16x17.size a)
theorem k0_idx54_inb : ∀ (v5 : IVec S16 32) (v3030 : IVec S16 32) (k0_hw22 : k0_chk22 v5 v3030), ∀ a x, ((![v5, v3030] : Fin 2 → IVec S16 32) a x).toNat < S16x17.size a := fun v5 v3030 k0_hw22 => k0_hw22.1
theorem k0_idx70_inb : ∀ (v5 : IVec S16 32) (v3030 : IVec S16 32) (k0_hw22 : k0_chk22 v5 v3030), ∀ a x, ((![v5, v3030] : Fin 2 → IVec S16 32) a x).toNat < S16x17.size a := fun v5 v3030 k0_hw22 => k0_hw22.2.1
theorem k0_idx86_inb : ∀ (v5 : IVec S16 32) (v3030 : IVec S16 32) (k0_hw22 : k0_chk22 v5 v3030), ∀ a x, ((![v5, v3030] : Fin 2 → IVec S16 32) a x).toNat < S16x17.size a := fun v5 v3030 k0_hw22 => k0_hw22.2.2

def k0_chk23 (v5 : IVec S16 32) (v3031 : IVec S16 32) : Prop :=
  (∀ a x, ((![v5, v3031] : Fin 2 → IVec S16 32) a x).toNat < S16x17.size a) ∧
  (∀ a x, ((![v5, v3031] : Fin 2 → IVec S16 32) a x).toNat < S16x17.size a) ∧
  (∀ a x, ((![v5, v3031] : Fin 2 → IVec S16 32) a x).toNat < S16x17.size a)
theorem k0_idx55_inb : ∀ (v5 : IVec S16 32) (v3031 : IVec S16 32) (k0_hw23 : k0_chk23 v5 v3031), ∀ a x, ((![v5, v3031] : Fin 2 → IVec S16 32) a x).toNat < S16x17.size a := fun v5 v3031 k0_hw23 => k0_hw23.1
theorem k0_idx71_inb : ∀ (v5 : IVec S16 32) (v3031 : IVec S16 32) (k0_hw23 : k0_chk23 v5 v3031), ∀ a x, ((![v5, v3031] : Fin 2 → IVec S16 32) a x).toNat < S16x17.size a := fun v5 v3031 k0_hw23 => k0_hw23.2.1
theorem k0_idx87_inb : ∀ (v5 : IVec S16 32) (v3031 : IVec S16 32) (k0_hw23 : k0_chk23 v5 v3031), ∀ a x, ((![v5, v3031] : Fin 2 → IVec S16 32) a x).toNat < S16x17.size a := fun v5 v3031 k0_hw23 => k0_hw23.2.2

def k0_chk24 (v5 : IVec S16 32) (v3032 : IVec S16 32) : Prop :=
  (∀ a x, ((![v5, v3032] : Fin 2 → IVec S16 32) a x).toNat < S16x17.size a) ∧
  (∀ a x, ((![v5, v3032] : Fin 2 → IVec S16 32) a x).toNat < S16x17.size a) ∧
  (∀ a x, ((![v5, v3032] : Fin 2 → IVec S16 32) a x).toNat < S16x17.size a)
theorem k0_idx56_inb : ∀ (v5 : IVec S16 32) (v3032 : IVec S16 32) (k0_hw24 : k0_chk24 v5 v3032), ∀ a x, ((![v5, v3032] : Fin 2 → IVec S16 32) a x).toNat < S16x17.size a := fun v5 v3032 k0_hw24 => k0_hw24.1
theorem k0_idx72_inb : ∀ (v5 : IVec S16 32) (v3032 : IVec S16 32) (k0_hw24 : k0_chk24 v5 v3032), ∀ a x, ((![v5, v3032] : Fin 2 → IVec S16 32) a x).toNat < S16x17.size a := fun v5 v3032 k0_hw24 => k0_hw24.2.1
theorem k0_idx88_inb : ∀ (v5 : IVec S16 32) (v3032 : IVec S16 32) (k0_hw24 : k0_chk24 v5 v3032), ∀ a x, ((![v5, v3032] : Fin 2 → IVec S16 32) a x).toNat < S16x17.size a := fun v5 v3032 k0_hw24 => k0_hw24.2.2

def k0_chk25 (v5 : IVec S16 32) (v3033 : IVec S16 32) : Prop :=
  (∀ a x, ((![v5, v3033] : Fin 2 → IVec S16 32) a x).toNat < S16x17.size a) ∧
  (∀ a x, ((![v5, v3033] : Fin 2 → IVec S16 32) a x).toNat < S16x17.size a) ∧
  (∀ a x, ((![v5, v3033] : Fin 2 → IVec S16 32) a x).toNat < S16x17.size a)
theorem k0_idx57_inb : ∀ (v5 : IVec S16 32) (v3033 : IVec S16 32) (k0_hw25 : k0_chk25 v5 v3033), ∀ a x, ((![v5, v3033] : Fin 2 → IVec S16 32) a x).toNat < S16x17.size a := fun v5 v3033 k0_hw25 => k0_hw25.1
theorem k0_idx73_inb : ∀ (v5 : IVec S16 32) (v3033 : IVec S16 32) (k0_hw25 : k0_chk25 v5 v3033), ∀ a x, ((![v5, v3033] : Fin 2 → IVec S16 32) a x).toNat < S16x17.size a := fun v5 v3033 k0_hw25 => k0_hw25.2.1
theorem k0_idx89_inb : ∀ (v5 : IVec S16 32) (v3033 : IVec S16 32) (k0_hw25 : k0_chk25 v5 v3033), ∀ a x, ((![v5, v3033] : Fin 2 → IVec S16 32) a x).toNat < S16x17.size a := fun v5 v3033 k0_hw25 => k0_hw25.2.2

def k0_chk26 (v5 : IVec S16 32) (v3034 : IVec S16 32) : Prop :=
  (∀ a x, ((![v5, v3034] : Fin 2 → IVec S16 32) a x).toNat < S16x17.size a) ∧
  (∀ a x, ((![v5, v3034] : Fin 2 → IVec S16 32) a x).toNat < S16x17.size a) ∧
  (∀ a x, ((![v5, v3034] : Fin 2 → IVec S16 32) a x).toNat < S16x17.size a)
theorem k0_idx58_inb : ∀ (v5 : IVec S16 32) (v3034 : IVec S16 32) (k0_hw26 : k0_chk26 v5 v3034), ∀ a x, ((![v5, v3034] : Fin 2 → IVec S16 32) a x).toNat < S16x17.size a := fun v5 v3034 k0_hw26 => k0_hw26.1
theorem k0_idx74_inb : ∀ (v5 : IVec S16 32) (v3034 : IVec S16 32) (k0_hw26 : k0_chk26 v5 v3034), ∀ a x, ((![v5, v3034] : Fin 2 → IVec S16 32) a x).toNat < S16x17.size a := fun v5 v3034 k0_hw26 => k0_hw26.2.1
theorem k0_idx90_inb : ∀ (v5 : IVec S16 32) (v3034 : IVec S16 32) (k0_hw26 : k0_chk26 v5 v3034), ∀ a x, ((![v5, v3034] : Fin 2 → IVec S16 32) a x).toNat < S16x17.size a := fun v5 v3034 k0_hw26 => k0_hw26.2.2

def k0_chk27 (v5 : IVec S16 32) (v3035 : IVec S16 32) : Prop :=
  (∀ a x, ((![v5, v3035] : Fin 2 → IVec S16 32) a x).toNat < S16x17.size a) ∧
  (∀ a x, ((![v5, v3035] : Fin 2 → IVec S16 32) a x).toNat < S16x17.size a) ∧
  (∀ a x, ((![v5, v3035] : Fin 2 → IVec S16 32) a x).toNat < S16x17.size a)
theorem k0_idx59_inb : ∀ (v5 : IVec S16 32) (v3035 : IVec S16 32) (k0_hw27 : k0_chk27 v5 v3035), ∀ a x, ((![v5, v3035] : Fin 2 → IVec S16 32) a x).toNat < S16x17.size a := fun v5 v3035 k0_hw27 => k0_hw27.1
theorem k0_idx75_inb : ∀ (v5 : IVec S16 32) (v3035 : IVec S16 32) (k0_hw27 : k0_chk27 v5 v3035), ∀ a x, ((![v5, v3035] : Fin 2 → IVec S16 32) a x).toNat < S16x17.size a := fun v5 v3035 k0_hw27 => k0_hw27.2.1
theorem k0_idx91_inb : ∀ (v5 : IVec S16 32) (v3035 : IVec S16 32) (k0_hw27 : k0_chk27 v5 v3035), ∀ a x, ((![v5, v3035] : Fin 2 → IVec S16 32) a x).toNat < S16x17.size a := fun v5 v3035 k0_hw27 => k0_hw27.2.2

def k0_chk28 (v5 : IVec S16 32) (v3036 : IVec S16 32) : Prop :=
  (∀ a x, ((![v5, v3036] : Fin 2 → IVec S16 32) a x).toNat < S16x17.size a) ∧
  (∀ a x, ((![v5, v3036] : Fin 2 → IVec S16 32) a x).toNat < S16x17.size a) ∧
  (∀ a x, ((![v5, v3036] : Fin 2 → IVec S16 32) a x).toNat < S16x17.size a)
theorem k0_idx60_inb : ∀ (v5 : IVec S16 32) (v3036 : IVec S16 32) (k0_hw28 : k0_chk28 v5 v3036), ∀ a x, ((![v5, v3036] : Fin 2 → IVec S16 32) a x).toNat < S16x17.size a := fun v5 v3036 k0_hw28 => k0_hw28.1
theorem k0_idx76_inb : ∀ (v5 : IVec S16 32) (v3036 : IVec S16 32) (k0_hw28 : k0_chk28 v5 v3036), ∀ a x, ((![v5, v3036] : Fin 2 → IVec S16 32) a x).toNat < S16x17.size a := fun v5 v3036 k0_hw28 => k0_hw28.2.1
theorem k0_idx92_inb : ∀ (v5 : IVec S16 32) (v3036 : IVec S16 32) (k0_hw28 : k0_chk28 v5 v3036), ∀ a x, ((![v5, v3036] : Fin 2 → IVec S16 32) a x).toNat < S16x17.size a := fun v5 v3036 k0_hw28 => k0_hw28.2.2

def k0_chk29 (v5 : IVec S16 32) (v3037 : IVec S16 32) : Prop :=
  (∀ a x, ((![v5, v3037] : Fin 2 → IVec S16 32) a x).toNat < S16x17.size a) ∧
  (∀ a x, ((![v5, v3037] : Fin 2 → IVec S16 32) a x).toNat < S16x17.size a) ∧
  (∀ a x, ((![v5, v3037] : Fin 2 → IVec S16 32) a x).toNat < S16x17.size a)
theorem k0_idx61_inb : ∀ (v5 : IVec S16 32) (v3037 : IVec S16 32) (k0_hw29 : k0_chk29 v5 v3037), ∀ a x, ((![v5, v3037] : Fin 2 → IVec S16 32) a x).toNat < S16x17.size a := fun v5 v3037 k0_hw29 => k0_hw29.1
theorem k0_idx77_inb : ∀ (v5 : IVec S16 32) (v3037 : IVec S16 32) (k0_hw29 : k0_chk29 v5 v3037), ∀ a x, ((![v5, v3037] : Fin 2 → IVec S16 32) a x).toNat < S16x17.size a := fun v5 v3037 k0_hw29 => k0_hw29.2.1
theorem k0_idx93_inb : ∀ (v5 : IVec S16 32) (v3037 : IVec S16 32) (k0_hw29 : k0_chk29 v5 v3037), ∀ a x, ((![v5, v3037] : Fin 2 → IVec S16 32) a x).toNat < S16x17.size a := fun v5 v3037 k0_hw29 => k0_hw29.2.2

def k0_chk30 (v5 : IVec S16 32) (v3038 : IVec S16 32) : Prop :=
  (∀ a x, ((![v5, v3038] : Fin 2 → IVec S16 32) a x).toNat < S16x17.size a) ∧
  (∀ a x, ((![v5, v3038] : Fin 2 → IVec S16 32) a x).toNat < S16x17.size a) ∧
  (∀ a x, ((![v5, v3038] : Fin 2 → IVec S16 32) a x).toNat < S16x17.size a)
theorem k0_idx62_inb : ∀ (v5 : IVec S16 32) (v3038 : IVec S16 32) (k0_hw30 : k0_chk30 v5 v3038), ∀ a x, ((![v5, v3038] : Fin 2 → IVec S16 32) a x).toNat < S16x17.size a := fun v5 v3038 k0_hw30 => k0_hw30.1
theorem k0_idx78_inb : ∀ (v5 : IVec S16 32) (v3038 : IVec S16 32) (k0_hw30 : k0_chk30 v5 v3038), ∀ a x, ((![v5, v3038] : Fin 2 → IVec S16 32) a x).toNat < S16x17.size a := fun v5 v3038 k0_hw30 => k0_hw30.2.1
theorem k0_idx94_inb : ∀ (v5 : IVec S16 32) (v3038 : IVec S16 32) (k0_hw30 : k0_chk30 v5 v3038), ∀ a x, ((![v5, v3038] : Fin 2 → IVec S16 32) a x).toNat < S16x17.size a := fun v5 v3038 k0_hw30 => k0_hw30.2.2

def k0_chk31 (v5 : IVec S16 32) (v3039 : IVec S16 32) : Prop :=
  (∀ a x, ((![v5, v3039] : Fin 2 → IVec S16 32) a x).toNat < S16x17.size a) ∧
  (∀ a x, ((![v5, v3039] : Fin 2 → IVec S16 32) a x).toNat < S16x17.size a) ∧
  (∀ a x, ((![v5, v3039] : Fin 2 → IVec S16 32) a x).toNat < S16x17.size a)
theorem k0_idx63_inb : ∀ (v5 : IVec S16 32) (v3039 : IVec S16 32) (k0_hw31 : k0_chk31 v5 v3039), ∀ a x, ((![v5, v3039] : Fin 2 → IVec S16 32) a x).toNat < S16x17.size a := fun v5 v3039 k0_hw31 => k0_hw31.1
theorem k0_idx79_inb : ∀ (v5 : IVec S16 32) (v3039 : IVec S16 32) (k0_hw31 : k0_chk31 v5 v3039), ∀ a x, ((![v5, v3039] : Fin 2 → IVec S16 32) a x).toNat < S16x17.size a := fun v5 v3039 k0_hw31 => k0_hw31.2.1
theorem k0_idx95_inb : ∀ (v5 : IVec S16 32) (v3039 : IVec S16 32) (k0_hw31 : k0_chk31 v5 v3039), ∀ a x, ((![v5, v3039] : Fin 2 → IVec S16 32) a x).toNat < S16x17.size a := fun v5 v3039 k0_hw31 => k0_hw31.2.2

def k0_chk32 (v5 : IVec S16 32) (v3040 : IVec S16 32) : Prop :=
  (∀ a x, ((![v5, v3040] : Fin 2 → IVec S16 32) a x).toNat < S16x17.size a) ∧
  (∀ a x, ((![v5, v3040] : Fin 2 → IVec S16 32) a x).toNat < S16x17.size a) ∧
  (∀ a x, ((![v5, v3040] : Fin 2 → IVec S16 32) a x).toNat < S16x17.size a)
theorem k0_idx64_inb : ∀ (v5 : IVec S16 32) (v3040 : IVec S16 32) (k0_hw32 : k0_chk32 v5 v3040), ∀ a x, ((![v5, v3040] : Fin 2 → IVec S16 32) a x).toNat < S16x17.size a := fun v5 v3040 k0_hw32 => k0_hw32.1
theorem k0_idx80_inb : ∀ (v5 : IVec S16 32) (v3040 : IVec S16 32) (k0_hw32 : k0_chk32 v5 v3040), ∀ a x, ((![v5, v3040] : Fin 2 → IVec S16 32) a x).toNat < S16x17.size a := fun v5 v3040 k0_hw32 => k0_hw32.2.1
theorem k0_idx96_inb : ∀ (v5 : IVec S16 32) (v3040 : IVec S16 32) (k0_hw32 : k0_chk32 v5 v3040), ∀ a x, ((![v5, v3040] : Fin 2 → IVec S16 32) a x).toNat < S16x17.size a := fun v5 v3040 k0_hw32 => k0_hw32.2.2
def k0_off8 (k0_t1 : Fin k0_t1_loop.trips) : Fin 1 → Nat :=
  let c2_i32_13 : BitVec 32 := 2#32
  let c0_i32_11 : BitVec 32 := 0#32
  let c1_i32 : BitVec 32 := 1#32
  let arg33 : BitVec 32 := Scf.iv c0_i32_11 c1_i32 k0_t1
  let v19 : BitVec 32 := Scalar.muli c2_i32_13 arg33
  let c80_i32_1379 : BitVec 32 := 80#32
  let v3154 : BitVec 32 := Scalar.muli v19 c80_i32_1379
  let c0_i32_1380 : BitVec 32 := 0#32
  let v3155 : BitVec 32 := Scalar.addi v3154 c0_i32_1380
  let v3156 : Index := Scalar.indexCast v3155
  ![v3156.toNat]

def k0_chk33 (v5 : IVec S16 32) (v4583 : IVec S16 32) : Prop :=
  (∀ a x, ((![v5, v4583] : Fin 2 → IVec S16 32) a x).toNat < S16x17.size a) ∧
  (∀ a x, ((![v5, v4583] : Fin 2 → IVec S16 32) a x).toNat < S16x17.size a) ∧
  (∀ a x, ((![v5, v4583] : Fin 2 → IVec S16 32) a x).toNat < S16x17.size a)
theorem k0_idx97_inb : ∀ (v5 : IVec S16 32) (v4583 : IVec S16 32) (k0_hw33 : k0_chk33 v5 v4583), ∀ a x, ((![v5, v4583] : Fin 2 → IVec S16 32) a x).toNat < S16x17.size a := fun v5 v4583 k0_hw33 => k0_hw33.1
theorem k0_idx113_inb : ∀ (v5 : IVec S16 32) (v4583 : IVec S16 32) (k0_hw33 : k0_chk33 v5 v4583), ∀ a x, ((![v5, v4583] : Fin 2 → IVec S16 32) a x).toNat < S16x17.size a := fun v5 v4583 k0_hw33 => k0_hw33.2.1
theorem k0_idx129_inb : ∀ (v5 : IVec S16 32) (v4583 : IVec S16 32) (k0_hw33 : k0_chk33 v5 v4583), ∀ a x, ((![v5, v4583] : Fin 2 → IVec S16 32) a x).toNat < S16x17.size a := fun v5 v4583 k0_hw33 => k0_hw33.2.2

def k0_chk34 (v5 : IVec S16 32) (v4584 : IVec S16 32) : Prop :=
  (∀ a x, ((![v5, v4584] : Fin 2 → IVec S16 32) a x).toNat < S16x17.size a) ∧
  (∀ a x, ((![v5, v4584] : Fin 2 → IVec S16 32) a x).toNat < S16x17.size a) ∧
  (∀ a x, ((![v5, v4584] : Fin 2 → IVec S16 32) a x).toNat < S16x17.size a)
theorem k0_idx98_inb : ∀ (v5 : IVec S16 32) (v4584 : IVec S16 32) (k0_hw34 : k0_chk34 v5 v4584), ∀ a x, ((![v5, v4584] : Fin 2 → IVec S16 32) a x).toNat < S16x17.size a := fun v5 v4584 k0_hw34 => k0_hw34.1
theorem k0_idx114_inb : ∀ (v5 : IVec S16 32) (v4584 : IVec S16 32) (k0_hw34 : k0_chk34 v5 v4584), ∀ a x, ((![v5, v4584] : Fin 2 → IVec S16 32) a x).toNat < S16x17.size a := fun v5 v4584 k0_hw34 => k0_hw34.2.1
theorem k0_idx130_inb : ∀ (v5 : IVec S16 32) (v4584 : IVec S16 32) (k0_hw34 : k0_chk34 v5 v4584), ∀ a x, ((![v5, v4584] : Fin 2 → IVec S16 32) a x).toNat < S16x17.size a := fun v5 v4584 k0_hw34 => k0_hw34.2.2

def k0_chk35 (v5 : IVec S16 32) (v4585 : IVec S16 32) : Prop :=
  (∀ a x, ((![v5, v4585] : Fin 2 → IVec S16 32) a x).toNat < S16x17.size a) ∧
  (∀ a x, ((![v5, v4585] : Fin 2 → IVec S16 32) a x).toNat < S16x17.size a) ∧
  (∀ a x, ((![v5, v4585] : Fin 2 → IVec S16 32) a x).toNat < S16x17.size a)
theorem k0_idx99_inb : ∀ (v5 : IVec S16 32) (v4585 : IVec S16 32) (k0_hw35 : k0_chk35 v5 v4585), ∀ a x, ((![v5, v4585] : Fin 2 → IVec S16 32) a x).toNat < S16x17.size a := fun v5 v4585 k0_hw35 => k0_hw35.1
theorem k0_idx115_inb : ∀ (v5 : IVec S16 32) (v4585 : IVec S16 32) (k0_hw35 : k0_chk35 v5 v4585), ∀ a x, ((![v5, v4585] : Fin 2 → IVec S16 32) a x).toNat < S16x17.size a := fun v5 v4585 k0_hw35 => k0_hw35.2.1
theorem k0_idx131_inb : ∀ (v5 : IVec S16 32) (v4585 : IVec S16 32) (k0_hw35 : k0_chk35 v5 v4585), ∀ a x, ((![v5, v4585] : Fin 2 → IVec S16 32) a x).toNat < S16x17.size a := fun v5 v4585 k0_hw35 => k0_hw35.2.2

def k0_chk36 (v5 : IVec S16 32) (v4586 : IVec S16 32) : Prop :=
  (∀ a x, ((![v5, v4586] : Fin 2 → IVec S16 32) a x).toNat < S16x17.size a) ∧
  (∀ a x, ((![v5, v4586] : Fin 2 → IVec S16 32) a x).toNat < S16x17.size a) ∧
  (∀ a x, ((![v5, v4586] : Fin 2 → IVec S16 32) a x).toNat < S16x17.size a)
theorem k0_idx100_inb : ∀ (v5 : IVec S16 32) (v4586 : IVec S16 32) (k0_hw36 : k0_chk36 v5 v4586), ∀ a x, ((![v5, v4586] : Fin 2 → IVec S16 32) a x).toNat < S16x17.size a := fun v5 v4586 k0_hw36 => k0_hw36.1
theorem k0_idx116_inb : ∀ (v5 : IVec S16 32) (v4586 : IVec S16 32) (k0_hw36 : k0_chk36 v5 v4586), ∀ a x, ((![v5, v4586] : Fin 2 → IVec S16 32) a x).toNat < S16x17.size a := fun v5 v4586 k0_hw36 => k0_hw36.2.1
theorem k0_idx132_inb : ∀ (v5 : IVec S16 32) (v4586 : IVec S16 32) (k0_hw36 : k0_chk36 v5 v4586), ∀ a x, ((![v5, v4586] : Fin 2 → IVec S16 32) a x).toNat < S16x17.size a := fun v5 v4586 k0_hw36 => k0_hw36.2.2

def k0_chk37 (v5 : IVec S16 32) (v4587 : IVec S16 32) : Prop :=
  (∀ a x, ((![v5, v4587] : Fin 2 → IVec S16 32) a x).toNat < S16x17.size a) ∧
  (∀ a x, ((![v5, v4587] : Fin 2 → IVec S16 32) a x).toNat < S16x17.size a) ∧
  (∀ a x, ((![v5, v4587] : Fin 2 → IVec S16 32) a x).toNat < S16x17.size a)
theorem k0_idx101_inb : ∀ (v5 : IVec S16 32) (v4587 : IVec S16 32) (k0_hw37 : k0_chk37 v5 v4587), ∀ a x, ((![v5, v4587] : Fin 2 → IVec S16 32) a x).toNat < S16x17.size a := fun v5 v4587 k0_hw37 => k0_hw37.1
theorem k0_idx117_inb : ∀ (v5 : IVec S16 32) (v4587 : IVec S16 32) (k0_hw37 : k0_chk37 v5 v4587), ∀ a x, ((![v5, v4587] : Fin 2 → IVec S16 32) a x).toNat < S16x17.size a := fun v5 v4587 k0_hw37 => k0_hw37.2.1
theorem k0_idx133_inb : ∀ (v5 : IVec S16 32) (v4587 : IVec S16 32) (k0_hw37 : k0_chk37 v5 v4587), ∀ a x, ((![v5, v4587] : Fin 2 → IVec S16 32) a x).toNat < S16x17.size a := fun v5 v4587 k0_hw37 => k0_hw37.2.2

def k0_chk38 (v5 : IVec S16 32) (v4588 : IVec S16 32) : Prop :=
  (∀ a x, ((![v5, v4588] : Fin 2 → IVec S16 32) a x).toNat < S16x17.size a) ∧
  (∀ a x, ((![v5, v4588] : Fin 2 → IVec S16 32) a x).toNat < S16x17.size a) ∧
  (∀ a x, ((![v5, v4588] : Fin 2 → IVec S16 32) a x).toNat < S16x17.size a)
theorem k0_idx102_inb : ∀ (v5 : IVec S16 32) (v4588 : IVec S16 32) (k0_hw38 : k0_chk38 v5 v4588), ∀ a x, ((![v5, v4588] : Fin 2 → IVec S16 32) a x).toNat < S16x17.size a := fun v5 v4588 k0_hw38 => k0_hw38.1
theorem k0_idx118_inb : ∀ (v5 : IVec S16 32) (v4588 : IVec S16 32) (k0_hw38 : k0_chk38 v5 v4588), ∀ a x, ((![v5, v4588] : Fin 2 → IVec S16 32) a x).toNat < S16x17.size a := fun v5 v4588 k0_hw38 => k0_hw38.2.1
theorem k0_idx134_inb : ∀ (v5 : IVec S16 32) (v4588 : IVec S16 32) (k0_hw38 : k0_chk38 v5 v4588), ∀ a x, ((![v5, v4588] : Fin 2 → IVec S16 32) a x).toNat < S16x17.size a := fun v5 v4588 k0_hw38 => k0_hw38.2.2

def k0_chk39 (v5 : IVec S16 32) (v4589 : IVec S16 32) : Prop :=
  (∀ a x, ((![v5, v4589] : Fin 2 → IVec S16 32) a x).toNat < S16x17.size a) ∧
  (∀ a x, ((![v5, v4589] : Fin 2 → IVec S16 32) a x).toNat < S16x17.size a) ∧
  (∀ a x, ((![v5, v4589] : Fin 2 → IVec S16 32) a x).toNat < S16x17.size a)
theorem k0_idx103_inb : ∀ (v5 : IVec S16 32) (v4589 : IVec S16 32) (k0_hw39 : k0_chk39 v5 v4589), ∀ a x, ((![v5, v4589] : Fin 2 → IVec S16 32) a x).toNat < S16x17.size a := fun v5 v4589 k0_hw39 => k0_hw39.1
theorem k0_idx119_inb : ∀ (v5 : IVec S16 32) (v4589 : IVec S16 32) (k0_hw39 : k0_chk39 v5 v4589), ∀ a x, ((![v5, v4589] : Fin 2 → IVec S16 32) a x).toNat < S16x17.size a := fun v5 v4589 k0_hw39 => k0_hw39.2.1
theorem k0_idx135_inb : ∀ (v5 : IVec S16 32) (v4589 : IVec S16 32) (k0_hw39 : k0_chk39 v5 v4589), ∀ a x, ((![v5, v4589] : Fin 2 → IVec S16 32) a x).toNat < S16x17.size a := fun v5 v4589 k0_hw39 => k0_hw39.2.2

def k0_chk40 (v5 : IVec S16 32) (v4590 : IVec S16 32) : Prop :=
  (∀ a x, ((![v5, v4590] : Fin 2 → IVec S16 32) a x).toNat < S16x17.size a) ∧
  (∀ a x, ((![v5, v4590] : Fin 2 → IVec S16 32) a x).toNat < S16x17.size a) ∧
  (∀ a x, ((![v5, v4590] : Fin 2 → IVec S16 32) a x).toNat < S16x17.size a)
theorem k0_idx104_inb : ∀ (v5 : IVec S16 32) (v4590 : IVec S16 32) (k0_hw40 : k0_chk40 v5 v4590), ∀ a x, ((![v5, v4590] : Fin 2 → IVec S16 32) a x).toNat < S16x17.size a := fun v5 v4590 k0_hw40 => k0_hw40.1
theorem k0_idx120_inb : ∀ (v5 : IVec S16 32) (v4590 : IVec S16 32) (k0_hw40 : k0_chk40 v5 v4590), ∀ a x, ((![v5, v4590] : Fin 2 → IVec S16 32) a x).toNat < S16x17.size a := fun v5 v4590 k0_hw40 => k0_hw40.2.1
theorem k0_idx136_inb : ∀ (v5 : IVec S16 32) (v4590 : IVec S16 32) (k0_hw40 : k0_chk40 v5 v4590), ∀ a x, ((![v5, v4590] : Fin 2 → IVec S16 32) a x).toNat < S16x17.size a := fun v5 v4590 k0_hw40 => k0_hw40.2.2

def k0_chk41 (v5 : IVec S16 32) (v4591 : IVec S16 32) : Prop :=
  (∀ a x, ((![v5, v4591] : Fin 2 → IVec S16 32) a x).toNat < S16x17.size a) ∧
  (∀ a x, ((![v5, v4591] : Fin 2 → IVec S16 32) a x).toNat < S16x17.size a) ∧
  (∀ a x, ((![v5, v4591] : Fin 2 → IVec S16 32) a x).toNat < S16x17.size a)
theorem k0_idx105_inb : ∀ (v5 : IVec S16 32) (v4591 : IVec S16 32) (k0_hw41 : k0_chk41 v5 v4591), ∀ a x, ((![v5, v4591] : Fin 2 → IVec S16 32) a x).toNat < S16x17.size a := fun v5 v4591 k0_hw41 => k0_hw41.1
theorem k0_idx121_inb : ∀ (v5 : IVec S16 32) (v4591 : IVec S16 32) (k0_hw41 : k0_chk41 v5 v4591), ∀ a x, ((![v5, v4591] : Fin 2 → IVec S16 32) a x).toNat < S16x17.size a := fun v5 v4591 k0_hw41 => k0_hw41.2.1
theorem k0_idx137_inb : ∀ (v5 : IVec S16 32) (v4591 : IVec S16 32) (k0_hw41 : k0_chk41 v5 v4591), ∀ a x, ((![v5, v4591] : Fin 2 → IVec S16 32) a x).toNat < S16x17.size a := fun v5 v4591 k0_hw41 => k0_hw41.2.2

def k0_chk42 (v5 : IVec S16 32) (v4592 : IVec S16 32) : Prop :=
  (∀ a x, ((![v5, v4592] : Fin 2 → IVec S16 32) a x).toNat < S16x17.size a) ∧
  (∀ a x, ((![v5, v4592] : Fin 2 → IVec S16 32) a x).toNat < S16x17.size a) ∧
  (∀ a x, ((![v5, v4592] : Fin 2 → IVec S16 32) a x).toNat < S16x17.size a)
theorem k0_idx106_inb : ∀ (v5 : IVec S16 32) (v4592 : IVec S16 32) (k0_hw42 : k0_chk42 v5 v4592), ∀ a x, ((![v5, v4592] : Fin 2 → IVec S16 32) a x).toNat < S16x17.size a := fun v5 v4592 k0_hw42 => k0_hw42.1
theorem k0_idx122_inb : ∀ (v5 : IVec S16 32) (v4592 : IVec S16 32) (k0_hw42 : k0_chk42 v5 v4592), ∀ a x, ((![v5, v4592] : Fin 2 → IVec S16 32) a x).toNat < S16x17.size a := fun v5 v4592 k0_hw42 => k0_hw42.2.1
theorem k0_idx138_inb : ∀ (v5 : IVec S16 32) (v4592 : IVec S16 32) (k0_hw42 : k0_chk42 v5 v4592), ∀ a x, ((![v5, v4592] : Fin 2 → IVec S16 32) a x).toNat < S16x17.size a := fun v5 v4592 k0_hw42 => k0_hw42.2.2

def k0_chk43 (v5 : IVec S16 32) (v4593 : IVec S16 32) : Prop :=
  (∀ a x, ((![v5, v4593] : Fin 2 → IVec S16 32) a x).toNat < S16x17.size a) ∧
  (∀ a x, ((![v5, v4593] : Fin 2 → IVec S16 32) a x).toNat < S16x17.size a) ∧
  (∀ a x, ((![v5, v4593] : Fin 2 → IVec S16 32) a x).toNat < S16x17.size a)
theorem k0_idx107_inb : ∀ (v5 : IVec S16 32) (v4593 : IVec S16 32) (k0_hw43 : k0_chk43 v5 v4593), ∀ a x, ((![v5, v4593] : Fin 2 → IVec S16 32) a x).toNat < S16x17.size a := fun v5 v4593 k0_hw43 => k0_hw43.1
theorem k0_idx123_inb : ∀ (v5 : IVec S16 32) (v4593 : IVec S16 32) (k0_hw43 : k0_chk43 v5 v4593), ∀ a x, ((![v5, v4593] : Fin 2 → IVec S16 32) a x).toNat < S16x17.size a := fun v5 v4593 k0_hw43 => k0_hw43.2.1
theorem k0_idx139_inb : ∀ (v5 : IVec S16 32) (v4593 : IVec S16 32) (k0_hw43 : k0_chk43 v5 v4593), ∀ a x, ((![v5, v4593] : Fin 2 → IVec S16 32) a x).toNat < S16x17.size a := fun v5 v4593 k0_hw43 => k0_hw43.2.2

def k0_chk44 (v5 : IVec S16 32) (v4594 : IVec S16 32) : Prop :=
  (∀ a x, ((![v5, v4594] : Fin 2 → IVec S16 32) a x).toNat < S16x17.size a) ∧
  (∀ a x, ((![v5, v4594] : Fin 2 → IVec S16 32) a x).toNat < S16x17.size a) ∧
  (∀ a x, ((![v5, v4594] : Fin 2 → IVec S16 32) a x).toNat < S16x17.size a)
theorem k0_idx108_inb : ∀ (v5 : IVec S16 32) (v4594 : IVec S16 32) (k0_hw44 : k0_chk44 v5 v4594), ∀ a x, ((![v5, v4594] : Fin 2 → IVec S16 32) a x).toNat < S16x17.size a := fun v5 v4594 k0_hw44 => k0_hw44.1
theorem k0_idx124_inb : ∀ (v5 : IVec S16 32) (v4594 : IVec S16 32) (k0_hw44 : k0_chk44 v5 v4594), ∀ a x, ((![v5, v4594] : Fin 2 → IVec S16 32) a x).toNat < S16x17.size a := fun v5 v4594 k0_hw44 => k0_hw44.2.1
theorem k0_idx140_inb : ∀ (v5 : IVec S16 32) (v4594 : IVec S16 32) (k0_hw44 : k0_chk44 v5 v4594), ∀ a x, ((![v5, v4594] : Fin 2 → IVec S16 32) a x).toNat < S16x17.size a := fun v5 v4594 k0_hw44 => k0_hw44.2.2

def k0_chk45 (v5 : IVec S16 32) (v4595 : IVec S16 32) : Prop :=
  (∀ a x, ((![v5, v4595] : Fin 2 → IVec S16 32) a x).toNat < S16x17.size a) ∧
  (∀ a x, ((![v5, v4595] : Fin 2 → IVec S16 32) a x).toNat < S16x17.size a) ∧
  (∀ a x, ((![v5, v4595] : Fin 2 → IVec S16 32) a x).toNat < S16x17.size a)
theorem k0_idx109_inb : ∀ (v5 : IVec S16 32) (v4595 : IVec S16 32) (k0_hw45 : k0_chk45 v5 v4595), ∀ a x, ((![v5, v4595] : Fin 2 → IVec S16 32) a x).toNat < S16x17.size a := fun v5 v4595 k0_hw45 => k0_hw45.1
theorem k0_idx125_inb : ∀ (v5 : IVec S16 32) (v4595 : IVec S16 32) (k0_hw45 : k0_chk45 v5 v4595), ∀ a x, ((![v5, v4595] : Fin 2 → IVec S16 32) a x).toNat < S16x17.size a := fun v5 v4595 k0_hw45 => k0_hw45.2.1
theorem k0_idx141_inb : ∀ (v5 : IVec S16 32) (v4595 : IVec S16 32) (k0_hw45 : k0_chk45 v5 v4595), ∀ a x, ((![v5, v4595] : Fin 2 → IVec S16 32) a x).toNat < S16x17.size a := fun v5 v4595 k0_hw45 => k0_hw45.2.2

def k0_chk46 (v5 : IVec S16 32) (v4596 : IVec S16 32) : Prop :=
  (∀ a x, ((![v5, v4596] : Fin 2 → IVec S16 32) a x).toNat < S16x17.size a) ∧
  (∀ a x, ((![v5, v4596] : Fin 2 → IVec S16 32) a x).toNat < S16x17.size a) ∧
  (∀ a x, ((![v5, v4596] : Fin 2 → IVec S16 32) a x).toNat < S16x17.size a)
theorem k0_idx110_inb : ∀ (v5 : IVec S16 32) (v4596 : IVec S16 32) (k0_hw46 : k0_chk46 v5 v4596), ∀ a x, ((![v5, v4596] : Fin 2 → IVec S16 32) a x).toNat < S16x17.size a := fun v5 v4596 k0_hw46 => k0_hw46.1
theorem k0_idx126_inb : ∀ (v5 : IVec S16 32) (v4596 : IVec S16 32) (k0_hw46 : k0_chk46 v5 v4596), ∀ a x, ((![v5, v4596] : Fin 2 → IVec S16 32) a x).toNat < S16x17.size a := fun v5 v4596 k0_hw46 => k0_hw46.2.1
theorem k0_idx142_inb : ∀ (v5 : IVec S16 32) (v4596 : IVec S16 32) (k0_hw46 : k0_chk46 v5 v4596), ∀ a x, ((![v5, v4596] : Fin 2 → IVec S16 32) a x).toNat < S16x17.size a := fun v5 v4596 k0_hw46 => k0_hw46.2.2

def k0_chk47 (v5 : IVec S16 32) (v4597 : IVec S16 32) : Prop :=
  (∀ a x, ((![v5, v4597] : Fin 2 → IVec S16 32) a x).toNat < S16x17.size a) ∧
  (∀ a x, ((![v5, v4597] : Fin 2 → IVec S16 32) a x).toNat < S16x17.size a) ∧
  (∀ a x, ((![v5, v4597] : Fin 2 → IVec S16 32) a x).toNat < S16x17.size a)
theorem k0_idx111_inb : ∀ (v5 : IVec S16 32) (v4597 : IVec S16 32) (k0_hw47 : k0_chk47 v5 v4597), ∀ a x, ((![v5, v4597] : Fin 2 → IVec S16 32) a x).toNat < S16x17.size a := fun v5 v4597 k0_hw47 => k0_hw47.1
theorem k0_idx127_inb : ∀ (v5 : IVec S16 32) (v4597 : IVec S16 32) (k0_hw47 : k0_chk47 v5 v4597), ∀ a x, ((![v5, v4597] : Fin 2 → IVec S16 32) a x).toNat < S16x17.size a := fun v5 v4597 k0_hw47 => k0_hw47.2.1
theorem k0_idx143_inb : ∀ (v5 : IVec S16 32) (v4597 : IVec S16 32) (k0_hw47 : k0_chk47 v5 v4597), ∀ a x, ((![v5, v4597] : Fin 2 → IVec S16 32) a x).toNat < S16x17.size a := fun v5 v4597 k0_hw47 => k0_hw47.2.2

def k0_chk48 (v5 : IVec S16 32) (v4598 : IVec S16 32) : Prop :=
  (∀ a x, ((![v5, v4598] : Fin 2 → IVec S16 32) a x).toNat < S16x17.size a) ∧
  (∀ a x, ((![v5, v4598] : Fin 2 → IVec S16 32) a x).toNat < S16x17.size a) ∧
  (∀ a x, ((![v5, v4598] : Fin 2 → IVec S16 32) a x).toNat < S16x17.size a)
theorem k0_idx112_inb : ∀ (v5 : IVec S16 32) (v4598 : IVec S16 32) (k0_hw48 : k0_chk48 v5 v4598), ∀ a x, ((![v5, v4598] : Fin 2 → IVec S16 32) a x).toNat < S16x17.size a := fun v5 v4598 k0_hw48 => k0_hw48.1
theorem k0_idx128_inb : ∀ (v5 : IVec S16 32) (v4598 : IVec S16 32) (k0_hw48 : k0_chk48 v5 v4598), ∀ a x, ((![v5, v4598] : Fin 2 → IVec S16 32) a x).toNat < S16x17.size a := fun v5 v4598 k0_hw48 => k0_hw48.2.1
theorem k0_idx144_inb : ∀ (v5 : IVec S16 32) (v4598 : IVec S16 32) (k0_hw48 : k0_chk48 v5 v4598), ∀ a x, ((![v5, v4598] : Fin 2 → IVec S16 32) a x).toNat < S16x17.size a := fun v5 v4598 k0_hw48 => k0_hw48.2.2
def k0_off9 (k0_t1 : Fin k0_t1_loop.trips) : Fin 1 → Nat :=
  let c2_i32_13 : BitVec 32 := 2#32
  let c0_i32_11 : BitVec 32 := 0#32
  let c1_i32 : BitVec 32 := 1#32
  let arg33 : BitVec 32 := Scf.iv c0_i32_11 c1_i32 k0_t1
  let v19 : BitVec 32 := Scalar.muli c2_i32_13 arg33
  let c80_i32_2047 : BitVec 32 := 80#32
  let v4712 : BitVec 32 := Scalar.muli v19 c80_i32_2047
  let c16_i32_2048 : BitVec 32 := 16#32
  let v4713 : BitVec 32 := Scalar.addi v4712 c16_i32_2048
  let v4714 : Index := Scalar.indexCast v4713
  ![v4714.toNat]

def k0_chk49 (v5 : IVec S16 32) (v6141 : IVec S16 32) : Prop :=
  (∀ a x, ((![v5, v6141] : Fin 2 → IVec S16 32) a x).toNat < S16x17.size a) ∧
  (∀ a x, ((![v5, v6141] : Fin 2 → IVec S16 32) a x).toNat < S16x17.size a) ∧
  (∀ a x, ((![v5, v6141] : Fin 2 → IVec S16 32) a x).toNat < S16x17.size a)
theorem k0_idx145_inb : ∀ (v5 : IVec S16 32) (v6141 : IVec S16 32) (k0_hw49 : k0_chk49 v5 v6141), ∀ a x, ((![v5, v6141] : Fin 2 → IVec S16 32) a x).toNat < S16x17.size a := fun v5 v6141 k0_hw49 => k0_hw49.1
theorem k0_idx161_inb : ∀ (v5 : IVec S16 32) (v6141 : IVec S16 32) (k0_hw49 : k0_chk49 v5 v6141), ∀ a x, ((![v5, v6141] : Fin 2 → IVec S16 32) a x).toNat < S16x17.size a := fun v5 v6141 k0_hw49 => k0_hw49.2.1
theorem k0_idx177_inb : ∀ (v5 : IVec S16 32) (v6141 : IVec S16 32) (k0_hw49 : k0_chk49 v5 v6141), ∀ a x, ((![v5, v6141] : Fin 2 → IVec S16 32) a x).toNat < S16x17.size a := fun v5 v6141 k0_hw49 => k0_hw49.2.2

def k0_chk50 (v5 : IVec S16 32) (v6142 : IVec S16 32) : Prop :=
  (∀ a x, ((![v5, v6142] : Fin 2 → IVec S16 32) a x).toNat < S16x17.size a) ∧
  (∀ a x, ((![v5, v6142] : Fin 2 → IVec S16 32) a x).toNat < S16x17.size a) ∧
  (∀ a x, ((![v5, v6142] : Fin 2 → IVec S16 32) a x).toNat < S16x17.size a)
theorem k0_idx146_inb : ∀ (v5 : IVec S16 32) (v6142 : IVec S16 32) (k0_hw50 : k0_chk50 v5 v6142), ∀ a x, ((![v5, v6142] : Fin 2 → IVec S16 32) a x).toNat < S16x17.size a := fun v5 v6142 k0_hw50 => k0_hw50.1
theorem k0_idx162_inb : ∀ (v5 : IVec S16 32) (v6142 : IVec S16 32) (k0_hw50 : k0_chk50 v5 v6142), ∀ a x, ((![v5, v6142] : Fin 2 → IVec S16 32) a x).toNat < S16x17.size a := fun v5 v6142 k0_hw50 => k0_hw50.2.1
theorem k0_idx178_inb : ∀ (v5 : IVec S16 32) (v6142 : IVec S16 32) (k0_hw50 : k0_chk50 v5 v6142), ∀ a x, ((![v5, v6142] : Fin 2 → IVec S16 32) a x).toNat < S16x17.size a := fun v5 v6142 k0_hw50 => k0_hw50.2.2

def k0_chk51 (v5 : IVec S16 32) (v6143 : IVec S16 32) : Prop :=
  (∀ a x, ((![v5, v6143] : Fin 2 → IVec S16 32) a x).toNat < S16x17.size a) ∧
  (∀ a x, ((![v5, v6143] : Fin 2 → IVec S16 32) a x).toNat < S16x17.size a) ∧
  (∀ a x, ((![v5, v6143] : Fin 2 → IVec S16 32) a x).toNat < S16x17.size a)
theorem k0_idx147_inb : ∀ (v5 : IVec S16 32) (v6143 : IVec S16 32) (k0_hw51 : k0_chk51 v5 v6143), ∀ a x, ((![v5, v6143] : Fin 2 → IVec S16 32) a x).toNat < S16x17.size a := fun v5 v6143 k0_hw51 => k0_hw51.1
theorem k0_idx163_inb : ∀ (v5 : IVec S16 32) (v6143 : IVec S16 32) (k0_hw51 : k0_chk51 v5 v6143), ∀ a x, ((![v5, v6143] : Fin 2 → IVec S16 32) a x).toNat < S16x17.size a := fun v5 v6143 k0_hw51 => k0_hw51.2.1
theorem k0_idx179_inb : ∀ (v5 : IVec S16 32) (v6143 : IVec S16 32) (k0_hw51 : k0_chk51 v5 v6143), ∀ a x, ((![v5, v6143] : Fin 2 → IVec S16 32) a x).toNat < S16x17.size a := fun v5 v6143 k0_hw51 => k0_hw51.2.2

def k0_chk52 (v5 : IVec S16 32) (v6144 : IVec S16 32) : Prop :=
  (∀ a x, ((![v5, v6144] : Fin 2 → IVec S16 32) a x).toNat < S16x17.size a) ∧
  (∀ a x, ((![v5, v6144] : Fin 2 → IVec S16 32) a x).toNat < S16x17.size a) ∧
  (∀ a x, ((![v5, v6144] : Fin 2 → IVec S16 32) a x).toNat < S16x17.size a)
theorem k0_idx148_inb : ∀ (v5 : IVec S16 32) (v6144 : IVec S16 32) (k0_hw52 : k0_chk52 v5 v6144), ∀ a x, ((![v5, v6144] : Fin 2 → IVec S16 32) a x).toNat < S16x17.size a := fun v5 v6144 k0_hw52 => k0_hw52.1
theorem k0_idx164_inb : ∀ (v5 : IVec S16 32) (v6144 : IVec S16 32) (k0_hw52 : k0_chk52 v5 v6144), ∀ a x, ((![v5, v6144] : Fin 2 → IVec S16 32) a x).toNat < S16x17.size a := fun v5 v6144 k0_hw52 => k0_hw52.2.1
theorem k0_idx180_inb : ∀ (v5 : IVec S16 32) (v6144 : IVec S16 32) (k0_hw52 : k0_chk52 v5 v6144), ∀ a x, ((![v5, v6144] : Fin 2 → IVec S16 32) a x).toNat < S16x17.size a := fun v5 v6144 k0_hw52 => k0_hw52.2.2

def k0_chk53 (v5 : IVec S16 32) (v6145 : IVec S16 32) : Prop :=
  (∀ a x, ((![v5, v6145] : Fin 2 → IVec S16 32) a x).toNat < S16x17.size a) ∧
  (∀ a x, ((![v5, v6145] : Fin 2 → IVec S16 32) a x).toNat < S16x17.size a) ∧
  (∀ a x, ((![v5, v6145] : Fin 2 → IVec S16 32) a x).toNat < S16x17.size a)
theorem k0_idx149_inb : ∀ (v5 : IVec S16 32) (v6145 : IVec S16 32) (k0_hw53 : k0_chk53 v5 v6145), ∀ a x, ((![v5, v6145] : Fin 2 → IVec S16 32) a x).toNat < S16x17.size a := fun v5 v6145 k0_hw53 => k0_hw53.1
theorem k0_idx165_inb : ∀ (v5 : IVec S16 32) (v6145 : IVec S16 32) (k0_hw53 : k0_chk53 v5 v6145), ∀ a x, ((![v5, v6145] : Fin 2 → IVec S16 32) a x).toNat < S16x17.size a := fun v5 v6145 k0_hw53 => k0_hw53.2.1
theorem k0_idx181_inb : ∀ (v5 : IVec S16 32) (v6145 : IVec S16 32) (k0_hw53 : k0_chk53 v5 v6145), ∀ a x, ((![v5, v6145] : Fin 2 → IVec S16 32) a x).toNat < S16x17.size a := fun v5 v6145 k0_hw53 => k0_hw53.2.2

def k0_chk54 (v5 : IVec S16 32) (v6146 : IVec S16 32) : Prop :=
  (∀ a x, ((![v5, v6146] : Fin 2 → IVec S16 32) a x).toNat < S16x17.size a) ∧
  (∀ a x, ((![v5, v6146] : Fin 2 → IVec S16 32) a x).toNat < S16x17.size a) ∧
  (∀ a x, ((![v5, v6146] : Fin 2 → IVec S16 32) a x).toNat < S16x17.size a)
theorem k0_idx150_inb : ∀ (v5 : IVec S16 32) (v6146 : IVec S16 32) (k0_hw54 : k0_chk54 v5 v6146), ∀ a x, ((![v5, v6146] : Fin 2 → IVec S16 32) a x).toNat < S16x17.size a := fun v5 v6146 k0_hw54 => k0_hw54.1
theorem k0_idx166_inb : ∀ (v5 : IVec S16 32) (v6146 : IVec S16 32) (k0_hw54 : k0_chk54 v5 v6146), ∀ a x, ((![v5, v6146] : Fin 2 → IVec S16 32) a x).toNat < S16x17.size a := fun v5 v6146 k0_hw54 => k0_hw54.2.1
theorem k0_idx182_inb : ∀ (v5 : IVec S16 32) (v6146 : IVec S16 32) (k0_hw54 : k0_chk54 v5 v6146), ∀ a x, ((![v5, v6146] : Fin 2 → IVec S16 32) a x).toNat < S16x17.size a := fun v5 v6146 k0_hw54 => k0_hw54.2.2

def k0_chk55 (v5 : IVec S16 32) (v6147 : IVec S16 32) : Prop :=
  (∀ a x, ((![v5, v6147] : Fin 2 → IVec S16 32) a x).toNat < S16x17.size a) ∧
  (∀ a x, ((![v5, v6147] : Fin 2 → IVec S16 32) a x).toNat < S16x17.size a) ∧
  (∀ a x, ((![v5, v6147] : Fin 2 → IVec S16 32) a x).toNat < S16x17.size a)
theorem k0_idx151_inb : ∀ (v5 : IVec S16 32) (v6147 : IVec S16 32) (k0_hw55 : k0_chk55 v5 v6147), ∀ a x, ((![v5, v6147] : Fin 2 → IVec S16 32) a x).toNat < S16x17.size a := fun v5 v6147 k0_hw55 => k0_hw55.1
theorem k0_idx167_inb : ∀ (v5 : IVec S16 32) (v6147 : IVec S16 32) (k0_hw55 : k0_chk55 v5 v6147), ∀ a x, ((![v5, v6147] : Fin 2 → IVec S16 32) a x).toNat < S16x17.size a := fun v5 v6147 k0_hw55 => k0_hw55.2.1
theorem k0_idx183_inb : ∀ (v5 : IVec S16 32) (v6147 : IVec S16 32) (k0_hw55 : k0_chk55 v5 v6147), ∀ a x, ((![v5, v6147] : Fin 2 → IVec S16 32) a x).toNat < S16x17.size a := fun v5 v6147 k0_hw55 => k0_hw55.2.2

def k0_chk56 (v5 : IVec S16 32) (v6148 : IVec S16 32) : Prop :=
  (∀ a x, ((![v5, v6148] : Fin 2 → IVec S16 32) a x).toNat < S16x17.size a) ∧
  (∀ a x, ((![v5, v6148] : Fin 2 → IVec S16 32) a x).toNat < S16x17.size a) ∧
  (∀ a x, ((![v5, v6148] : Fin 2 → IVec S16 32) a x).toNat < S16x17.size a)
theorem k0_idx152_inb : ∀ (v5 : IVec S16 32) (v6148 : IVec S16 32) (k0_hw56 : k0_chk56 v5 v6148), ∀ a x, ((![v5, v6148] : Fin 2 → IVec S16 32) a x).toNat < S16x17.size a := fun v5 v6148 k0_hw56 => k0_hw56.1
theorem k0_idx168_inb : ∀ (v5 : IVec S16 32) (v6148 : IVec S16 32) (k0_hw56 : k0_chk56 v5 v6148), ∀ a x, ((![v5, v6148] : Fin 2 → IVec S16 32) a x).toNat < S16x17.size a := fun v5 v6148 k0_hw56 => k0_hw56.2.1
theorem k0_idx184_inb : ∀ (v5 : IVec S16 32) (v6148 : IVec S16 32) (k0_hw56 : k0_chk56 v5 v6148), ∀ a x, ((![v5, v6148] : Fin 2 → IVec S16 32) a x).toNat < S16x17.size a := fun v5 v6148 k0_hw56 => k0_hw56.2.2

def k0_chk57 (v5 : IVec S16 32) (v6149 : IVec S16 32) : Prop :=
  (∀ a x, ((![v5, v6149] : Fin 2 → IVec S16 32) a x).toNat < S16x17.size a) ∧
  (∀ a x, ((![v5, v6149] : Fin 2 → IVec S16 32) a x).toNat < S16x17.size a) ∧
  (∀ a x, ((![v5, v6149] : Fin 2 → IVec S16 32) a x).toNat < S16x17.size a)
theorem k0_idx153_inb : ∀ (v5 : IVec S16 32) (v6149 : IVec S16 32) (k0_hw57 : k0_chk57 v5 v6149), ∀ a x, ((![v5, v6149] : Fin 2 → IVec S16 32) a x).toNat < S16x17.size a := fun v5 v6149 k0_hw57 => k0_hw57.1
theorem k0_idx169_inb : ∀ (v5 : IVec S16 32) (v6149 : IVec S16 32) (k0_hw57 : k0_chk57 v5 v6149), ∀ a x, ((![v5, v6149] : Fin 2 → IVec S16 32) a x).toNat < S16x17.size a := fun v5 v6149 k0_hw57 => k0_hw57.2.1
theorem k0_idx185_inb : ∀ (v5 : IVec S16 32) (v6149 : IVec S16 32) (k0_hw57 : k0_chk57 v5 v6149), ∀ a x, ((![v5, v6149] : Fin 2 → IVec S16 32) a x).toNat < S16x17.size a := fun v5 v6149 k0_hw57 => k0_hw57.2.2

def k0_chk58 (v5 : IVec S16 32) (v6150 : IVec S16 32) : Prop :=
  (∀ a x, ((![v5, v6150] : Fin 2 → IVec S16 32) a x).toNat < S16x17.size a) ∧
  (∀ a x, ((![v5, v6150] : Fin 2 → IVec S16 32) a x).toNat < S16x17.size a) ∧
  (∀ a x, ((![v5, v6150] : Fin 2 → IVec S16 32) a x).toNat < S16x17.size a)
theorem k0_idx154_inb : ∀ (v5 : IVec S16 32) (v6150 : IVec S16 32) (k0_hw58 : k0_chk58 v5 v6150), ∀ a x, ((![v5, v6150] : Fin 2 → IVec S16 32) a x).toNat < S16x17.size a := fun v5 v6150 k0_hw58 => k0_hw58.1
theorem k0_idx170_inb : ∀ (v5 : IVec S16 32) (v6150 : IVec S16 32) (k0_hw58 : k0_chk58 v5 v6150), ∀ a x, ((![v5, v6150] : Fin 2 → IVec S16 32) a x).toNat < S16x17.size a := fun v5 v6150 k0_hw58 => k0_hw58.2.1
theorem k0_idx186_inb : ∀ (v5 : IVec S16 32) (v6150 : IVec S16 32) (k0_hw58 : k0_chk58 v5 v6150), ∀ a x, ((![v5, v6150] : Fin 2 → IVec S16 32) a x).toNat < S16x17.size a := fun v5 v6150 k0_hw58 => k0_hw58.2.2

def k0_chk59 (v5 : IVec S16 32) (v6151 : IVec S16 32) : Prop :=
  (∀ a x, ((![v5, v6151] : Fin 2 → IVec S16 32) a x).toNat < S16x17.size a) ∧
  (∀ a x, ((![v5, v6151] : Fin 2 → IVec S16 32) a x).toNat < S16x17.size a) ∧
  (∀ a x, ((![v5, v6151] : Fin 2 → IVec S16 32) a x).toNat < S16x17.size a)
theorem k0_idx155_inb : ∀ (v5 : IVec S16 32) (v6151 : IVec S16 32) (k0_hw59 : k0_chk59 v5 v6151), ∀ a x, ((![v5, v6151] : Fin 2 → IVec S16 32) a x).toNat < S16x17.size a := fun v5 v6151 k0_hw59 => k0_hw59.1
theorem k0_idx171_inb : ∀ (v5 : IVec S16 32) (v6151 : IVec S16 32) (k0_hw59 : k0_chk59 v5 v6151), ∀ a x, ((![v5, v6151] : Fin 2 → IVec S16 32) a x).toNat < S16x17.size a := fun v5 v6151 k0_hw59 => k0_hw59.2.1
theorem k0_idx187_inb : ∀ (v5 : IVec S16 32) (v6151 : IVec S16 32) (k0_hw59 : k0_chk59 v5 v6151), ∀ a x, ((![v5, v6151] : Fin 2 → IVec S16 32) a x).toNat < S16x17.size a := fun v5 v6151 k0_hw59 => k0_hw59.2.2

def k0_chk60 (v5 : IVec S16 32) (v6152 : IVec S16 32) : Prop :=
  (∀ a x, ((![v5, v6152] : Fin 2 → IVec S16 32) a x).toNat < S16x17.size a) ∧
  (∀ a x, ((![v5, v6152] : Fin 2 → IVec S16 32) a x).toNat < S16x17.size a) ∧
  (∀ a x, ((![v5, v6152] : Fin 2 → IVec S16 32) a x).toNat < S16x17.size a)
theorem k0_idx156_inb : ∀ (v5 : IVec S16 32) (v6152 : IVec S16 32) (k0_hw60 : k0_chk60 v5 v6152), ∀ a x, ((![v5, v6152] : Fin 2 → IVec S16 32) a x).toNat < S16x17.size a := fun v5 v6152 k0_hw60 => k0_hw60.1
theorem k0_idx172_inb : ∀ (v5 : IVec S16 32) (v6152 : IVec S16 32) (k0_hw60 : k0_chk60 v5 v6152), ∀ a x, ((![v5, v6152] : Fin 2 → IVec S16 32) a x).toNat < S16x17.size a := fun v5 v6152 k0_hw60 => k0_hw60.2.1
theorem k0_idx188_inb : ∀ (v5 : IVec S16 32) (v6152 : IVec S16 32) (k0_hw60 : k0_chk60 v5 v6152), ∀ a x, ((![v5, v6152] : Fin 2 → IVec S16 32) a x).toNat < S16x17.size a := fun v5 v6152 k0_hw60 => k0_hw60.2.2

def k0_chk61 (v5 : IVec S16 32) (v6153 : IVec S16 32) : Prop :=
  (∀ a x, ((![v5, v6153] : Fin 2 → IVec S16 32) a x).toNat < S16x17.size a) ∧
  (∀ a x, ((![v5, v6153] : Fin 2 → IVec S16 32) a x).toNat < S16x17.size a) ∧
  (∀ a x, ((![v5, v6153] : Fin 2 → IVec S16 32) a x).toNat < S16x17.size a)
theorem k0_idx157_inb : ∀ (v5 : IVec S16 32) (v6153 : IVec S16 32) (k0_hw61 : k0_chk61 v5 v6153), ∀ a x, ((![v5, v6153] : Fin 2 → IVec S16 32) a x).toNat < S16x17.size a := fun v5 v6153 k0_hw61 => k0_hw61.1
theorem k0_idx173_inb : ∀ (v5 : IVec S16 32) (v6153 : IVec S16 32) (k0_hw61 : k0_chk61 v5 v6153), ∀ a x, ((![v5, v6153] : Fin 2 → IVec S16 32) a x).toNat < S16x17.size a := fun v5 v6153 k0_hw61 => k0_hw61.2.1
theorem k0_idx189_inb : ∀ (v5 : IVec S16 32) (v6153 : IVec S16 32) (k0_hw61 : k0_chk61 v5 v6153), ∀ a x, ((![v5, v6153] : Fin 2 → IVec S16 32) a x).toNat < S16x17.size a := fun v5 v6153 k0_hw61 => k0_hw61.2.2

def k0_chk62 (v5 : IVec S16 32) (v6154 : IVec S16 32) : Prop :=
  (∀ a x, ((![v5, v6154] : Fin 2 → IVec S16 32) a x).toNat < S16x17.size a) ∧
  (∀ a x, ((![v5, v6154] : Fin 2 → IVec S16 32) a x).toNat < S16x17.size a) ∧
  (∀ a x, ((![v5, v6154] : Fin 2 → IVec S16 32) a x).toNat < S16x17.size a)
theorem k0_idx158_inb : ∀ (v5 : IVec S16 32) (v6154 : IVec S16 32) (k0_hw62 : k0_chk62 v5 v6154), ∀ a x, ((![v5, v6154] : Fin 2 → IVec S16 32) a x).toNat < S16x17.size a := fun v5 v6154 k0_hw62 => k0_hw62.1
theorem k0_idx174_inb : ∀ (v5 : IVec S16 32) (v6154 : IVec S16 32) (k0_hw62 : k0_chk62 v5 v6154), ∀ a x, ((![v5, v6154] : Fin 2 → IVec S16 32) a x).toNat < S16x17.size a := fun v5 v6154 k0_hw62 => k0_hw62.2.1
theorem k0_idx190_inb : ∀ (v5 : IVec S16 32) (v6154 : IVec S16 32) (k0_hw62 : k0_chk62 v5 v6154), ∀ a x, ((![v5, v6154] : Fin 2 → IVec S16 32) a x).toNat < S16x17.size a := fun v5 v6154 k0_hw62 => k0_hw62.2.2

def k0_chk63 (v5 : IVec S16 32) (v6155 : IVec S16 32) : Prop :=
  (∀ a x, ((![v5, v6155] : Fin 2 → IVec S16 32) a x).toNat < S16x17.size a) ∧
  (∀ a x, ((![v5, v6155] : Fin 2 → IVec S16 32) a x).toNat < S16x17.size a) ∧
  (∀ a x, ((![v5, v6155] : Fin 2 → IVec S16 32) a x).toNat < S16x17.size a)
theorem k0_idx159_inb : ∀ (v5 : IVec S16 32) (v6155 : IVec S16 32) (k0_hw63 : k0_chk63 v5 v6155), ∀ a x, ((![v5, v6155] : Fin 2 → IVec S16 32) a x).toNat < S16x17.size a := fun v5 v6155 k0_hw63 => k0_hw63.1
theorem k0_idx175_inb : ∀ (v5 : IVec S16 32) (v6155 : IVec S16 32) (k0_hw63 : k0_chk63 v5 v6155), ∀ a x, ((![v5, v6155] : Fin 2 → IVec S16 32) a x).toNat < S16x17.size a := fun v5 v6155 k0_hw63 => k0_hw63.2.1
theorem k0_idx191_inb : ∀ (v5 : IVec S16 32) (v6155 : IVec S16 32) (k0_hw63 : k0_chk63 v5 v6155), ∀ a x, ((![v5, v6155] : Fin 2 → IVec S16 32) a x).toNat < S16x17.size a := fun v5 v6155 k0_hw63 => k0_hw63.2.2

def k0_chk64 (v5 : IVec S16 32) (v6156 : IVec S16 32) : Prop :=
  (∀ a x, ((![v5, v6156] : Fin 2 → IVec S16 32) a x).toNat < S16x17.size a) ∧
  (∀ a x, ((![v5, v6156] : Fin 2 → IVec S16 32) a x).toNat < S16x17.size a) ∧
  (∀ a x, ((![v5, v6156] : Fin 2 → IVec S16 32) a x).toNat < S16x17.size a)
theorem k0_idx160_inb : ∀ (v5 : IVec S16 32) (v6156 : IVec S16 32) (k0_hw64 : k0_chk64 v5 v6156), ∀ a x, ((![v5, v6156] : Fin 2 → IVec S16 32) a x).toNat < S16x17.size a := fun v5 v6156 k0_hw64 => k0_hw64.1
theorem k0_idx176_inb : ∀ (v5 : IVec S16 32) (v6156 : IVec S16 32) (k0_hw64 : k0_chk64 v5 v6156), ∀ a x, ((![v5, v6156] : Fin 2 → IVec S16 32) a x).toNat < S16x17.size a := fun v5 v6156 k0_hw64 => k0_hw64.2.1
theorem k0_idx192_inb : ∀ (v5 : IVec S16 32) (v6156 : IVec S16 32) (k0_hw64 : k0_chk64 v5 v6156), ∀ a x, ((![v5, v6156] : Fin 2 → IVec S16 32) a x).toNat < S16x17.size a := fun v5 v6156 k0_hw64 => k0_hw64.2.2
def k0_off10 (k0_t1 : Fin k0_t1_loop.trips) : Fin 1 → Nat :=
  let c2_i32_13 : BitVec 32 := 2#32
  let c0_i32_11 : BitVec 32 := 0#32
  let c1_i32 : BitVec 32 := 1#32
  let arg33 : BitVec 32 := Scf.iv c0_i32_11 c1_i32 k0_t1
  let v19 : BitVec 32 := Scalar.muli c2_i32_13 arg33
  let c80_i32_2714 : BitVec 32 := 80#32
  let v6270 : BitVec 32 := Scalar.muli v19 c80_i32_2714
  let c32_i32_2715 : BitVec 32 := 32#32
  let v6271 : BitVec 32 := Scalar.addi v6270 c32_i32_2715
  let v6272 : Index := Scalar.indexCast v6271
  ![v6272.toNat]

def k0_chk65 (v5 : IVec S16 32) (v7699 : IVec S16 32) : Prop :=
  (∀ a x, ((![v5, v7699] : Fin 2 → IVec S16 32) a x).toNat < S16x17.size a) ∧
  (∀ a x, ((![v5, v7699] : Fin 2 → IVec S16 32) a x).toNat < S16x17.size a) ∧
  (∀ a x, ((![v5, v7699] : Fin 2 → IVec S16 32) a x).toNat < S16x17.size a)
theorem k0_idx193_inb : ∀ (v5 : IVec S16 32) (v7699 : IVec S16 32) (k0_hw65 : k0_chk65 v5 v7699), ∀ a x, ((![v5, v7699] : Fin 2 → IVec S16 32) a x).toNat < S16x17.size a := fun v5 v7699 k0_hw65 => k0_hw65.1
theorem k0_idx209_inb : ∀ (v5 : IVec S16 32) (v7699 : IVec S16 32) (k0_hw65 : k0_chk65 v5 v7699), ∀ a x, ((![v5, v7699] : Fin 2 → IVec S16 32) a x).toNat < S16x17.size a := fun v5 v7699 k0_hw65 => k0_hw65.2.1
theorem k0_idx225_inb : ∀ (v5 : IVec S16 32) (v7699 : IVec S16 32) (k0_hw65 : k0_chk65 v5 v7699), ∀ a x, ((![v5, v7699] : Fin 2 → IVec S16 32) a x).toNat < S16x17.size a := fun v5 v7699 k0_hw65 => k0_hw65.2.2

def k0_chk66 (v5 : IVec S16 32) (v7700 : IVec S16 32) : Prop :=
  (∀ a x, ((![v5, v7700] : Fin 2 → IVec S16 32) a x).toNat < S16x17.size a) ∧
  (∀ a x, ((![v5, v7700] : Fin 2 → IVec S16 32) a x).toNat < S16x17.size a) ∧
  (∀ a x, ((![v5, v7700] : Fin 2 → IVec S16 32) a x).toNat < S16x17.size a)
theorem k0_idx194_inb : ∀ (v5 : IVec S16 32) (v7700 : IVec S16 32) (k0_hw66 : k0_chk66 v5 v7700), ∀ a x, ((![v5, v7700] : Fin 2 → IVec S16 32) a x).toNat < S16x17.size a := fun v5 v7700 k0_hw66 => k0_hw66.1
theorem k0_idx210_inb : ∀ (v5 : IVec S16 32) (v7700 : IVec S16 32) (k0_hw66 : k0_chk66 v5 v7700), ∀ a x, ((![v5, v7700] : Fin 2 → IVec S16 32) a x).toNat < S16x17.size a := fun v5 v7700 k0_hw66 => k0_hw66.2.1
theorem k0_idx226_inb : ∀ (v5 : IVec S16 32) (v7700 : IVec S16 32) (k0_hw66 : k0_chk66 v5 v7700), ∀ a x, ((![v5, v7700] : Fin 2 → IVec S16 32) a x).toNat < S16x17.size a := fun v5 v7700 k0_hw66 => k0_hw66.2.2

def k0_chk67 (v5 : IVec S16 32) (v7701 : IVec S16 32) : Prop :=
  (∀ a x, ((![v5, v7701] : Fin 2 → IVec S16 32) a x).toNat < S16x17.size a) ∧
  (∀ a x, ((![v5, v7701] : Fin 2 → IVec S16 32) a x).toNat < S16x17.size a) ∧
  (∀ a x, ((![v5, v7701] : Fin 2 → IVec S16 32) a x).toNat < S16x17.size a)
theorem k0_idx195_inb : ∀ (v5 : IVec S16 32) (v7701 : IVec S16 32) (k0_hw67 : k0_chk67 v5 v7701), ∀ a x, ((![v5, v7701] : Fin 2 → IVec S16 32) a x).toNat < S16x17.size a := fun v5 v7701 k0_hw67 => k0_hw67.1
theorem k0_idx211_inb : ∀ (v5 : IVec S16 32) (v7701 : IVec S16 32) (k0_hw67 : k0_chk67 v5 v7701), ∀ a x, ((![v5, v7701] : Fin 2 → IVec S16 32) a x).toNat < S16x17.size a := fun v5 v7701 k0_hw67 => k0_hw67.2.1
theorem k0_idx227_inb : ∀ (v5 : IVec S16 32) (v7701 : IVec S16 32) (k0_hw67 : k0_chk67 v5 v7701), ∀ a x, ((![v5, v7701] : Fin 2 → IVec S16 32) a x).toNat < S16x17.size a := fun v5 v7701 k0_hw67 => k0_hw67.2.2

def k0_chk68 (v5 : IVec S16 32) (v7702 : IVec S16 32) : Prop :=
  (∀ a x, ((![v5, v7702] : Fin 2 → IVec S16 32) a x).toNat < S16x17.size a) ∧
  (∀ a x, ((![v5, v7702] : Fin 2 → IVec S16 32) a x).toNat < S16x17.size a) ∧
  (∀ a x, ((![v5, v7702] : Fin 2 → IVec S16 32) a x).toNat < S16x17.size a)
theorem k0_idx196_inb : ∀ (v5 : IVec S16 32) (v7702 : IVec S16 32) (k0_hw68 : k0_chk68 v5 v7702), ∀ a x, ((![v5, v7702] : Fin 2 → IVec S16 32) a x).toNat < S16x17.size a := fun v5 v7702 k0_hw68 => k0_hw68.1
theorem k0_idx212_inb : ∀ (v5 : IVec S16 32) (v7702 : IVec S16 32) (k0_hw68 : k0_chk68 v5 v7702), ∀ a x, ((![v5, v7702] : Fin 2 → IVec S16 32) a x).toNat < S16x17.size a := fun v5 v7702 k0_hw68 => k0_hw68.2.1
theorem k0_idx228_inb : ∀ (v5 : IVec S16 32) (v7702 : IVec S16 32) (k0_hw68 : k0_chk68 v5 v7702), ∀ a x, ((![v5, v7702] : Fin 2 → IVec S16 32) a x).toNat < S16x17.size a := fun v5 v7702 k0_hw68 => k0_hw68.2.2

def k0_chk69 (v5 : IVec S16 32) (v7703 : IVec S16 32) : Prop :=
  (∀ a x, ((![v5, v7703] : Fin 2 → IVec S16 32) a x).toNat < S16x17.size a) ∧
  (∀ a x, ((![v5, v7703] : Fin 2 → IVec S16 32) a x).toNat < S16x17.size a) ∧
  (∀ a x, ((![v5, v7703] : Fin 2 → IVec S16 32) a x).toNat < S16x17.size a)
theorem k0_idx197_inb : ∀ (v5 : IVec S16 32) (v7703 : IVec S16 32) (k0_hw69 : k0_chk69 v5 v7703), ∀ a x, ((![v5, v7703] : Fin 2 → IVec S16 32) a x).toNat < S16x17.size a := fun v5 v7703 k0_hw69 => k0_hw69.1
theorem k0_idx213_inb : ∀ (v5 : IVec S16 32) (v7703 : IVec S16 32) (k0_hw69 : k0_chk69 v5 v7703), ∀ a x, ((![v5, v7703] : Fin 2 → IVec S16 32) a x).toNat < S16x17.size a := fun v5 v7703 k0_hw69 => k0_hw69.2.1
theorem k0_idx229_inb : ∀ (v5 : IVec S16 32) (v7703 : IVec S16 32) (k0_hw69 : k0_chk69 v5 v7703), ∀ a x, ((![v5, v7703] : Fin 2 → IVec S16 32) a x).toNat < S16x17.size a := fun v5 v7703 k0_hw69 => k0_hw69.2.2

def k0_chk70 (v5 : IVec S16 32) (v7704 : IVec S16 32) : Prop :=
  (∀ a x, ((![v5, v7704] : Fin 2 → IVec S16 32) a x).toNat < S16x17.size a) ∧
  (∀ a x, ((![v5, v7704] : Fin 2 → IVec S16 32) a x).toNat < S16x17.size a) ∧
  (∀ a x, ((![v5, v7704] : Fin 2 → IVec S16 32) a x).toNat < S16x17.size a)
theorem k0_idx198_inb : ∀ (v5 : IVec S16 32) (v7704 : IVec S16 32) (k0_hw70 : k0_chk70 v5 v7704), ∀ a x, ((![v5, v7704] : Fin 2 → IVec S16 32) a x).toNat < S16x17.size a := fun v5 v7704 k0_hw70 => k0_hw70.1
theorem k0_idx214_inb : ∀ (v5 : IVec S16 32) (v7704 : IVec S16 32) (k0_hw70 : k0_chk70 v5 v7704), ∀ a x, ((![v5, v7704] : Fin 2 → IVec S16 32) a x).toNat < S16x17.size a := fun v5 v7704 k0_hw70 => k0_hw70.2.1
theorem k0_idx230_inb : ∀ (v5 : IVec S16 32) (v7704 : IVec S16 32) (k0_hw70 : k0_chk70 v5 v7704), ∀ a x, ((![v5, v7704] : Fin 2 → IVec S16 32) a x).toNat < S16x17.size a := fun v5 v7704 k0_hw70 => k0_hw70.2.2

def k0_chk71 (v5 : IVec S16 32) (v7705 : IVec S16 32) : Prop :=
  (∀ a x, ((![v5, v7705] : Fin 2 → IVec S16 32) a x).toNat < S16x17.size a) ∧
  (∀ a x, ((![v5, v7705] : Fin 2 → IVec S16 32) a x).toNat < S16x17.size a) ∧
  (∀ a x, ((![v5, v7705] : Fin 2 → IVec S16 32) a x).toNat < S16x17.size a)
theorem k0_idx199_inb : ∀ (v5 : IVec S16 32) (v7705 : IVec S16 32) (k0_hw71 : k0_chk71 v5 v7705), ∀ a x, ((![v5, v7705] : Fin 2 → IVec S16 32) a x).toNat < S16x17.size a := fun v5 v7705 k0_hw71 => k0_hw71.1
theorem k0_idx215_inb : ∀ (v5 : IVec S16 32) (v7705 : IVec S16 32) (k0_hw71 : k0_chk71 v5 v7705), ∀ a x, ((![v5, v7705] : Fin 2 → IVec S16 32) a x).toNat < S16x17.size a := fun v5 v7705 k0_hw71 => k0_hw71.2.1
theorem k0_idx231_inb : ∀ (v5 : IVec S16 32) (v7705 : IVec S16 32) (k0_hw71 : k0_chk71 v5 v7705), ∀ a x, ((![v5, v7705] : Fin 2 → IVec S16 32) a x).toNat < S16x17.size a := fun v5 v7705 k0_hw71 => k0_hw71.2.2

def k0_chk72 (v5 : IVec S16 32) (v7706 : IVec S16 32) : Prop :=
  (∀ a x, ((![v5, v7706] : Fin 2 → IVec S16 32) a x).toNat < S16x17.size a) ∧
  (∀ a x, ((![v5, v7706] : Fin 2 → IVec S16 32) a x).toNat < S16x17.size a) ∧
  (∀ a x, ((![v5, v7706] : Fin 2 → IVec S16 32) a x).toNat < S16x17.size a)
theorem k0_idx200_inb : ∀ (v5 : IVec S16 32) (v7706 : IVec S16 32) (k0_hw72 : k0_chk72 v5 v7706), ∀ a x, ((![v5, v7706] : Fin 2 → IVec S16 32) a x).toNat < S16x17.size a := fun v5 v7706 k0_hw72 => k0_hw72.1
theorem k0_idx216_inb : ∀ (v5 : IVec S16 32) (v7706 : IVec S16 32) (k0_hw72 : k0_chk72 v5 v7706), ∀ a x, ((![v5, v7706] : Fin 2 → IVec S16 32) a x).toNat < S16x17.size a := fun v5 v7706 k0_hw72 => k0_hw72.2.1
theorem k0_idx232_inb : ∀ (v5 : IVec S16 32) (v7706 : IVec S16 32) (k0_hw72 : k0_chk72 v5 v7706), ∀ a x, ((![v5, v7706] : Fin 2 → IVec S16 32) a x).toNat < S16x17.size a := fun v5 v7706 k0_hw72 => k0_hw72.2.2

def k0_chk73 (v5 : IVec S16 32) (v7707 : IVec S16 32) : Prop :=
  (∀ a x, ((![v5, v7707] : Fin 2 → IVec S16 32) a x).toNat < S16x17.size a) ∧
  (∀ a x, ((![v5, v7707] : Fin 2 → IVec S16 32) a x).toNat < S16x17.size a) ∧
  (∀ a x, ((![v5, v7707] : Fin 2 → IVec S16 32) a x).toNat < S16x17.size a)
theorem k0_idx201_inb : ∀ (v5 : IVec S16 32) (v7707 : IVec S16 32) (k0_hw73 : k0_chk73 v5 v7707), ∀ a x, ((![v5, v7707] : Fin 2 → IVec S16 32) a x).toNat < S16x17.size a := fun v5 v7707 k0_hw73 => k0_hw73.1
theorem k0_idx217_inb : ∀ (v5 : IVec S16 32) (v7707 : IVec S16 32) (k0_hw73 : k0_chk73 v5 v7707), ∀ a x, ((![v5, v7707] : Fin 2 → IVec S16 32) a x).toNat < S16x17.size a := fun v5 v7707 k0_hw73 => k0_hw73.2.1
theorem k0_idx233_inb : ∀ (v5 : IVec S16 32) (v7707 : IVec S16 32) (k0_hw73 : k0_chk73 v5 v7707), ∀ a x, ((![v5, v7707] : Fin 2 → IVec S16 32) a x).toNat < S16x17.size a := fun v5 v7707 k0_hw73 => k0_hw73.2.2

def k0_chk74 (v5 : IVec S16 32) (v7708 : IVec S16 32) : Prop :=
  (∀ a x, ((![v5, v7708] : Fin 2 → IVec S16 32) a x).toNat < S16x17.size a) ∧
  (∀ a x, ((![v5, v7708] : Fin 2 → IVec S16 32) a x).toNat < S16x17.size a) ∧
  (∀ a x, ((![v5, v7708] : Fin 2 → IVec S16 32) a x).toNat < S16x17.size a)
theorem k0_idx202_inb : ∀ (v5 : IVec S16 32) (v7708 : IVec S16 32) (k0_hw74 : k0_chk74 v5 v7708), ∀ a x, ((![v5, v7708] : Fin 2 → IVec S16 32) a x).toNat < S16x17.size a := fun v5 v7708 k0_hw74 => k0_hw74.1
theorem k0_idx218_inb : ∀ (v5 : IVec S16 32) (v7708 : IVec S16 32) (k0_hw74 : k0_chk74 v5 v7708), ∀ a x, ((![v5, v7708] : Fin 2 → IVec S16 32) a x).toNat < S16x17.size a := fun v5 v7708 k0_hw74 => k0_hw74.2.1
theorem k0_idx234_inb : ∀ (v5 : IVec S16 32) (v7708 : IVec S16 32) (k0_hw74 : k0_chk74 v5 v7708), ∀ a x, ((![v5, v7708] : Fin 2 → IVec S16 32) a x).toNat < S16x17.size a := fun v5 v7708 k0_hw74 => k0_hw74.2.2

def k0_chk75 (v5 : IVec S16 32) (v7709 : IVec S16 32) : Prop :=
  (∀ a x, ((![v5, v7709] : Fin 2 → IVec S16 32) a x).toNat < S16x17.size a) ∧
  (∀ a x, ((![v5, v7709] : Fin 2 → IVec S16 32) a x).toNat < S16x17.size a) ∧
  (∀ a x, ((![v5, v7709] : Fin 2 → IVec S16 32) a x).toNat < S16x17.size a)
theorem k0_idx203_inb : ∀ (v5 : IVec S16 32) (v7709 : IVec S16 32) (k0_hw75 : k0_chk75 v5 v7709), ∀ a x, ((![v5, v7709] : Fin 2 → IVec S16 32) a x).toNat < S16x17.size a := fun v5 v7709 k0_hw75 => k0_hw75.1
theorem k0_idx219_inb : ∀ (v5 : IVec S16 32) (v7709 : IVec S16 32) (k0_hw75 : k0_chk75 v5 v7709), ∀ a x, ((![v5, v7709] : Fin 2 → IVec S16 32) a x).toNat < S16x17.size a := fun v5 v7709 k0_hw75 => k0_hw75.2.1
theorem k0_idx235_inb : ∀ (v5 : IVec S16 32) (v7709 : IVec S16 32) (k0_hw75 : k0_chk75 v5 v7709), ∀ a x, ((![v5, v7709] : Fin 2 → IVec S16 32) a x).toNat < S16x17.size a := fun v5 v7709 k0_hw75 => k0_hw75.2.2

def k0_chk76 (v5 : IVec S16 32) (v7710 : IVec S16 32) : Prop :=
  (∀ a x, ((![v5, v7710] : Fin 2 → IVec S16 32) a x).toNat < S16x17.size a) ∧
  (∀ a x, ((![v5, v7710] : Fin 2 → IVec S16 32) a x).toNat < S16x17.size a) ∧
  (∀ a x, ((![v5, v7710] : Fin 2 → IVec S16 32) a x).toNat < S16x17.size a)
theorem k0_idx204_inb : ∀ (v5 : IVec S16 32) (v7710 : IVec S16 32) (k0_hw76 : k0_chk76 v5 v7710), ∀ a x, ((![v5, v7710] : Fin 2 → IVec S16 32) a x).toNat < S16x17.size a := fun v5 v7710 k0_hw76 => k0_hw76.1
theorem k0_idx220_inb : ∀ (v5 : IVec S16 32) (v7710 : IVec S16 32) (k0_hw76 : k0_chk76 v5 v7710), ∀ a x, ((![v5, v7710] : Fin 2 → IVec S16 32) a x).toNat < S16x17.size a := fun v5 v7710 k0_hw76 => k0_hw76.2.1
theorem k0_idx236_inb : ∀ (v5 : IVec S16 32) (v7710 : IVec S16 32) (k0_hw76 : k0_chk76 v5 v7710), ∀ a x, ((![v5, v7710] : Fin 2 → IVec S16 32) a x).toNat < S16x17.size a := fun v5 v7710 k0_hw76 => k0_hw76.2.2

def k0_chk77 (v5 : IVec S16 32) (v7711 : IVec S16 32) : Prop :=
  (∀ a x, ((![v5, v7711] : Fin 2 → IVec S16 32) a x).toNat < S16x17.size a) ∧
  (∀ a x, ((![v5, v7711] : Fin 2 → IVec S16 32) a x).toNat < S16x17.size a) ∧
  (∀ a x, ((![v5, v7711] : Fin 2 → IVec S16 32) a x).toNat < S16x17.size a)
theorem k0_idx205_inb : ∀ (v5 : IVec S16 32) (v7711 : IVec S16 32) (k0_hw77 : k0_chk77 v5 v7711), ∀ a x, ((![v5, v7711] : Fin 2 → IVec S16 32) a x).toNat < S16x17.size a := fun v5 v7711 k0_hw77 => k0_hw77.1
theorem k0_idx221_inb : ∀ (v5 : IVec S16 32) (v7711 : IVec S16 32) (k0_hw77 : k0_chk77 v5 v7711), ∀ a x, ((![v5, v7711] : Fin 2 → IVec S16 32) a x).toNat < S16x17.size a := fun v5 v7711 k0_hw77 => k0_hw77.2.1
theorem k0_idx237_inb : ∀ (v5 : IVec S16 32) (v7711 : IVec S16 32) (k0_hw77 : k0_chk77 v5 v7711), ∀ a x, ((![v5, v7711] : Fin 2 → IVec S16 32) a x).toNat < S16x17.size a := fun v5 v7711 k0_hw77 => k0_hw77.2.2

def k0_chk78 (v5 : IVec S16 32) (v7712 : IVec S16 32) : Prop :=
  (∀ a x, ((![v5, v7712] : Fin 2 → IVec S16 32) a x).toNat < S16x17.size a) ∧
  (∀ a x, ((![v5, v7712] : Fin 2 → IVec S16 32) a x).toNat < S16x17.size a) ∧
  (∀ a x, ((![v5, v7712] : Fin 2 → IVec S16 32) a x).toNat < S16x17.size a)
theorem k0_idx206_inb : ∀ (v5 : IVec S16 32) (v7712 : IVec S16 32) (k0_hw78 : k0_chk78 v5 v7712), ∀ a x, ((![v5, v7712] : Fin 2 → IVec S16 32) a x).toNat < S16x17.size a := fun v5 v7712 k0_hw78 => k0_hw78.1
theorem k0_idx222_inb : ∀ (v5 : IVec S16 32) (v7712 : IVec S16 32) (k0_hw78 : k0_chk78 v5 v7712), ∀ a x, ((![v5, v7712] : Fin 2 → IVec S16 32) a x).toNat < S16x17.size a := fun v5 v7712 k0_hw78 => k0_hw78.2.1
theorem k0_idx238_inb : ∀ (v5 : IVec S16 32) (v7712 : IVec S16 32) (k0_hw78 : k0_chk78 v5 v7712), ∀ a x, ((![v5, v7712] : Fin 2 → IVec S16 32) a x).toNat < S16x17.size a := fun v5 v7712 k0_hw78 => k0_hw78.2.2

def k0_chk79 (v5 : IVec S16 32) (v7713 : IVec S16 32) : Prop :=
  (∀ a x, ((![v5, v7713] : Fin 2 → IVec S16 32) a x).toNat < S16x17.size a) ∧
  (∀ a x, ((![v5, v7713] : Fin 2 → IVec S16 32) a x).toNat < S16x17.size a) ∧
  (∀ a x, ((![v5, v7713] : Fin 2 → IVec S16 32) a x).toNat < S16x17.size a)
theorem k0_idx207_inb : ∀ (v5 : IVec S16 32) (v7713 : IVec S16 32) (k0_hw79 : k0_chk79 v5 v7713), ∀ a x, ((![v5, v7713] : Fin 2 → IVec S16 32) a x).toNat < S16x17.size a := fun v5 v7713 k0_hw79 => k0_hw79.1
theorem k0_idx223_inb : ∀ (v5 : IVec S16 32) (v7713 : IVec S16 32) (k0_hw79 : k0_chk79 v5 v7713), ∀ a x, ((![v5, v7713] : Fin 2 → IVec S16 32) a x).toNat < S16x17.size a := fun v5 v7713 k0_hw79 => k0_hw79.2.1
theorem k0_idx239_inb : ∀ (v5 : IVec S16 32) (v7713 : IVec S16 32) (k0_hw79 : k0_chk79 v5 v7713), ∀ a x, ((![v5, v7713] : Fin 2 → IVec S16 32) a x).toNat < S16x17.size a := fun v5 v7713 k0_hw79 => k0_hw79.2.2

def k0_chk80 (v5 : IVec S16 32) (v7714 : IVec S16 32) : Prop :=
  (∀ a x, ((![v5, v7714] : Fin 2 → IVec S16 32) a x).toNat < S16x17.size a) ∧
  (∀ a x, ((![v5, v7714] : Fin 2 → IVec S16 32) a x).toNat < S16x17.size a) ∧
  (∀ a x, ((![v5, v7714] : Fin 2 → IVec S16 32) a x).toNat < S16x17.size a)
theorem k0_idx208_inb : ∀ (v5 : IVec S16 32) (v7714 : IVec S16 32) (k0_hw80 : k0_chk80 v5 v7714), ∀ a x, ((![v5, v7714] : Fin 2 → IVec S16 32) a x).toNat < S16x17.size a := fun v5 v7714 k0_hw80 => k0_hw80.1
theorem k0_idx224_inb : ∀ (v5 : IVec S16 32) (v7714 : IVec S16 32) (k0_hw80 : k0_chk80 v5 v7714), ∀ a x, ((![v5, v7714] : Fin 2 → IVec S16 32) a x).toNat < S16x17.size a := fun v5 v7714 k0_hw80 => k0_hw80.2.1
theorem k0_idx240_inb : ∀ (v5 : IVec S16 32) (v7714 : IVec S16 32) (k0_hw80 : k0_chk80 v5 v7714), ∀ a x, ((![v5, v7714] : Fin 2 → IVec S16 32) a x).toNat < S16x17.size a := fun v5 v7714 k0_hw80 => k0_hw80.2.2
def k0_off11 (k0_t1 : Fin k0_t1_loop.trips) : Fin 1 → Nat :=
  let c2_i32_13 : BitVec 32 := 2#32
  let c0_i32_11 : BitVec 32 := 0#32
  let c1_i32 : BitVec 32 := 1#32
  let arg33 : BitVec 32 := Scf.iv c0_i32_11 c1_i32 k0_t1
  let v19 : BitVec 32 := Scalar.muli c2_i32_13 arg33
  let c80_i32_3381 : BitVec 32 := 80#32
  let v7828 : BitVec 32 := Scalar.muli v19 c80_i32_3381
  let c48_i32_3382 : BitVec 32 := 48#32
  let v7829 : BitVec 32 := Scalar.addi v7828 c48_i32_3382
  let v7830 : Index := Scalar.indexCast v7829
  ![v7830.toNat]

def k0_chk81 (v5 : IVec S16 32) (v9257 : IVec S16 32) : Prop :=
  (∀ a x, ((![v5, v9257] : Fin 2 → IVec S16 32) a x).toNat < S16x17.size a) ∧
  (∀ a x, ((![v5, v9257] : Fin 2 → IVec S16 32) a x).toNat < S16x17.size a) ∧
  (∀ a x, ((![v5, v9257] : Fin 2 → IVec S16 32) a x).toNat < S16x17.size a)
theorem k0_idx241_inb : ∀ (v5 : IVec S16 32) (v9257 : IVec S16 32) (k0_hw81 : k0_chk81 v5 v9257), ∀ a x, ((![v5, v9257] : Fin 2 → IVec S16 32) a x).toNat < S16x17.size a := fun v5 v9257 k0_hw81 => k0_hw81.1
theorem k0_idx257_inb : ∀ (v5 : IVec S16 32) (v9257 : IVec S16 32) (k0_hw81 : k0_chk81 v5 v9257), ∀ a x, ((![v5, v9257] : Fin 2 → IVec S16 32) a x).toNat < S16x17.size a := fun v5 v9257 k0_hw81 => k0_hw81.2.1
theorem k0_idx273_inb : ∀ (v5 : IVec S16 32) (v9257 : IVec S16 32) (k0_hw81 : k0_chk81 v5 v9257), ∀ a x, ((![v5, v9257] : Fin 2 → IVec S16 32) a x).toNat < S16x17.size a := fun v5 v9257 k0_hw81 => k0_hw81.2.2

def k0_chk82 (v5 : IVec S16 32) (v9258 : IVec S16 32) : Prop :=
  (∀ a x, ((![v5, v9258] : Fin 2 → IVec S16 32) a x).toNat < S16x17.size a) ∧
  (∀ a x, ((![v5, v9258] : Fin 2 → IVec S16 32) a x).toNat < S16x17.size a) ∧
  (∀ a x, ((![v5, v9258] : Fin 2 → IVec S16 32) a x).toNat < S16x17.size a)
theorem k0_idx242_inb : ∀ (v5 : IVec S16 32) (v9258 : IVec S16 32) (k0_hw82 : k0_chk82 v5 v9258), ∀ a x, ((![v5, v9258] : Fin 2 → IVec S16 32) a x).toNat < S16x17.size a := fun v5 v9258 k0_hw82 => k0_hw82.1
theorem k0_idx258_inb : ∀ (v5 : IVec S16 32) (v9258 : IVec S16 32) (k0_hw82 : k0_chk82 v5 v9258), ∀ a x, ((![v5, v9258] : Fin 2 → IVec S16 32) a x).toNat < S16x17.size a := fun v5 v9258 k0_hw82 => k0_hw82.2.1
theorem k0_idx274_inb : ∀ (v5 : IVec S16 32) (v9258 : IVec S16 32) (k0_hw82 : k0_chk82 v5 v9258), ∀ a x, ((![v5, v9258] : Fin 2 → IVec S16 32) a x).toNat < S16x17.size a := fun v5 v9258 k0_hw82 => k0_hw82.2.2

def k0_chk83 (v5 : IVec S16 32) (v9259 : IVec S16 32) : Prop :=
  (∀ a x, ((![v5, v9259] : Fin 2 → IVec S16 32) a x).toNat < S16x17.size a) ∧
  (∀ a x, ((![v5, v9259] : Fin 2 → IVec S16 32) a x).toNat < S16x17.size a) ∧
  (∀ a x, ((![v5, v9259] : Fin 2 → IVec S16 32) a x).toNat < S16x17.size a)
theorem k0_idx243_inb : ∀ (v5 : IVec S16 32) (v9259 : IVec S16 32) (k0_hw83 : k0_chk83 v5 v9259), ∀ a x, ((![v5, v9259] : Fin 2 → IVec S16 32) a x).toNat < S16x17.size a := fun v5 v9259 k0_hw83 => k0_hw83.1
theorem k0_idx259_inb : ∀ (v5 : IVec S16 32) (v9259 : IVec S16 32) (k0_hw83 : k0_chk83 v5 v9259), ∀ a x, ((![v5, v9259] : Fin 2 → IVec S16 32) a x).toNat < S16x17.size a := fun v5 v9259 k0_hw83 => k0_hw83.2.1
theorem k0_idx275_inb : ∀ (v5 : IVec S16 32) (v9259 : IVec S16 32) (k0_hw83 : k0_chk83 v5 v9259), ∀ a x, ((![v5, v9259] : Fin 2 → IVec S16 32) a x).toNat < S16x17.size a := fun v5 v9259 k0_hw83 => k0_hw83.2.2

def k0_chk84 (v5 : IVec S16 32) (v9260 : IVec S16 32) : Prop :=
  (∀ a x, ((![v5, v9260] : Fin 2 → IVec S16 32) a x).toNat < S16x17.size a) ∧
  (∀ a x, ((![v5, v9260] : Fin 2 → IVec S16 32) a x).toNat < S16x17.size a) ∧
  (∀ a x, ((![v5, v9260] : Fin 2 → IVec S16 32) a x).toNat < S16x17.size a)
theorem k0_idx244_inb : ∀ (v5 : IVec S16 32) (v9260 : IVec S16 32) (k0_hw84 : k0_chk84 v5 v9260), ∀ a x, ((![v5, v9260] : Fin 2 → IVec S16 32) a x).toNat < S16x17.size a := fun v5 v9260 k0_hw84 => k0_hw84.1
theorem k0_idx260_inb : ∀ (v5 : IVec S16 32) (v9260 : IVec S16 32) (k0_hw84 : k0_chk84 v5 v9260), ∀ a x, ((![v5, v9260] : Fin 2 → IVec S16 32) a x).toNat < S16x17.size a := fun v5 v9260 k0_hw84 => k0_hw84.2.1
theorem k0_idx276_inb : ∀ (v5 : IVec S16 32) (v9260 : IVec S16 32) (k0_hw84 : k0_chk84 v5 v9260), ∀ a x, ((![v5, v9260] : Fin 2 → IVec S16 32) a x).toNat < S16x17.size a := fun v5 v9260 k0_hw84 => k0_hw84.2.2

def k0_chk85 (v5 : IVec S16 32) (v9261 : IVec S16 32) : Prop :=
  (∀ a x, ((![v5, v9261] : Fin 2 → IVec S16 32) a x).toNat < S16x17.size a) ∧
  (∀ a x, ((![v5, v9261] : Fin 2 → IVec S16 32) a x).toNat < S16x17.size a) ∧
  (∀ a x, ((![v5, v9261] : Fin 2 → IVec S16 32) a x).toNat < S16x17.size a)
theorem k0_idx245_inb : ∀ (v5 : IVec S16 32) (v9261 : IVec S16 32) (k0_hw85 : k0_chk85 v5 v9261), ∀ a x, ((![v5, v9261] : Fin 2 → IVec S16 32) a x).toNat < S16x17.size a := fun v5 v9261 k0_hw85 => k0_hw85.1
theorem k0_idx261_inb : ∀ (v5 : IVec S16 32) (v9261 : IVec S16 32) (k0_hw85 : k0_chk85 v5 v9261), ∀ a x, ((![v5, v9261] : Fin 2 → IVec S16 32) a x).toNat < S16x17.size a := fun v5 v9261 k0_hw85 => k0_hw85.2.1
theorem k0_idx277_inb : ∀ (v5 : IVec S16 32) (v9261 : IVec S16 32) (k0_hw85 : k0_chk85 v5 v9261), ∀ a x, ((![v5, v9261] : Fin 2 → IVec S16 32) a x).toNat < S16x17.size a := fun v5 v9261 k0_hw85 => k0_hw85.2.2

def k0_chk86 (v5 : IVec S16 32) (v9262 : IVec S16 32) : Prop :=
  (∀ a x, ((![v5, v9262] : Fin 2 → IVec S16 32) a x).toNat < S16x17.size a) ∧
  (∀ a x, ((![v5, v9262] : Fin 2 → IVec S16 32) a x).toNat < S16x17.size a) ∧
  (∀ a x, ((![v5, v9262] : Fin 2 → IVec S16 32) a x).toNat < S16x17.size a)
theorem k0_idx246_inb : ∀ (v5 : IVec S16 32) (v9262 : IVec S16 32) (k0_hw86 : k0_chk86 v5 v9262), ∀ a x, ((![v5, v9262] : Fin 2 → IVec S16 32) a x).toNat < S16x17.size a := fun v5 v9262 k0_hw86 => k0_hw86.1
theorem k0_idx262_inb : ∀ (v5 : IVec S16 32) (v9262 : IVec S16 32) (k0_hw86 : k0_chk86 v5 v9262), ∀ a x, ((![v5, v9262] : Fin 2 → IVec S16 32) a x).toNat < S16x17.size a := fun v5 v9262 k0_hw86 => k0_hw86.2.1
theorem k0_idx278_inb : ∀ (v5 : IVec S16 32) (v9262 : IVec S16 32) (k0_hw86 : k0_chk86 v5 v9262), ∀ a x, ((![v5, v9262] : Fin 2 → IVec S16 32) a x).toNat < S16x17.size a := fun v5 v9262 k0_hw86 => k0_hw86.2.2

def k0_chk87 (v5 : IVec S16 32) (v9263 : IVec S16 32) : Prop :=
  (∀ a x, ((![v5, v9263] : Fin 2 → IVec S16 32) a x).toNat < S16x17.size a) ∧
  (∀ a x, ((![v5, v9263] : Fin 2 → IVec S16 32) a x).toNat < S16x17.size a) ∧
  (∀ a x, ((![v5, v9263] : Fin 2 → IVec S16 32) a x).toNat < S16x17.size a)
theorem k0_idx247_inb : ∀ (v5 : IVec S16 32) (v9263 : IVec S16 32) (k0_hw87 : k0_chk87 v5 v9263), ∀ a x, ((![v5, v9263] : Fin 2 → IVec S16 32) a x).toNat < S16x17.size a := fun v5 v9263 k0_hw87 => k0_hw87.1
theorem k0_idx263_inb : ∀ (v5 : IVec S16 32) (v9263 : IVec S16 32) (k0_hw87 : k0_chk87 v5 v9263), ∀ a x, ((![v5, v9263] : Fin 2 → IVec S16 32) a x).toNat < S16x17.size a := fun v5 v9263 k0_hw87 => k0_hw87.2.1
theorem k0_idx279_inb : ∀ (v5 : IVec S16 32) (v9263 : IVec S16 32) (k0_hw87 : k0_chk87 v5 v9263), ∀ a x, ((![v5, v9263] : Fin 2 → IVec S16 32) a x).toNat < S16x17.size a := fun v5 v9263 k0_hw87 => k0_hw87.2.2

def k0_chk88 (v5 : IVec S16 32) (v9264 : IVec S16 32) : Prop :=
  (∀ a x, ((![v5, v9264] : Fin 2 → IVec S16 32) a x).toNat < S16x17.size a) ∧
  (∀ a x, ((![v5, v9264] : Fin 2 → IVec S16 32) a x).toNat < S16x17.size a) ∧
  (∀ a x, ((![v5, v9264] : Fin 2 → IVec S16 32) a x).toNat < S16x17.size a)
theorem k0_idx248_inb : ∀ (v5 : IVec S16 32) (v9264 : IVec S16 32) (k0_hw88 : k0_chk88 v5 v9264), ∀ a x, ((![v5, v9264] : Fin 2 → IVec S16 32) a x).toNat < S16x17.size a := fun v5 v9264 k0_hw88 => k0_hw88.1
theorem k0_idx264_inb : ∀ (v5 : IVec S16 32) (v9264 : IVec S16 32) (k0_hw88 : k0_chk88 v5 v9264), ∀ a x, ((![v5, v9264] : Fin 2 → IVec S16 32) a x).toNat < S16x17.size a := fun v5 v9264 k0_hw88 => k0_hw88.2.1
theorem k0_idx280_inb : ∀ (v5 : IVec S16 32) (v9264 : IVec S16 32) (k0_hw88 : k0_chk88 v5 v9264), ∀ a x, ((![v5, v9264] : Fin 2 → IVec S16 32) a x).toNat < S16x17.size a := fun v5 v9264 k0_hw88 => k0_hw88.2.2

def k0_chk89 (v5 : IVec S16 32) (v9265 : IVec S16 32) : Prop :=
  (∀ a x, ((![v5, v9265] : Fin 2 → IVec S16 32) a x).toNat < S16x17.size a) ∧
  (∀ a x, ((![v5, v9265] : Fin 2 → IVec S16 32) a x).toNat < S16x17.size a) ∧
  (∀ a x, ((![v5, v9265] : Fin 2 → IVec S16 32) a x).toNat < S16x17.size a)
theorem k0_idx249_inb : ∀ (v5 : IVec S16 32) (v9265 : IVec S16 32) (k0_hw89 : k0_chk89 v5 v9265), ∀ a x, ((![v5, v9265] : Fin 2 → IVec S16 32) a x).toNat < S16x17.size a := fun v5 v9265 k0_hw89 => k0_hw89.1
theorem k0_idx265_inb : ∀ (v5 : IVec S16 32) (v9265 : IVec S16 32) (k0_hw89 : k0_chk89 v5 v9265), ∀ a x, ((![v5, v9265] : Fin 2 → IVec S16 32) a x).toNat < S16x17.size a := fun v5 v9265 k0_hw89 => k0_hw89.2.1
theorem k0_idx281_inb : ∀ (v5 : IVec S16 32) (v9265 : IVec S16 32) (k0_hw89 : k0_chk89 v5 v9265), ∀ a x, ((![v5, v9265] : Fin 2 → IVec S16 32) a x).toNat < S16x17.size a := fun v5 v9265 k0_hw89 => k0_hw89.2.2

def k0_chk90 (v5 : IVec S16 32) (v9266 : IVec S16 32) : Prop :=
  (∀ a x, ((![v5, v9266] : Fin 2 → IVec S16 32) a x).toNat < S16x17.size a) ∧
  (∀ a x, ((![v5, v9266] : Fin 2 → IVec S16 32) a x).toNat < S16x17.size a) ∧
  (∀ a x, ((![v5, v9266] : Fin 2 → IVec S16 32) a x).toNat < S16x17.size a)
theorem k0_idx250_inb : ∀ (v5 : IVec S16 32) (v9266 : IVec S16 32) (k0_hw90 : k0_chk90 v5 v9266), ∀ a x, ((![v5, v9266] : Fin 2 → IVec S16 32) a x).toNat < S16x17.size a := fun v5 v9266 k0_hw90 => k0_hw90.1
theorem k0_idx266_inb : ∀ (v5 : IVec S16 32) (v9266 : IVec S16 32) (k0_hw90 : k0_chk90 v5 v9266), ∀ a x, ((![v5, v9266] : Fin 2 → IVec S16 32) a x).toNat < S16x17.size a := fun v5 v9266 k0_hw90 => k0_hw90.2.1
theorem k0_idx282_inb : ∀ (v5 : IVec S16 32) (v9266 : IVec S16 32) (k0_hw90 : k0_chk90 v5 v9266), ∀ a x, ((![v5, v9266] : Fin 2 → IVec S16 32) a x).toNat < S16x17.size a := fun v5 v9266 k0_hw90 => k0_hw90.2.2

def k0_chk91 (v5 : IVec S16 32) (v9267 : IVec S16 32) : Prop :=
  (∀ a x, ((![v5, v9267] : Fin 2 → IVec S16 32) a x).toNat < S16x17.size a) ∧
  (∀ a x, ((![v5, v9267] : Fin 2 → IVec S16 32) a x).toNat < S16x17.size a) ∧
  (∀ a x, ((![v5, v9267] : Fin 2 → IVec S16 32) a x).toNat < S16x17.size a)
theorem k0_idx251_inb : ∀ (v5 : IVec S16 32) (v9267 : IVec S16 32) (k0_hw91 : k0_chk91 v5 v9267), ∀ a x, ((![v5, v9267] : Fin 2 → IVec S16 32) a x).toNat < S16x17.size a := fun v5 v9267 k0_hw91 => k0_hw91.1
theorem k0_idx267_inb : ∀ (v5 : IVec S16 32) (v9267 : IVec S16 32) (k0_hw91 : k0_chk91 v5 v9267), ∀ a x, ((![v5, v9267] : Fin 2 → IVec S16 32) a x).toNat < S16x17.size a := fun v5 v9267 k0_hw91 => k0_hw91.2.1
theorem k0_idx283_inb : ∀ (v5 : IVec S16 32) (v9267 : IVec S16 32) (k0_hw91 : k0_chk91 v5 v9267), ∀ a x, ((![v5, v9267] : Fin 2 → IVec S16 32) a x).toNat < S16x17.size a := fun v5 v9267 k0_hw91 => k0_hw91.2.2

def k0_chk92 (v5 : IVec S16 32) (v9268 : IVec S16 32) : Prop :=
  (∀ a x, ((![v5, v9268] : Fin 2 → IVec S16 32) a x).toNat < S16x17.size a) ∧
  (∀ a x, ((![v5, v9268] : Fin 2 → IVec S16 32) a x).toNat < S16x17.size a) ∧
  (∀ a x, ((![v5, v9268] : Fin 2 → IVec S16 32) a x).toNat < S16x17.size a)
theorem k0_idx252_inb : ∀ (v5 : IVec S16 32) (v9268 : IVec S16 32) (k0_hw92 : k0_chk92 v5 v9268), ∀ a x, ((![v5, v9268] : Fin 2 → IVec S16 32) a x).toNat < S16x17.size a := fun v5 v9268 k0_hw92 => k0_hw92.1
theorem k0_idx268_inb : ∀ (v5 : IVec S16 32) (v9268 : IVec S16 32) (k0_hw92 : k0_chk92 v5 v9268), ∀ a x, ((![v5, v9268] : Fin 2 → IVec S16 32) a x).toNat < S16x17.size a := fun v5 v9268 k0_hw92 => k0_hw92.2.1
theorem k0_idx284_inb : ∀ (v5 : IVec S16 32) (v9268 : IVec S16 32) (k0_hw92 : k0_chk92 v5 v9268), ∀ a x, ((![v5, v9268] : Fin 2 → IVec S16 32) a x).toNat < S16x17.size a := fun v5 v9268 k0_hw92 => k0_hw92.2.2

def k0_chk93 (v5 : IVec S16 32) (v9269 : IVec S16 32) : Prop :=
  (∀ a x, ((![v5, v9269] : Fin 2 → IVec S16 32) a x).toNat < S16x17.size a) ∧
  (∀ a x, ((![v5, v9269] : Fin 2 → IVec S16 32) a x).toNat < S16x17.size a) ∧
  (∀ a x, ((![v5, v9269] : Fin 2 → IVec S16 32) a x).toNat < S16x17.size a)
theorem k0_idx253_inb : ∀ (v5 : IVec S16 32) (v9269 : IVec S16 32) (k0_hw93 : k0_chk93 v5 v9269), ∀ a x, ((![v5, v9269] : Fin 2 → IVec S16 32) a x).toNat < S16x17.size a := fun v5 v9269 k0_hw93 => k0_hw93.1
theorem k0_idx269_inb : ∀ (v5 : IVec S16 32) (v9269 : IVec S16 32) (k0_hw93 : k0_chk93 v5 v9269), ∀ a x, ((![v5, v9269] : Fin 2 → IVec S16 32) a x).toNat < S16x17.size a := fun v5 v9269 k0_hw93 => k0_hw93.2.1
theorem k0_idx285_inb : ∀ (v5 : IVec S16 32) (v9269 : IVec S16 32) (k0_hw93 : k0_chk93 v5 v9269), ∀ a x, ((![v5, v9269] : Fin 2 → IVec S16 32) a x).toNat < S16x17.size a := fun v5 v9269 k0_hw93 => k0_hw93.2.2

def k0_chk94 (v5 : IVec S16 32) (v9270 : IVec S16 32) : Prop :=
  (∀ a x, ((![v5, v9270] : Fin 2 → IVec S16 32) a x).toNat < S16x17.size a) ∧
  (∀ a x, ((![v5, v9270] : Fin 2 → IVec S16 32) a x).toNat < S16x17.size a) ∧
  (∀ a x, ((![v5, v9270] : Fin 2 → IVec S16 32) a x).toNat < S16x17.size a)
theorem k0_idx254_inb : ∀ (v5 : IVec S16 32) (v9270 : IVec S16 32) (k0_hw94 : k0_chk94 v5 v9270), ∀ a x, ((![v5, v9270] : Fin 2 → IVec S16 32) a x).toNat < S16x17.size a := fun v5 v9270 k0_hw94 => k0_hw94.1
theorem k0_idx270_inb : ∀ (v5 : IVec S16 32) (v9270 : IVec S16 32) (k0_hw94 : k0_chk94 v5 v9270), ∀ a x, ((![v5, v9270] : Fin 2 → IVec S16 32) a x).toNat < S16x17.size a := fun v5 v9270 k0_hw94 => k0_hw94.2.1
theorem k0_idx286_inb : ∀ (v5 : IVec S16 32) (v9270 : IVec S16 32) (k0_hw94 : k0_chk94 v5 v9270), ∀ a x, ((![v5, v9270] : Fin 2 → IVec S16 32) a x).toNat < S16x17.size a := fun v5 v9270 k0_hw94 => k0_hw94.2.2

def k0_chk95 (v5 : IVec S16 32) (v9271 : IVec S16 32) : Prop :=
  (∀ a x, ((![v5, v9271] : Fin 2 → IVec S16 32) a x).toNat < S16x17.size a) ∧
  (∀ a x, ((![v5, v9271] : Fin 2 → IVec S16 32) a x).toNat < S16x17.size a) ∧
  (∀ a x, ((![v5, v9271] : Fin 2 → IVec S16 32) a x).toNat < S16x17.size a)
theorem k0_idx255_inb : ∀ (v5 : IVec S16 32) (v9271 : IVec S16 32) (k0_hw95 : k0_chk95 v5 v9271), ∀ a x, ((![v5, v9271] : Fin 2 → IVec S16 32) a x).toNat < S16x17.size a := fun v5 v9271 k0_hw95 => k0_hw95.1
theorem k0_idx271_inb : ∀ (v5 : IVec S16 32) (v9271 : IVec S16 32) (k0_hw95 : k0_chk95 v5 v9271), ∀ a x, ((![v5, v9271] : Fin 2 → IVec S16 32) a x).toNat < S16x17.size a := fun v5 v9271 k0_hw95 => k0_hw95.2.1
theorem k0_idx287_inb : ∀ (v5 : IVec S16 32) (v9271 : IVec S16 32) (k0_hw95 : k0_chk95 v5 v9271), ∀ a x, ((![v5, v9271] : Fin 2 → IVec S16 32) a x).toNat < S16x17.size a := fun v5 v9271 k0_hw95 => k0_hw95.2.2

def k0_chk96 (v5 : IVec S16 32) (v9272 : IVec S16 32) : Prop :=
  (∀ a x, ((![v5, v9272] : Fin 2 → IVec S16 32) a x).toNat < S16x17.size a) ∧
  (∀ a x, ((![v5, v9272] : Fin 2 → IVec S16 32) a x).toNat < S16x17.size a) ∧
  (∀ a x, ((![v5, v9272] : Fin 2 → IVec S16 32) a x).toNat < S16x17.size a)
theorem k0_idx256_inb : ∀ (v5 : IVec S16 32) (v9272 : IVec S16 32) (k0_hw96 : k0_chk96 v5 v9272), ∀ a x, ((![v5, v9272] : Fin 2 → IVec S16 32) a x).toNat < S16x17.size a := fun v5 v9272 k0_hw96 => k0_hw96.1
theorem k0_idx272_inb : ∀ (v5 : IVec S16 32) (v9272 : IVec S16 32) (k0_hw96 : k0_chk96 v5 v9272), ∀ a x, ((![v5, v9272] : Fin 2 → IVec S16 32) a x).toNat < S16x17.size a := fun v5 v9272 k0_hw96 => k0_hw96.2.1
theorem k0_idx288_inb : ∀ (v5 : IVec S16 32) (v9272 : IVec S16 32) (k0_hw96 : k0_chk96 v5 v9272), ∀ a x, ((![v5, v9272] : Fin 2 → IVec S16 32) a x).toNat < S16x17.size a := fun v5 v9272 k0_hw96 => k0_hw96.2.2
def k0_off12 (k0_t1 : Fin k0_t1_loop.trips) : Fin 1 → Nat :=
  let c2_i32_13 : BitVec 32 := 2#32
  let c0_i32_11 : BitVec 32 := 0#32
  let c1_i32 : BitVec 32 := 1#32
  let arg33 : BitVec 32 := Scf.iv c0_i32_11 c1_i32 k0_t1
  let v19 : BitVec 32 := Scalar.muli c2_i32_13 arg33
  let c80_i32_4048 : BitVec 32 := 80#32
  let v9386 : BitVec 32 := Scalar.muli v19 c80_i32_4048
  let c64_i32_4049 : BitVec 32 := 64#32
  let v9387 : BitVec 32 := Scalar.addi v9386 c64_i32_4049
  let v9388 : Index := Scalar.indexCast v9387
  ![v9388.toNat]

def k0_chk97 (v9395 : IVec S16 32) : Prop :=
  (∀ a x, ((![v9395] : Fin 1 → IVec S16 32) a x).toNat < S80.size a)
theorem k0_idx289_inb : ∀ (v9395 : IVec S16 32) (k0_hw97 : k0_chk97 v9395), ∀ a x, ((![v9395] : Fin 1 → IVec S16 32) a x).toNat < S80.size a := fun v9395 k0_hw97 => k0_hw97

def k0_chk98 (v9405 : IVec S16 32) : Prop :=
  (∀ a x, ((![v9405] : Fin 1 → IVec S16 32) a x).toNat < S80.size a)
theorem k0_idx290_inb : ∀ (v9405 : IVec S16 32) (k0_hw98 : k0_chk98 v9405), ∀ a x, ((![v9405] : Fin 1 → IVec S16 32) a x).toNat < S80.size a := fun v9405 k0_hw98 => k0_hw98

def k0_chk99 (v9415 : IVec S16 32) : Prop :=
  (∀ a x, ((![v9415] : Fin 1 → IVec S16 32) a x).toNat < S80.size a)
theorem k0_idx291_inb : ∀ (v9415 : IVec S16 32) (k0_hw99 : k0_chk99 v9415), ∀ a x, ((![v9415] : Fin 1 → IVec S16 32) a x).toNat < S80.size a := fun v9415 k0_hw99 => k0_hw99

def k0_chk100 (v9425 : IVec S16 32) : Prop :=
  (∀ a x, ((![v9425] : Fin 1 → IVec S16 32) a x).toNat < S80.size a)
theorem k0_idx292_inb : ∀ (v9425 : IVec S16 32) (k0_hw100 : k0_chk100 v9425), ∀ a x, ((![v9425] : Fin 1 → IVec S16 32) a x).toNat < S80.size a := fun v9425 k0_hw100 => k0_hw100

def k0_chk101 (v9435 : IVec S16 32) : Prop :=
  (∀ a x, ((![v9435] : Fin 1 → IVec S16 32) a x).toNat < S80.size a)
theorem k0_idx293_inb : ∀ (v9435 : IVec S16 32) (k0_hw101 : k0_chk101 v9435), ∀ a x, ((![v9435] : Fin 1 → IVec S16 32) a x).toNat < S80.size a := fun v9435 k0_hw101 => k0_hw101
def k0_cond1 (k0_t1 : Fin k0_t1_loop.trips) : BitVec 1 :=
  let c2_i32_13 : BitVec 32 := 2#32
  let c0_i32_11 : BitVec 32 := 0#32
  let c1_i32 : BitVec 32 := 1#32
  let arg33 : BitVec 32 := Scf.iv c0_i32_11 c1_i32 k0_t1
  let v19 : BitVec 32 := Scalar.muli c2_i32_13 arg33
  let c2_i32_4076 : BitVec 32 := 2#32
  let v9455 : BitVec 32 := Scalar.addi v19 c2_i32_4076
  let c196_i32 : BitVec 32 := 196#32
  let v9456 : BitVec 1 := Scalar.cmpi .slt v9455 c196_i32
  let v9457 : BitVec 32 := Scalar.extui v9456
  let c0_i32_4077 : BitVec 32 := 0#32
  let v9458 : BitVec 1 := Scalar.cmpi .ne v9457 c0_i32_4077
  v9458

def k0_off13 (k0_t1 : Fin k0_t1_loop.trips) : Fin 1 → Nat :=
  let c2_i32_13 : BitVec 32 := 2#32
  let c0_i32_11 : BitVec 32 := 0#32
  let c1_i32 : BitVec 32 := 1#32
  let arg33 : BitVec 32 := Scf.iv c0_i32_11 c1_i32 k0_t1
  let v19 : BitVec 32 := Scalar.muli c2_i32_13 arg33
  let c2_i32_8214 : BitVec 32 := 2#32
  let v18883 : BitVec 32 := Scalar.addi v19 c2_i32_8214
  let c16_i32_8215 : BitVec 32 := 16#32
  let v18884 : BitVec 32 := Scalar.muli v18883 c16_i32_8215
  ![v18884.toNat]
def k0_off14 (k0_t1 : Fin k0_t1_loop.trips) : Fin 1 → Nat :=
  let c2_i32_13 : BitVec 32 := 2#32
  let c0_i32_11 : BitVec 32 := 0#32
  let c1_i32 : BitVec 32 := 1#32
  let arg33 : BitVec 32 := Scf.iv c0_i32_11 c1_i32 k0_t1
  let v19 : BitVec 32 := Scalar.muli c2_i32_13 arg33
  let c2_i32_8214 : BitVec 32 := 2#32
  let v18883 : BitVec 32 := Scalar.addi v19 c2_i32_8214
  let c80_i32_8221 : BitVec 32 := 80#32
  let v18890 : BitVec 32 := Scalar.muli v18883 c80_i32_8221
  ![v18890.toNat]
def k0_off15 (k0_t1 : Fin k0_t1_loop.trips) : Fin 1 → Nat :=
  let c2_i32_13 : BitVec 32 := 2#32
  let c0_i32_11 : BitVec 32 := 0#32
  let c1_i32 : BitVec 32 := 1#32
  let arg33 : BitVec 32 := Scf.iv c0_i32_11 c1_i32 k0_t1
  let v19 : BitVec 32 := Scalar.muli c2_i32_13 arg33
  let c1_i32_4078 : BitVec 32 := 1#32
  let v9459 : BitVec 32 := Scalar.addi v19 c1_i32_4078
  let c16_i32_4079 : BitVec 32 := 16#32
  let v9460 : BitVec 32 := Scalar.muli v9459 c16_i32_4079
  ![v9460.toNat]
def k0_off16 (k0_t1 : Fin k0_t1_loop.trips) : Fin 1 → Nat :=
  let c2_i32_13 : BitVec 32 := 2#32
  let c0_i32_11 : BitVec 32 := 0#32
  let c1_i32 : BitVec 32 := 1#32
  let arg33 : BitVec 32 := Scf.iv c0_i32_11 c1_i32 k0_t1
  let v19 : BitVec 32 := Scalar.muli c2_i32_13 arg33
  let c1_i32_4078 : BitVec 32 := 1#32
  let v9459 : BitVec 32 := Scalar.addi v19 c1_i32_4078
  let c80_i32_4085 : BitVec 32 := 80#32
  let v9466 : BitVec 32 := Scalar.muli v9459 c80_i32_4085
  ![v9466.toNat]

def k0_chk102 (v5 : IVec S16 32) (v10897 : IVec S16 32) : Prop :=
  (∀ a x, ((![v5, v10897] : Fin 2 → IVec S16 32) a x).toNat < S16x17.size a) ∧
  (∀ a x, ((![v5, v10897] : Fin 2 → IVec S16 32) a x).toNat < S16x17.size a) ∧
  (∀ a x, ((![v5, v10897] : Fin 2 → IVec S16 32) a x).toNat < S16x17.size a)
theorem k0_idx294_inb : ∀ (v5 : IVec S16 32) (v10897 : IVec S16 32) (k0_hw102 : k0_chk102 v5 v10897), ∀ a x, ((![v5, v10897] : Fin 2 → IVec S16 32) a x).toNat < S16x17.size a := fun v5 v10897 k0_hw102 => k0_hw102.1
theorem k0_idx310_inb : ∀ (v5 : IVec S16 32) (v10897 : IVec S16 32) (k0_hw102 : k0_chk102 v5 v10897), ∀ a x, ((![v5, v10897] : Fin 2 → IVec S16 32) a x).toNat < S16x17.size a := fun v5 v10897 k0_hw102 => k0_hw102.2.1
theorem k0_idx326_inb : ∀ (v5 : IVec S16 32) (v10897 : IVec S16 32) (k0_hw102 : k0_chk102 v5 v10897), ∀ a x, ((![v5, v10897] : Fin 2 → IVec S16 32) a x).toNat < S16x17.size a := fun v5 v10897 k0_hw102 => k0_hw102.2.2

def k0_chk103 (v5 : IVec S16 32) (v10898 : IVec S16 32) : Prop :=
  (∀ a x, ((![v5, v10898] : Fin 2 → IVec S16 32) a x).toNat < S16x17.size a) ∧
  (∀ a x, ((![v5, v10898] : Fin 2 → IVec S16 32) a x).toNat < S16x17.size a) ∧
  (∀ a x, ((![v5, v10898] : Fin 2 → IVec S16 32) a x).toNat < S16x17.size a)
theorem k0_idx295_inb : ∀ (v5 : IVec S16 32) (v10898 : IVec S16 32) (k0_hw103 : k0_chk103 v5 v10898), ∀ a x, ((![v5, v10898] : Fin 2 → IVec S16 32) a x).toNat < S16x17.size a := fun v5 v10898 k0_hw103 => k0_hw103.1
theorem k0_idx311_inb : ∀ (v5 : IVec S16 32) (v10898 : IVec S16 32) (k0_hw103 : k0_chk103 v5 v10898), ∀ a x, ((![v5, v10898] : Fin 2 → IVec S16 32) a x).toNat < S16x17.size a := fun v5 v10898 k0_hw103 => k0_hw103.2.1
theorem k0_idx327_inb : ∀ (v5 : IVec S16 32) (v10898 : IVec S16 32) (k0_hw103 : k0_chk103 v5 v10898), ∀ a x, ((![v5, v10898] : Fin 2 → IVec S16 32) a x).toNat < S16x17.size a := fun v5 v10898 k0_hw103 => k0_hw103.2.2

def k0_chk104 (v5 : IVec S16 32) (v10899 : IVec S16 32) : Prop :=
  (∀ a x, ((![v5, v10899] : Fin 2 → IVec S16 32) a x).toNat < S16x17.size a) ∧
  (∀ a x, ((![v5, v10899] : Fin 2 → IVec S16 32) a x).toNat < S16x17.size a) ∧
  (∀ a x, ((![v5, v10899] : Fin 2 → IVec S16 32) a x).toNat < S16x17.size a)
theorem k0_idx296_inb : ∀ (v5 : IVec S16 32) (v10899 : IVec S16 32) (k0_hw104 : k0_chk104 v5 v10899), ∀ a x, ((![v5, v10899] : Fin 2 → IVec S16 32) a x).toNat < S16x17.size a := fun v5 v10899 k0_hw104 => k0_hw104.1
theorem k0_idx312_inb : ∀ (v5 : IVec S16 32) (v10899 : IVec S16 32) (k0_hw104 : k0_chk104 v5 v10899), ∀ a x, ((![v5, v10899] : Fin 2 → IVec S16 32) a x).toNat < S16x17.size a := fun v5 v10899 k0_hw104 => k0_hw104.2.1
theorem k0_idx328_inb : ∀ (v5 : IVec S16 32) (v10899 : IVec S16 32) (k0_hw104 : k0_chk104 v5 v10899), ∀ a x, ((![v5, v10899] : Fin 2 → IVec S16 32) a x).toNat < S16x17.size a := fun v5 v10899 k0_hw104 => k0_hw104.2.2

def k0_chk105 (v5 : IVec S16 32) (v10900 : IVec S16 32) : Prop :=
  (∀ a x, ((![v5, v10900] : Fin 2 → IVec S16 32) a x).toNat < S16x17.size a) ∧
  (∀ a x, ((![v5, v10900] : Fin 2 → IVec S16 32) a x).toNat < S16x17.size a) ∧
  (∀ a x, ((![v5, v10900] : Fin 2 → IVec S16 32) a x).toNat < S16x17.size a)
theorem k0_idx297_inb : ∀ (v5 : IVec S16 32) (v10900 : IVec S16 32) (k0_hw105 : k0_chk105 v5 v10900), ∀ a x, ((![v5, v10900] : Fin 2 → IVec S16 32) a x).toNat < S16x17.size a := fun v5 v10900 k0_hw105 => k0_hw105.1
theorem k0_idx313_inb : ∀ (v5 : IVec S16 32) (v10900 : IVec S16 32) (k0_hw105 : k0_chk105 v5 v10900), ∀ a x, ((![v5, v10900] : Fin 2 → IVec S16 32) a x).toNat < S16x17.size a := fun v5 v10900 k0_hw105 => k0_hw105.2.1
theorem k0_idx329_inb : ∀ (v5 : IVec S16 32) (v10900 : IVec S16 32) (k0_hw105 : k0_chk105 v5 v10900), ∀ a x, ((![v5, v10900] : Fin 2 → IVec S16 32) a x).toNat < S16x17.size a := fun v5 v10900 k0_hw105 => k0_hw105.2.2

def k0_chk106 (v5 : IVec S16 32) (v10901 : IVec S16 32) : Prop :=
  (∀ a x, ((![v5, v10901] : Fin 2 → IVec S16 32) a x).toNat < S16x17.size a) ∧
  (∀ a x, ((![v5, v10901] : Fin 2 → IVec S16 32) a x).toNat < S16x17.size a) ∧
  (∀ a x, ((![v5, v10901] : Fin 2 → IVec S16 32) a x).toNat < S16x17.size a)
theorem k0_idx298_inb : ∀ (v5 : IVec S16 32) (v10901 : IVec S16 32) (k0_hw106 : k0_chk106 v5 v10901), ∀ a x, ((![v5, v10901] : Fin 2 → IVec S16 32) a x).toNat < S16x17.size a := fun v5 v10901 k0_hw106 => k0_hw106.1
theorem k0_idx314_inb : ∀ (v5 : IVec S16 32) (v10901 : IVec S16 32) (k0_hw106 : k0_chk106 v5 v10901), ∀ a x, ((![v5, v10901] : Fin 2 → IVec S16 32) a x).toNat < S16x17.size a := fun v5 v10901 k0_hw106 => k0_hw106.2.1
theorem k0_idx330_inb : ∀ (v5 : IVec S16 32) (v10901 : IVec S16 32) (k0_hw106 : k0_chk106 v5 v10901), ∀ a x, ((![v5, v10901] : Fin 2 → IVec S16 32) a x).toNat < S16x17.size a := fun v5 v10901 k0_hw106 => k0_hw106.2.2

def k0_chk107 (v5 : IVec S16 32) (v10902 : IVec S16 32) : Prop :=
  (∀ a x, ((![v5, v10902] : Fin 2 → IVec S16 32) a x).toNat < S16x17.size a) ∧
  (∀ a x, ((![v5, v10902] : Fin 2 → IVec S16 32) a x).toNat < S16x17.size a) ∧
  (∀ a x, ((![v5, v10902] : Fin 2 → IVec S16 32) a x).toNat < S16x17.size a)
theorem k0_idx299_inb : ∀ (v5 : IVec S16 32) (v10902 : IVec S16 32) (k0_hw107 : k0_chk107 v5 v10902), ∀ a x, ((![v5, v10902] : Fin 2 → IVec S16 32) a x).toNat < S16x17.size a := fun v5 v10902 k0_hw107 => k0_hw107.1
theorem k0_idx315_inb : ∀ (v5 : IVec S16 32) (v10902 : IVec S16 32) (k0_hw107 : k0_chk107 v5 v10902), ∀ a x, ((![v5, v10902] : Fin 2 → IVec S16 32) a x).toNat < S16x17.size a := fun v5 v10902 k0_hw107 => k0_hw107.2.1
theorem k0_idx331_inb : ∀ (v5 : IVec S16 32) (v10902 : IVec S16 32) (k0_hw107 : k0_chk107 v5 v10902), ∀ a x, ((![v5, v10902] : Fin 2 → IVec S16 32) a x).toNat < S16x17.size a := fun v5 v10902 k0_hw107 => k0_hw107.2.2

def k0_chk108 (v5 : IVec S16 32) (v10903 : IVec S16 32) : Prop :=
  (∀ a x, ((![v5, v10903] : Fin 2 → IVec S16 32) a x).toNat < S16x17.size a) ∧
  (∀ a x, ((![v5, v10903] : Fin 2 → IVec S16 32) a x).toNat < S16x17.size a) ∧
  (∀ a x, ((![v5, v10903] : Fin 2 → IVec S16 32) a x).toNat < S16x17.size a)
theorem k0_idx300_inb : ∀ (v5 : IVec S16 32) (v10903 : IVec S16 32) (k0_hw108 : k0_chk108 v5 v10903), ∀ a x, ((![v5, v10903] : Fin 2 → IVec S16 32) a x).toNat < S16x17.size a := fun v5 v10903 k0_hw108 => k0_hw108.1
theorem k0_idx316_inb : ∀ (v5 : IVec S16 32) (v10903 : IVec S16 32) (k0_hw108 : k0_chk108 v5 v10903), ∀ a x, ((![v5, v10903] : Fin 2 → IVec S16 32) a x).toNat < S16x17.size a := fun v5 v10903 k0_hw108 => k0_hw108.2.1
theorem k0_idx332_inb : ∀ (v5 : IVec S16 32) (v10903 : IVec S16 32) (k0_hw108 : k0_chk108 v5 v10903), ∀ a x, ((![v5, v10903] : Fin 2 → IVec S16 32) a x).toNat < S16x17.size a := fun v5 v10903 k0_hw108 => k0_hw108.2.2

def k0_chk109 (v5 : IVec S16 32) (v10904 : IVec S16 32) : Prop :=
  (∀ a x, ((![v5, v10904] : Fin 2 → IVec S16 32) a x).toNat < S16x17.size a) ∧
  (∀ a x, ((![v5, v10904] : Fin 2 → IVec S16 32) a x).toNat < S16x17.size a) ∧
  (∀ a x, ((![v5, v10904] : Fin 2 → IVec S16 32) a x).toNat < S16x17.size a)
theorem k0_idx301_inb : ∀ (v5 : IVec S16 32) (v10904 : IVec S16 32) (k0_hw109 : k0_chk109 v5 v10904), ∀ a x, ((![v5, v10904] : Fin 2 → IVec S16 32) a x).toNat < S16x17.size a := fun v5 v10904 k0_hw109 => k0_hw109.1
theorem k0_idx317_inb : ∀ (v5 : IVec S16 32) (v10904 : IVec S16 32) (k0_hw109 : k0_chk109 v5 v10904), ∀ a x, ((![v5, v10904] : Fin 2 → IVec S16 32) a x).toNat < S16x17.size a := fun v5 v10904 k0_hw109 => k0_hw109.2.1
theorem k0_idx333_inb : ∀ (v5 : IVec S16 32) (v10904 : IVec S16 32) (k0_hw109 : k0_chk109 v5 v10904), ∀ a x, ((![v5, v10904] : Fin 2 → IVec S16 32) a x).toNat < S16x17.size a := fun v5 v10904 k0_hw109 => k0_hw109.2.2

def k0_chk110 (v5 : IVec S16 32) (v10905 : IVec S16 32) : Prop :=
  (∀ a x, ((![v5, v10905] : Fin 2 → IVec S16 32) a x).toNat < S16x17.size a) ∧
  (∀ a x, ((![v5, v10905] : Fin 2 → IVec S16 32) a x).toNat < S16x17.size a) ∧
  (∀ a x, ((![v5, v10905] : Fin 2 → IVec S16 32) a x).toNat < S16x17.size a)
theorem k0_idx302_inb : ∀ (v5 : IVec S16 32) (v10905 : IVec S16 32) (k0_hw110 : k0_chk110 v5 v10905), ∀ a x, ((![v5, v10905] : Fin 2 → IVec S16 32) a x).toNat < S16x17.size a := fun v5 v10905 k0_hw110 => k0_hw110.1
theorem k0_idx318_inb : ∀ (v5 : IVec S16 32) (v10905 : IVec S16 32) (k0_hw110 : k0_chk110 v5 v10905), ∀ a x, ((![v5, v10905] : Fin 2 → IVec S16 32) a x).toNat < S16x17.size a := fun v5 v10905 k0_hw110 => k0_hw110.2.1
theorem k0_idx334_inb : ∀ (v5 : IVec S16 32) (v10905 : IVec S16 32) (k0_hw110 : k0_chk110 v5 v10905), ∀ a x, ((![v5, v10905] : Fin 2 → IVec S16 32) a x).toNat < S16x17.size a := fun v5 v10905 k0_hw110 => k0_hw110.2.2

def k0_chk111 (v5 : IVec S16 32) (v10906 : IVec S16 32) : Prop :=
  (∀ a x, ((![v5, v10906] : Fin 2 → IVec S16 32) a x).toNat < S16x17.size a) ∧
  (∀ a x, ((![v5, v10906] : Fin 2 → IVec S16 32) a x).toNat < S16x17.size a) ∧
  (∀ a x, ((![v5, v10906] : Fin 2 → IVec S16 32) a x).toNat < S16x17.size a)
theorem k0_idx303_inb : ∀ (v5 : IVec S16 32) (v10906 : IVec S16 32) (k0_hw111 : k0_chk111 v5 v10906), ∀ a x, ((![v5, v10906] : Fin 2 → IVec S16 32) a x).toNat < S16x17.size a := fun v5 v10906 k0_hw111 => k0_hw111.1
theorem k0_idx319_inb : ∀ (v5 : IVec S16 32) (v10906 : IVec S16 32) (k0_hw111 : k0_chk111 v5 v10906), ∀ a x, ((![v5, v10906] : Fin 2 → IVec S16 32) a x).toNat < S16x17.size a := fun v5 v10906 k0_hw111 => k0_hw111.2.1
theorem k0_idx335_inb : ∀ (v5 : IVec S16 32) (v10906 : IVec S16 32) (k0_hw111 : k0_chk111 v5 v10906), ∀ a x, ((![v5, v10906] : Fin 2 → IVec S16 32) a x).toNat < S16x17.size a := fun v5 v10906 k0_hw111 => k0_hw111.2.2

def k0_chk112 (v5 : IVec S16 32) (v10907 : IVec S16 32) : Prop :=
  (∀ a x, ((![v5, v10907] : Fin 2 → IVec S16 32) a x).toNat < S16x17.size a) ∧
  (∀ a x, ((![v5, v10907] : Fin 2 → IVec S16 32) a x).toNat < S16x17.size a) ∧
  (∀ a x, ((![v5, v10907] : Fin 2 → IVec S16 32) a x).toNat < S16x17.size a)
theorem k0_idx304_inb : ∀ (v5 : IVec S16 32) (v10907 : IVec S16 32) (k0_hw112 : k0_chk112 v5 v10907), ∀ a x, ((![v5, v10907] : Fin 2 → IVec S16 32) a x).toNat < S16x17.size a := fun v5 v10907 k0_hw112 => k0_hw112.1
theorem k0_idx320_inb : ∀ (v5 : IVec S16 32) (v10907 : IVec S16 32) (k0_hw112 : k0_chk112 v5 v10907), ∀ a x, ((![v5, v10907] : Fin 2 → IVec S16 32) a x).toNat < S16x17.size a := fun v5 v10907 k0_hw112 => k0_hw112.2.1
theorem k0_idx336_inb : ∀ (v5 : IVec S16 32) (v10907 : IVec S16 32) (k0_hw112 : k0_chk112 v5 v10907), ∀ a x, ((![v5, v10907] : Fin 2 → IVec S16 32) a x).toNat < S16x17.size a := fun v5 v10907 k0_hw112 => k0_hw112.2.2

def k0_chk113 (v5 : IVec S16 32) (v10908 : IVec S16 32) : Prop :=
  (∀ a x, ((![v5, v10908] : Fin 2 → IVec S16 32) a x).toNat < S16x17.size a) ∧
  (∀ a x, ((![v5, v10908] : Fin 2 → IVec S16 32) a x).toNat < S16x17.size a) ∧
  (∀ a x, ((![v5, v10908] : Fin 2 → IVec S16 32) a x).toNat < S16x17.size a)
theorem k0_idx305_inb : ∀ (v5 : IVec S16 32) (v10908 : IVec S16 32) (k0_hw113 : k0_chk113 v5 v10908), ∀ a x, ((![v5, v10908] : Fin 2 → IVec S16 32) a x).toNat < S16x17.size a := fun v5 v10908 k0_hw113 => k0_hw113.1
theorem k0_idx321_inb : ∀ (v5 : IVec S16 32) (v10908 : IVec S16 32) (k0_hw113 : k0_chk113 v5 v10908), ∀ a x, ((![v5, v10908] : Fin 2 → IVec S16 32) a x).toNat < S16x17.size a := fun v5 v10908 k0_hw113 => k0_hw113.2.1
theorem k0_idx337_inb : ∀ (v5 : IVec S16 32) (v10908 : IVec S16 32) (k0_hw113 : k0_chk113 v5 v10908), ∀ a x, ((![v5, v10908] : Fin 2 → IVec S16 32) a x).toNat < S16x17.size a := fun v5 v10908 k0_hw113 => k0_hw113.2.2

def k0_chk114 (v5 : IVec S16 32) (v10909 : IVec S16 32) : Prop :=
  (∀ a x, ((![v5, v10909] : Fin 2 → IVec S16 32) a x).toNat < S16x17.size a) ∧
  (∀ a x, ((![v5, v10909] : Fin 2 → IVec S16 32) a x).toNat < S16x17.size a) ∧
  (∀ a x, ((![v5, v10909] : Fin 2 → IVec S16 32) a x).toNat < S16x17.size a)
theorem k0_idx306_inb : ∀ (v5 : IVec S16 32) (v10909 : IVec S16 32) (k0_hw114 : k0_chk114 v5 v10909), ∀ a x, ((![v5, v10909] : Fin 2 → IVec S16 32) a x).toNat < S16x17.size a := fun v5 v10909 k0_hw114 => k0_hw114.1
theorem k0_idx322_inb : ∀ (v5 : IVec S16 32) (v10909 : IVec S16 32) (k0_hw114 : k0_chk114 v5 v10909), ∀ a x, ((![v5, v10909] : Fin 2 → IVec S16 32) a x).toNat < S16x17.size a := fun v5 v10909 k0_hw114 => k0_hw114.2.1
theorem k0_idx338_inb : ∀ (v5 : IVec S16 32) (v10909 : IVec S16 32) (k0_hw114 : k0_chk114 v5 v10909), ∀ a x, ((![v5, v10909] : Fin 2 → IVec S16 32) a x).toNat < S16x17.size a := fun v5 v10909 k0_hw114 => k0_hw114.2.2

def k0_chk115 (v5 : IVec S16 32) (v10910 : IVec S16 32) : Prop :=
  (∀ a x, ((![v5, v10910] : Fin 2 → IVec S16 32) a x).toNat < S16x17.size a) ∧
  (∀ a x, ((![v5, v10910] : Fin 2 → IVec S16 32) a x).toNat < S16x17.size a) ∧
  (∀ a x, ((![v5, v10910] : Fin 2 → IVec S16 32) a x).toNat < S16x17.size a)
theorem k0_idx307_inb : ∀ (v5 : IVec S16 32) (v10910 : IVec S16 32) (k0_hw115 : k0_chk115 v5 v10910), ∀ a x, ((![v5, v10910] : Fin 2 → IVec S16 32) a x).toNat < S16x17.size a := fun v5 v10910 k0_hw115 => k0_hw115.1
theorem k0_idx323_inb : ∀ (v5 : IVec S16 32) (v10910 : IVec S16 32) (k0_hw115 : k0_chk115 v5 v10910), ∀ a x, ((![v5, v10910] : Fin 2 → IVec S16 32) a x).toNat < S16x17.size a := fun v5 v10910 k0_hw115 => k0_hw115.2.1
theorem k0_idx339_inb : ∀ (v5 : IVec S16 32) (v10910 : IVec S16 32) (k0_hw115 : k0_chk115 v5 v10910), ∀ a x, ((![v5, v10910] : Fin 2 → IVec S16 32) a x).toNat < S16x17.size a := fun v5 v10910 k0_hw115 => k0_hw115.2.2

def k0_chk116 (v5 : IVec S16 32) (v10911 : IVec S16 32) : Prop :=
  (∀ a x, ((![v5, v10911] : Fin 2 → IVec S16 32) a x).toNat < S16x17.size a) ∧
  (∀ a x, ((![v5, v10911] : Fin 2 → IVec S16 32) a x).toNat < S16x17.size a) ∧
  (∀ a x, ((![v5, v10911] : Fin 2 → IVec S16 32) a x).toNat < S16x17.size a)
theorem k0_idx308_inb : ∀ (v5 : IVec S16 32) (v10911 : IVec S16 32) (k0_hw116 : k0_chk116 v5 v10911), ∀ a x, ((![v5, v10911] : Fin 2 → IVec S16 32) a x).toNat < S16x17.size a := fun v5 v10911 k0_hw116 => k0_hw116.1
theorem k0_idx324_inb : ∀ (v5 : IVec S16 32) (v10911 : IVec S16 32) (k0_hw116 : k0_chk116 v5 v10911), ∀ a x, ((![v5, v10911] : Fin 2 → IVec S16 32) a x).toNat < S16x17.size a := fun v5 v10911 k0_hw116 => k0_hw116.2.1
theorem k0_idx340_inb : ∀ (v5 : IVec S16 32) (v10911 : IVec S16 32) (k0_hw116 : k0_chk116 v5 v10911), ∀ a x, ((![v5, v10911] : Fin 2 → IVec S16 32) a x).toNat < S16x17.size a := fun v5 v10911 k0_hw116 => k0_hw116.2.2

def k0_chk117 (v5 : IVec S16 32) (v10912 : IVec S16 32) : Prop :=
  (∀ a x, ((![v5, v10912] : Fin 2 → IVec S16 32) a x).toNat < S16x17.size a) ∧
  (∀ a x, ((![v5, v10912] : Fin 2 → IVec S16 32) a x).toNat < S16x17.size a) ∧
  (∀ a x, ((![v5, v10912] : Fin 2 → IVec S16 32) a x).toNat < S16x17.size a)
theorem k0_idx309_inb : ∀ (v5 : IVec S16 32) (v10912 : IVec S16 32) (k0_hw117 : k0_chk117 v5 v10912), ∀ a x, ((![v5, v10912] : Fin 2 → IVec S16 32) a x).toNat < S16x17.size a := fun v5 v10912 k0_hw117 => k0_hw117.1
theorem k0_idx325_inb : ∀ (v5 : IVec S16 32) (v10912 : IVec S16 32) (k0_hw117 : k0_chk117 v5 v10912), ∀ a x, ((![v5, v10912] : Fin 2 → IVec S16 32) a x).toNat < S16x17.size a := fun v5 v10912 k0_hw117 => k0_hw117.2.1
theorem k0_idx341_inb : ∀ (v5 : IVec S16 32) (v10912 : IVec S16 32) (k0_hw117 : k0_chk117 v5 v10912), ∀ a x, ((![v5, v10912] : Fin 2 → IVec S16 32) a x).toNat < S16x17.size a := fun v5 v10912 k0_hw117 => k0_hw117.2.2
def k0_off17 (k0_t1 : Fin k0_t1_loop.trips) : Fin 1 → Nat :=
  let c2_i32_13 : BitVec 32 := 2#32
  let c0_i32_11 : BitVec 32 := 0#32
  let c1_i32 : BitVec 32 := 1#32
  let arg33 : BitVec 32 := Scf.iv c0_i32_11 c1_i32 k0_t1
  let v19 : BitVec 32 := Scalar.muli c2_i32_13 arg33
  let c1_i32_4091 : BitVec 32 := 1#32
  let v9472 : BitVec 32 := Scalar.addi v19 c1_i32_4091
  let c16_i32_4772 : BitVec 32 := 16#32
  let v11026 : BitVec 32 := Scalar.muli v9472 c16_i32_4772
  let v11027 : Index := Scalar.indexCast v11026
  ![v11027.toNat]

def k0_chk118 (v5 : IVec S16 32) (v12453 : IVec S16 32) : Prop :=
  (∀ a x, ((![v5, v12453] : Fin 2 → IVec S16 32) a x).toNat < S16x17.size a) ∧
  (∀ a x, ((![v5, v12453] : Fin 2 → IVec S16 32) a x).toNat < S16x17.size a) ∧
  (∀ a x, ((![v5, v12453] : Fin 2 → IVec S16 32) a x).toNat < S16x17.size a)
theorem k0_idx342_inb : ∀ (v5 : IVec S16 32) (v12453 : IVec S16 32) (k0_hw118 : k0_chk118 v5 v12453), ∀ a x, ((![v5, v12453] : Fin 2 → IVec S16 32) a x).toNat < S16x17.size a := fun v5 v12453 k0_hw118 => k0_hw118.1
theorem k0_idx358_inb : ∀ (v5 : IVec S16 32) (v12453 : IVec S16 32) (k0_hw118 : k0_chk118 v5 v12453), ∀ a x, ((![v5, v12453] : Fin 2 → IVec S16 32) a x).toNat < S16x17.size a := fun v5 v12453 k0_hw118 => k0_hw118.2.1
theorem k0_idx374_inb : ∀ (v5 : IVec S16 32) (v12453 : IVec S16 32) (k0_hw118 : k0_chk118 v5 v12453), ∀ a x, ((![v5, v12453] : Fin 2 → IVec S16 32) a x).toNat < S16x17.size a := fun v5 v12453 k0_hw118 => k0_hw118.2.2

def k0_chk119 (v5 : IVec S16 32) (v12454 : IVec S16 32) : Prop :=
  (∀ a x, ((![v5, v12454] : Fin 2 → IVec S16 32) a x).toNat < S16x17.size a) ∧
  (∀ a x, ((![v5, v12454] : Fin 2 → IVec S16 32) a x).toNat < S16x17.size a) ∧
  (∀ a x, ((![v5, v12454] : Fin 2 → IVec S16 32) a x).toNat < S16x17.size a)
theorem k0_idx343_inb : ∀ (v5 : IVec S16 32) (v12454 : IVec S16 32) (k0_hw119 : k0_chk119 v5 v12454), ∀ a x, ((![v5, v12454] : Fin 2 → IVec S16 32) a x).toNat < S16x17.size a := fun v5 v12454 k0_hw119 => k0_hw119.1
theorem k0_idx359_inb : ∀ (v5 : IVec S16 32) (v12454 : IVec S16 32) (k0_hw119 : k0_chk119 v5 v12454), ∀ a x, ((![v5, v12454] : Fin 2 → IVec S16 32) a x).toNat < S16x17.size a := fun v5 v12454 k0_hw119 => k0_hw119.2.1
theorem k0_idx375_inb : ∀ (v5 : IVec S16 32) (v12454 : IVec S16 32) (k0_hw119 : k0_chk119 v5 v12454), ∀ a x, ((![v5, v12454] : Fin 2 → IVec S16 32) a x).toNat < S16x17.size a := fun v5 v12454 k0_hw119 => k0_hw119.2.2

def k0_chk120 (v5 : IVec S16 32) (v12455 : IVec S16 32) : Prop :=
  (∀ a x, ((![v5, v12455] : Fin 2 → IVec S16 32) a x).toNat < S16x17.size a) ∧
  (∀ a x, ((![v5, v12455] : Fin 2 → IVec S16 32) a x).toNat < S16x17.size a) ∧
  (∀ a x, ((![v5, v12455] : Fin 2 → IVec S16 32) a x).toNat < S16x17.size a)
theorem k0_idx344_inb : ∀ (v5 : IVec S16 32) (v12455 : IVec S16 32) (k0_hw120 : k0_chk120 v5 v12455), ∀ a x, ((![v5, v12455] : Fin 2 → IVec S16 32) a x).toNat < S16x17.size a := fun v5 v12455 k0_hw120 => k0_hw120.1
theorem k0_idx360_inb : ∀ (v5 : IVec S16 32) (v12455 : IVec S16 32) (k0_hw120 : k0_chk120 v5 v12455), ∀ a x, ((![v5, v12455] : Fin 2 → IVec S16 32) a x).toNat < S16x17.size a := fun v5 v12455 k0_hw120 => k0_hw120.2.1
theorem k0_idx376_inb : ∀ (v5 : IVec S16 32) (v12455 : IVec S16 32) (k0_hw120 : k0_chk120 v5 v12455), ∀ a x, ((![v5, v12455] : Fin 2 → IVec S16 32) a x).toNat < S16x17.size a := fun v5 v12455 k0_hw120 => k0_hw120.2.2

def k0_chk121 (v5 : IVec S16 32) (v12456 : IVec S16 32) : Prop :=
  (∀ a x, ((![v5, v12456] : Fin 2 → IVec S16 32) a x).toNat < S16x17.size a) ∧
  (∀ a x, ((![v5, v12456] : Fin 2 → IVec S16 32) a x).toNat < S16x17.size a) ∧
  (∀ a x, ((![v5, v12456] : Fin 2 → IVec S16 32) a x).toNat < S16x17.size a)
theorem k0_idx345_inb : ∀ (v5 : IVec S16 32) (v12456 : IVec S16 32) (k0_hw121 : k0_chk121 v5 v12456), ∀ a x, ((![v5, v12456] : Fin 2 → IVec S16 32) a x).toNat < S16x17.size a := fun v5 v12456 k0_hw121 => k0_hw121.1
theorem k0_idx361_inb : ∀ (v5 : IVec S16 32) (v12456 : IVec S16 32) (k0_hw121 : k0_chk121 v5 v12456), ∀ a x, ((![v5, v12456] : Fin 2 → IVec S16 32) a x).toNat < S16x17.size a := fun v5 v12456 k0_hw121 => k0_hw121.2.1
theorem k0_idx377_inb : ∀ (v5 : IVec S16 32) (v12456 : IVec S16 32) (k0_hw121 : k0_chk121 v5 v12456), ∀ a x, ((![v5, v12456] : Fin 2 → IVec S16 32) a x).toNat < S16x17.size a := fun v5 v12456 k0_hw121 => k0_hw121.2.2

def k0_chk122 (v5 : IVec S16 32) (v12457 : IVec S16 32) : Prop :=
  (∀ a x, ((![v5, v12457] : Fin 2 → IVec S16 32) a x).toNat < S16x17.size a) ∧
  (∀ a x, ((![v5, v12457] : Fin 2 → IVec S16 32) a x).toNat < S16x17.size a) ∧
  (∀ a x, ((![v5, v12457] : Fin 2 → IVec S16 32) a x).toNat < S16x17.size a)
theorem k0_idx346_inb : ∀ (v5 : IVec S16 32) (v12457 : IVec S16 32) (k0_hw122 : k0_chk122 v5 v12457), ∀ a x, ((![v5, v12457] : Fin 2 → IVec S16 32) a x).toNat < S16x17.size a := fun v5 v12457 k0_hw122 => k0_hw122.1
theorem k0_idx362_inb : ∀ (v5 : IVec S16 32) (v12457 : IVec S16 32) (k0_hw122 : k0_chk122 v5 v12457), ∀ a x, ((![v5, v12457] : Fin 2 → IVec S16 32) a x).toNat < S16x17.size a := fun v5 v12457 k0_hw122 => k0_hw122.2.1
theorem k0_idx378_inb : ∀ (v5 : IVec S16 32) (v12457 : IVec S16 32) (k0_hw122 : k0_chk122 v5 v12457), ∀ a x, ((![v5, v12457] : Fin 2 → IVec S16 32) a x).toNat < S16x17.size a := fun v5 v12457 k0_hw122 => k0_hw122.2.2

def k0_chk123 (v5 : IVec S16 32) (v12458 : IVec S16 32) : Prop :=
  (∀ a x, ((![v5, v12458] : Fin 2 → IVec S16 32) a x).toNat < S16x17.size a) ∧
  (∀ a x, ((![v5, v12458] : Fin 2 → IVec S16 32) a x).toNat < S16x17.size a) ∧
  (∀ a x, ((![v5, v12458] : Fin 2 → IVec S16 32) a x).toNat < S16x17.size a)
theorem k0_idx347_inb : ∀ (v5 : IVec S16 32) (v12458 : IVec S16 32) (k0_hw123 : k0_chk123 v5 v12458), ∀ a x, ((![v5, v12458] : Fin 2 → IVec S16 32) a x).toNat < S16x17.size a := fun v5 v12458 k0_hw123 => k0_hw123.1
theorem k0_idx363_inb : ∀ (v5 : IVec S16 32) (v12458 : IVec S16 32) (k0_hw123 : k0_chk123 v5 v12458), ∀ a x, ((![v5, v12458] : Fin 2 → IVec S16 32) a x).toNat < S16x17.size a := fun v5 v12458 k0_hw123 => k0_hw123.2.1
theorem k0_idx379_inb : ∀ (v5 : IVec S16 32) (v12458 : IVec S16 32) (k0_hw123 : k0_chk123 v5 v12458), ∀ a x, ((![v5, v12458] : Fin 2 → IVec S16 32) a x).toNat < S16x17.size a := fun v5 v12458 k0_hw123 => k0_hw123.2.2

def k0_chk124 (v5 : IVec S16 32) (v12459 : IVec S16 32) : Prop :=
  (∀ a x, ((![v5, v12459] : Fin 2 → IVec S16 32) a x).toNat < S16x17.size a) ∧
  (∀ a x, ((![v5, v12459] : Fin 2 → IVec S16 32) a x).toNat < S16x17.size a) ∧
  (∀ a x, ((![v5, v12459] : Fin 2 → IVec S16 32) a x).toNat < S16x17.size a)
theorem k0_idx348_inb : ∀ (v5 : IVec S16 32) (v12459 : IVec S16 32) (k0_hw124 : k0_chk124 v5 v12459), ∀ a x, ((![v5, v12459] : Fin 2 → IVec S16 32) a x).toNat < S16x17.size a := fun v5 v12459 k0_hw124 => k0_hw124.1
theorem k0_idx364_inb : ∀ (v5 : IVec S16 32) (v12459 : IVec S16 32) (k0_hw124 : k0_chk124 v5 v12459), ∀ a x, ((![v5, v12459] : Fin 2 → IVec S16 32) a x).toNat < S16x17.size a := fun v5 v12459 k0_hw124 => k0_hw124.2.1
theorem k0_idx380_inb : ∀ (v5 : IVec S16 32) (v12459 : IVec S16 32) (k0_hw124 : k0_chk124 v5 v12459), ∀ a x, ((![v5, v12459] : Fin 2 → IVec S16 32) a x).toNat < S16x17.size a := fun v5 v12459 k0_hw124 => k0_hw124.2.2

def k0_chk125 (v5 : IVec S16 32) (v12460 : IVec S16 32) : Prop :=
  (∀ a x, ((![v5, v12460] : Fin 2 → IVec S16 32) a x).toNat < S16x17.size a) ∧
  (∀ a x, ((![v5, v12460] : Fin 2 → IVec S16 32) a x).toNat < S16x17.size a) ∧
  (∀ a x, ((![v5, v12460] : Fin 2 → IVec S16 32) a x).toNat < S16x17.size a)
theorem k0_idx349_inb : ∀ (v5 : IVec S16 32) (v12460 : IVec S16 32) (k0_hw125 : k0_chk125 v5 v12460), ∀ a x, ((![v5, v12460] : Fin 2 → IVec S16 32) a x).toNat < S16x17.size a := fun v5 v12460 k0_hw125 => k0_hw125.1
theorem k0_idx365_inb : ∀ (v5 : IVec S16 32) (v12460 : IVec S16 32) (k0_hw125 : k0_chk125 v5 v12460), ∀ a x, ((![v5, v12460] : Fin 2 → IVec S16 32) a x).toNat < S16x17.size a := fun v5 v12460 k0_hw125 => k0_hw125.2.1
theorem k0_idx381_inb : ∀ (v5 : IVec S16 32) (v12460 : IVec S16 32) (k0_hw125 : k0_chk125 v5 v12460), ∀ a x, ((![v5, v12460] : Fin 2 → IVec S16 32) a x).toNat < S16x17.size a := fun v5 v12460 k0_hw125 => k0_hw125.2.2

def k0_chk126 (v5 : IVec S16 32) (v12461 : IVec S16 32) : Prop :=
  (∀ a x, ((![v5, v12461] : Fin 2 → IVec S16 32) a x).toNat < S16x17.size a) ∧
  (∀ a x, ((![v5, v12461] : Fin 2 → IVec S16 32) a x).toNat < S16x17.size a) ∧
  (∀ a x, ((![v5, v12461] : Fin 2 → IVec S16 32) a x).toNat < S16x17.size a)
theorem k0_idx350_inb : ∀ (v5 : IVec S16 32) (v12461 : IVec S16 32) (k0_hw126 : k0_chk126 v5 v12461), ∀ a x, ((![v5, v12461] : Fin 2 → IVec S16 32) a x).toNat < S16x17.size a := fun v5 v12461 k0_hw126 => k0_hw126.1
theorem k0_idx366_inb : ∀ (v5 : IVec S16 32) (v12461 : IVec S16 32) (k0_hw126 : k0_chk126 v5 v12461), ∀ a x, ((![v5, v12461] : Fin 2 → IVec S16 32) a x).toNat < S16x17.size a := fun v5 v12461 k0_hw126 => k0_hw126.2.1
theorem k0_idx382_inb : ∀ (v5 : IVec S16 32) (v12461 : IVec S16 32) (k0_hw126 : k0_chk126 v5 v12461), ∀ a x, ((![v5, v12461] : Fin 2 → IVec S16 32) a x).toNat < S16x17.size a := fun v5 v12461 k0_hw126 => k0_hw126.2.2

def k0_chk127 (v5 : IVec S16 32) (v12462 : IVec S16 32) : Prop :=
  (∀ a x, ((![v5, v12462] : Fin 2 → IVec S16 32) a x).toNat < S16x17.size a) ∧
  (∀ a x, ((![v5, v12462] : Fin 2 → IVec S16 32) a x).toNat < S16x17.size a) ∧
  (∀ a x, ((![v5, v12462] : Fin 2 → IVec S16 32) a x).toNat < S16x17.size a)
theorem k0_idx351_inb : ∀ (v5 : IVec S16 32) (v12462 : IVec S16 32) (k0_hw127 : k0_chk127 v5 v12462), ∀ a x, ((![v5, v12462] : Fin 2 → IVec S16 32) a x).toNat < S16x17.size a := fun v5 v12462 k0_hw127 => k0_hw127.1
theorem k0_idx367_inb : ∀ (v5 : IVec S16 32) (v12462 : IVec S16 32) (k0_hw127 : k0_chk127 v5 v12462), ∀ a x, ((![v5, v12462] : Fin 2 → IVec S16 32) a x).toNat < S16x17.size a := fun v5 v12462 k0_hw127 => k0_hw127.2.1
theorem k0_idx383_inb : ∀ (v5 : IVec S16 32) (v12462 : IVec S16 32) (k0_hw127 : k0_chk127 v5 v12462), ∀ a x, ((![v5, v12462] : Fin 2 → IVec S16 32) a x).toNat < S16x17.size a := fun v5 v12462 k0_hw127 => k0_hw127.2.2

def k0_chk128 (v5 : IVec S16 32) (v12463 : IVec S16 32) : Prop :=
  (∀ a x, ((![v5, v12463] : Fin 2 → IVec S16 32) a x).toNat < S16x17.size a) ∧
  (∀ a x, ((![v5, v12463] : Fin 2 → IVec S16 32) a x).toNat < S16x17.size a) ∧
  (∀ a x, ((![v5, v12463] : Fin 2 → IVec S16 32) a x).toNat < S16x17.size a)
theorem k0_idx352_inb : ∀ (v5 : IVec S16 32) (v12463 : IVec S16 32) (k0_hw128 : k0_chk128 v5 v12463), ∀ a x, ((![v5, v12463] : Fin 2 → IVec S16 32) a x).toNat < S16x17.size a := fun v5 v12463 k0_hw128 => k0_hw128.1
theorem k0_idx368_inb : ∀ (v5 : IVec S16 32) (v12463 : IVec S16 32) (k0_hw128 : k0_chk128 v5 v12463), ∀ a x, ((![v5, v12463] : Fin 2 → IVec S16 32) a x).toNat < S16x17.size a := fun v5 v12463 k0_hw128 => k0_hw128.2.1
theorem k0_idx384_inb : ∀ (v5 : IVec S16 32) (v12463 : IVec S16 32) (k0_hw128 : k0_chk128 v5 v12463), ∀ a x, ((![v5, v12463] : Fin 2 → IVec S16 32) a x).toNat < S16x17.size a := fun v5 v12463 k0_hw128 => k0_hw128.2.2

def k0_chk129 (v5 : IVec S16 32) (v12464 : IVec S16 32) : Prop :=
  (∀ a x, ((![v5, v12464] : Fin 2 → IVec S16 32) a x).toNat < S16x17.size a) ∧
  (∀ a x, ((![v5, v12464] : Fin 2 → IVec S16 32) a x).toNat < S16x17.size a) ∧
  (∀ a x, ((![v5, v12464] : Fin 2 → IVec S16 32) a x).toNat < S16x17.size a)
theorem k0_idx353_inb : ∀ (v5 : IVec S16 32) (v12464 : IVec S16 32) (k0_hw129 : k0_chk129 v5 v12464), ∀ a x, ((![v5, v12464] : Fin 2 → IVec S16 32) a x).toNat < S16x17.size a := fun v5 v12464 k0_hw129 => k0_hw129.1
theorem k0_idx369_inb : ∀ (v5 : IVec S16 32) (v12464 : IVec S16 32) (k0_hw129 : k0_chk129 v5 v12464), ∀ a x, ((![v5, v12464] : Fin 2 → IVec S16 32) a x).toNat < S16x17.size a := fun v5 v12464 k0_hw129 => k0_hw129.2.1
theorem k0_idx385_inb : ∀ (v5 : IVec S16 32) (v12464 : IVec S16 32) (k0_hw129 : k0_chk129 v5 v12464), ∀ a x, ((![v5, v12464] : Fin 2 → IVec S16 32) a x).toNat < S16x17.size a := fun v5 v12464 k0_hw129 => k0_hw129.2.2

def k0_chk130 (v5 : IVec S16 32) (v12465 : IVec S16 32) : Prop :=
  (∀ a x, ((![v5, v12465] : Fin 2 → IVec S16 32) a x).toNat < S16x17.size a) ∧
  (∀ a x, ((![v5, v12465] : Fin 2 → IVec S16 32) a x).toNat < S16x17.size a) ∧
  (∀ a x, ((![v5, v12465] : Fin 2 → IVec S16 32) a x).toNat < S16x17.size a)
theorem k0_idx354_inb : ∀ (v5 : IVec S16 32) (v12465 : IVec S16 32) (k0_hw130 : k0_chk130 v5 v12465), ∀ a x, ((![v5, v12465] : Fin 2 → IVec S16 32) a x).toNat < S16x17.size a := fun v5 v12465 k0_hw130 => k0_hw130.1
theorem k0_idx370_inb : ∀ (v5 : IVec S16 32) (v12465 : IVec S16 32) (k0_hw130 : k0_chk130 v5 v12465), ∀ a x, ((![v5, v12465] : Fin 2 → IVec S16 32) a x).toNat < S16x17.size a := fun v5 v12465 k0_hw130 => k0_hw130.2.1
theorem k0_idx386_inb : ∀ (v5 : IVec S16 32) (v12465 : IVec S16 32) (k0_hw130 : k0_chk130 v5 v12465), ∀ a x, ((![v5, v12465] : Fin 2 → IVec S16 32) a x).toNat < S16x17.size a := fun v5 v12465 k0_hw130 => k0_hw130.2.2

def k0_chk131 (v5 : IVec S16 32) (v12466 : IVec S16 32) : Prop :=
  (∀ a x, ((![v5, v12466] : Fin 2 → IVec S16 32) a x).toNat < S16x17.size a) ∧
  (∀ a x, ((![v5, v12466] : Fin 2 → IVec S16 32) a x).toNat < S16x17.size a) ∧
  (∀ a x, ((![v5, v12466] : Fin 2 → IVec S16 32) a x).toNat < S16x17.size a)
theorem k0_idx355_inb : ∀ (v5 : IVec S16 32) (v12466 : IVec S16 32) (k0_hw131 : k0_chk131 v5 v12466), ∀ a x, ((![v5, v12466] : Fin 2 → IVec S16 32) a x).toNat < S16x17.size a := fun v5 v12466 k0_hw131 => k0_hw131.1
theorem k0_idx371_inb : ∀ (v5 : IVec S16 32) (v12466 : IVec S16 32) (k0_hw131 : k0_chk131 v5 v12466), ∀ a x, ((![v5, v12466] : Fin 2 → IVec S16 32) a x).toNat < S16x17.size a := fun v5 v12466 k0_hw131 => k0_hw131.2.1
theorem k0_idx387_inb : ∀ (v5 : IVec S16 32) (v12466 : IVec S16 32) (k0_hw131 : k0_chk131 v5 v12466), ∀ a x, ((![v5, v12466] : Fin 2 → IVec S16 32) a x).toNat < S16x17.size a := fun v5 v12466 k0_hw131 => k0_hw131.2.2

def k0_chk132 (v5 : IVec S16 32) (v12467 : IVec S16 32) : Prop :=
  (∀ a x, ((![v5, v12467] : Fin 2 → IVec S16 32) a x).toNat < S16x17.size a) ∧
  (∀ a x, ((![v5, v12467] : Fin 2 → IVec S16 32) a x).toNat < S16x17.size a) ∧
  (∀ a x, ((![v5, v12467] : Fin 2 → IVec S16 32) a x).toNat < S16x17.size a)
theorem k0_idx356_inb : ∀ (v5 : IVec S16 32) (v12467 : IVec S16 32) (k0_hw132 : k0_chk132 v5 v12467), ∀ a x, ((![v5, v12467] : Fin 2 → IVec S16 32) a x).toNat < S16x17.size a := fun v5 v12467 k0_hw132 => k0_hw132.1
theorem k0_idx372_inb : ∀ (v5 : IVec S16 32) (v12467 : IVec S16 32) (k0_hw132 : k0_chk132 v5 v12467), ∀ a x, ((![v5, v12467] : Fin 2 → IVec S16 32) a x).toNat < S16x17.size a := fun v5 v12467 k0_hw132 => k0_hw132.2.1
theorem k0_idx388_inb : ∀ (v5 : IVec S16 32) (v12467 : IVec S16 32) (k0_hw132 : k0_chk132 v5 v12467), ∀ a x, ((![v5, v12467] : Fin 2 → IVec S16 32) a x).toNat < S16x17.size a := fun v5 v12467 k0_hw132 => k0_hw132.2.2

def k0_chk133 (v5 : IVec S16 32) (v12468 : IVec S16 32) : Prop :=
  (∀ a x, ((![v5, v12468] : Fin 2 → IVec S16 32) a x).toNat < S16x17.size a) ∧
  (∀ a x, ((![v5, v12468] : Fin 2 → IVec S16 32) a x).toNat < S16x17.size a) ∧
  (∀ a x, ((![v5, v12468] : Fin 2 → IVec S16 32) a x).toNat < S16x17.size a)
theorem k0_idx357_inb : ∀ (v5 : IVec S16 32) (v12468 : IVec S16 32) (k0_hw133 : k0_chk133 v5 v12468), ∀ a x, ((![v5, v12468] : Fin 2 → IVec S16 32) a x).toNat < S16x17.size a := fun v5 v12468 k0_hw133 => k0_hw133.1
theorem k0_idx373_inb : ∀ (v5 : IVec S16 32) (v12468 : IVec S16 32) (k0_hw133 : k0_chk133 v5 v12468), ∀ a x, ((![v5, v12468] : Fin 2 → IVec S16 32) a x).toNat < S16x17.size a := fun v5 v12468 k0_hw133 => k0_hw133.2.1
theorem k0_idx389_inb : ∀ (v5 : IVec S16 32) (v12468 : IVec S16 32) (k0_hw133 : k0_chk133 v5 v12468), ∀ a x, ((![v5, v12468] : Fin 2 → IVec S16 32) a x).toNat < S16x17.size a := fun v5 v12468 k0_hw133 => k0_hw133.2.2
def k0_off18 (k0_t1 : Fin k0_t1_loop.trips) : Fin 1 → Nat :=
  let c2_i32_13 : BitVec 32 := 2#32
  let c0_i32_11 : BitVec 32 := 0#32
  let c1_i32 : BitVec 32 := 1#32
  let arg33 : BitVec 32 := Scf.iv c0_i32_11 c1_i32 k0_t1
  let v19 : BitVec 32 := Scalar.muli c2_i32_13 arg33
  let c1_i32_4091 : BitVec 32 := 1#32
  let v9472 : BitVec 32 := Scalar.addi v19 c1_i32_4091
  let c80_i32_5453 : BitVec 32 := 80#32
  let v12582 : BitVec 32 := Scalar.muli v9472 c80_i32_5453
  let c0_i32_5454 : BitVec 32 := 0#32
  let v12583 : BitVec 32 := Scalar.addi v12582 c0_i32_5454
  let v12584 : Index := Scalar.indexCast v12583
  ![v12584.toNat]

def k0_chk134 (v5 : IVec S16 32) (v14011 : IVec S16 32) : Prop :=
  (∀ a x, ((![v5, v14011] : Fin 2 → IVec S16 32) a x).toNat < S16x17.size a) ∧
  (∀ a x, ((![v5, v14011] : Fin 2 → IVec S16 32) a x).toNat < S16x17.size a) ∧
  (∀ a x, ((![v5, v14011] : Fin 2 → IVec S16 32) a x).toNat < S16x17.size a)
theorem k0_idx390_inb : ∀ (v5 : IVec S16 32) (v14011 : IVec S16 32) (k0_hw134 : k0_chk134 v5 v14011), ∀ a x, ((![v5, v14011] : Fin 2 → IVec S16 32) a x).toNat < S16x17.size a := fun v5 v14011 k0_hw134 => k0_hw134.1
theorem k0_idx406_inb : ∀ (v5 : IVec S16 32) (v14011 : IVec S16 32) (k0_hw134 : k0_chk134 v5 v14011), ∀ a x, ((![v5, v14011] : Fin 2 → IVec S16 32) a x).toNat < S16x17.size a := fun v5 v14011 k0_hw134 => k0_hw134.2.1
theorem k0_idx422_inb : ∀ (v5 : IVec S16 32) (v14011 : IVec S16 32) (k0_hw134 : k0_chk134 v5 v14011), ∀ a x, ((![v5, v14011] : Fin 2 → IVec S16 32) a x).toNat < S16x17.size a := fun v5 v14011 k0_hw134 => k0_hw134.2.2

def k0_chk135 (v5 : IVec S16 32) (v14012 : IVec S16 32) : Prop :=
  (∀ a x, ((![v5, v14012] : Fin 2 → IVec S16 32) a x).toNat < S16x17.size a) ∧
  (∀ a x, ((![v5, v14012] : Fin 2 → IVec S16 32) a x).toNat < S16x17.size a) ∧
  (∀ a x, ((![v5, v14012] : Fin 2 → IVec S16 32) a x).toNat < S16x17.size a)
theorem k0_idx391_inb : ∀ (v5 : IVec S16 32) (v14012 : IVec S16 32) (k0_hw135 : k0_chk135 v5 v14012), ∀ a x, ((![v5, v14012] : Fin 2 → IVec S16 32) a x).toNat < S16x17.size a := fun v5 v14012 k0_hw135 => k0_hw135.1
theorem k0_idx407_inb : ∀ (v5 : IVec S16 32) (v14012 : IVec S16 32) (k0_hw135 : k0_chk135 v5 v14012), ∀ a x, ((![v5, v14012] : Fin 2 → IVec S16 32) a x).toNat < S16x17.size a := fun v5 v14012 k0_hw135 => k0_hw135.2.1
theorem k0_idx423_inb : ∀ (v5 : IVec S16 32) (v14012 : IVec S16 32) (k0_hw135 : k0_chk135 v5 v14012), ∀ a x, ((![v5, v14012] : Fin 2 → IVec S16 32) a x).toNat < S16x17.size a := fun v5 v14012 k0_hw135 => k0_hw135.2.2

def k0_chk136 (v5 : IVec S16 32) (v14013 : IVec S16 32) : Prop :=
  (∀ a x, ((![v5, v14013] : Fin 2 → IVec S16 32) a x).toNat < S16x17.size a) ∧
  (∀ a x, ((![v5, v14013] : Fin 2 → IVec S16 32) a x).toNat < S16x17.size a) ∧
  (∀ a x, ((![v5, v14013] : Fin 2 → IVec S16 32) a x).toNat < S16x17.size a)
theorem k0_idx392_inb : ∀ (v5 : IVec S16 32) (v14013 : IVec S16 32) (k0_hw136 : k0_chk136 v5 v14013), ∀ a x, ((![v5, v14013] : Fin 2 → IVec S16 32) a x).toNat < S16x17.size a := fun v5 v14013 k0_hw136 => k0_hw136.1
theorem k0_idx408_inb : ∀ (v5 : IVec S16 32) (v14013 : IVec S16 32) (k0_hw136 : k0_chk136 v5 v14013), ∀ a x, ((![v5, v14013] : Fin 2 → IVec S16 32) a x).toNat < S16x17.size a := fun v5 v14013 k0_hw136 => k0_hw136.2.1
theorem k0_idx424_inb : ∀ (v5 : IVec S16 32) (v14013 : IVec S16 32) (k0_hw136 : k0_chk136 v5 v14013), ∀ a x, ((![v5, v14013] : Fin 2 → IVec S16 32) a x).toNat < S16x17.size a := fun v5 v14013 k0_hw136 => k0_hw136.2.2

def k0_chk137 (v5 : IVec S16 32) (v14014 : IVec S16 32) : Prop :=
  (∀ a x, ((![v5, v14014] : Fin 2 → IVec S16 32) a x).toNat < S16x17.size a) ∧
  (∀ a x, ((![v5, v14014] : Fin 2 → IVec S16 32) a x).toNat < S16x17.size a) ∧
  (∀ a x, ((![v5, v14014] : Fin 2 → IVec S16 32) a x).toNat < S16x17.size a)
theorem k0_idx393_inb : ∀ (v5 : IVec S16 32) (v14014 : IVec S16 32) (k0_hw137 : k0_chk137 v5 v14014), ∀ a x, ((![v5, v14014] : Fin 2 → IVec S16 32) a x).toNat < S16x17.size a := fun v5 v14014 k0_hw137 => k0_hw137.1
theorem k0_idx409_inb : ∀ (v5 : IVec S16 32) (v14014 : IVec S16 32) (k0_hw137 : k0_chk137 v5 v14014), ∀ a x, ((![v5, v14014] : Fin 2 → IVec S16 32) a x).toNat < S16x17.size a := fun v5 v14014 k0_hw137 => k0_hw137.2.1
theorem k0_idx425_inb : ∀ (v5 : IVec S16 32) (v14014 : IVec S16 32) (k0_hw137 : k0_chk137 v5 v14014), ∀ a x, ((![v5, v14014] : Fin 2 → IVec S16 32) a x).toNat < S16x17.size a := fun v5 v14014 k0_hw137 => k0_hw137.2.2

def k0_chk138 (v5 : IVec S16 32) (v14015 : IVec S16 32) : Prop :=
  (∀ a x, ((![v5, v14015] : Fin 2 → IVec S16 32) a x).toNat < S16x17.size a) ∧
  (∀ a x, ((![v5, v14015] : Fin 2 → IVec S16 32) a x).toNat < S16x17.size a) ∧
  (∀ a x, ((![v5, v14015] : Fin 2 → IVec S16 32) a x).toNat < S16x17.size a)
theorem k0_idx394_inb : ∀ (v5 : IVec S16 32) (v14015 : IVec S16 32) (k0_hw138 : k0_chk138 v5 v14015), ∀ a x, ((![v5, v14015] : Fin 2 → IVec S16 32) a x).toNat < S16x17.size a := fun v5 v14015 k0_hw138 => k0_hw138.1
theorem k0_idx410_inb : ∀ (v5 : IVec S16 32) (v14015 : IVec S16 32) (k0_hw138 : k0_chk138 v5 v14015), ∀ a x, ((![v5, v14015] : Fin 2 → IVec S16 32) a x).toNat < S16x17.size a := fun v5 v14015 k0_hw138 => k0_hw138.2.1
theorem k0_idx426_inb : ∀ (v5 : IVec S16 32) (v14015 : IVec S16 32) (k0_hw138 : k0_chk138 v5 v14015), ∀ a x, ((![v5, v14015] : Fin 2 → IVec S16 32) a x).toNat < S16x17.size a := fun v5 v14015 k0_hw138 => k0_hw138.2.2

def k0_chk139 (v5 : IVec S16 32) (v14016 : IVec S16 32) : Prop :=
  (∀ a x, ((![v5, v14016] : Fin 2 → IVec S16 32) a x).toNat < S16x17.size a) ∧
  (∀ a x, ((![v5, v14016] : Fin 2 → IVec S16 32) a x).toNat < S16x17.size a) ∧
  (∀ a x, ((![v5, v14016] : Fin 2 → IVec S16 32) a x).toNat < S16x17.size a)
theorem k0_idx395_inb : ∀ (v5 : IVec S16 32) (v14016 : IVec S16 32) (k0_hw139 : k0_chk139 v5 v14016), ∀ a x, ((![v5, v14016] : Fin 2 → IVec S16 32) a x).toNat < S16x17.size a := fun v5 v14016 k0_hw139 => k0_hw139.1
theorem k0_idx411_inb : ∀ (v5 : IVec S16 32) (v14016 : IVec S16 32) (k0_hw139 : k0_chk139 v5 v14016), ∀ a x, ((![v5, v14016] : Fin 2 → IVec S16 32) a x).toNat < S16x17.size a := fun v5 v14016 k0_hw139 => k0_hw139.2.1
theorem k0_idx427_inb : ∀ (v5 : IVec S16 32) (v14016 : IVec S16 32) (k0_hw139 : k0_chk139 v5 v14016), ∀ a x, ((![v5, v14016] : Fin 2 → IVec S16 32) a x).toNat < S16x17.size a := fun v5 v14016 k0_hw139 => k0_hw139.2.2

def k0_chk140 (v5 : IVec S16 32) (v14017 : IVec S16 32) : Prop :=
  (∀ a x, ((![v5, v14017] : Fin 2 → IVec S16 32) a x).toNat < S16x17.size a) ∧
  (∀ a x, ((![v5, v14017] : Fin 2 → IVec S16 32) a x).toNat < S16x17.size a) ∧
  (∀ a x, ((![v5, v14017] : Fin 2 → IVec S16 32) a x).toNat < S16x17.size a)
theorem k0_idx396_inb : ∀ (v5 : IVec S16 32) (v14017 : IVec S16 32) (k0_hw140 : k0_chk140 v5 v14017), ∀ a x, ((![v5, v14017] : Fin 2 → IVec S16 32) a x).toNat < S16x17.size a := fun v5 v14017 k0_hw140 => k0_hw140.1
theorem k0_idx412_inb : ∀ (v5 : IVec S16 32) (v14017 : IVec S16 32) (k0_hw140 : k0_chk140 v5 v14017), ∀ a x, ((![v5, v14017] : Fin 2 → IVec S16 32) a x).toNat < S16x17.size a := fun v5 v14017 k0_hw140 => k0_hw140.2.1
theorem k0_idx428_inb : ∀ (v5 : IVec S16 32) (v14017 : IVec S16 32) (k0_hw140 : k0_chk140 v5 v14017), ∀ a x, ((![v5, v14017] : Fin 2 → IVec S16 32) a x).toNat < S16x17.size a := fun v5 v14017 k0_hw140 => k0_hw140.2.2

def k0_chk141 (v5 : IVec S16 32) (v14018 : IVec S16 32) : Prop :=
  (∀ a x, ((![v5, v14018] : Fin 2 → IVec S16 32) a x).toNat < S16x17.size a) ∧
  (∀ a x, ((![v5, v14018] : Fin 2 → IVec S16 32) a x).toNat < S16x17.size a) ∧
  (∀ a x, ((![v5, v14018] : Fin 2 → IVec S16 32) a x).toNat < S16x17.size a)
theorem k0_idx397_inb : ∀ (v5 : IVec S16 32) (v14018 : IVec S16 32) (k0_hw141 : k0_chk141 v5 v14018), ∀ a x, ((![v5, v14018] : Fin 2 → IVec S16 32) a x).toNat < S16x17.size a := fun v5 v14018 k0_hw141 => k0_hw141.1
theorem k0_idx413_inb : ∀ (v5 : IVec S16 32) (v14018 : IVec S16 32) (k0_hw141 : k0_chk141 v5 v14018), ∀ a x, ((![v5, v14018] : Fin 2 → IVec S16 32) a x).toNat < S16x17.size a := fun v5 v14018 k0_hw141 => k0_hw141.2.1
theorem k0_idx429_inb : ∀ (v5 : IVec S16 32) (v14018 : IVec S16 32) (k0_hw141 : k0_chk141 v5 v14018), ∀ a x, ((![v5, v14018] : Fin 2 → IVec S16 32) a x).toNat < S16x17.size a := fun v5 v14018 k0_hw141 => k0_hw141.2.2

def k0_chk142 (v5 : IVec S16 32) (v14019 : IVec S16 32) : Prop :=
  (∀ a x, ((![v5, v14019] : Fin 2 → IVec S16 32) a x).toNat < S16x17.size a) ∧
  (∀ a x, ((![v5, v14019] : Fin 2 → IVec S16 32) a x).toNat < S16x17.size a) ∧
  (∀ a x, ((![v5, v14019] : Fin 2 → IVec S16 32) a x).toNat < S16x17.size a)
theorem k0_idx398_inb : ∀ (v5 : IVec S16 32) (v14019 : IVec S16 32) (k0_hw142 : k0_chk142 v5 v14019), ∀ a x, ((![v5, v14019] : Fin 2 → IVec S16 32) a x).toNat < S16x17.size a := fun v5 v14019 k0_hw142 => k0_hw142.1
theorem k0_idx414_inb : ∀ (v5 : IVec S16 32) (v14019 : IVec S16 32) (k0_hw142 : k0_chk142 v5 v14019), ∀ a x, ((![v5, v14019] : Fin 2 → IVec S16 32) a x).toNat < S16x17.size a := fun v5 v14019 k0_hw142 => k0_hw142.2.1
theorem k0_idx430_inb : ∀ (v5 : IVec S16 32) (v14019 : IVec S16 32) (k0_hw142 : k0_chk142 v5 v14019), ∀ a x, ((![v5, v14019] : Fin 2 → IVec S16 32) a x).toNat < S16x17.size a := fun v5 v14019 k0_hw142 => k0_hw142.2.2

def k0_chk143 (v5 : IVec S16 32) (v14020 : IVec S16 32) : Prop :=
  (∀ a x, ((![v5, v14020] : Fin 2 → IVec S16 32) a x).toNat < S16x17.size a) ∧
  (∀ a x, ((![v5, v14020] : Fin 2 → IVec S16 32) a x).toNat < S16x17.size a) ∧
  (∀ a x, ((![v5, v14020] : Fin 2 → IVec S16 32) a x).toNat < S16x17.size a)
theorem k0_idx399_inb : ∀ (v5 : IVec S16 32) (v14020 : IVec S16 32) (k0_hw143 : k0_chk143 v5 v14020), ∀ a x, ((![v5, v14020] : Fin 2 → IVec S16 32) a x).toNat < S16x17.size a := fun v5 v14020 k0_hw143 => k0_hw143.1
theorem k0_idx415_inb : ∀ (v5 : IVec S16 32) (v14020 : IVec S16 32) (k0_hw143 : k0_chk143 v5 v14020), ∀ a x, ((![v5, v14020] : Fin 2 → IVec S16 32) a x).toNat < S16x17.size a := fun v5 v14020 k0_hw143 => k0_hw143.2.1
theorem k0_idx431_inb : ∀ (v5 : IVec S16 32) (v14020 : IVec S16 32) (k0_hw143 : k0_chk143 v5 v14020), ∀ a x, ((![v5, v14020] : Fin 2 → IVec S16 32) a x).toNat < S16x17.size a := fun v5 v14020 k0_hw143 => k0_hw143.2.2

def k0_chk144 (v5 : IVec S16 32) (v14021 : IVec S16 32) : Prop :=
  (∀ a x, ((![v5, v14021] : Fin 2 → IVec S16 32) a x).toNat < S16x17.size a) ∧
  (∀ a x, ((![v5, v14021] : Fin 2 → IVec S16 32) a x).toNat < S16x17.size a) ∧
  (∀ a x, ((![v5, v14021] : Fin 2 → IVec S16 32) a x).toNat < S16x17.size a)
theorem k0_idx400_inb : ∀ (v5 : IVec S16 32) (v14021 : IVec S16 32) (k0_hw144 : k0_chk144 v5 v14021), ∀ a x, ((![v5, v14021] : Fin 2 → IVec S16 32) a x).toNat < S16x17.size a := fun v5 v14021 k0_hw144 => k0_hw144.1
theorem k0_idx416_inb : ∀ (v5 : IVec S16 32) (v14021 : IVec S16 32) (k0_hw144 : k0_chk144 v5 v14021), ∀ a x, ((![v5, v14021] : Fin 2 → IVec S16 32) a x).toNat < S16x17.size a := fun v5 v14021 k0_hw144 => k0_hw144.2.1
theorem k0_idx432_inb : ∀ (v5 : IVec S16 32) (v14021 : IVec S16 32) (k0_hw144 : k0_chk144 v5 v14021), ∀ a x, ((![v5, v14021] : Fin 2 → IVec S16 32) a x).toNat < S16x17.size a := fun v5 v14021 k0_hw144 => k0_hw144.2.2

def k0_chk145 (v5 : IVec S16 32) (v14022 : IVec S16 32) : Prop :=
  (∀ a x, ((![v5, v14022] : Fin 2 → IVec S16 32) a x).toNat < S16x17.size a) ∧
  (∀ a x, ((![v5, v14022] : Fin 2 → IVec S16 32) a x).toNat < S16x17.size a) ∧
  (∀ a x, ((![v5, v14022] : Fin 2 → IVec S16 32) a x).toNat < S16x17.size a)
theorem k0_idx401_inb : ∀ (v5 : IVec S16 32) (v14022 : IVec S16 32) (k0_hw145 : k0_chk145 v5 v14022), ∀ a x, ((![v5, v14022] : Fin 2 → IVec S16 32) a x).toNat < S16x17.size a := fun v5 v14022 k0_hw145 => k0_hw145.1
theorem k0_idx417_inb : ∀ (v5 : IVec S16 32) (v14022 : IVec S16 32) (k0_hw145 : k0_chk145 v5 v14022), ∀ a x, ((![v5, v14022] : Fin 2 → IVec S16 32) a x).toNat < S16x17.size a := fun v5 v14022 k0_hw145 => k0_hw145.2.1
theorem k0_idx433_inb : ∀ (v5 : IVec S16 32) (v14022 : IVec S16 32) (k0_hw145 : k0_chk145 v5 v14022), ∀ a x, ((![v5, v14022] : Fin 2 → IVec S16 32) a x).toNat < S16x17.size a := fun v5 v14022 k0_hw145 => k0_hw145.2.2

def k0_chk146 (v5 : IVec S16 32) (v14023 : IVec S16 32) : Prop :=
  (∀ a x, ((![v5, v14023] : Fin 2 → IVec S16 32) a x).toNat < S16x17.size a) ∧
  (∀ a x, ((![v5, v14023] : Fin 2 → IVec S16 32) a x).toNat < S16x17.size a) ∧
  (∀ a x, ((![v5, v14023] : Fin 2 → IVec S16 32) a x).toNat < S16x17.size a)
theorem k0_idx402_inb : ∀ (v5 : IVec S16 32) (v14023 : IVec S16 32) (k0_hw146 : k0_chk146 v5 v14023), ∀ a x, ((![v5, v14023] : Fin 2 → IVec S16 32) a x).toNat < S16x17.size a := fun v5 v14023 k0_hw146 => k0_hw146.1
theorem k0_idx418_inb : ∀ (v5 : IVec S16 32) (v14023 : IVec S16 32) (k0_hw146 : k0_chk146 v5 v14023), ∀ a x, ((![v5, v14023] : Fin 2 → IVec S16 32) a x).toNat < S16x17.size a := fun v5 v14023 k0_hw146 => k0_hw146.2.1
theorem k0_idx434_inb : ∀ (v5 : IVec S16 32) (v14023 : IVec S16 32) (k0_hw146 : k0_chk146 v5 v14023), ∀ a x, ((![v5, v14023] : Fin 2 → IVec S16 32) a x).toNat < S16x17.size a := fun v5 v14023 k0_hw146 => k0_hw146.2.2

def k0_chk147 (v5 : IVec S16 32) (v14024 : IVec S16 32) : Prop :=
  (∀ a x, ((![v5, v14024] : Fin 2 → IVec S16 32) a x).toNat < S16x17.size a) ∧
  (∀ a x, ((![v5, v14024] : Fin 2 → IVec S16 32) a x).toNat < S16x17.size a) ∧
  (∀ a x, ((![v5, v14024] : Fin 2 → IVec S16 32) a x).toNat < S16x17.size a)
theorem k0_idx403_inb : ∀ (v5 : IVec S16 32) (v14024 : IVec S16 32) (k0_hw147 : k0_chk147 v5 v14024), ∀ a x, ((![v5, v14024] : Fin 2 → IVec S16 32) a x).toNat < S16x17.size a := fun v5 v14024 k0_hw147 => k0_hw147.1
theorem k0_idx419_inb : ∀ (v5 : IVec S16 32) (v14024 : IVec S16 32) (k0_hw147 : k0_chk147 v5 v14024), ∀ a x, ((![v5, v14024] : Fin 2 → IVec S16 32) a x).toNat < S16x17.size a := fun v5 v14024 k0_hw147 => k0_hw147.2.1
theorem k0_idx435_inb : ∀ (v5 : IVec S16 32) (v14024 : IVec S16 32) (k0_hw147 : k0_chk147 v5 v14024), ∀ a x, ((![v5, v14024] : Fin 2 → IVec S16 32) a x).toNat < S16x17.size a := fun v5 v14024 k0_hw147 => k0_hw147.2.2

def k0_chk148 (v5 : IVec S16 32) (v14025 : IVec S16 32) : Prop :=
  (∀ a x, ((![v5, v14025] : Fin 2 → IVec S16 32) a x).toNat < S16x17.size a) ∧
  (∀ a x, ((![v5, v14025] : Fin 2 → IVec S16 32) a x).toNat < S16x17.size a) ∧
  (∀ a x, ((![v5, v14025] : Fin 2 → IVec S16 32) a x).toNat < S16x17.size a)
theorem k0_idx404_inb : ∀ (v5 : IVec S16 32) (v14025 : IVec S16 32) (k0_hw148 : k0_chk148 v5 v14025), ∀ a x, ((![v5, v14025] : Fin 2 → IVec S16 32) a x).toNat < S16x17.size a := fun v5 v14025 k0_hw148 => k0_hw148.1
theorem k0_idx420_inb : ∀ (v5 : IVec S16 32) (v14025 : IVec S16 32) (k0_hw148 : k0_chk148 v5 v14025), ∀ a x, ((![v5, v14025] : Fin 2 → IVec S16 32) a x).toNat < S16x17.size a := fun v5 v14025 k0_hw148 => k0_hw148.2.1
theorem k0_idx436_inb : ∀ (v5 : IVec S16 32) (v14025 : IVec S16 32) (k0_hw148 : k0_chk148 v5 v14025), ∀ a x, ((![v5, v14025] : Fin 2 → IVec S16 32) a x).toNat < S16x17.size a := fun v5 v14025 k0_hw148 => k0_hw148.2.2

def k0_chk149 (v5 : IVec S16 32) (v14026 : IVec S16 32) : Prop :=
  (∀ a x, ((![v5, v14026] : Fin 2 → IVec S16 32) a x).toNat < S16x17.size a) ∧
  (∀ a x, ((![v5, v14026] : Fin 2 → IVec S16 32) a x).toNat < S16x17.size a) ∧
  (∀ a x, ((![v5, v14026] : Fin 2 → IVec S16 32) a x).toNat < S16x17.size a)
theorem k0_idx405_inb : ∀ (v5 : IVec S16 32) (v14026 : IVec S16 32) (k0_hw149 : k0_chk149 v5 v14026), ∀ a x, ((![v5, v14026] : Fin 2 → IVec S16 32) a x).toNat < S16x17.size a := fun v5 v14026 k0_hw149 => k0_hw149.1
theorem k0_idx421_inb : ∀ (v5 : IVec S16 32) (v14026 : IVec S16 32) (k0_hw149 : k0_chk149 v5 v14026), ∀ a x, ((![v5, v14026] : Fin 2 → IVec S16 32) a x).toNat < S16x17.size a := fun v5 v14026 k0_hw149 => k0_hw149.2.1
theorem k0_idx437_inb : ∀ (v5 : IVec S16 32) (v14026 : IVec S16 32) (k0_hw149 : k0_chk149 v5 v14026), ∀ a x, ((![v5, v14026] : Fin 2 → IVec S16 32) a x).toNat < S16x17.size a := fun v5 v14026 k0_hw149 => k0_hw149.2.2
def k0_off19 (k0_t1 : Fin k0_t1_loop.trips) : Fin 1 → Nat :=
  let c2_i32_13 : BitVec 32 := 2#32
  let c0_i32_11 : BitVec 32 := 0#32
  let c1_i32 : BitVec 32 := 1#32
  let arg33 : BitVec 32 := Scf.iv c0_i32_11 c1_i32 k0_t1
  let v19 : BitVec 32 := Scalar.muli c2_i32_13 arg33
  let c1_i32_4091 : BitVec 32 := 1#32
  let v9472 : BitVec 32 := Scalar.addi v19 c1_i32_4091
  let c80_i32_6136 : BitVec 32 := 80#32
  let v14140 : BitVec 32 := Scalar.muli v9472 c80_i32_6136
  let c16_i32_6137 : BitVec 32 := 16#32
  let v14141 : BitVec 32 := Scalar.addi v14140 c16_i32_6137
  let v14142 : Index := Scalar.indexCast v14141
  ![v14142.toNat]

def k0_chk150 (v5 : IVec S16 32) (v15569 : IVec S16 32) : Prop :=
  (∀ a x, ((![v5, v15569] : Fin 2 → IVec S16 32) a x).toNat < S16x17.size a) ∧
  (∀ a x, ((![v5, v15569] : Fin 2 → IVec S16 32) a x).toNat < S16x17.size a) ∧
  (∀ a x, ((![v5, v15569] : Fin 2 → IVec S16 32) a x).toNat < S16x17.size a)
theorem k0_idx438_inb : ∀ (v5 : IVec S16 32) (v15569 : IVec S16 32) (k0_hw150 : k0_chk150 v5 v15569), ∀ a x, ((![v5, v15569] : Fin 2 → IVec S16 32) a x).toNat < S16x17.size a := fun v5 v15569 k0_hw150 => k0_hw150.1
theorem k0_idx454_inb : ∀ (v5 : IVec S16 32) (v15569 : IVec S16 32) (k0_hw150 : k0_chk150 v5 v15569), ∀ a x, ((![v5, v15569] : Fin 2 → IVec S16 32) a x).toNat < S16x17.size a := fun v5 v15569 k0_hw150 => k0_hw150.2.1
theorem k0_idx470_inb : ∀ (v5 : IVec S16 32) (v15569 : IVec S16 32) (k0_hw150 : k0_chk150 v5 v15569), ∀ a x, ((![v5, v15569] : Fin 2 → IVec S16 32) a x).toNat < S16x17.size a := fun v5 v15569 k0_hw150 => k0_hw150.2.2

def k0_chk151 (v5 : IVec S16 32) (v15570 : IVec S16 32) : Prop :=
  (∀ a x, ((![v5, v15570] : Fin 2 → IVec S16 32) a x).toNat < S16x17.size a) ∧
  (∀ a x, ((![v5, v15570] : Fin 2 → IVec S16 32) a x).toNat < S16x17.size a) ∧
  (∀ a x, ((![v5, v15570] : Fin 2 → IVec S16 32) a x).toNat < S16x17.size a)
theorem k0_idx439_inb : ∀ (v5 : IVec S16 32) (v15570 : IVec S16 32) (k0_hw151 : k0_chk151 v5 v15570), ∀ a x, ((![v5, v15570] : Fin 2 → IVec S16 32) a x).toNat < S16x17.size a := fun v5 v15570 k0_hw151 => k0_hw151.1
theorem k0_idx455_inb : ∀ (v5 : IVec S16 32) (v15570 : IVec S16 32) (k0_hw151 : k0_chk151 v5 v15570), ∀ a x, ((![v5, v15570] : Fin 2 → IVec S16 32) a x).toNat < S16x17.size a := fun v5 v15570 k0_hw151 => k0_hw151.2.1
theorem k0_idx471_inb : ∀ (v5 : IVec S16 32) (v15570 : IVec S16 32) (k0_hw151 : k0_chk151 v5 v15570), ∀ a x, ((![v5, v15570] : Fin 2 → IVec S16 32) a x).toNat < S16x17.size a := fun v5 v15570 k0_hw151 => k0_hw151.2.2

def k0_chk152 (v5 : IVec S16 32) (v15571 : IVec S16 32) : Prop :=
  (∀ a x, ((![v5, v15571] : Fin 2 → IVec S16 32) a x).toNat < S16x17.size a) ∧
  (∀ a x, ((![v5, v15571] : Fin 2 → IVec S16 32) a x).toNat < S16x17.size a) ∧
  (∀ a x, ((![v5, v15571] : Fin 2 → IVec S16 32) a x).toNat < S16x17.size a)
theorem k0_idx440_inb : ∀ (v5 : IVec S16 32) (v15571 : IVec S16 32) (k0_hw152 : k0_chk152 v5 v15571), ∀ a x, ((![v5, v15571] : Fin 2 → IVec S16 32) a x).toNat < S16x17.size a := fun v5 v15571 k0_hw152 => k0_hw152.1
theorem k0_idx456_inb : ∀ (v5 : IVec S16 32) (v15571 : IVec S16 32) (k0_hw152 : k0_chk152 v5 v15571), ∀ a x, ((![v5, v15571] : Fin 2 → IVec S16 32) a x).toNat < S16x17.size a := fun v5 v15571 k0_hw152 => k0_hw152.2.1
theorem k0_idx472_inb : ∀ (v5 : IVec S16 32) (v15571 : IVec S16 32) (k0_hw152 : k0_chk152 v5 v15571), ∀ a x, ((![v5, v15571] : Fin 2 → IVec S16 32) a x).toNat < S16x17.size a := fun v5 v15571 k0_hw152 => k0_hw152.2.2

def k0_chk153 (v5 : IVec S16 32) (v15572 : IVec S16 32) : Prop :=
  (∀ a x, ((![v5, v15572] : Fin 2 → IVec S16 32) a x).toNat < S16x17.size a) ∧
  (∀ a x, ((![v5, v15572] : Fin 2 → IVec S16 32) a x).toNat < S16x17.size a) ∧
  (∀ a x, ((![v5, v15572] : Fin 2 → IVec S16 32) a x).toNat < S16x17.size a)
theorem k0_idx441_inb : ∀ (v5 : IVec S16 32) (v15572 : IVec S16 32) (k0_hw153 : k0_chk153 v5 v15572), ∀ a x, ((![v5, v15572] : Fin 2 → IVec S16 32) a x).toNat < S16x17.size a := fun v5 v15572 k0_hw153 => k0_hw153.1
theorem k0_idx457_inb : ∀ (v5 : IVec S16 32) (v15572 : IVec S16 32) (k0_hw153 : k0_chk153 v5 v15572), ∀ a x, ((![v5, v15572] : Fin 2 → IVec S16 32) a x).toNat < S16x17.size a := fun v5 v15572 k0_hw153 => k0_hw153.2.1
theorem k0_idx473_inb : ∀ (v5 : IVec S16 32) (v15572 : IVec S16 32) (k0_hw153 : k0_chk153 v5 v15572), ∀ a x, ((![v5, v15572] : Fin 2 → IVec S16 32) a x).toNat < S16x17.size a := fun v5 v15572 k0_hw153 => k0_hw153.2.2

def k0_chk154 (v5 : IVec S16 32) (v15573 : IVec S16 32) : Prop :=
  (∀ a x, ((![v5, v15573] : Fin 2 → IVec S16 32) a x).toNat < S16x17.size a) ∧
  (∀ a x, ((![v5, v15573] : Fin 2 → IVec S16 32) a x).toNat < S16x17.size a) ∧
  (∀ a x, ((![v5, v15573] : Fin 2 → IVec S16 32) a x).toNat < S16x17.size a)
theorem k0_idx442_inb : ∀ (v5 : IVec S16 32) (v15573 : IVec S16 32) (k0_hw154 : k0_chk154 v5 v15573), ∀ a x, ((![v5, v15573] : Fin 2 → IVec S16 32) a x).toNat < S16x17.size a := fun v5 v15573 k0_hw154 => k0_hw154.1
theorem k0_idx458_inb : ∀ (v5 : IVec S16 32) (v15573 : IVec S16 32) (k0_hw154 : k0_chk154 v5 v15573), ∀ a x, ((![v5, v15573] : Fin 2 → IVec S16 32) a x).toNat < S16x17.size a := fun v5 v15573 k0_hw154 => k0_hw154.2.1
theorem k0_idx474_inb : ∀ (v5 : IVec S16 32) (v15573 : IVec S16 32) (k0_hw154 : k0_chk154 v5 v15573), ∀ a x, ((![v5, v15573] : Fin 2 → IVec S16 32) a x).toNat < S16x17.size a := fun v5 v15573 k0_hw154 => k0_hw154.2.2

def k0_chk155 (v5 : IVec S16 32) (v15574 : IVec S16 32) : Prop :=
  (∀ a x, ((![v5, v15574] : Fin 2 → IVec S16 32) a x).toNat < S16x17.size a) ∧
  (∀ a x, ((![v5, v15574] : Fin 2 → IVec S16 32) a x).toNat < S16x17.size a) ∧
  (∀ a x, ((![v5, v15574] : Fin 2 → IVec S16 32) a x).toNat < S16x17.size a)
theorem k0_idx443_inb : ∀ (v5 : IVec S16 32) (v15574 : IVec S16 32) (k0_hw155 : k0_chk155 v5 v15574), ∀ a x, ((![v5, v15574] : Fin 2 → IVec S16 32) a x).toNat < S16x17.size a := fun v5 v15574 k0_hw155 => k0_hw155.1
theorem k0_idx459_inb : ∀ (v5 : IVec S16 32) (v15574 : IVec S16 32) (k0_hw155 : k0_chk155 v5 v15574), ∀ a x, ((![v5, v15574] : Fin 2 → IVec S16 32) a x).toNat < S16x17.size a := fun v5 v15574 k0_hw155 => k0_hw155.2.1
theorem k0_idx475_inb : ∀ (v5 : IVec S16 32) (v15574 : IVec S16 32) (k0_hw155 : k0_chk155 v5 v15574), ∀ a x, ((![v5, v15574] : Fin 2 → IVec S16 32) a x).toNat < S16x17.size a := fun v5 v15574 k0_hw155 => k0_hw155.2.2

def k0_chk156 (v5 : IVec S16 32) (v15575 : IVec S16 32) : Prop :=
  (∀ a x, ((![v5, v15575] : Fin 2 → IVec S16 32) a x).toNat < S16x17.size a) ∧
  (∀ a x, ((![v5, v15575] : Fin 2 → IVec S16 32) a x).toNat < S16x17.size a) ∧
  (∀ a x, ((![v5, v15575] : Fin 2 → IVec S16 32) a x).toNat < S16x17.size a)
theorem k0_idx444_inb : ∀ (v5 : IVec S16 32) (v15575 : IVec S16 32) (k0_hw156 : k0_chk156 v5 v15575), ∀ a x, ((![v5, v15575] : Fin 2 → IVec S16 32) a x).toNat < S16x17.size a := fun v5 v15575 k0_hw156 => k0_hw156.1
theorem k0_idx460_inb : ∀ (v5 : IVec S16 32) (v15575 : IVec S16 32) (k0_hw156 : k0_chk156 v5 v15575), ∀ a x, ((![v5, v15575] : Fin 2 → IVec S16 32) a x).toNat < S16x17.size a := fun v5 v15575 k0_hw156 => k0_hw156.2.1
theorem k0_idx476_inb : ∀ (v5 : IVec S16 32) (v15575 : IVec S16 32) (k0_hw156 : k0_chk156 v5 v15575), ∀ a x, ((![v5, v15575] : Fin 2 → IVec S16 32) a x).toNat < S16x17.size a := fun v5 v15575 k0_hw156 => k0_hw156.2.2

def k0_chk157 (v5 : IVec S16 32) (v15576 : IVec S16 32) : Prop :=
  (∀ a x, ((![v5, v15576] : Fin 2 → IVec S16 32) a x).toNat < S16x17.size a) ∧
  (∀ a x, ((![v5, v15576] : Fin 2 → IVec S16 32) a x).toNat < S16x17.size a) ∧
  (∀ a x, ((![v5, v15576] : Fin 2 → IVec S16 32) a x).toNat < S16x17.size a)
theorem k0_idx445_inb : ∀ (v5 : IVec S16 32) (v15576 : IVec S16 32) (k0_hw157 : k0_chk157 v5 v15576), ∀ a x, ((![v5, v15576] : Fin 2 → IVec S16 32) a x).toNat < S16x17.size a := fun v5 v15576 k0_hw157 => k0_hw157.1
theorem k0_idx461_inb : ∀ (v5 : IVec S16 32) (v15576 : IVec S16 32) (k0_hw157 : k0_chk157 v5 v15576), ∀ a x, ((![v5, v15576] : Fin 2 → IVec S16 32) a x).toNat < S16x17.size a := fun v5 v15576 k0_hw157 => k0_hw157.2.1
theorem k0_idx477_inb : ∀ (v5 : IVec S16 32) (v15576 : IVec S16 32) (k0_hw157 : k0_chk157 v5 v15576), ∀ a x, ((![v5, v15576] : Fin 2 → IVec S16 32) a x).toNat < S16x17.size a := fun v5 v15576 k0_hw157 => k0_hw157.2.2

def k0_chk158 (v5 : IVec S16 32) (v15577 : IVec S16 32) : Prop :=
  (∀ a x, ((![v5, v15577] : Fin 2 → IVec S16 32) a x).toNat < S16x17.size a) ∧
  (∀ a x, ((![v5, v15577] : Fin 2 → IVec S16 32) a x).toNat < S16x17.size a) ∧
  (∀ a x, ((![v5, v15577] : Fin 2 → IVec S16 32) a x).toNat < S16x17.size a)
theorem k0_idx446_inb : ∀ (v5 : IVec S16 32) (v15577 : IVec S16 32) (k0_hw158 : k0_chk158 v5 v15577), ∀ a x, ((![v5, v15577] : Fin 2 → IVec S16 32) a x).toNat < S16x17.size a := fun v5 v15577 k0_hw158 => k0_hw158.1
theorem k0_idx462_inb : ∀ (v5 : IVec S16 32) (v15577 : IVec S16 32) (k0_hw158 : k0_chk158 v5 v15577), ∀ a x, ((![v5, v15577] : Fin 2 → IVec S16 32) a x).toNat < S16x17.size a := fun v5 v15577 k0_hw158 => k0_hw158.2.1
theorem k0_idx478_inb : ∀ (v5 : IVec S16 32) (v15577 : IVec S16 32) (k0_hw158 : k0_chk158 v5 v15577), ∀ a x, ((![v5, v15577] : Fin 2 → IVec S16 32) a x).toNat < S16x17.size a := fun v5 v15577 k0_hw158 => k0_hw158.2.2

def k0_chk159 (v5 : IVec S16 32) (v15578 : IVec S16 32) : Prop :=
  (∀ a x, ((![v5, v15578] : Fin 2 → IVec S16 32) a x).toNat < S16x17.size a) ∧
  (∀ a x, ((![v5, v15578] : Fin 2 → IVec S16 32) a x).toNat < S16x17.size a) ∧
  (∀ a x, ((![v5, v15578] : Fin 2 → IVec S16 32) a x).toNat < S16x17.size a)
theorem k0_idx447_inb : ∀ (v5 : IVec S16 32) (v15578 : IVec S16 32) (k0_hw159 : k0_chk159 v5 v15578), ∀ a x, ((![v5, v15578] : Fin 2 → IVec S16 32) a x).toNat < S16x17.size a := fun v5 v15578 k0_hw159 => k0_hw159.1
theorem k0_idx463_inb : ∀ (v5 : IVec S16 32) (v15578 : IVec S16 32) (k0_hw159 : k0_chk159 v5 v15578), ∀ a x, ((![v5, v15578] : Fin 2 → IVec S16 32) a x).toNat < S16x17.size a := fun v5 v15578 k0_hw159 => k0_hw159.2.1
theorem k0_idx479_inb : ∀ (v5 : IVec S16 32) (v15578 : IVec S16 32) (k0_hw159 : k0_chk159 v5 v15578), ∀ a x, ((![v5, v15578] : Fin 2 → IVec S16 32) a x).toNat < S16x17.size a := fun v5 v15578 k0_hw159 => k0_hw159.2.2

def k0_chk160 (v5 : IVec S16 32) (v15579 : IVec S16 32) : Prop :=
  (∀ a x, ((![v5, v15579] : Fin 2 → IVec S16 32) a x).toNat < S16x17.size a) ∧
  (∀ a x, ((![v5, v15579] : Fin 2 → IVec S16 32) a x).toNat < S16x17.size a) ∧
  (∀ a x, ((![v5, v15579] : Fin 2 → IVec S16 32) a x).toNat < S16x17.size a)
theorem k0_idx448_inb : ∀ (v5 : IVec S16 32) (v15579 : IVec S16 32) (k0_hw160 : k0_chk160 v5 v15579), ∀ a x, ((![v5, v15579] : Fin 2 → IVec S16 32) a x).toNat < S16x17.size a := fun v5 v15579 k0_hw160 => k0_hw160.1
theorem k0_idx464_inb : ∀ (v5 : IVec S16 32) (v15579 : IVec S16 32) (k0_hw160 : k0_chk160 v5 v15579), ∀ a x, ((![v5, v15579] : Fin 2 → IVec S16 32) a x).toNat < S16x17.size a := fun v5 v15579 k0_hw160 => k0_hw160.2.1
theorem k0_idx480_inb : ∀ (v5 : IVec S16 32) (v15579 : IVec S16 32) (k0_hw160 : k0_chk160 v5 v15579), ∀ a x, ((![v5, v15579] : Fin 2 → IVec S16 32) a x).toNat < S16x17.size a := fun v5 v15579 k0_hw160 => k0_hw160.2.2

def k0_chk161 (v5 : IVec S16 32) (v15580 : IVec S16 32) : Prop :=
  (∀ a x, ((![v5, v15580] : Fin 2 → IVec S16 32) a x).toNat < S16x17.size a) ∧
  (∀ a x, ((![v5, v15580] : Fin 2 → IVec S16 32) a x).toNat < S16x17.size a) ∧
  (∀ a x, ((![v5, v15580] : Fin 2 → IVec S16 32) a x).toNat < S16x17.size a)
theorem k0_idx449_inb : ∀ (v5 : IVec S16 32) (v15580 : IVec S16 32) (k0_hw161 : k0_chk161 v5 v15580), ∀ a x, ((![v5, v15580] : Fin 2 → IVec S16 32) a x).toNat < S16x17.size a := fun v5 v15580 k0_hw161 => k0_hw161.1
theorem k0_idx465_inb : ∀ (v5 : IVec S16 32) (v15580 : IVec S16 32) (k0_hw161 : k0_chk161 v5 v15580), ∀ a x, ((![v5, v15580] : Fin 2 → IVec S16 32) a x).toNat < S16x17.size a := fun v5 v15580 k0_hw161 => k0_hw161.2.1
theorem k0_idx481_inb : ∀ (v5 : IVec S16 32) (v15580 : IVec S16 32) (k0_hw161 : k0_chk161 v5 v15580), ∀ a x, ((![v5, v15580] : Fin 2 → IVec S16 32) a x).toNat < S16x17.size a := fun v5 v15580 k0_hw161 => k0_hw161.2.2

def k0_chk162 (v5 : IVec S16 32) (v15581 : IVec S16 32) : Prop :=
  (∀ a x, ((![v5, v15581] : Fin 2 → IVec S16 32) a x).toNat < S16x17.size a) ∧
  (∀ a x, ((![v5, v15581] : Fin 2 → IVec S16 32) a x).toNat < S16x17.size a) ∧
  (∀ a x, ((![v5, v15581] : Fin 2 → IVec S16 32) a x).toNat < S16x17.size a)
theorem k0_idx450_inb : ∀ (v5 : IVec S16 32) (v15581 : IVec S16 32) (k0_hw162 : k0_chk162 v5 v15581), ∀ a x, ((![v5, v15581] : Fin 2 → IVec S16 32) a x).toNat < S16x17.size a := fun v5 v15581 k0_hw162 => k0_hw162.1
theorem k0_idx466_inb : ∀ (v5 : IVec S16 32) (v15581 : IVec S16 32) (k0_hw162 : k0_chk162 v5 v15581), ∀ a x, ((![v5, v15581] : Fin 2 → IVec S16 32) a x).toNat < S16x17.size a := fun v5 v15581 k0_hw162 => k0_hw162.2.1
theorem k0_idx482_inb : ∀ (v5 : IVec S16 32) (v15581 : IVec S16 32) (k0_hw162 : k0_chk162 v5 v15581), ∀ a x, ((![v5, v15581] : Fin 2 → IVec S16 32) a x).toNat < S16x17.size a := fun v5 v15581 k0_hw162 => k0_hw162.2.2

def k0_chk163 (v5 : IVec S16 32) (v15582 : IVec S16 32) : Prop :=
  (∀ a x, ((![v5, v15582] : Fin 2 → IVec S16 32) a x).toNat < S16x17.size a) ∧
  (∀ a x, ((![v5, v15582] : Fin 2 → IVec S16 32) a x).toNat < S16x17.size a) ∧
  (∀ a x, ((![v5, v15582] : Fin 2 → IVec S16 32) a x).toNat < S16x17.size a)
theorem k0_idx451_inb : ∀ (v5 : IVec S16 32) (v15582 : IVec S16 32) (k0_hw163 : k0_chk163 v5 v15582), ∀ a x, ((![v5, v15582] : Fin 2 → IVec S16 32) a x).toNat < S16x17.size a := fun v5 v15582 k0_hw163 => k0_hw163.1
theorem k0_idx467_inb : ∀ (v5 : IVec S16 32) (v15582 : IVec S16 32) (k0_hw163 : k0_chk163 v5 v15582), ∀ a x, ((![v5, v15582] : Fin 2 → IVec S16 32) a x).toNat < S16x17.size a := fun v5 v15582 k0_hw163 => k0_hw163.2.1
theorem k0_idx483_inb : ∀ (v5 : IVec S16 32) (v15582 : IVec S16 32) (k0_hw163 : k0_chk163 v5 v15582), ∀ a x, ((![v5, v15582] : Fin 2 → IVec S16 32) a x).toNat < S16x17.size a := fun v5 v15582 k0_hw163 => k0_hw163.2.2

def k0_chk164 (v5 : IVec S16 32) (v15583 : IVec S16 32) : Prop :=
  (∀ a x, ((![v5, v15583] : Fin 2 → IVec S16 32) a x).toNat < S16x17.size a) ∧
  (∀ a x, ((![v5, v15583] : Fin 2 → IVec S16 32) a x).toNat < S16x17.size a) ∧
  (∀ a x, ((![v5, v15583] : Fin 2 → IVec S16 32) a x).toNat < S16x17.size a)
theorem k0_idx452_inb : ∀ (v5 : IVec S16 32) (v15583 : IVec S16 32) (k0_hw164 : k0_chk164 v5 v15583), ∀ a x, ((![v5, v15583] : Fin 2 → IVec S16 32) a x).toNat < S16x17.size a := fun v5 v15583 k0_hw164 => k0_hw164.1
theorem k0_idx468_inb : ∀ (v5 : IVec S16 32) (v15583 : IVec S16 32) (k0_hw164 : k0_chk164 v5 v15583), ∀ a x, ((![v5, v15583] : Fin 2 → IVec S16 32) a x).toNat < S16x17.size a := fun v5 v15583 k0_hw164 => k0_hw164.2.1
theorem k0_idx484_inb : ∀ (v5 : IVec S16 32) (v15583 : IVec S16 32) (k0_hw164 : k0_chk164 v5 v15583), ∀ a x, ((![v5, v15583] : Fin 2 → IVec S16 32) a x).toNat < S16x17.size a := fun v5 v15583 k0_hw164 => k0_hw164.2.2

def k0_chk165 (v5 : IVec S16 32) (v15584 : IVec S16 32) : Prop :=
  (∀ a x, ((![v5, v15584] : Fin 2 → IVec S16 32) a x).toNat < S16x17.size a) ∧
  (∀ a x, ((![v5, v15584] : Fin 2 → IVec S16 32) a x).toNat < S16x17.size a) ∧
  (∀ a x, ((![v5, v15584] : Fin 2 → IVec S16 32) a x).toNat < S16x17.size a)
theorem k0_idx453_inb : ∀ (v5 : IVec S16 32) (v15584 : IVec S16 32) (k0_hw165 : k0_chk165 v5 v15584), ∀ a x, ((![v5, v15584] : Fin 2 → IVec S16 32) a x).toNat < S16x17.size a := fun v5 v15584 k0_hw165 => k0_hw165.1
theorem k0_idx469_inb : ∀ (v5 : IVec S16 32) (v15584 : IVec S16 32) (k0_hw165 : k0_chk165 v5 v15584), ∀ a x, ((![v5, v15584] : Fin 2 → IVec S16 32) a x).toNat < S16x17.size a := fun v5 v15584 k0_hw165 => k0_hw165.2.1
theorem k0_idx485_inb : ∀ (v5 : IVec S16 32) (v15584 : IVec S16 32) (k0_hw165 : k0_chk165 v5 v15584), ∀ a x, ((![v5, v15584] : Fin 2 → IVec S16 32) a x).toNat < S16x17.size a := fun v5 v15584 k0_hw165 => k0_hw165.2.2
def k0_off20 (k0_t1 : Fin k0_t1_loop.trips) : Fin 1 → Nat :=
  let c2_i32_13 : BitVec 32 := 2#32
  let c0_i32_11 : BitVec 32 := 0#32
  let c1_i32 : BitVec 32 := 1#32
  let arg33 : BitVec 32 := Scf.iv c0_i32_11 c1_i32 k0_t1
  let v19 : BitVec 32 := Scalar.muli c2_i32_13 arg33
  let c1_i32_4091 : BitVec 32 := 1#32
  let v9472 : BitVec 32 := Scalar.addi v19 c1_i32_4091
  let c80_i32_6819 : BitVec 32 := 80#32
  let v15698 : BitVec 32 := Scalar.muli v9472 c80_i32_6819
  let c32_i32_6820 : BitVec 32 := 32#32
  let v15699 : BitVec 32 := Scalar.addi v15698 c32_i32_6820
  let v15700 : Index := Scalar.indexCast v15699
  ![v15700.toNat]

def k0_chk166 (v5 : IVec S16 32) (v17127 : IVec S16 32) : Prop :=
  (∀ a x, ((![v5, v17127] : Fin 2 → IVec S16 32) a x).toNat < S16x17.size a) ∧
  (∀ a x, ((![v5, v17127] : Fin 2 → IVec S16 32) a x).toNat < S16x17.size a) ∧
  (∀ a x, ((![v5, v17127] : Fin 2 → IVec S16 32) a x).toNat < S16x17.size a)
theorem k0_idx486_inb : ∀ (v5 : IVec S16 32) (v17127 : IVec S16 32) (k0_hw166 : k0_chk166 v5 v17127), ∀ a x, ((![v5, v17127] : Fin 2 → IVec S16 32) a x).toNat < S16x17.size a := fun v5 v17127 k0_hw166 => k0_hw166.1
theorem k0_idx502_inb : ∀ (v5 : IVec S16 32) (v17127 : IVec S16 32) (k0_hw166 : k0_chk166 v5 v17127), ∀ a x, ((![v5, v17127] : Fin 2 → IVec S16 32) a x).toNat < S16x17.size a := fun v5 v17127 k0_hw166 => k0_hw166.2.1
theorem k0_idx518_inb : ∀ (v5 : IVec S16 32) (v17127 : IVec S16 32) (k0_hw166 : k0_chk166 v5 v17127), ∀ a x, ((![v5, v17127] : Fin 2 → IVec S16 32) a x).toNat < S16x17.size a := fun v5 v17127 k0_hw166 => k0_hw166.2.2

def k0_chk167 (v5 : IVec S16 32) (v17128 : IVec S16 32) : Prop :=
  (∀ a x, ((![v5, v17128] : Fin 2 → IVec S16 32) a x).toNat < S16x17.size a) ∧
  (∀ a x, ((![v5, v17128] : Fin 2 → IVec S16 32) a x).toNat < S16x17.size a) ∧
  (∀ a x, ((![v5, v17128] : Fin 2 → IVec S16 32) a x).toNat < S16x17.size a)
theorem k0_idx487_inb : ∀ (v5 : IVec S16 32) (v17128 : IVec S16 32) (k0_hw167 : k0_chk167 v5 v17128), ∀ a x, ((![v5, v17128] : Fin 2 → IVec S16 32) a x).toNat < S16x17.size a := fun v5 v17128 k0_hw167 => k0_hw167.1
theorem k0_idx503_inb : ∀ (v5 : IVec S16 32) (v17128 : IVec S16 32) (k0_hw167 : k0_chk167 v5 v17128), ∀ a x, ((![v5, v17128] : Fin 2 → IVec S16 32) a x).toNat < S16x17.size a := fun v5 v17128 k0_hw167 => k0_hw167.2.1
theorem k0_idx519_inb : ∀ (v5 : IVec S16 32) (v17128 : IVec S16 32) (k0_hw167 : k0_chk167 v5 v17128), ∀ a x, ((![v5, v17128] : Fin 2 → IVec S16 32) a x).toNat < S16x17.size a := fun v5 v17128 k0_hw167 => k0_hw167.2.2

def k0_chk168 (v5 : IVec S16 32) (v17129 : IVec S16 32) : Prop :=
  (∀ a x, ((![v5, v17129] : Fin 2 → IVec S16 32) a x).toNat < S16x17.size a) ∧
  (∀ a x, ((![v5, v17129] : Fin 2 → IVec S16 32) a x).toNat < S16x17.size a) ∧
  (∀ a x, ((![v5, v17129] : Fin 2 → IVec S16 32) a x).toNat < S16x17.size a)
theorem k0_idx488_inb : ∀ (v5 : IVec S16 32) (v17129 : IVec S16 32) (k0_hw168 : k0_chk168 v5 v17129), ∀ a x, ((![v5, v17129] : Fin 2 → IVec S16 32) a x).toNat < S16x17.size a := fun v5 v17129 k0_hw168 => k0_hw168.1
theorem k0_idx504_inb : ∀ (v5 : IVec S16 32) (v17129 : IVec S16 32) (k0_hw168 : k0_chk168 v5 v17129), ∀ a x, ((![v5, v17129] : Fin 2 → IVec S16 32) a x).toNat < S16x17.size a := fun v5 v17129 k0_hw168 => k0_hw168.2.1
theorem k0_idx520_inb : ∀ (v5 : IVec S16 32) (v17129 : IVec S16 32) (k0_hw168 : k0_chk168 v5 v17129), ∀ a x, ((![v5, v17129] : Fin 2 → IVec S16 32) a x).toNat < S16x17.size a := fun v5 v17129 k0_hw168 => k0_hw168.2.2

def k0_chk169 (v5 : IVec S16 32) (v17130 : IVec S16 32) : Prop :=
  (∀ a x, ((![v5, v17130] : Fin 2 → IVec S16 32) a x).toNat < S16x17.size a) ∧
  (∀ a x, ((![v5, v17130] : Fin 2 → IVec S16 32) a x).toNat < S16x17.size a) ∧
  (∀ a x, ((![v5, v17130] : Fin 2 → IVec S16 32) a x).toNat < S16x17.size a)
theorem k0_idx489_inb : ∀ (v5 : IVec S16 32) (v17130 : IVec S16 32) (k0_hw169 : k0_chk169 v5 v17130), ∀ a x, ((![v5, v17130] : Fin 2 → IVec S16 32) a x).toNat < S16x17.size a := fun v5 v17130 k0_hw169 => k0_hw169.1
theorem k0_idx505_inb : ∀ (v5 : IVec S16 32) (v17130 : IVec S16 32) (k0_hw169 : k0_chk169 v5 v17130), ∀ a x, ((![v5, v17130] : Fin 2 → IVec S16 32) a x).toNat < S16x17.size a := fun v5 v17130 k0_hw169 => k0_hw169.2.1
theorem k0_idx521_inb : ∀ (v5 : IVec S16 32) (v17130 : IVec S16 32) (k0_hw169 : k0_chk169 v5 v17130), ∀ a x, ((![v5, v17130] : Fin 2 → IVec S16 32) a x).toNat < S16x17.size a := fun v5 v17130 k0_hw169 => k0_hw169.2.2

def k0_chk170 (v5 : IVec S16 32) (v17131 : IVec S16 32) : Prop :=
  (∀ a x, ((![v5, v17131] : Fin 2 → IVec S16 32) a x).toNat < S16x17.size a) ∧
  (∀ a x, ((![v5, v17131] : Fin 2 → IVec S16 32) a x).toNat < S16x17.size a) ∧
  (∀ a x, ((![v5, v17131] : Fin 2 → IVec S16 32) a x).toNat < S16x17.size a)
theorem k0_idx490_inb : ∀ (v5 : IVec S16 32) (v17131 : IVec S16 32) (k0_hw170 : k0_chk170 v5 v17131), ∀ a x, ((![v5, v17131] : Fin 2 → IVec S16 32) a x).toNat < S16x17.size a := fun v5 v17131 k0_hw170 => k0_hw170.1
theorem k0_idx506_inb : ∀ (v5 : IVec S16 32) (v17131 : IVec S16 32) (k0_hw170 : k0_chk170 v5 v17131), ∀ a x, ((![v5, v17131] : Fin 2 → IVec S16 32) a x).toNat < S16x17.size a := fun v5 v17131 k0_hw170 => k0_hw170.2.1
theorem k0_idx522_inb : ∀ (v5 : IVec S16 32) (v17131 : IVec S16 32) (k0_hw170 : k0_chk170 v5 v17131), ∀ a x, ((![v5, v17131] : Fin 2 → IVec S16 32) a x).toNat < S16x17.size a := fun v5 v17131 k0_hw170 => k0_hw170.2.2

def k0_chk171 (v5 : IVec S16 32) (v17132 : IVec S16 32) : Prop :=
  (∀ a x, ((![v5, v17132] : Fin 2 → IVec S16 32) a x).toNat < S16x17.size a) ∧
  (∀ a x, ((![v5, v17132] : Fin 2 → IVec S16 32) a x).toNat < S16x17.size a) ∧
  (∀ a x, ((![v5, v17132] : Fin 2 → IVec S16 32) a x).toNat < S16x17.size a)
theorem k0_idx491_inb : ∀ (v5 : IVec S16 32) (v17132 : IVec S16 32) (k0_hw171 : k0_chk171 v5 v17132), ∀ a x, ((![v5, v17132] : Fin 2 → IVec S16 32) a x).toNat < S16x17.size a := fun v5 v17132 k0_hw171 => k0_hw171.1
theorem k0_idx507_inb : ∀ (v5 : IVec S16 32) (v17132 : IVec S16 32) (k0_hw171 : k0_chk171 v5 v17132), ∀ a x, ((![v5, v17132] : Fin 2 → IVec S16 32) a x).toNat < S16x17.size a := fun v5 v17132 k0_hw171 => k0_hw171.2.1
theorem k0_idx523_inb : ∀ (v5 : IVec S16 32) (v17132 : IVec S16 32) (k0_hw171 : k0_chk171 v5 v17132), ∀ a x, ((![v5, v17132] : Fin 2 → IVec S16 32) a x).toNat < S16x17.size a := fun v5 v17132 k0_hw171 => k0_hw171.2.2

def k0_chk172 (v5 : IVec S16 32) (v17133 : IVec S16 32) : Prop :=
  (∀ a x, ((![v5, v17133] : Fin 2 → IVec S16 32) a x).toNat < S16x17.size a) ∧
  (∀ a x, ((![v5, v17133] : Fin 2 → IVec S16 32) a x).toNat < S16x17.size a) ∧
  (∀ a x, ((![v5, v17133] : Fin 2 → IVec S16 32) a x).toNat < S16x17.size a)
theorem k0_idx492_inb : ∀ (v5 : IVec S16 32) (v17133 : IVec S16 32) (k0_hw172 : k0_chk172 v5 v17133), ∀ a x, ((![v5, v17133] : Fin 2 → IVec S16 32) a x).toNat < S16x17.size a := fun v5 v17133 k0_hw172 => k0_hw172.1
theorem k0_idx508_inb : ∀ (v5 : IVec S16 32) (v17133 : IVec S16 32) (k0_hw172 : k0_chk172 v5 v17133), ∀ a x, ((![v5, v17133] : Fin 2 → IVec S16 32) a x).toNat < S16x17.size a := fun v5 v17133 k0_hw172 => k0_hw172.2.1
theorem k0_idx524_inb : ∀ (v5 : IVec S16 32) (v17133 : IVec S16 32) (k0_hw172 : k0_chk172 v5 v17133), ∀ a x, ((![v5, v17133] : Fin 2 → IVec S16 32) a x).toNat < S16x17.size a := fun v5 v17133 k0_hw172 => k0_hw172.2.2

def k0_chk173 (v5 : IVec S16 32) (v17134 : IVec S16 32) : Prop :=
  (∀ a x, ((![v5, v17134] : Fin 2 → IVec S16 32) a x).toNat < S16x17.size a) ∧
  (∀ a x, ((![v5, v17134] : Fin 2 → IVec S16 32) a x).toNat < S16x17.size a) ∧
  (∀ a x, ((![v5, v17134] : Fin 2 → IVec S16 32) a x).toNat < S16x17.size a)
theorem k0_idx493_inb : ∀ (v5 : IVec S16 32) (v17134 : IVec S16 32) (k0_hw173 : k0_chk173 v5 v17134), ∀ a x, ((![v5, v17134] : Fin 2 → IVec S16 32) a x).toNat < S16x17.size a := fun v5 v17134 k0_hw173 => k0_hw173.1
theorem k0_idx509_inb : ∀ (v5 : IVec S16 32) (v17134 : IVec S16 32) (k0_hw173 : k0_chk173 v5 v17134), ∀ a x, ((![v5, v17134] : Fin 2 → IVec S16 32) a x).toNat < S16x17.size a := fun v5 v17134 k0_hw173 => k0_hw173.2.1
theorem k0_idx525_inb : ∀ (v5 : IVec S16 32) (v17134 : IVec S16 32) (k0_hw173 : k0_chk173 v5 v17134), ∀ a x, ((![v5, v17134] : Fin 2 → IVec S16 32) a x).toNat < S16x17.size a := fun v5 v17134 k0_hw173 => k0_hw173.2.2

def k0_chk174 (v5 : IVec S16 32) (v17135 : IVec S16 32) : Prop :=
  (∀ a x, ((![v5, v17135] : Fin 2 → IVec S16 32) a x).toNat < S16x17.size a) ∧
  (∀ a x, ((![v5, v17135] : Fin 2 → IVec S16 32) a x).toNat < S16x17.size a) ∧
  (∀ a x, ((![v5, v17135] : Fin 2 → IVec S16 32) a x).toNat < S16x17.size a)
theorem k0_idx494_inb : ∀ (v5 : IVec S16 32) (v17135 : IVec S16 32) (k0_hw174 : k0_chk174 v5 v17135), ∀ a x, ((![v5, v17135] : Fin 2 → IVec S16 32) a x).toNat < S16x17.size a := fun v5 v17135 k0_hw174 => k0_hw174.1
theorem k0_idx510_inb : ∀ (v5 : IVec S16 32) (v17135 : IVec S16 32) (k0_hw174 : k0_chk174 v5 v17135), ∀ a x, ((![v5, v17135] : Fin 2 → IVec S16 32) a x).toNat < S16x17.size a := fun v5 v17135 k0_hw174 => k0_hw174.2.1
theorem k0_idx526_inb : ∀ (v5 : IVec S16 32) (v17135 : IVec S16 32) (k0_hw174 : k0_chk174 v5 v17135), ∀ a x, ((![v5, v17135] : Fin 2 → IVec S16 32) a x).toNat < S16x17.size a := fun v5 v17135 k0_hw174 => k0_hw174.2.2

def k0_chk175 (v5 : IVec S16 32) (v17136 : IVec S16 32) : Prop :=
  (∀ a x, ((![v5, v17136] : Fin 2 → IVec S16 32) a x).toNat < S16x17.size a) ∧
  (∀ a x, ((![v5, v17136] : Fin 2 → IVec S16 32) a x).toNat < S16x17.size a) ∧
  (∀ a x, ((![v5, v17136] : Fin 2 → IVec S16 32) a x).toNat < S16x17.size a)
theorem k0_idx495_inb : ∀ (v5 : IVec S16 32) (v17136 : IVec S16 32) (k0_hw175 : k0_chk175 v5 v17136), ∀ a x, ((![v5, v17136] : Fin 2 → IVec S16 32) a x).toNat < S16x17.size a := fun v5 v17136 k0_hw175 => k0_hw175.1
theorem k0_idx511_inb : ∀ (v5 : IVec S16 32) (v17136 : IVec S16 32) (k0_hw175 : k0_chk175 v5 v17136), ∀ a x, ((![v5, v17136] : Fin 2 → IVec S16 32) a x).toNat < S16x17.size a := fun v5 v17136 k0_hw175 => k0_hw175.2.1
theorem k0_idx527_inb : ∀ (v5 : IVec S16 32) (v17136 : IVec S16 32) (k0_hw175 : k0_chk175 v5 v17136), ∀ a x, ((![v5, v17136] : Fin 2 → IVec S16 32) a x).toNat < S16x17.size a := fun v5 v17136 k0_hw175 => k0_hw175.2.2

def k0_chk176 (v5 : IVec S16 32) (v17137 : IVec S16 32) : Prop :=
  (∀ a x, ((![v5, v17137] : Fin 2 → IVec S16 32) a x).toNat < S16x17.size a) ∧
  (∀ a x, ((![v5, v17137] : Fin 2 → IVec S16 32) a x).toNat < S16x17.size a) ∧
  (∀ a x, ((![v5, v17137] : Fin 2 → IVec S16 32) a x).toNat < S16x17.size a)
theorem k0_idx496_inb : ∀ (v5 : IVec S16 32) (v17137 : IVec S16 32) (k0_hw176 : k0_chk176 v5 v17137), ∀ a x, ((![v5, v17137] : Fin 2 → IVec S16 32) a x).toNat < S16x17.size a := fun v5 v17137 k0_hw176 => k0_hw176.1
theorem k0_idx512_inb : ∀ (v5 : IVec S16 32) (v17137 : IVec S16 32) (k0_hw176 : k0_chk176 v5 v17137), ∀ a x, ((![v5, v17137] : Fin 2 → IVec S16 32) a x).toNat < S16x17.size a := fun v5 v17137 k0_hw176 => k0_hw176.2.1
theorem k0_idx528_inb : ∀ (v5 : IVec S16 32) (v17137 : IVec S16 32) (k0_hw176 : k0_chk176 v5 v17137), ∀ a x, ((![v5, v17137] : Fin 2 → IVec S16 32) a x).toNat < S16x17.size a := fun v5 v17137 k0_hw176 => k0_hw176.2.2

def k0_chk177 (v5 : IVec S16 32) (v17138 : IVec S16 32) : Prop :=
  (∀ a x, ((![v5, v17138] : Fin 2 → IVec S16 32) a x).toNat < S16x17.size a) ∧
  (∀ a x, ((![v5, v17138] : Fin 2 → IVec S16 32) a x).toNat < S16x17.size a) ∧
  (∀ a x, ((![v5, v17138] : Fin 2 → IVec S16 32) a x).toNat < S16x17.size a)
theorem k0_idx497_inb : ∀ (v5 : IVec S16 32) (v17138 : IVec S16 32) (k0_hw177 : k0_chk177 v5 v17138), ∀ a x, ((![v5, v17138] : Fin 2 → IVec S16 32) a x).toNat < S16x17.size a := fun v5 v17138 k0_hw177 => k0_hw177.1
theorem k0_idx513_inb : ∀ (v5 : IVec S16 32) (v17138 : IVec S16 32) (k0_hw177 : k0_chk177 v5 v17138), ∀ a x, ((![v5, v17138] : Fin 2 → IVec S16 32) a x).toNat < S16x17.size a := fun v5 v17138 k0_hw177 => k0_hw177.2.1
theorem k0_idx529_inb : ∀ (v5 : IVec S16 32) (v17138 : IVec S16 32) (k0_hw177 : k0_chk177 v5 v17138), ∀ a x, ((![v5, v17138] : Fin 2 → IVec S16 32) a x).toNat < S16x17.size a := fun v5 v17138 k0_hw177 => k0_hw177.2.2

def k0_chk178 (v5 : IVec S16 32) (v17139 : IVec S16 32) : Prop :=
  (∀ a x, ((![v5, v17139] : Fin 2 → IVec S16 32) a x).toNat < S16x17.size a) ∧
  (∀ a x, ((![v5, v17139] : Fin 2 → IVec S16 32) a x).toNat < S16x17.size a) ∧
  (∀ a x, ((![v5, v17139] : Fin 2 → IVec S16 32) a x).toNat < S16x17.size a)
theorem k0_idx498_inb : ∀ (v5 : IVec S16 32) (v17139 : IVec S16 32) (k0_hw178 : k0_chk178 v5 v17139), ∀ a x, ((![v5, v17139] : Fin 2 → IVec S16 32) a x).toNat < S16x17.size a := fun v5 v17139 k0_hw178 => k0_hw178.1
theorem k0_idx514_inb : ∀ (v5 : IVec S16 32) (v17139 : IVec S16 32) (k0_hw178 : k0_chk178 v5 v17139), ∀ a x, ((![v5, v17139] : Fin 2 → IVec S16 32) a x).toNat < S16x17.size a := fun v5 v17139 k0_hw178 => k0_hw178.2.1
theorem k0_idx530_inb : ∀ (v5 : IVec S16 32) (v17139 : IVec S16 32) (k0_hw178 : k0_chk178 v5 v17139), ∀ a x, ((![v5, v17139] : Fin 2 → IVec S16 32) a x).toNat < S16x17.size a := fun v5 v17139 k0_hw178 => k0_hw178.2.2

def k0_chk179 (v5 : IVec S16 32) (v17140 : IVec S16 32) : Prop :=
  (∀ a x, ((![v5, v17140] : Fin 2 → IVec S16 32) a x).toNat < S16x17.size a) ∧
  (∀ a x, ((![v5, v17140] : Fin 2 → IVec S16 32) a x).toNat < S16x17.size a) ∧
  (∀ a x, ((![v5, v17140] : Fin 2 → IVec S16 32) a x).toNat < S16x17.size a)
theorem k0_idx499_inb : ∀ (v5 : IVec S16 32) (v17140 : IVec S16 32) (k0_hw179 : k0_chk179 v5 v17140), ∀ a x, ((![v5, v17140] : Fin 2 → IVec S16 32) a x).toNat < S16x17.size a := fun v5 v17140 k0_hw179 => k0_hw179.1
theorem k0_idx515_inb : ∀ (v5 : IVec S16 32) (v17140 : IVec S16 32) (k0_hw179 : k0_chk179 v5 v17140), ∀ a x, ((![v5, v17140] : Fin 2 → IVec S16 32) a x).toNat < S16x17.size a := fun v5 v17140 k0_hw179 => k0_hw179.2.1
theorem k0_idx531_inb : ∀ (v5 : IVec S16 32) (v17140 : IVec S16 32) (k0_hw179 : k0_chk179 v5 v17140), ∀ a x, ((![v5, v17140] : Fin 2 → IVec S16 32) a x).toNat < S16x17.size a := fun v5 v17140 k0_hw179 => k0_hw179.2.2

def k0_chk180 (v5 : IVec S16 32) (v17141 : IVec S16 32) : Prop :=
  (∀ a x, ((![v5, v17141] : Fin 2 → IVec S16 32) a x).toNat < S16x17.size a) ∧
  (∀ a x, ((![v5, v17141] : Fin 2 → IVec S16 32) a x).toNat < S16x17.size a) ∧
  (∀ a x, ((![v5, v17141] : Fin 2 → IVec S16 32) a x).toNat < S16x17.size a)
theorem k0_idx500_inb : ∀ (v5 : IVec S16 32) (v17141 : IVec S16 32) (k0_hw180 : k0_chk180 v5 v17141), ∀ a x, ((![v5, v17141] : Fin 2 → IVec S16 32) a x).toNat < S16x17.size a := fun v5 v17141 k0_hw180 => k0_hw180.1
theorem k0_idx516_inb : ∀ (v5 : IVec S16 32) (v17141 : IVec S16 32) (k0_hw180 : k0_chk180 v5 v17141), ∀ a x, ((![v5, v17141] : Fin 2 → IVec S16 32) a x).toNat < S16x17.size a := fun v5 v17141 k0_hw180 => k0_hw180.2.1
theorem k0_idx532_inb : ∀ (v5 : IVec S16 32) (v17141 : IVec S16 32) (k0_hw180 : k0_chk180 v5 v17141), ∀ a x, ((![v5, v17141] : Fin 2 → IVec S16 32) a x).toNat < S16x17.size a := fun v5 v17141 k0_hw180 => k0_hw180.2.2

def k0_chk181 (v5 : IVec S16 32) (v17142 : IVec S16 32) : Prop :=
  (∀ a x, ((![v5, v17142] : Fin 2 → IVec S16 32) a x).toNat < S16x17.size a) ∧
  (∀ a x, ((![v5, v17142] : Fin 2 → IVec S16 32) a x).toNat < S16x17.size a) ∧
  (∀ a x, ((![v5, v17142] : Fin 2 → IVec S16 32) a x).toNat < S16x17.size a)
theorem k0_idx501_inb : ∀ (v5 : IVec S16 32) (v17142 : IVec S16 32) (k0_hw181 : k0_chk181 v5 v17142), ∀ a x, ((![v5, v17142] : Fin 2 → IVec S16 32) a x).toNat < S16x17.size a := fun v5 v17142 k0_hw181 => k0_hw181.1
theorem k0_idx517_inb : ∀ (v5 : IVec S16 32) (v17142 : IVec S16 32) (k0_hw181 : k0_chk181 v5 v17142), ∀ a x, ((![v5, v17142] : Fin 2 → IVec S16 32) a x).toNat < S16x17.size a := fun v5 v17142 k0_hw181 => k0_hw181.2.1
theorem k0_idx533_inb : ∀ (v5 : IVec S16 32) (v17142 : IVec S16 32) (k0_hw181 : k0_chk181 v5 v17142), ∀ a x, ((![v5, v17142] : Fin 2 → IVec S16 32) a x).toNat < S16x17.size a := fun v5 v17142 k0_hw181 => k0_hw181.2.2
def k0_off21 (k0_t1 : Fin k0_t1_loop.trips) : Fin 1 → Nat :=
  let c2_i32_13 : BitVec 32 := 2#32
  let c0_i32_11 : BitVec 32 := 0#32
  let c1_i32 : BitVec 32 := 1#32
  let arg33 : BitVec 32 := Scf.iv c0_i32_11 c1_i32 k0_t1
  let v19 : BitVec 32 := Scalar.muli c2_i32_13 arg33
  let c1_i32_4091 : BitVec 32 := 1#32
  let v9472 : BitVec 32 := Scalar.addi v19 c1_i32_4091
  let c80_i32_7502 : BitVec 32 := 80#32
  let v17256 : BitVec 32 := Scalar.muli v9472 c80_i32_7502
  let c48_i32_7503 : BitVec 32 := 48#32
  let v17257 : BitVec 32 := Scalar.addi v17256 c48_i32_7503
  let v17258 : Index := Scalar.indexCast v17257
  ![v17258.toNat]

def k0_chk182 (v5 : IVec S16 32) (v18685 : IVec S16 32) : Prop :=
  (∀ a x, ((![v5, v18685] : Fin 2 → IVec S16 32) a x).toNat < S16x17.size a) ∧
  (∀ a x, ((![v5, v18685] : Fin 2 → IVec S16 32) a x).toNat < S16x17.size a) ∧
  (∀ a x, ((![v5, v18685] : Fin 2 → IVec S16 32) a x).toNat < S16x17.size a)
theorem k0_idx534_inb : ∀ (v5 : IVec S16 32) (v18685 : IVec S16 32) (k0_hw182 : k0_chk182 v5 v18685), ∀ a x, ((![v5, v18685] : Fin 2 → IVec S16 32) a x).toNat < S16x17.size a := fun v5 v18685 k0_hw182 => k0_hw182.1
theorem k0_idx550_inb : ∀ (v5 : IVec S16 32) (v18685 : IVec S16 32) (k0_hw182 : k0_chk182 v5 v18685), ∀ a x, ((![v5, v18685] : Fin 2 → IVec S16 32) a x).toNat < S16x17.size a := fun v5 v18685 k0_hw182 => k0_hw182.2.1
theorem k0_idx566_inb : ∀ (v5 : IVec S16 32) (v18685 : IVec S16 32) (k0_hw182 : k0_chk182 v5 v18685), ∀ a x, ((![v5, v18685] : Fin 2 → IVec S16 32) a x).toNat < S16x17.size a := fun v5 v18685 k0_hw182 => k0_hw182.2.2

def k0_chk183 (v5 : IVec S16 32) (v18686 : IVec S16 32) : Prop :=
  (∀ a x, ((![v5, v18686] : Fin 2 → IVec S16 32) a x).toNat < S16x17.size a) ∧
  (∀ a x, ((![v5, v18686] : Fin 2 → IVec S16 32) a x).toNat < S16x17.size a) ∧
  (∀ a x, ((![v5, v18686] : Fin 2 → IVec S16 32) a x).toNat < S16x17.size a)
theorem k0_idx535_inb : ∀ (v5 : IVec S16 32) (v18686 : IVec S16 32) (k0_hw183 : k0_chk183 v5 v18686), ∀ a x, ((![v5, v18686] : Fin 2 → IVec S16 32) a x).toNat < S16x17.size a := fun v5 v18686 k0_hw183 => k0_hw183.1
theorem k0_idx551_inb : ∀ (v5 : IVec S16 32) (v18686 : IVec S16 32) (k0_hw183 : k0_chk183 v5 v18686), ∀ a x, ((![v5, v18686] : Fin 2 → IVec S16 32) a x).toNat < S16x17.size a := fun v5 v18686 k0_hw183 => k0_hw183.2.1
theorem k0_idx567_inb : ∀ (v5 : IVec S16 32) (v18686 : IVec S16 32) (k0_hw183 : k0_chk183 v5 v18686), ∀ a x, ((![v5, v18686] : Fin 2 → IVec S16 32) a x).toNat < S16x17.size a := fun v5 v18686 k0_hw183 => k0_hw183.2.2

def k0_chk184 (v5 : IVec S16 32) (v18687 : IVec S16 32) : Prop :=
  (∀ a x, ((![v5, v18687] : Fin 2 → IVec S16 32) a x).toNat < S16x17.size a) ∧
  (∀ a x, ((![v5, v18687] : Fin 2 → IVec S16 32) a x).toNat < S16x17.size a) ∧
  (∀ a x, ((![v5, v18687] : Fin 2 → IVec S16 32) a x).toNat < S16x17.size a)
theorem k0_idx536_inb : ∀ (v5 : IVec S16 32) (v18687 : IVec S16 32) (k0_hw184 : k0_chk184 v5 v18687), ∀ a x, ((![v5, v18687] : Fin 2 → IVec S16 32) a x).toNat < S16x17.size a := fun v5 v18687 k0_hw184 => k0_hw184.1
theorem k0_idx552_inb : ∀ (v5 : IVec S16 32) (v18687 : IVec S16 32) (k0_hw184 : k0_chk184 v5 v18687), ∀ a x, ((![v5, v18687] : Fin 2 → IVec S16 32) a x).toNat < S16x17.size a := fun v5 v18687 k0_hw184 => k0_hw184.2.1
theorem k0_idx568_inb : ∀ (v5 : IVec S16 32) (v18687 : IVec S16 32) (k0_hw184 : k0_chk184 v5 v18687), ∀ a x, ((![v5, v18687] : Fin 2 → IVec S16 32) a x).toNat < S16x17.size a := fun v5 v18687 k0_hw184 => k0_hw184.2.2

def k0_chk185 (v5 : IVec S16 32) (v18688 : IVec S16 32) : Prop :=
  (∀ a x, ((![v5, v18688] : Fin 2 → IVec S16 32) a x).toNat < S16x17.size a) ∧
  (∀ a x, ((![v5, v18688] : Fin 2 → IVec S16 32) a x).toNat < S16x17.size a) ∧
  (∀ a x, ((![v5, v18688] : Fin 2 → IVec S16 32) a x).toNat < S16x17.size a)
theorem k0_idx537_inb : ∀ (v5 : IVec S16 32) (v18688 : IVec S16 32) (k0_hw185 : k0_chk185 v5 v18688), ∀ a x, ((![v5, v18688] : Fin 2 → IVec S16 32) a x).toNat < S16x17.size a := fun v5 v18688 k0_hw185 => k0_hw185.1
theorem k0_idx553_inb : ∀ (v5 : IVec S16 32) (v18688 : IVec S16 32) (k0_hw185 : k0_chk185 v5 v18688), ∀ a x, ((![v5, v18688] : Fin 2 → IVec S16 32) a x).toNat < S16x17.size a := fun v5 v18688 k0_hw185 => k0_hw185.2.1
theorem k0_idx569_inb : ∀ (v5 : IVec S16 32) (v18688 : IVec S16 32) (k0_hw185 : k0_chk185 v5 v18688), ∀ a x, ((![v5, v18688] : Fin 2 → IVec S16 32) a x).toNat < S16x17.size a := fun v5 v18688 k0_hw185 => k0_hw185.2.2

def k0_chk186 (v5 : IVec S16 32) (v18689 : IVec S16 32) : Prop :=
  (∀ a x, ((![v5, v18689] : Fin 2 → IVec S16 32) a x).toNat < S16x17.size a) ∧
  (∀ a x, ((![v5, v18689] : Fin 2 → IVec S16 32) a x).toNat < S16x17.size a) ∧
  (∀ a x, ((![v5, v18689] : Fin 2 → IVec S16 32) a x).toNat < S16x17.size a)
theorem k0_idx538_inb : ∀ (v5 : IVec S16 32) (v18689 : IVec S16 32) (k0_hw186 : k0_chk186 v5 v18689), ∀ a x, ((![v5, v18689] : Fin 2 → IVec S16 32) a x).toNat < S16x17.size a := fun v5 v18689 k0_hw186 => k0_hw186.1
theorem k0_idx554_inb : ∀ (v5 : IVec S16 32) (v18689 : IVec S16 32) (k0_hw186 : k0_chk186 v5 v18689), ∀ a x, ((![v5, v18689] : Fin 2 → IVec S16 32) a x).toNat < S16x17.size a := fun v5 v18689 k0_hw186 => k0_hw186.2.1
theorem k0_idx570_inb : ∀ (v5 : IVec S16 32) (v18689 : IVec S16 32) (k0_hw186 : k0_chk186 v5 v18689), ∀ a x, ((![v5, v18689] : Fin 2 → IVec S16 32) a x).toNat < S16x17.size a := fun v5 v18689 k0_hw186 => k0_hw186.2.2

def k0_chk187 (v5 : IVec S16 32) (v18690 : IVec S16 32) : Prop :=
  (∀ a x, ((![v5, v18690] : Fin 2 → IVec S16 32) a x).toNat < S16x17.size a) ∧
  (∀ a x, ((![v5, v18690] : Fin 2 → IVec S16 32) a x).toNat < S16x17.size a) ∧
  (∀ a x, ((![v5, v18690] : Fin 2 → IVec S16 32) a x).toNat < S16x17.size a)
theorem k0_idx539_inb : ∀ (v5 : IVec S16 32) (v18690 : IVec S16 32) (k0_hw187 : k0_chk187 v5 v18690), ∀ a x, ((![v5, v18690] : Fin 2 → IVec S16 32) a x).toNat < S16x17.size a := fun v5 v18690 k0_hw187 => k0_hw187.1
theorem k0_idx555_inb : ∀ (v5 : IVec S16 32) (v18690 : IVec S16 32) (k0_hw187 : k0_chk187 v5 v18690), ∀ a x, ((![v5, v18690] : Fin 2 → IVec S16 32) a x).toNat < S16x17.size a := fun v5 v18690 k0_hw187 => k0_hw187.2.1
theorem k0_idx571_inb : ∀ (v5 : IVec S16 32) (v18690 : IVec S16 32) (k0_hw187 : k0_chk187 v5 v18690), ∀ a x, ((![v5, v18690] : Fin 2 → IVec S16 32) a x).toNat < S16x17.size a := fun v5 v18690 k0_hw187 => k0_hw187.2.2

def k0_chk188 (v5 : IVec S16 32) (v18691 : IVec S16 32) : Prop :=
  (∀ a x, ((![v5, v18691] : Fin 2 → IVec S16 32) a x).toNat < S16x17.size a) ∧
  (∀ a x, ((![v5, v18691] : Fin 2 → IVec S16 32) a x).toNat < S16x17.size a) ∧
  (∀ a x, ((![v5, v18691] : Fin 2 → IVec S16 32) a x).toNat < S16x17.size a)
theorem k0_idx540_inb : ∀ (v5 : IVec S16 32) (v18691 : IVec S16 32) (k0_hw188 : k0_chk188 v5 v18691), ∀ a x, ((![v5, v18691] : Fin 2 → IVec S16 32) a x).toNat < S16x17.size a := fun v5 v18691 k0_hw188 => k0_hw188.1
theorem k0_idx556_inb : ∀ (v5 : IVec S16 32) (v18691 : IVec S16 32) (k0_hw188 : k0_chk188 v5 v18691), ∀ a x, ((![v5, v18691] : Fin 2 → IVec S16 32) a x).toNat < S16x17.size a := fun v5 v18691 k0_hw188 => k0_hw188.2.1
theorem k0_idx572_inb : ∀ (v5 : IVec S16 32) (v18691 : IVec S16 32) (k0_hw188 : k0_chk188 v5 v18691), ∀ a x, ((![v5, v18691] : Fin 2 → IVec S16 32) a x).toNat < S16x17.size a := fun v5 v18691 k0_hw188 => k0_hw188.2.2

def k0_chk189 (v5 : IVec S16 32) (v18692 : IVec S16 32) : Prop :=
  (∀ a x, ((![v5, v18692] : Fin 2 → IVec S16 32) a x).toNat < S16x17.size a) ∧
  (∀ a x, ((![v5, v18692] : Fin 2 → IVec S16 32) a x).toNat < S16x17.size a) ∧
  (∀ a x, ((![v5, v18692] : Fin 2 → IVec S16 32) a x).toNat < S16x17.size a)
theorem k0_idx541_inb : ∀ (v5 : IVec S16 32) (v18692 : IVec S16 32) (k0_hw189 : k0_chk189 v5 v18692), ∀ a x, ((![v5, v18692] : Fin 2 → IVec S16 32) a x).toNat < S16x17.size a := fun v5 v18692 k0_hw189 => k0_hw189.1
theorem k0_idx557_inb : ∀ (v5 : IVec S16 32) (v18692 : IVec S16 32) (k0_hw189 : k0_chk189 v5 v18692), ∀ a x, ((![v5, v18692] : Fin 2 → IVec S16 32) a x).toNat < S16x17.size a := fun v5 v18692 k0_hw189 => k0_hw189.2.1
theorem k0_idx573_inb : ∀ (v5 : IVec S16 32) (v18692 : IVec S16 32) (k0_hw189 : k0_chk189 v5 v18692), ∀ a x, ((![v5, v18692] : Fin 2 → IVec S16 32) a x).toNat < S16x17.size a := fun v5 v18692 k0_hw189 => k0_hw189.2.2

def k0_chk190 (v5 : IVec S16 32) (v18693 : IVec S16 32) : Prop :=
  (∀ a x, ((![v5, v18693] : Fin 2 → IVec S16 32) a x).toNat < S16x17.size a) ∧
  (∀ a x, ((![v5, v18693] : Fin 2 → IVec S16 32) a x).toNat < S16x17.size a) ∧
  (∀ a x, ((![v5, v18693] : Fin 2 → IVec S16 32) a x).toNat < S16x17.size a)
theorem k0_idx542_inb : ∀ (v5 : IVec S16 32) (v18693 : IVec S16 32) (k0_hw190 : k0_chk190 v5 v18693), ∀ a x, ((![v5, v18693] : Fin 2 → IVec S16 32) a x).toNat < S16x17.size a := fun v5 v18693 k0_hw190 => k0_hw190.1
theorem k0_idx558_inb : ∀ (v5 : IVec S16 32) (v18693 : IVec S16 32) (k0_hw190 : k0_chk190 v5 v18693), ∀ a x, ((![v5, v18693] : Fin 2 → IVec S16 32) a x).toNat < S16x17.size a := fun v5 v18693 k0_hw190 => k0_hw190.2.1
theorem k0_idx574_inb : ∀ (v5 : IVec S16 32) (v18693 : IVec S16 32) (k0_hw190 : k0_chk190 v5 v18693), ∀ a x, ((![v5, v18693] : Fin 2 → IVec S16 32) a x).toNat < S16x17.size a := fun v5 v18693 k0_hw190 => k0_hw190.2.2

def k0_chk191 (v5 : IVec S16 32) (v18694 : IVec S16 32) : Prop :=
  (∀ a x, ((![v5, v18694] : Fin 2 → IVec S16 32) a x).toNat < S16x17.size a) ∧
  (∀ a x, ((![v5, v18694] : Fin 2 → IVec S16 32) a x).toNat < S16x17.size a) ∧
  (∀ a x, ((![v5, v18694] : Fin 2 → IVec S16 32) a x).toNat < S16x17.size a)
theorem k0_idx543_inb : ∀ (v5 : IVec S16 32) (v18694 : IVec S16 32) (k0_hw191 : k0_chk191 v5 v18694), ∀ a x, ((![v5, v18694] : Fin 2 → IVec S16 32) a x).toNat < S16x17.size a := fun v5 v18694 k0_hw191 => k0_hw191.1
theorem k0_idx559_inb : ∀ (v5 : IVec S16 32) (v18694 : IVec S16 32) (k0_hw191 : k0_chk191 v5 v18694), ∀ a x, ((![v5, v18694] : Fin 2 → IVec S16 32) a x).toNat < S16x17.size a := fun v5 v18694 k0_hw191 => k0_hw191.2.1
theorem k0_idx575_inb : ∀ (v5 : IVec S16 32) (v18694 : IVec S16 32) (k0_hw191 : k0_chk191 v5 v18694), ∀ a x, ((![v5, v18694] : Fin 2 → IVec S16 32) a x).toNat < S16x17.size a := fun v5 v18694 k0_hw191 => k0_hw191.2.2

def k0_chk192 (v5 : IVec S16 32) (v18695 : IVec S16 32) : Prop :=
  (∀ a x, ((![v5, v18695] : Fin 2 → IVec S16 32) a x).toNat < S16x17.size a) ∧
  (∀ a x, ((![v5, v18695] : Fin 2 → IVec S16 32) a x).toNat < S16x17.size a) ∧
  (∀ a x, ((![v5, v18695] : Fin 2 → IVec S16 32) a x).toNat < S16x17.size a)
theorem k0_idx544_inb : ∀ (v5 : IVec S16 32) (v18695 : IVec S16 32) (k0_hw192 : k0_chk192 v5 v18695), ∀ a x, ((![v5, v18695] : Fin 2 → IVec S16 32) a x).toNat < S16x17.size a := fun v5 v18695 k0_hw192 => k0_hw192.1
theorem k0_idx560_inb : ∀ (v5 : IVec S16 32) (v18695 : IVec S16 32) (k0_hw192 : k0_chk192 v5 v18695), ∀ a x, ((![v5, v18695] : Fin 2 → IVec S16 32) a x).toNat < S16x17.size a := fun v5 v18695 k0_hw192 => k0_hw192.2.1
theorem k0_idx576_inb : ∀ (v5 : IVec S16 32) (v18695 : IVec S16 32) (k0_hw192 : k0_chk192 v5 v18695), ∀ a x, ((![v5, v18695] : Fin 2 → IVec S16 32) a x).toNat < S16x17.size a := fun v5 v18695 k0_hw192 => k0_hw192.2.2

def k0_chk193 (v5 : IVec S16 32) (v18696 : IVec S16 32) : Prop :=
  (∀ a x, ((![v5, v18696] : Fin 2 → IVec S16 32) a x).toNat < S16x17.size a) ∧
  (∀ a x, ((![v5, v18696] : Fin 2 → IVec S16 32) a x).toNat < S16x17.size a) ∧
  (∀ a x, ((![v5, v18696] : Fin 2 → IVec S16 32) a x).toNat < S16x17.size a)
theorem k0_idx545_inb : ∀ (v5 : IVec S16 32) (v18696 : IVec S16 32) (k0_hw193 : k0_chk193 v5 v18696), ∀ a x, ((![v5, v18696] : Fin 2 → IVec S16 32) a x).toNat < S16x17.size a := fun v5 v18696 k0_hw193 => k0_hw193.1
theorem k0_idx561_inb : ∀ (v5 : IVec S16 32) (v18696 : IVec S16 32) (k0_hw193 : k0_chk193 v5 v18696), ∀ a x, ((![v5, v18696] : Fin 2 → IVec S16 32) a x).toNat < S16x17.size a := fun v5 v18696 k0_hw193 => k0_hw193.2.1
theorem k0_idx577_inb : ∀ (v5 : IVec S16 32) (v18696 : IVec S16 32) (k0_hw193 : k0_chk193 v5 v18696), ∀ a x, ((![v5, v18696] : Fin 2 → IVec S16 32) a x).toNat < S16x17.size a := fun v5 v18696 k0_hw193 => k0_hw193.2.2

def k0_chk194 (v5 : IVec S16 32) (v18697 : IVec S16 32) : Prop :=
  (∀ a x, ((![v5, v18697] : Fin 2 → IVec S16 32) a x).toNat < S16x17.size a) ∧
  (∀ a x, ((![v5, v18697] : Fin 2 → IVec S16 32) a x).toNat < S16x17.size a) ∧
  (∀ a x, ((![v5, v18697] : Fin 2 → IVec S16 32) a x).toNat < S16x17.size a)
theorem k0_idx546_inb : ∀ (v5 : IVec S16 32) (v18697 : IVec S16 32) (k0_hw194 : k0_chk194 v5 v18697), ∀ a x, ((![v5, v18697] : Fin 2 → IVec S16 32) a x).toNat < S16x17.size a := fun v5 v18697 k0_hw194 => k0_hw194.1
theorem k0_idx562_inb : ∀ (v5 : IVec S16 32) (v18697 : IVec S16 32) (k0_hw194 : k0_chk194 v5 v18697), ∀ a x, ((![v5, v18697] : Fin 2 → IVec S16 32) a x).toNat < S16x17.size a := fun v5 v18697 k0_hw194 => k0_hw194.2.1
theorem k0_idx578_inb : ∀ (v5 : IVec S16 32) (v18697 : IVec S16 32) (k0_hw194 : k0_chk194 v5 v18697), ∀ a x, ((![v5, v18697] : Fin 2 → IVec S16 32) a x).toNat < S16x17.size a := fun v5 v18697 k0_hw194 => k0_hw194.2.2

def k0_chk195 (v5 : IVec S16 32) (v18698 : IVec S16 32) : Prop :=
  (∀ a x, ((![v5, v18698] : Fin 2 → IVec S16 32) a x).toNat < S16x17.size a) ∧
  (∀ a x, ((![v5, v18698] : Fin 2 → IVec S16 32) a x).toNat < S16x17.size a) ∧
  (∀ a x, ((![v5, v18698] : Fin 2 → IVec S16 32) a x).toNat < S16x17.size a)
theorem k0_idx547_inb : ∀ (v5 : IVec S16 32) (v18698 : IVec S16 32) (k0_hw195 : k0_chk195 v5 v18698), ∀ a x, ((![v5, v18698] : Fin 2 → IVec S16 32) a x).toNat < S16x17.size a := fun v5 v18698 k0_hw195 => k0_hw195.1
theorem k0_idx563_inb : ∀ (v5 : IVec S16 32) (v18698 : IVec S16 32) (k0_hw195 : k0_chk195 v5 v18698), ∀ a x, ((![v5, v18698] : Fin 2 → IVec S16 32) a x).toNat < S16x17.size a := fun v5 v18698 k0_hw195 => k0_hw195.2.1
theorem k0_idx579_inb : ∀ (v5 : IVec S16 32) (v18698 : IVec S16 32) (k0_hw195 : k0_chk195 v5 v18698), ∀ a x, ((![v5, v18698] : Fin 2 → IVec S16 32) a x).toNat < S16x17.size a := fun v5 v18698 k0_hw195 => k0_hw195.2.2

def k0_chk196 (v5 : IVec S16 32) (v18699 : IVec S16 32) : Prop :=
  (∀ a x, ((![v5, v18699] : Fin 2 → IVec S16 32) a x).toNat < S16x17.size a) ∧
  (∀ a x, ((![v5, v18699] : Fin 2 → IVec S16 32) a x).toNat < S16x17.size a) ∧
  (∀ a x, ((![v5, v18699] : Fin 2 → IVec S16 32) a x).toNat < S16x17.size a)
theorem k0_idx548_inb : ∀ (v5 : IVec S16 32) (v18699 : IVec S16 32) (k0_hw196 : k0_chk196 v5 v18699), ∀ a x, ((![v5, v18699] : Fin 2 → IVec S16 32) a x).toNat < S16x17.size a := fun v5 v18699 k0_hw196 => k0_hw196.1
theorem k0_idx564_inb : ∀ (v5 : IVec S16 32) (v18699 : IVec S16 32) (k0_hw196 : k0_chk196 v5 v18699), ∀ a x, ((![v5, v18699] : Fin 2 → IVec S16 32) a x).toNat < S16x17.size a := fun v5 v18699 k0_hw196 => k0_hw196.2.1
theorem k0_idx580_inb : ∀ (v5 : IVec S16 32) (v18699 : IVec S16 32) (k0_hw196 : k0_chk196 v5 v18699), ∀ a x, ((![v5, v18699] : Fin 2 → IVec S16 32) a x).toNat < S16x17.size a := fun v5 v18699 k0_hw196 => k0_hw196.2.2

def k0_chk197 (v5 : IVec S16 32) (v18700 : IVec S16 32) : Prop :=
  (∀ a x, ((![v5, v18700] : Fin 2 → IVec S16 32) a x).toNat < S16x17.size a) ∧
  (∀ a x, ((![v5, v18700] : Fin 2 → IVec S16 32) a x).toNat < S16x17.size a) ∧
  (∀ a x, ((![v5, v18700] : Fin 2 → IVec S16 32) a x).toNat < S16x17.size a)
theorem k0_idx549_inb : ∀ (v5 : IVec S16 32) (v18700 : IVec S16 32) (k0_hw197 : k0_chk197 v5 v18700), ∀ a x, ((![v5, v18700] : Fin 2 → IVec S16 32) a x).toNat < S16x17.size a := fun v5 v18700 k0_hw197 => k0_hw197.1
theorem k0_idx565_inb : ∀ (v5 : IVec S16 32) (v18700 : IVec S16 32) (k0_hw197 : k0_chk197 v5 v18700), ∀ a x, ((![v5, v18700] : Fin 2 → IVec S16 32) a x).toNat < S16x17.size a := fun v5 v18700 k0_hw197 => k0_hw197.2.1
theorem k0_idx581_inb : ∀ (v5 : IVec S16 32) (v18700 : IVec S16 32) (k0_hw197 : k0_chk197 v5 v18700), ∀ a x, ((![v5, v18700] : Fin 2 → IVec S16 32) a x).toNat < S16x17.size a := fun v5 v18700 k0_hw197 => k0_hw197.2.2
def k0_off22 (k0_t1 : Fin k0_t1_loop.trips) : Fin 1 → Nat :=
  let c2_i32_13 : BitVec 32 := 2#32
  let c0_i32_11 : BitVec 32 := 0#32
  let c1_i32 : BitVec 32 := 1#32
  let arg33 : BitVec 32 := Scf.iv c0_i32_11 c1_i32 k0_t1
  let v19 : BitVec 32 := Scalar.muli c2_i32_13 arg33
  let c1_i32_4091 : BitVec 32 := 1#32
  let v9472 : BitVec 32 := Scalar.addi v19 c1_i32_4091
  let c80_i32_8185 : BitVec 32 := 80#32
  let v18814 : BitVec 32 := Scalar.muli v9472 c80_i32_8185
  let c64_i32_8186 : BitVec 32 := 64#32
  let v18815 : BitVec 32 := Scalar.addi v18814 c64_i32_8186
  let v18816 : Index := Scalar.indexCast v18815
  ![v18816.toNat]

def k0_chk198 (v18823 : IVec S16 32) : Prop :=
  (∀ a x, ((![v18823] : Fin 1 → IVec S16 32) a x).toNat < S80.size a)
theorem k0_idx582_inb : ∀ (v18823 : IVec S16 32) (k0_hw198 : k0_chk198 v18823), ∀ a x, ((![v18823] : Fin 1 → IVec S16 32) a x).toNat < S80.size a := fun v18823 k0_hw198 => k0_hw198

def k0_chk199 (v18833 : IVec S16 32) : Prop :=
  (∀ a x, ((![v18833] : Fin 1 → IVec S16 32) a x).toNat < S80.size a)
theorem k0_idx583_inb : ∀ (v18833 : IVec S16 32) (k0_hw199 : k0_chk199 v18833), ∀ a x, ((![v18833] : Fin 1 → IVec S16 32) a x).toNat < S80.size a := fun v18833 k0_hw199 => k0_hw199

def k0_chk200 (v18843 : IVec S16 32) : Prop :=
  (∀ a x, ((![v18843] : Fin 1 → IVec S16 32) a x).toNat < S80.size a)
theorem k0_idx584_inb : ∀ (v18843 : IVec S16 32) (k0_hw200 : k0_chk200 v18843), ∀ a x, ((![v18843] : Fin 1 → IVec S16 32) a x).toNat < S80.size a := fun v18843 k0_hw200 => k0_hw200

def k0_chk201 (v18853 : IVec S16 32) : Prop :=
  (∀ a x, ((![v18853] : Fin 1 → IVec S16 32) a x).toNat < S80.size a)
theorem k0_idx585_inb : ∀ (v18853 : IVec S16 32) (k0_hw201 : k0_chk201 v18853), ∀ a x, ((![v18853] : Fin 1 → IVec S16 32) a x).toNat < S80.size a := fun v18853 k0_hw201 => k0_hw201

def k0_chk202 (v18863 : IVec S16 32) : Prop :=
  (∀ a x, ((![v18863] : Fin 1 → IVec S16 32) a x).toNat < S80.size a)
theorem k0_idx586_inb : ∀ (v18863 : IVec S16 32) (k0_hw202 : k0_chk202 v18863), ∀ a x, ((![v18863] : Fin 1 → IVec S16 32) a x).toNat < S80.size a := fun v18863 k0_hw202 => k0_hw202
def k0_off23 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v2 : BitVec 32 := Scalar.muli v1 c3136_i32
  ![v2.toNat]
def k0_off24 (i : grid0.Coords) : Fin 1 → Nat :=
  let c100352_i32 : BitVec 32 := 100352#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15680_i32 : BitVec 32 := 15680#32
  let v3 : BitVec 32 := Scalar.muli v1 c15680_i32
  let v4 : BitVec 32 := Scalar.addi c100352_i32 v3
  ![v4.toNat]
def k0_off25 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v18 : BitVec 32 := Scalar.muli v1 c16_i32
  ![v18.toNat]
abbrev grid1 : Pipeline.Grid := .none

abbrev stage1_0 : Fin 1 → Memref sig .tc .vmem S784x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S3920x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S100000 : Shape := ⟨1, ![100000]⟩
abbrev S500000 : Shape := ⟨1, ![500000]⟩
abbrev S_ : Shape := ⟨0, ![]⟩
abbrev S100000x1 : Shape := ⟨2, ![100000, 1]⟩
abbrev S500000x1 : Shape := ⟨2, ![500000, 1]⟩
abbrev S500000x128 : Shape := ⟨2, ![500000, 128]⟩
abbrev S100000x5 : Shape := ⟨2, ![100000, 5]⟩
abbrev S100000x6 : Shape := ⟨2, ![100000, 6]⟩

abbrev nBuf : Space → Nat
  | .hbm => 184
  | .vmem => 0
  | .smem => 0
  | _ => 0

abbrev hbmTy0_0 (i : Nat) : BufTy := match i % 128 with
  | 0 => ⟨S100000x128, .f32⟩
  | 1 => ⟨S100000, .i32⟩
  | 2 => ⟨S100000, .i32⟩
  | 3 => ⟨S500000, .i32⟩
  | 4 => ⟨S500000, .i32⟩
  | 5 => ⟨S_, .i32⟩
  | 6 => ⟨S100000, .i32⟩
  | 7 => ⟨S100000, .i1⟩
  | 8 => ⟨S_, .i32⟩
  | 9 => ⟨S100000, .i32⟩
  | 10 => ⟨S100000, .i32⟩
  | 11 => ⟨S100000, .i32⟩
  | 12 => ⟨S100000x1, .i32⟩
  | 13 => ⟨S100000x128, .f32⟩
  | 14 => ⟨S_, .i32⟩
  | 15 => ⟨S100000, .i32⟩
  | 16 => ⟨S100000, .i1⟩
  | 17 => ⟨S_, .i32⟩
  | 18 => ⟨S100000, .i32⟩
  | 19 => ⟨S100000, .i32⟩
  | 20 => ⟨S100000, .i32⟩
  | 21 => ⟨S100000x1, .i32⟩
  | 22 => ⟨S100000x128, .f32⟩
  | 23 => ⟨S100000x128, .f32⟩
  | 24 => ⟨S100000x128, .f32⟩
  | 25 => ⟨S_, .f32⟩
  | 26 => ⟨S100000, .f32⟩
  | 27 => ⟨S100000x1, .f32⟩
  | 28 => ⟨S100000x128, .f32⟩
  | 29 => ⟨S_, .f32⟩
  | 30 => ⟨S100000, .f32⟩
  | 31 => ⟨S100000x1, .f32⟩
  | 32 => ⟨S100000x128, .f32⟩
  | 33 => ⟨S_, .f32⟩
  | 34 => ⟨S100000, .f32⟩
  | 35 => ⟨S100000x1, .f32⟩
  | 36 => ⟨S_, .f32⟩
  | 37 => ⟨S100000x1, .f32⟩
  | 38 => ⟨S100000x1, .f32⟩
  | 39 => ⟨S_, .f32⟩
  | 40 => ⟨S_, .f32⟩
  | 41 => ⟨S100000x1, .f32⟩
  | 42 => ⟨S100000x1, .f32⟩
  | 43 => ⟨S_, .f32⟩
  | 44 => ⟨S100000x1, .f32⟩
  | 45 => ⟨S100000x1, .f32⟩
  | 46 => ⟨S_, .f32⟩
  | 47 => ⟨S_, .f32⟩
  | 48 => ⟨S100000x1, .f32⟩
  | 49 => ⟨S100000x1, .f32⟩
  | 50 => ⟨S_, .f32⟩
  | 51 => ⟨S100000x1, .f32⟩
  | 52 => ⟨S100000x1, .f32⟩
  | 53 => ⟨S100000x1, .f32⟩
  | 54 => ⟨S100000x1, .f32⟩
  | 55 => ⟨S_, .f32⟩
  | 56 => ⟨S100000x1, .f32⟩
  | 57 => ⟨S100000x1, .f32⟩
  | 58 => ⟨S_, .f32⟩
  | 59 => ⟨S_, .f32⟩
  | 60 => ⟨S100000x1, .f32⟩
  | 61 => ⟨S100000x1, .f32⟩
  | 62 => ⟨S100000x1, .f32⟩
  | 63 => ⟨S100000x1, .f32⟩
  | 64 => ⟨S_, .i32⟩
  | 65 => ⟨S500000, .i32⟩
  | 66 => ⟨S500000, .i1⟩
  | 67 => ⟨S_, .i32⟩
  | 68 => ⟨S500000, .i32⟩
  | 69 => ⟨S500000, .i32⟩
  | 70 => ⟨S500000, .i32⟩
  | 71 => ⟨S500000x1, .i32⟩
  | 72 => ⟨S500000x128, .f32⟩
  | 73 => ⟨S_, .i32⟩
  | 74 => ⟨S500000, .i32⟩
  | 75 => ⟨S500000, .i1⟩
  | 76 => ⟨S_, .i32⟩
  | 77 => ⟨S500000, .i32⟩
  | 78 => ⟨S500000, .i32⟩
  | 79 => ⟨S500000, .i32⟩
  | 80 => ⟨S500000x1, .i32⟩
  | 81 => ⟨S500000x128, .f32⟩
  | 82 => ⟨S500000x128, .f32⟩
  | 83 => ⟨S500000x128, .f32⟩
  | 84 => ⟨S_, .f32⟩
  | 85 => ⟨S500000, .f32⟩
  | 86 => ⟨S500000x1, .f32⟩
  | 87 => ⟨S500000x128, .f32⟩
  | 88 => ⟨S_, .f32⟩
  | 89 => ⟨S500000, .f32⟩
  | 90 => ⟨S500000x1, .f32⟩
  | 91 => ⟨S500000x128, .f32⟩
  | 92 => ⟨S_, .f32⟩
  | 93 => ⟨S500000, .f32⟩
  | 94 => ⟨S500000x1, .f32⟩
  | 95 => ⟨S_, .f32⟩
  | 96 => ⟨S500000x1, .f32⟩
  | 97 => ⟨S500000x1, .f32⟩
  | 98 => ⟨S_, .f32⟩
  | 99 => ⟨S_, .f32⟩
  | 100 => ⟨S500000x1, .f32⟩
  | 101 => ⟨S500000x1, .f32⟩
  | 102 => ⟨S_, .f32⟩
  | 103 => ⟨S500000x1, .f32⟩
  | 104 => ⟨S500000x1, .f32⟩
  | 105 => ⟨S_, .f32⟩
  | 106 => ⟨S_, .f32⟩
  | 107 => ⟨S500000x1, .f32⟩
  | 108 => ⟨S500000x1, .f32⟩
  | 109 => ⟨S_, .f32⟩
  | 110 => ⟨S500000x1, .f32⟩
  | 111 => ⟨S500000x1, .f32⟩
  | 112 => ⟨S500000x1, .f32⟩
  | 113 => ⟨S500000x1, .f32⟩
  | 114 => ⟨S_, .f32⟩
  | 115 => ⟨S500000x1, .f32⟩
  | 116 => ⟨S500000x1, .f32⟩
  | 117 => ⟨S_, .f32⟩
  | 118 => ⟨S_, .f32⟩
  | 119 => ⟨S500000x1, .f32⟩
  | 120 => ⟨S500000x1, .f32⟩
  | 121 => ⟨S500000x1, .f32⟩
  | 122 => ⟨S500000x1, .f32⟩
  | 123 => ⟨S100000x1, .f32⟩
  | 124 => ⟨S100000x5, .f32⟩
  | 125 => ⟨S100000x5, .f32⟩
  | 126 => ⟨S100000x6, .f32⟩
  | 127 => ⟨S100000x6, .f32⟩
  | _ => ⟨S100000x128, .f32⟩

abbrev hbmTy0_1 (i : Nat) : BufTy := match i % 128 with
  | 0 => ⟨S100000x6, .i32⟩
  | 1 => ⟨S100000x6, .i32⟩
  | 2 => ⟨S100000x6, .i32⟩
  | 3 => ⟨S100000x6, .i32⟩
  | 4 => ⟨S100000x1, .i32⟩
  | 5 => ⟨S100000, .i32⟩
  | 6 => ⟨S100000, .f32⟩
  | 7 => ⟨S_, .f32⟩
  | 8 => ⟨S100000, .f32⟩
  | 9 => ⟨S100000, .f32⟩
  | 10 => ⟨S_, .f32⟩
  | 11 => ⟨S100000, .f32⟩
  | 12 => ⟨S100000, .f32⟩
  | 13 => ⟨S_, .f32⟩
  | 14 => ⟨S_, .f32⟩
  | 15 => ⟨S_, .f32⟩
  | 16 => ⟨S_, .f32⟩
  | 17 => ⟨S100000, .f32⟩
  | 18 => ⟨S500000, .f32⟩
  | 19 => ⟨S100000, .f32⟩
  | 20 => ⟨S100000, .f32⟩
  | 21 => ⟨S_, .f32⟩
  | 22 => ⟨S100000, .f32⟩
  | 23 => ⟨S100000, .f32⟩
  | 24 => ⟨S_, .f32⟩
  | 25 => ⟨S100000, .f32⟩
  | 26 => ⟨S100000, .f32⟩
  | 27 => ⟨S_, .f32⟩
  | 28 => ⟨S100000, .f32⟩
  | 29 => ⟨S100000, .f32⟩
  | 30 => ⟨S_, .f32⟩
  | 31 => ⟨S100000, .f32⟩
  | 32 => ⟨S100000, .f32⟩
  | 33 => ⟨S100000, .f32⟩
  | 34 => ⟨S500000, .f32⟩
  | 35 => ⟨S500000, .f32⟩
  | 36 => ⟨S_, .f32⟩
  | 37 => ⟨S500000, .f32⟩
  | 38 => ⟨S500000, .f32⟩
  | 39 => ⟨S_, .f32⟩
  | 40 => ⟨S500000, .f32⟩
  | 41 => ⟨S500000, .f32⟩
  | 42 => ⟨S_, .f32⟩
  | 43 => ⟨S500000, .f32⟩
  | 44 => ⟨S500000, .f32⟩
  | 45 => ⟨S500000, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_call0_v0 : Ref sig .tc := ⟨.hbm, 40, rfl⟩
abbrev main_call0_v1 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_call1_v0 : Ref sig .tc := ⟨.hbm, 47, rfl⟩
abbrev main_call1_v1 : Ref sig .tc := ⟨.hbm, 48, rfl⟩
abbrev main_v29 : Ref sig .tc := ⟨.hbm, 49, rfl⟩
abbrev main_cst_9 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_10 : Ref sig .tc := ⟨.hbm, 55, rfl⟩
abbrev main_v34 : Ref sig .tc := ⟨.hbm, 56, rfl⟩
abbrev main_v35 : Ref sig .tc := ⟨.hbm, 57, rfl⟩
abbrev main_cst_11 : Ref sig .tc := ⟨.hbm, 58, rfl⟩
abbrev main_call2_v0 : Ref sig .tc := ⟨.hbm, 59, rfl⟩
abbrev main_call2_v1 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_12 : Ref sig .tc := ⟨.hbm, 64, rfl⟩
abbrev main_v39 : Ref sig .tc := ⟨.hbm, 65, rfl⟩
abbrev main_v40 : Ref sig .tc := ⟨.hbm, 66, rfl⟩
abbrev main_c_13 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_14 : Ref sig .tc := ⟨.hbm, 73, rfl⟩
abbrev main_v46 : Ref sig .tc := ⟨.hbm, 74, rfl⟩
abbrev main_v47 : Ref sig .tc := ⟨.hbm, 75, rfl⟩
abbrev main_c_15 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_16 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_17 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_18 : Ref sig .tc := ⟨.hbm, 92, rfl⟩
abbrev main_v61 : Ref sig .tc := ⟨.hbm, 93, rfl⟩
abbrev main_v62 : Ref sig .tc := ⟨.hbm, 94, rfl⟩
abbrev main_cst_19 : Ref sig .tc := ⟨.hbm, 95, rfl⟩
abbrev main_v63 : Ref sig .tc := ⟨.hbm, 96, rfl⟩
abbrev main_v64 : Ref sig .tc := ⟨.hbm, 97, rfl⟩
abbrev main_cst_20 : Ref sig .tc := ⟨.hbm, 98, rfl⟩
abbrev main_call4_v0 : Ref sig .tc := ⟨.hbm, 99, rfl⟩
abbrev main_call4_v1 : Ref sig .tc := ⟨.hbm, 100, rfl⟩
abbrev main_v65 : Ref sig .tc := ⟨.hbm, 101, rfl⟩
abbrev main_cst_21 : Ref sig .tc := ⟨.hbm, 102, rfl⟩
abbrev main_v66 : Ref sig .tc := ⟨.hbm, 103, rfl⟩
abbrev main_v67 : Ref sig .tc := ⟨.hbm, 104, rfl⟩
abbrev main_cst_22 : Ref sig .tc := ⟨.hbm, 105, rfl⟩
abbrev main_call5_v0 : Ref sig .tc := ⟨.hbm, 106, rfl⟩
abbrev main_call5_v1 : Ref sig .tc := ⟨.hbm, 107, rfl⟩
abbrev main_v68 : Ref sig .tc := ⟨.hbm, 108, rfl⟩
abbrev main_cst_23 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_24 : Ref sig .tc := ⟨.hbm, 114, rfl⟩
abbrev main_v73 : Ref sig .tc := ⟨.hbm, 115, rfl⟩
abbrev main_v74 : Ref sig .tc := ⟨.hbm, 116, rfl⟩
abbrev main_cst_25 : Ref sig .tc := ⟨.hbm, 117, rfl⟩
abbrev main_call6_v0 : Ref sig .tc := ⟨.hbm, 118, rfl⟩
abbrev main_call6_v1 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_values : Ref sig .tc := ⟨.hbm, 127, rfl⟩
abbrev main_indices : Ref sig .tc := ⟨.hbm, 128, rfl⟩
abbrev main_v82 : Ref sig .tc := ⟨.hbm, 129, rfl⟩
abbrev main_values_26 : Ref sig .tc := ⟨.hbm, 130, rfl⟩
abbrev main_indices_27 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_28 : Ref sig .tc := ⟨.hbm, 135, rfl⟩
abbrev main_v86 : Ref sig .tc := ⟨.hbm, 136, rfl⟩
abbrev main_v87 : Ref sig .tc := ⟨.hbm, 137, rfl⟩
abbrev main_cst_29 : Ref sig .tc := ⟨.hbm, 138, rfl⟩
abbrev main_v88 : Ref sig .tc := ⟨.hbm, 139, rfl⟩
abbrev main_v89 : Ref sig .tc := ⟨.hbm, 140, rfl⟩
abbrev main_cst_30 : Ref sig .tc := ⟨.hbm, 141, rfl⟩
abbrev main_v90 : Ref sig .tc := ⟨.hbm, 142, rfl⟩
abbrev main_cst_31 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_cst_32 : Ref sig .tc := ⟨.hbm, 149, rfl⟩
abbrev main_v96 : Ref sig .tc := ⟨.hbm, 150, rfl⟩
abbrev main_v97 : Ref sig .tc := ⟨.hbm, 151, rfl⟩
abbrev main_cst_33 : Ref sig .tc := ⟨.hbm, 152, rfl⟩
abbrev main_v98 : Ref sig .tc := ⟨.hbm, 153, rfl⟩
abbrev main_v99 : Ref sig .tc := ⟨.hbm, 154, rfl⟩
abbrev main_cst_34 : Ref sig .tc := ⟨.hbm, 155, rfl⟩
abbrev main_v100 : Ref sig .tc := ⟨.hbm, 156, rfl⟩
abbrev main_v101 : Ref sig .tc := ⟨.hbm, 157, rfl⟩
abbrev main_cst_35 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_cst_36 : Ref sig .tc := ⟨.hbm, 164, rfl⟩
abbrev main_v107 : Ref sig .tc := ⟨.hbm, 165, rfl⟩
abbrev main_v108 : Ref sig .tc := ⟨.hbm, 166, rfl⟩
abbrev main_cst_37 : Ref sig .tc := ⟨.hbm, 167, rfl⟩
abbrev main_v109 : Ref sig .tc := ⟨.hbm, 168, rfl⟩
abbrev main_v110 : Ref sig .tc := ⟨.hbm, 169, rfl⟩
abbrev main_cst_38 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_cst_39 : Ref sig .tc := ⟨.hbm, 174, rfl⟩
abbrev main_v114 : Ref sig .tc := ⟨.hbm, 175, rfl⟩
abbrev main_cst_40 : Ref sig .tc := ⟨.hbm, 176, rfl⟩
abbrev main_v115 : Ref sig .tc := ⟨.hbm, 177, rfl⟩
abbrev main_v116 : Ref sig .tc := ⟨.hbm, 178, rfl⟩
abbrev main_cst_41 : Ref sig .tc := ⟨.hbm, 179, rfl⟩
abbrev main_v117 : Ref sig .tc := ⟨.hbm, 180, rfl⟩
abbrev main_cst_42 : Ref sig .tc := ⟨.hbm, 181, rfl⟩
abbrev main_v118 : Ref sig .tc := ⟨.hbm, 182, rfl⟩
abbrev main_v119 : Ref sig .tc := ⟨.hbm, 183, rfl⟩

abbrev nD : Nat := 1
abbrev τ : Topo := Topo.v7x

variable {F : FTy → Type} [FloatOps F]
-- ==== Proof.Rows.lean ====
/-
  One tile's arithmetic, restated with its repetition folded: a row is eight chunks of sixteen lanes, a group is
  sixteen rows, and so on. The equality with the printed text is proved in the modules that import this one.
-/
module

public import proofs.«01_k».proof.Proof.Gen.KernelIdeal

@[expose] public section

noncomputable section

namespace Cert.Tile

open Cert.KernelIdeal Idealize.ShloMosaic Idealize.SL.Sem
open Facts₀ Facts

variable {F : FTy → Type} [FloatOps F]
variable [Facts]

/-- What a vector subcore's code may do. -/
abbrev VEff (F : FTy → Type) [FloatOps F] (c : Fin τ.nSC) (s : Fin τ.nSub) :=
  TpuEff nD τ sig (Elt F) Λ₀ (.scVector c s)

/-- The word 0. -/
abbrev w0 : F .f32 := Scalar.ofBits .f32 0x00000000#32
/-- The word 1. -/
abbrev w1 : F .f32 := Scalar.ofBits .f32 0x3F800000#32
/-- The word 2. -/
abbrev w2 : F .f32 := Scalar.ofBits .f32 0x40000000#32
/-- Sixteen zeros. -/
abbrev z16 : FVec F S16 .f32 := broadcast S16 w0

theorem inb_row {R row c : ℕ} (hr : row < R) (hc : c < 8) :
    ∀ a, (![row, 16 * c] : Fin 2 → ℕ) a + S1x16.size a ≤ (⟨2, ![R, 128]⟩ : Shape).size a := by
  intro a
  fin_cases a
  · show row + 1 ≤ R; omega
  · show 16 * c + 16 ≤ 128; omega

theorem inb_mat {jj : ℕ} (hj : jj < 16) :
    ∀ a, (![jj, 0] : Fin 2 → ℕ) a + S1x16.size a ≤ S16x17.size a := by
  intro a
  fin_cases a
  · show jj + 1 ≤ 16; omega
  · show 0 + 16 ≤ 17; omega

variable {c : Fin τ.nSC} {s : Fin τ.nSub} {α : Type}

/-- The chunks `q, …, 7` of one row of the two row buffers: the running sums of `u²`, `v²` and `u·v`, lane by lane. -/
def accP {R : ℕ} (ru rv : Memref sig .scVector .vmem ⟨2, ![R, 128]⟩ .f32) (row : ℕ) (hr : row < R) :
    (n q : ℕ) → (h : q + n = 8) → FVec F S16 .f32 → FVec F S16 .f32 → FVec F S16 .f32 →
      (FVec F S16 .f32 → FVec F S16 .f32 → FVec F S16 .f32 → Prog (VEff F c s) α) → Prog (VEff F c s) α
  | 0, _, _, au, av, aw, K => K au av aw
  | n + 1, q, h, au, av, aw, K =>
    .op (.load ru (Rect.unit (s := ⟨2, ![R, 128]⟩) ![row, 16 * q] S1x16.size (inb_row hr (by omega))).toLoadRect
      (View.loadsAt_vmem h_S1x16)) fun x =>
    .op (.load rv (Rect.unit (s := ⟨2, ![R, 128]⟩) ![row, 16 * q] S1x16.size (inb_row hr (by omega))).toLoadRect
      (View.loadsAt_vmem h_S1x16)) fun y =>
    accP ru rv row hr n (q + 1) (by omega)
      (addf au (mulf (shapeCast S16 (x : Vec F S1x16 .f32) shapeCasts_S1x16_S16) (shapeCast S16 (x : Vec F S1x16 .f32) shapeCasts_S1x16_S16)))
      (addf av (mulf (shapeCast S16 (y : Vec F S1x16 .f32) shapeCasts_S1x16_S16) (shapeCast S16 (y : Vec F S1x16 .f32) shapeCasts_S1x16_S16)))
      (addf aw (mulf (shapeCast S16 (x : Vec F S1x16 .f32) shapeCasts_S1x16_S16) (shapeCast S16 (y : Vec F S1x16 .f32) shapeCasts_S1x16_S16))) K

/-- Row `jj` of one table of lane sums: the load the text makes and does not use, then the store. -/
def putRow (m : Memref sig .scVector .vmem S16x17 .f32) (jj : ℕ) (hj : jj < 16) (x : FVec F S16 .f32)
    (K : PUnit → Prog (VEff F c s) α) : Prog (VEff F c s) α :=
  .op (.load m (Rect.unit (s := S16x17) ![jj, 0] S1x16.size (inb_mat hj)).toLoadRect (View.loadsAt_vmem h_S1x16)) fun _ =>
  .op (.store m (Rect.unit (s := S16x17) ![jj, 0] S1x16.size (inb_mat hj)) (shapeCast S1x16 x shapeCasts_S16_S1x16)
    Finset.univ (View.stores_vmem_bits_univ h_S1x16 rfl) (.inl rfl)) fun u => K u

/-- One row: its three sums, into row `jj` of the three tables. -/
def rowP {R : ℕ} (ru rv : Memref sig .scVector .vmem ⟨2, ![R, 128]⟩ .f32) (mu mv md : Memref sig .scVector .vmem S16x17 .f32)
    (row : ℕ) (hr : row < R) (jj : ℕ) (hj : jj < 16) (K : PUnit → Prog (VEff F c s) α) : Prog (VEff F c s) α :=
  accP ru rv row hr 8 0 rfl z16 z16 z16 fun au av aw =>
    putRow mu jj hj au fun _ => putRow mv jj hj av fun _ => putRow md jj hj aw fun u => K u

/-- The rows `jj, …, 15` of a group whose first row is `r0`. -/
def rowsP {R : ℕ} (ru rv : Memref sig .scVector .vmem ⟨2, ![R, 128]⟩ .f32) (mu mv md : Memref sig .scVector .vmem S16x17 .f32)
    (r0 : ℕ) (hr : r0 + 16 ≤ R) : (n jj : ℕ) → (h : jj + n = 16) → (K : Prog (VEff F c s) α) → Prog (VEff F c s) α
  | 0, _, _, K => K
  | n + 1, jj, h, K =>
    rowP ru rv mu mv md (r0 + jj) (by omega) jj (by omega) fun _ => rowsP ru rv mu mv md r0 hr n (jj + 1) (by omega) K

/-- Equal programs after one row, equal programs. -/
theorem rows_step {R : ℕ} {ru rv : Memref sig .scVector .vmem ⟨2, ![R, 128]⟩ .f32} {mu mv md : Memref sig .scVector .vmem S16x17 .f32}
    {r0 : ℕ} {n jj : ℕ} (hr : r0 + 16 ≤ R) (h : jj + (n + 1) = 16) {K : Prog (VEff F c s) α} {K' : PUnit → Prog (VEff F c s) α}
    (e : ∀ u, rowsP ru rv mu mv md r0 hr n (jj + 1) (by omega) K = K' u) :
    rowsP ru rv mu mv md r0 hr (n + 1) jj h K = rowP ru rv mu mv md (r0 + jj) (by omega) jj (by omega) K' :=
  congrArg (rowP ru rv mu mv md (r0 + jj) (by omega) jj (by omega)) (funext e)

/-- Equal programs after one effect, equal programs. -/
theorem op_step {β : Type} {e : VEff F c s β} {k k' : β → Prog (VEff F c s) α} (h : ∀ x, k x = k' x) :
    (Prog.op e k : Prog (VEff F c s) α) = .op e k' :=
  congrArg _ (funext h)

/-- A conditional whose two branches meet again, under what follows it. -/
theorem dite_step {β γ : Type} {p : Prop} [Decidable p] {P : p → Prog (VEff F c s) α} {K : Prog (VEff F c s) α}
    {X : p → Prog (VEff F c s) β} {J : Prog (VEff F c s) β} {k1 : β → Prog (VEff F c s) γ} {k2 : γ → Prog (VEff F c s) α}
    (hn : K = (J.bind k1).bind k2) (hp : K = (J.bind k1).bind k2 → ∀ h, P h = ((X h).bind k1).bind k2) :
    dite p P (fun _ => K) = ((dite p X fun _ => J).bind k1).bind k2 := by
  by_cases h : p
  · rw [dif_pos h, dif_pos h]; exact hp hn h
  · rw [dif_neg h, dif_neg h]; exact hn

end Cert.Tile
-- ==== Proof.Body.lean ====
/-
  The whole of one tile's program, with its repetition folded.
-/
module

public import proofs.«01_k».proof.Proof.Rows

@[expose] public section

noncomputable section

namespace Cert.Tile

open Cert.KernelIdeal Idealize.ShloMosaic Idealize.SL.Sem
open Facts₀ Facts

variable {F : FTy → Type} [FloatOps F]
variable [Facts]

/-- What one tile's code is handed: the tables in high memory, its own buffers, its semaphores. -/
structure Refs where
  arg2 : Memref sig .scVector .hbm S100000x128 .f32
  harg2 : arg2.IsWhole
  arg3 : Memref sig .scVector .hbm S602112 .i32
  harg3 : arg3.IsWhole
  arg4 : Memref sig .scVector .hbm S602112 .i32
  harg4 : arg4.IsWhole
  arg5 : Memref sig .scVector .hbm S602112 .f32
  harg5 : arg5.IsWhole
  arg6 : Memref sig .scVector .hbm S512 .f32
  harg6 : arg6.IsWhole
  arg7 : Memref sig .scVector .vmem S3136 .i32
  harg7 : arg7.IsWhole
  arg8 : Memref sig .scVector .vmem S3136 .i32
  harg8 : arg8.IsWhole
  arg9 : Memref sig .scVector .vmem S15680 .i32
  harg9 : arg9.IsWhole
  arg10 : Memref sig .scVector .vmem S15680 .i32
  harg10 : arg10.IsWhole
  arg11 : Memref sig .scVector .vmem S16x128 .f32
  harg11 : arg11.IsWhole
  arg12 : Memref sig .scVector .vmem S16x128 .f32
  harg12 : arg12.IsWhole
  arg13 : Memref sig .scVector .vmem S80x128 .f32
  harg13 : arg13.IsWhole
  arg14 : Memref sig .scVector .vmem S80x128 .f32
  harg14 : arg14.IsWhole
  arg15 : Memref sig .scVector .vmem S16x128 .f32
  harg15 : arg15.IsWhole
  arg16 : Memref sig .scVector .vmem S16x128 .f32
  harg16 : arg16.IsWhole
  arg17 : Memref sig .scVector .vmem S80x128 .f32
  harg17 : arg17.IsWhole
  arg18 : Memref sig .scVector .vmem S80x128 .f32
  harg18 : arg18.IsWhole
  arg19 : Memref sig .scVector .vmem S16x17 .f32
  harg19 : arg19.IsWhole
  arg20 : Memref sig .scVector .vmem S16x17 .f32
  harg20 : arg20.IsWhole
  arg21 : Memref sig .scVector .vmem S16x17 .f32
  harg21 : arg21.IsWhole
  arg22 : Memref sig .scVector .vmem S80 .f32
  harg22 : arg22.IsWhole
  arg23 : Memref sig .scVector .vmem S3136 .f32
  harg23 : arg23.IsWhole
  arg24 : Memref sig .scVector .vmem S15680 .f32
  harg24 : arg24.IsWhole
  arg25 : DmaSems sig S_
  arg26 : DmaSems sig S_
  arg27 : DmaSems sig S_
  arg28 : DmaSems sig S_
  arg29 : DmaSems sig S_
  arg30 : DmaSems sig S_
  arg31 : DmaSems sig S_
  arg32 : DmaSems sig S_
  r0 : DmaSems sig S_
  r1 : DmaSems sig S_
  r2 : DmaSems sig S_
  r3 : DmaSems sig S_
  r4 : DmaSems sig S_
  r5 : DmaSems sig S_
  r6 : DmaSems sig S_

/-- The lane numbers. -/
abbrev lanes : IVec S16 32 := iota .scVector S16 32 [0] iota_S16_d0_w32_scVector

theorem lanes_toNat (x : S16.Idx) : (lanes x).toNat = (x 0).val := by
  have h := (x 0).isLt
  simp only [lanes, iota, List.foldl, BitVec.toNat_ofNat, Nat.zero_mul, Nat.zero_add]
  refine Nat.mod_eq_of_lt ?_
  simp at h
  omega

theorem lanes_lt (x : S16.Idx) : (lanes x).toNat < 16 := lanes_toNat x ▸ (x 0).isLt

/-- Column `q` of the tables of lane sums lies in them. -/
theorem col_inb {q : ℕ} (hq : q < 16) :
    ∀ a x, ((![lanes, broadcast S16 (BitVec.ofNat 32 q)] : Fin 2 → IVec S16 32) a x).toNat < S16x17.size a := by
  intro a x
  fin_cases a
  · exact lanes_lt x
  · show (BitVec.ofNat 32 q).toNat < 17
    rw [BitVec.toNat_ofNat]; omega

/-- Lane `i`'s `k`-th negative is entry `5 i + k`. -/
abbrev negIx (k : ℕ) : IVec S16 32 := addi (muli lanes (broadcast S16 5#32)) (broadcast S16 (BitVec.ofNat 32 k))

theorem negIx_toNat {k : ℕ} (hk : k < 5) (x : S16.Idx) : (negIx k x).toNat = 5 * (x 0).val + k := by
  have h := (x 0).isLt
  have e := lanes_toNat x
  simp at h
  show (lanes x * 5#32 + BitVec.ofNat 32 k).toNat = _
  simp only [BitVec.toNat_add, BitVec.toNat_mul, BitVec.toNat_ofNat, e]
  omega

theorem neg_inb {k : ℕ} (hk : k < 5) : ∀ a x, ((![negIx k] : Fin 1 → IVec S16 32) a x).toNat < S80.size a := by
  intro a x
  fin_cases a
  show (negIx k x).toNat < 80
  rw [negIx_toNat hk x]
  have := (x 0).isLt
  simp at this
  omega

/-- The sixteen checks before the column loads. -/
def asmP {c : Fin τ.nSC} {s : Fin τ.nSub} {α : Type} : (n q : ℕ) → (K : Prog (VEff F c s) α) → Prog (VEff F c s) α
  | 0, _, K => K
  | n + 1, q, K =>
    .op (TpuEff.assume (k0_chk1 lanes (broadcast S16 (BitVec.ofNat 32 q))) (k0_chk1.dec lanes (broadcast S16 (BitVec.ofNat 32 q))))
      fun _ => asmP n (q + 1) K

variable {c : Fin τ.nSC} {s : Fin τ.nSub} {α : Type}

/-- Column `q` of a table of lane sums, a lane a row. -/
def colP (m : Memref sig .scVector .vmem S16x17 .f32) (q : ℕ) (hq : q < 16) (K : FVec F S16 .f32 → Prog (VEff F c s) α) :
    Prog (VEff F c s) α :=
  .op (.load m (.whole S16x17) (View.loadsAt_whole (View.loads_vmem h_S16x17))) fun f =>
    K (loadIdx (e := .f32) (f : Vec F S16x17 .f32) ![lanes, broadcast S16 (BitVec.ofNat 32 q)] (col_inb hq))

/-- The sum of sixteen vectors, in pairs. -/
def tree16 (x : Fin 16 → FVec F S16 .f32) : FVec F S16 .f32 :=
  addf (addf (addf (addf (x 0) (x 1)) (addf (x 2) (x 3))) (addf (addf (x 4) (x 5)) (addf (x 6) (x 7))))
    (addf (addf (addf (x 8) (x 9)) (addf (x 10) (x 11))) (addf (addf (x 12) (x 13)) (addf (x 14) (x 15))))

/-- The sixteen columns, and their sum. -/
def sumP (m : Memref sig .scVector .vmem S16x17 .f32) (K : FVec F S16 .f32 → Prog (VEff F c s) α) : Prog (VEff F c s) α :=
  colP m 0 (by decide) fun x0 => colP m 1 (by decide) fun x1 => colP m 2 (by decide) fun x2 => colP m 3 (by decide) fun x3 =>
  colP m 4 (by decide) fun x4 => colP m 5 (by decide) fun x5 => colP m 6 (by decide) fun x6 => colP m 7 (by decide) fun x7 =>
  colP m 8 (by decide) fun x8 => colP m 9 (by decide) fun x9 => colP m 10 (by decide) fun x10 => colP m 11 (by decide) fun x11 =>
  colP m 12 (by decide) fun x12 => colP m 13 (by decide) fun x13 => colP m 14 (by decide) fun x14 => colP m 15 (by decide) fun x15 =>
  K (addf (addf (addf (addf x0 x1) (addf x2 x3)) (addf (addf x4 x5) (addf x6 x7)))
    (addf (addf (addf x8 x9) (addf x10 x11)) (addf (addf x12 x13) (addf x14 x15))))

/-- From the three sums of a lane, `max (1 + 2 d / (α β)) (1 + ε)`. -/
def gammaV (gu gv gw : FVec F S16 .f32) : FVec F S16 .f32 :=
  maximumf (addf (broadcast S16 (Scalar.ofBits .f32 0x3F800000#32))
    (divf (mulf (broadcast S16 (Scalar.ofBits .f32 0x40000000#32))
        (subf (addf gu gv) (mulf (broadcast S16 (Scalar.ofBits .f32 0x40000000#32)) gw)))
      (mulf (maximumf (subf (broadcast S16 (Scalar.ofBits .f32 0x3F800000#32)) gu) (broadcast S16 (Scalar.ofBits .f32 0x3727C5AC#32)))
        (maximumf (subf (broadcast S16 (Scalar.ofBits .f32 0x3F800000#32)) gv) (broadcast S16 (Scalar.ofBits .f32 0x3727C5AC#32))))))
    (broadcast S16 (Scalar.ofBits .f32 0x3F800054#32))

/-- What follows the rows of a group: the checks, the columns, the value. -/
def gatherP (mu mv md : Memref sig .scVector .vmem S16x17 .f32) (K : FVec F S16 .f32 → Prog (VEff F c s) α) :
    Prog (VEff F c s) α :=
  asmP 16 0 (sumP mu fun gu => sumP mv fun gv => sumP md fun gw => K (gammaV gu gv gw))

/-- A group of sixteen rows. -/
def groupP {R : ℕ} (ru rv : Memref sig .scVector .vmem ⟨2, ![R, 128]⟩ .f32) (A : Refs)
    (r0 : ℕ) (hr : r0 + 16 ≤ R) (K : FVec F S16 .f32 → Prog (VEff F c s) α) : Prog (VEff F c s) α :=
  rowsP ru rv A.arg20 A.arg21 A.arg19 r0 hr 16 0 rfl (gatherP A.arg20 A.arg21 A.arg19 K)

/-- Sixteen words into a one-dimensional buffer: the load not used, and the store. -/
def put16 {n : ℕ} (m : Memref sig .scVector .vmem ⟨1, ![n]⟩ .f32) (o : Fin 1 → ℕ)
    (ho : ∀ a, o a + S16.size a ≤ (⟨1, ![n]⟩ : Shape).size a) (x : FVec F S16 .f32) (K : Prog (VEff F c s) α) : Prog (VEff F c s) α :=
  .op (.load m (Rect.unit (s := ⟨1, ![n]⟩) o S16.size ho).toLoadRect (View.loadsAt_vmem h_S16)) fun _ =>
  .op (.store m (Rect.unit (s := ⟨1, ![n]⟩) o S16.size ho) x Finset.univ (View.stores_vmem_bits_univ h_S16 rfl) (.inl rfl)) fun _ => K

/-- A group of negatives: its value into the output and into the group's part of the list of negatives. -/
def negP (ru rv : Memref sig .scVector .vmem S80x128 .f32) (A : Refs) (g : ℕ) (hg : g < 5) (o : Fin 1 → ℕ)
    (ho : ∀ a, o a + S16.size a ≤ S15680.size a) (K : Prog (VEff F c s) α) : Prog (VEff F c s) α :=
  groupP ru rv A (16 * g) (by omega) fun gn =>
    put16 A.arg24 o ho gn (put16 A.arg22 ![16 * g] (by intro a; fin_cases a; show 16 * g + 16 ≤ 80; omega) gn K)

/-- One more negative compared with the positive. -/
def rankStep (gp x r : FVec F S16 .f32) : FVec F S16 .f32 :=
  addf r (select (cmpf .ole x gp) (broadcast S16 (Scalar.ofBits .f32 0x3F800000#32)) (broadcast S16 (Scalar.ofBits .f32 0x00000000#32)))

/-- The `k`-th negatives of the sixteen lanes. -/
def negLd (m : Memref sig .scVector .vmem S80 .f32) (k : ℕ) (hk : k < 5) (K : FVec F S16 .f32 → Prog (VEff F c s) α) :
    Prog (VEff F c s) α :=
  .op (TpuEff.assume (k0_chk97 (negIx k)) (k0_chk97.dec (negIx k))) fun _ =>
  .op (.load m (.whole S80) (View.loadsAt_whole (View.loads_vmem h_S80))) fun f => K (loadIdx (e := .f32) (f : Vec F S80 .f32) ![negIx k] (neg_inb hk))

/-- How many of a lane's five negatives are at most its positive. -/
def rankP (m : Memref sig .scVector .vmem S80 .f32) (gp : FVec F S16 .f32) (K : FVec F S16 .f32 → Prog (VEff F c s) α) :
    Prog (VEff F c s) α :=
  negLd m 0 (by decide) fun x0 => negLd m 1 (by decide) fun x1 => negLd m 2 (by decide) fun x2 =>
  negLd m 3 (by decide) fun x3 => negLd m 4 (by decide) fun x4 =>
  K (rankStep gp x4 (rankStep gp x3 (rankStep gp x2 (rankStep gp x1 (rankStep gp x0 (broadcast S16 (Scalar.ofBits .f32 0x00000000#32)))))))

/-- A chunk's part of the sum of reciprocal ranks: `p0` the number of the chunk's first edge. -/
def addRank (acc : FVec F S16 .f32) (p0 : BitVec 32) (rank : FVec F S16 .f32) : FVec F S16 .f32 :=
  addf acc (select (cmpi .slt (addi (broadcast S16 p0) lanes) (broadcast S16 100000#32))
    (divf (broadcast S16 (Scalar.ofBits .f32 0x3F800000#32)) (addf rank (broadcast S16 (Scalar.ofBits .f32 0x3F800000#32))))
    (broadcast S16 (Scalar.ofBits .f32 0x00000000#32)))

/-- One chunk: sixteen positives and their eighty negatives. -/
def chunkP (pu pv : Memref sig .scVector .vmem S16x128 .f32) (nu nv : Memref sig .scVector .vmem S80x128 .f32) (A : Refs)
    (op : Fin 1 → ℕ) (hop : ∀ a, op a + S16.size a ≤ S3136.size a)
    (o0 o1 o2 o3 o4 : Fin 1 → ℕ) (h0 : ∀ a, o0 a + S16.size a ≤ S15680.size a) (h1 : ∀ a, o1 a + S16.size a ≤ S15680.size a)
    (h2 : ∀ a, o2 a + S16.size a ≤ S15680.size a) (h3 : ∀ a, o3 a + S16.size a ≤ S15680.size a) (h4 : ∀ a, o4 a + S16.size a ≤ S15680.size a)
    (acc : FVec F S16 .f32) (p0 : BitVec 32) (K : FVec F S16 .f32 → Prog (VEff F c s) α) : Prog (VEff F c s) α :=
  groupP pu pv A 0 (by decide) fun gp => put16 A.arg23 op hop gp (
  negP nu nv A 0 (by decide) o0 h0 (negP nu nv A 1 (by decide) o1 h1 (negP nu nv A 2 (by decide) o2 h2 (
  negP nu nv A 3 (by decide) o3 h3 (negP nu nv A 4 (by decide) o4 h4 (
  rankP A.arg22 gp fun rank => K (addRank acc p0 rank)))))))

/-- The table of rows, as the text slices it. -/
abbrev tab (A : Refs) : Memref sig .scVector .hbm S100000x128 .f32 :=
  A.arg2.slice (Rect.unit (s := S100000x128) ![0, 0] S100000x128.size inb_S100000x128_S100000x128_0_0) (fun _ => rfl)

/-- Wait for a gather into `dst`. -/
def waitP {t : Shape} (A : Refs) (sem : DmaSem sig) (dst : Memref sig .scVector .vmem t .f32) (hd : dst.IsWhole)
    (K : Prog (VEff F c s) α) : Prog (VEff F c s) α :=
  .op (.waitDma2 sem (tab A) dst (View.wordExact_bits rfl) hd.wordExact) fun _ => K

/-- Start the gather of the sixteen rows named from `o` on. -/
def getP (A : Refs) (sem : DmaSem sig) (dst : Memref sig .scVector .vmem S16x128 .f32) (ix : Memref sig .scVector .vmem S3136 .i32)
    (o : Fin 1 → ℕ) (ho : ∀ a, o a + S16.size a ≤ S3136.size a) (K : Prog (VEff F c s) α) : Prog (VEff F c s) α :=
  SparseCore.enqueueIndirectGather rfl (tab A) dst gathers_S100000x128_S16x128
    (ix.slice (Rect.unit (s := S3136) o S16.size ho) (fun _ => rfl)) rfl sem (View.wordExact_bits rfl) rfl (Or.inl rfl) >>= fun _ => K

/-- Start the gather of the eighty rows named from `o` on. -/
def getN (A : Refs) (sem : DmaSem sig) (dst : Memref sig .scVector .vmem S80x128 .f32) (ix : Memref sig .scVector .vmem S15680 .i32)
    (o : Fin 1 → ℕ) (ho : ∀ a, o a + S80.size a ≤ S15680.size a) (K : Prog (VEff F c s) α) : Prog (VEff F c s) α :=
  SparseCore.enqueueIndirectGather rfl (tab A) dst gathers_S100000x128_S80x128
    (ix.slice (Rect.unit (s := S15680) o S80.size ho) (fun _ => rfl)) rfl sem (View.wordExact_bits rfl) rfl (Or.inl rfl) >>= fun _ => K

/-- The four waits of the first slot. -/
def wait0 (A : Refs) (K : Prog (VEff F c s) α) : Prog (VEff F c s) α :=
  waitP A A.arg25.sem A.arg11 A.harg11 (waitP A A.arg26.sem A.arg12 A.harg12 (
  waitP A A.arg27.sem A.arg13 A.harg13 (waitP A A.arg28.sem A.arg14 A.harg14 K)))

/-- The four waits of the second slot. -/
def wait1 (A : Refs) (K : Prog (VEff F c s) α) : Prog (VEff F c s) α :=
  waitP A A.arg29.sem A.arg15 A.harg15 (waitP A A.arg30.sem A.arg16 A.harg16 (
  waitP A A.arg31.sem A.arg17 A.harg17 (waitP A A.arg32.sem A.arg18 A.harg18 K)))

/-- The four gathers into the first slot. -/
def get0 (A : Refs) (o : Fin 1 → ℕ) (ho : ∀ a, o a + S16.size a ≤ S3136.size a) (p : Fin 1 → ℕ) (hp : ∀ a, p a + S80.size a ≤ S15680.size a)
    (K : Prog (VEff F c s) α) : Prog (VEff F c s) α :=
  getP A A.arg25.sem A.arg11 A.arg7 o ho (getP A A.arg26.sem A.arg12 A.arg8 o ho (
  getN A A.arg27.sem A.arg13 A.arg9 p hp (getN A A.arg28.sem A.arg14 A.arg10 p hp K)))

/-- The four gathers into the second slot. -/
def get1 (A : Refs) (o : Fin 1 → ℕ) (ho : ∀ a, o a + S16.size a ≤ S3136.size a) (p : Fin 1 → ℕ) (hp : ∀ a, p a + S80.size a ≤ S15680.size a)
    (K : Prog (VEff F c s) α) : Prog (VEff F c s) α :=
  getP A A.arg29.sem A.arg15 A.arg7 o ho (getP A A.arg30.sem A.arg16 A.arg8 o ho (
  getN A A.arg31.sem A.arg17 A.arg9 p hp (getN A A.arg32.sem A.arg18 A.arg10 p hp K)))

/-- The number of the loop's trip, as the text computes with it, doubled. -/
abbrev v19' (t : Fin k0_t1_loop.trips) : BitVec 32 := Scalar.muli 2#32 (Scf.iv 0#32 1#32 t)

/-- The second half of a trip. -/
def second (A : Refs) (v2 : BitVec 32) (t : Fin k0_t1_loop.trips) (acc : FVec F S16 .f32) : Prog (VEff F c s) (FVec F S16 .f32) :=
  wait1 A (
  chunkP A.arg15 A.arg16 A.arg17 A.arg18 A (k0_off17 t) (k0_off17_inb t) (k0_off18 t) (k0_off19 t) (k0_off20 t) (k0_off21 t) (k0_off22 t)
    (k0_off18_inb t) (k0_off19_inb t) (k0_off20_inb t) (k0_off21_inb t) (k0_off22_inb t) acc
    (Scalar.addi v2 (Scalar.muli (Scalar.addi (v19' t) 1#32) 16#32)) fun acc' => .ret acc')

/-- One trip: two chunks, one from each slot, the next two gathers started in between. -/
def pairP (A : Refs) (v2 : BitVec 32) (t : Fin k0_t1_loop.trips) (acc : FVec F S16 .f32) : Prog (VEff F c s) (FVec F S16 .f32) :=
  wait0 A (get1 A (k0_off5 t) (k0_off5_inb t) (k0_off6 t) (k0_off6_inb t) (
  chunkP A.arg11 A.arg12 A.arg13 A.arg14 A (k0_off7 t) (k0_off7_inb t) (k0_off8 t) (k0_off9 t) (k0_off10 t) (k0_off11 t) (k0_off12 t)
    (k0_off8_inb t) (k0_off9_inb t) (k0_off10_inb t) (k0_off11_inb t) (k0_off12_inb t) acc
    (Scalar.addi v2 (Scalar.muli (v19' t) 16#32)) fun acc' =>
  if h : k0_cond1 t = 1#1 then
    get0 A (k0_off13 t) (k0_off13_inb t h) (k0_off14 t) (k0_off14_inb t h) (second A v2 t acc')
  else second A v2 t acc'))

/-- A copy of one slice of a table of row numbers into a buffer, waited for. -/
def copyP (src : Memref sig .scVector .hbm S602112 .i32) {n : ℕ} (dst : Memref sig .scVector .vmem ⟨1, ![n]⟩ .i32) (hd : dst.IsWhole)
    (sem : DmaSem sig) (o : Fin 1 → ℕ) (ho : ∀ a, o a + (⟨1, ![n]⟩ : Shape).size a ≤ S602112.size a) (K : Prog (VEff F c s) α) :
    Prog (VEff F c s) α :=
  .op (.enqueueDma (src.slice (Rect.unit (s := S602112) o (⟨1, ![n]⟩ : Shape).size ho) (fun _ => rfl)) (.here dst) (.dma sem)
    (View.wordExact_bits rfl) hd.wordExact ⟨Or.inl rfl, trivial⟩) fun _ =>
  .op (.waitDma2 sem (src.slice (Rect.unit (s := S602112) o (⟨1, ![n]⟩ : Shape).size ho) (fun _ => rfl)) dst
    (View.wordExact_bits rfl) hd.wordExact) fun _ => K

/-- A copy of a buffer out, waited for. -/
def outP {n m : ℕ} (src : Memref sig .scVector .vmem ⟨1, ![n]⟩ .f32) (hs : src.view.WordExact) (dst : Memref sig .scVector .hbm ⟨1, ![m]⟩ .f32)
    (sem : DmaSem sig) (o : Fin 1 → ℕ) (ho : ∀ a, o a + (⟨1, ![n]⟩ : Shape).size a ≤ (⟨1, ![m]⟩ : Shape).size a) (K : Prog (VEff F c s) α) :
    Prog (VEff F c s) α :=
  .op (.enqueueDma src (.here (dst.slice (Rect.unit (s := ⟨1, ![m]⟩) o (⟨1, ![n]⟩ : Shape).size ho) (fun _ => rfl))) (.dma sem)
    hs (View.wordExact_bits rfl) ⟨Or.inl rfl, trivial⟩) fun _ =>
  .op (.waitDma2 sem src (dst.slice (Rect.unit (s := ⟨1, ![m]⟩) o (⟨1, ![n]⟩ : Shape).size ho) (fun _ => rfl))
    hs (View.wordExact_bits rfl)) fun _ => K

/-- The number of the tile's first positive edge. -/
abbrev base2 (i : grid0.Coords) : BitVec 32 :=
  Scalar.muli (Scalar.addi (Scalar.muli (BitVec.ofNat 32 (i 1).val) 2#32) (BitVec.ofNat 32 (i 0).val)) 3136#32

/-- The first sixteen words of the list of negatives, as the text slices them. -/
abbrev head22 (A : Refs) : Memref sig .scVector .vmem S16 .f32 :=
  A.arg22.slice (Rect.unit (s := S80) ![0] S16.size inb_S80_S16_0) (fun _ => rfl)

/-- One tile's program. -/
def tileP (i : grid0.Coords) (A : Refs) : Prog (VEff F ((i 0).castLE hcore0) ((i 1).castLE hsub0)) PUnit :=
  copyP A.arg3 A.arg7 A.harg7 A.r0.sem (k0_off1 i) (k0_off1_inb i) (copyP A.arg4 A.arg8 A.harg8 A.r1.sem (k0_off1 i) (k0_off1_inb i) (
  copyP A.arg3 A.arg9 A.harg9 A.r2.sem (k0_off2 i) (k0_off2_inb i) (copyP A.arg4 A.arg10 A.harg10 A.r3.sem (k0_off2 i) (k0_off2_inb i) (
  get0 A ![0] inb_S3136_S16_0 ![0] inb_S15680_S80_0 (
  Scf.Loop.for k0_t1_loop k0_t1_ok (broadcast S16 (Scalar.ofBits .f32 0x00000000#32) : FVec F S16 .f32) (fun t acc => pairP A (base2 i) t acc) >>= fun acc =>
  put16 A.arg22 ![0] inb_S80_S16_0 acc (
  outP A.arg23 A.harg23.wordExact A.arg5 A.r4.sem (k0_off23 i) (k0_off23_inb i) (
  outP A.arg24 A.harg24.wordExact A.arg5 A.r5.sem (k0_off24 i) (k0_off24_inb i) (
  outP (head22 A) (View.wordExact_bits rfl) A.arg6 A.r6.sem (k0_off25 i) (k0_off25_inb i) (.ret ⟨⟩)))))))))

end Cert.Tile
-- ==== Proof.Values.lean ====
/-
  The numbers one tile computes, as functions of the rows it works on: no program here.
-/
module

public import proofs.«01_k».proof.Proof.Body

@[expose] public section

noncomputable section

namespace Cert.Tile

open Cert.KernelIdeal Idealize.ShloMosaic Idealize.SL.Sem
open Facts₀ Facts

variable {F : FTy → Type} [FloatOps F]
variable [Facts]

/-- The index of row `a`, column `b`. -/
def i2 {R C : ℕ} (a : Fin R) (b : Fin C) : (⟨2, ![R, C]⟩ : Shape).Idx := fun k => match k with | 0 => a | 1 => b

/-- The index of entry `a`. -/
def i1 {n : ℕ} (a : Fin n) : (⟨1, ![n]⟩ : Shape).Idx := fun k => match k with | 0 => a

theorem i2_eta {R C : ℕ} (x : (⟨2, ![R, C]⟩ : Shape).Idx) : i2 (x 0) (x 1) = x := by
  funext k; fin_cases k <;> rfl

theorem i1_eta {n : ℕ} (x : (⟨1, ![n]⟩ : Shape).Idx) : i1 (x 0) = x := by
  funext k; fin_cases k; rfl

/-- The number of a lane. -/
def lane (x : S16.Idx) : Fin 16 := x 0

/-- Row `jj` of a table of lane sums. -/
def matRow (i : S16x17.Idx) : Fin 16 := i 0

/-- Lane `l`'s running sum of products of two rows over the first `n` chunks. -/
def accS (x y : Fin 128 → F .f32) (l : Fin 16) : ℕ → F .f32
  | 0 => w0
  | n + 1 => FloatOps.addf (accS x y l n) (FloatOps.mulf (x (Fin.ofNat 128 (16 * n + l.val))) (y (Fin.ofNat 128 (16 * n + l.val))))

/-- Sixteen numbers summed in pairs. -/
def treeS (x : Fin 16 → F .f32) : F .f32 :=
  FloatOps.addf (FloatOps.addf (FloatOps.addf (FloatOps.addf (x 0) (x 1)) (FloatOps.addf (x 2) (x 3))) (FloatOps.addf (FloatOps.addf (x 4) (x 5)) (FloatOps.addf (x 6) (x 7))))
    (FloatOps.addf (FloatOps.addf (FloatOps.addf (x 8) (x 9)) (FloatOps.addf (x 10) (x 11))) (FloatOps.addf (FloatOps.addf (x 12) (x 13)) (FloatOps.addf (x 14) (x 15))))

/-- The inner product of two rows, as a tile sums it. -/
def dotS (x y : Fin 128 → F .f32) : F .f32 := treeS fun l => accS x y l 8

/-- From the squared lengths of two rows and their inner product, `max (1 + 2 d / (α β)) (1 + ε)`. -/
def gammaS (gu gv gw : F .f32) : F .f32 :=
  FloatOps.maximumf (FloatOps.addf (Scalar.ofBits .f32 0x3F800000#32)
    (FloatOps.divf (FloatOps.mulf (Scalar.ofBits .f32 0x40000000#32)
        (FloatOps.subf (FloatOps.addf gu gv) (FloatOps.mulf (Scalar.ofBits .f32 0x40000000#32) gw)))
      (FloatOps.mulf (FloatOps.maximumf (FloatOps.subf (Scalar.ofBits .f32 0x3F800000#32) gu) (Scalar.ofBits .f32 0x3727C5AC#32))
        (FloatOps.maximumf (FloatOps.subf (Scalar.ofBits .f32 0x3F800000#32) gv) (Scalar.ofBits .f32 0x3727C5AC#32)))))
    (Scalar.ofBits .f32 0x3F800054#32)

/-- The value of an edge between two rows. -/
def rowGam (x y : Fin 128 → F .f32) : F .f32 := gammaS (dotS x x) (dotS y y) (dotS x y)

/-- Row `r` of a buffer of rows. -/
abbrev rowOf {R : ℕ} (U : Vec F ⟨2, ![R, 128]⟩ .f32) (r : Fin R) : Fin 128 → F .f32 := fun l => U (i2 r l)

/-- Row number `r0 + jj` of `R`. -/
abbrev rowAt {R : ℕ} (r0 : ℕ) (hr : r0 + 16 ≤ R) (j : Fin 16) : Fin R := ⟨r0 + j.val, by omega⟩

/-- A group's values: lane `l` the edge of rows `r0 + l`. -/
def groupV {R : ℕ} (U V : Vec F ⟨2, ![R, 128]⟩ .f32) (r0 : ℕ) (hr : r0 + 16 ≤ R) : FVec F S16 .f32 :=
  fun x => rowGam (rowOf U (rowAt r0 hr (lane x))) (rowOf V (rowAt r0 hr (lane x)))

/-- A table of lane sums after its first `n` rows. -/
def matV (g : Fin 16 → Fin 16 → F .f32) (n : ℕ) (X : Vec F S16x17 .f32) : Vec F S16x17 .f32 :=
  fun i => if h : (i 0).val < n ∧ (i 1).val < 16 then g (matRow i) ⟨(i 1).val, h.2⟩ else X i

/-- The lane sums of a group. -/
abbrev lanesOf {R : ℕ} (U V : Vec F ⟨2, ![R, 128]⟩ .f32) (r0 : ℕ) (hr : r0 + 16 ≤ R) : Fin 16 → Fin 16 → F .f32 :=
  fun j l => accS (rowOf U (rowAt r0 hr j)) (rowOf V (rowAt r0 hr j)) l 8

/-- Sixteen words at `o` of a one-dimensional buffer replaced. -/
def setV {n : ℕ} (o : ℕ) (w : FVec F S16 .f32) (X : Vec F ⟨1, ![n]⟩ .f32) : Vec F ⟨1, ![n]⟩ .f32 :=
  fun i => if h : o ≤ (i 0).val ∧ (i 0).val < o + 16 then w (i1 (n := 16) ⟨(i 0).val - o, by have := h.2; omega⟩) else X i

/-- The number of an entry. -/
def i1v {n : ℕ} (i : (⟨1, ![n]⟩ : Shape).Idx) : Fin n := i 0

/-- The eighty values of a chunk's negatives. -/
def negV (U V : Vec F S80x128 .f32) : Vec F S80 .f32 := fun i => rowGam (rowOf U (i1v i)) (rowOf V (i1v i))

/-- How many of five numbers are at most `p`, counted as the tile counts. -/
def rankS (x : Fin 5 → F .f32) (p : F .f32) : ℕ → F .f32
  | 0 => Scalar.ofBits .f32 0x00000000#32
  | n + 1 => FloatOps.addf (rankS x p n)
      (if FloatOps.cmpf .ole (x (Fin.ofNat 5 n)) p = 1#1 then Scalar.ofBits .f32 0x3F800000#32 else Scalar.ofBits .f32 0x00000000#32)

/-- The ranks of a chunk's positives among their negatives. -/
def rankV (gp : FVec F S16 .f32) (N : Vec F S80 .f32) : FVec F S16 .f32 :=
  fun x => rankS (fun k => N (i1 ⟨5 * (lane x).val + k.val, by omega⟩)) (gp x) 5

end Cert.Tile
-- ==== Proof.Setup.lean ====
/-
  The launch's vocabulary: the program as the launch theorem sees it, the resource algebra, what a tile's buffer holds.
-/
module

public import proofs.«01_k».proof.Proof.Values
public import proofs.«01_k».proof.Proof.Gen.KernelIdeal.Launch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Tile

open Cert.KernelIdeal Cert.KernelIdeal.Gen Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch's rounds, the pipeline's, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The pipeline's rounds in the machine's algebra. -/
def EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## What a buffer of a tile holds -/

section Buffers

variable (d : Dev nD) (c : Fin τ.nSC) (s : Fin τ.nSub)

/-- The tile's buffer `m` holds `X`. -/
def Has {sp : Space} {sh : Shape} {e : EltTy} (m : Memref sig .scVector sp sh e) (X : sh.Idx → Elt F e) : sProp 𝕄 :=
  iprop(∃ f, ⌜m.view.read (Elt F) f = X⌝ ∗ (m.view.loc (V d c s) ↦{fullShare} f))

/-- The tile's buffer `m` holds something. -/
def Own {sp : Space} {sh : Shape} {e : EltTy} (m : Memref sig .scVector sp sh e) : sProp 𝕄 :=
  iprop(∃ X, Has d c s m X)

theorem own_of {sp : Space} {sh : Shape} {e : EltTy} {m : Memref sig .scVector sp sh e} {X : sh.Idx → Elt F e} :
    Has d c s m X ⊢ Own (F := F) d c s m := by
  unfold Own
  iintro H; iexists X; iexact H

variable {α : Type} {Q : α → sProp (MT nD τ sig (HIx 1) (Elt F) ℕ UU ℕ)}

/-- Running a piece of a tile's code. -/
abbrev wpT (p : Prog (VEff F c s) α) (Q : α → sProp (MT nD τ sig (HIx 1) (Elt F) ℕ UU ℕ)) : sProp 𝕄 :=
  wp frame (wpE (defs₀ (F := F)) 𝒱₀ (V d c s) none) Set.univ p Q

theorem get_step {cs : CoreSpace} {sh : Shape} {e : EltTy} {m : Memref sig .scVector cs sh e} {r : Rect sh} {hl : m.view.LoadsAt r.toLoadRect}
    {k : (r.shape.Idx → Elt F e) → Prog (VEff F c s) α} {X : sh.Idx → Elt F e} :
    Has d c s m X ⊢ iprop((Has d c s m X -∗ wpT d c s (k fun x => X (r.emb x)) Q) -∗ wpT d c s (.op (.load m r.toLoadRect hl) k) Q) := by
  unfold Has
  iintro ⟨%f, %hf, H⟩ Hk
  iapply (wp_load_rect 𝒱₀ (V d c s) none Set.univ (S := Finset.univ) (f := f) (Finset.subset_univ _)) $$ [H]
  · iexact H
  iintro H
  rw [show ((m.access r).read (Elt F) f) = fun x => X (r.emb x) from by rw [← hf]; rfl]
  iapply Hk
  iexists f
  isplitr
  · ipureintro; exact hf
  · iexact H

theorem put_step {cs : CoreSpace} {sh : Shape} {e : EltTy} {m : Memref sig .scVector cs sh e} {r : Rect sh} {w : r.shape.Idx → Elt F e}
    {hx : (m.access r).Stores Finset.univ} {hm : (Finset.univ : Finset r.shape.Idx) = Finset.univ ∨ ∀ a, r.stride a = 1}
    {k : PUnit → Prog (VEff F c s) α} {X X' : sh.Idx → Elt F e}
    (h1 : ∀ x, X' (r.emb x) = w x) (h2 : ∀ i, i ∉ r.set → X' i = X i) :
    Has d c s m X ⊢ iprop((Has d c s m X' -∗ wpT d c s (k ⟨⟩) Q) -∗ wpT d c s (.op (.store m r w Finset.univ hx hm) k) Q) := by
  unfold Has
  iintro ⟨%f, %hf, H⟩ Hk
  iapply (wp_store 𝒱₀ (V d c s) none Set.univ (S := Finset.univ) (f := f) (Finset.subset_univ _)) $$ [H]
  · iexact H
  iintro H
  iapply Hk
  iexists _
  isplitr
  rotate_left
  · iexact H
  · ipureintro
    funext i
    by_cases hi : i ∈ r.set
    · obtain ⟨x, rfl⟩ := r.exists_idx_of_mem hi
      exact (View.read_slice_write_emb r f w (Finset.mem_univ x)).trans (h1 x).symm
    · rw [h2 i hi, ← hf]
      exact View.read_slice_write_of_not_mem r f w _ (by rwa [Rect.map_emb_univ])

theorem gather_step {sh : Shape} {e : EltTy} {m : Memref sig .scVector .vmem sh e} {hl : m.view.LoadsAt (LoadRect.whole sh)}
    {k : (sh.Idx → Elt F e) → Prog (VEff F c s) α} {X : sh.Idx → Elt F e} :
    Has d c s m X ⊢ iprop((Has d c s m X -∗ wpT d c s (k X) Q) -∗ wpT d c s (.op (.load m (.whole sh) hl) k) Q) := by
  have h := get_step d c s (m := m) (r := Rect.whole sh) (hl := hl) (k := k) (X := X) (Q := Q)
  have e : (fun x => X ((Rect.whole sh).emb x)) = X := by
    funext x; congr 1; funext a; apply Fin.ext; rw [Rect.emb_apply]; show 0 + 1 * (x a).val = (x a).val; omega
  rw [e] at h
  exact h

theorem assume_step {P : Prop} {dP : Decidable P} {k : PLift P → Prog (VEff F c s) α} (h : P) :
    wpT d c s (k ⟨h⟩) Q ⊢ wpT d c s (.op (.assume P dP) k) Q :=
  wp_assume 𝒱₀ (V d c s) none Set.univ h

end Buffers

end Cert.Tile
-- ==== Proof.Losses.lean ====
/-
  The three numbers the TensorCore's step computes from the tiles' results, and its run.
-/
module

public import proofs.«01_k».proof.Proof.Setup

@[expose] public section

set_option maxRecDepth 16384

noncomputable section

namespace Cert.Tile

open Cert.KernelIdeal Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "𝕄" => MT nD τ sig (HIx 1) (Elt F) ℕ UU ℕ

/-- The squared distances of the pairs whose `max (1 + 2 d / (α β)) (1 + ε)` is `g`. -/
def sqDist {s : Shape} (g : FVec F s .f32) : FVec F s .f32 :=
  let m := maximumf g (broadcast s (Scalar.ofBits .f32 0x3F800054#32))
  let l := log (addf m (sqrt (mulf (subf m (broadcast s (Scalar.ofBits .f32 0x3F800000#32))) (addf m (broadcast s (Scalar.ofBits .f32 0x3F800000#32))))))
  mulf l l

/-- The logarithm of a probability, kept away from zero. -/
def logEps {s : Shape} (p : FVec F s .f32) : FVec F s .f32 := log (addf p (broadcast s (Scalar.ofBits .f32 0x3727C5AC#32)))

/-- The positions of a table of `R` rows of 128, counted row by row, that come before `n`. -/
def before (R : ℕ) (h0 : Shape.Iotas ⟨2, ![R, 128]⟩ .tc 32 [0]) (h1 : Shape.Iotas ⟨2, ![R, 128]⟩ .tc 32 [1]) (n : BitVec 32) : IVec ⟨2, ![R, 128]⟩ 1 :=
  cmpi .slt (addi (muli (iota .tc ⟨2, ![R, 128]⟩ 32 [0] h0) (broadcast ⟨2, ![R, 128]⟩ 128#32)) (iota .tc ⟨2, ![R, 128]⟩ 32 [1] h1)) (broadcast ⟨2, ![R, 128]⟩ n)

/-- The sum of the true links' log-probabilities. -/
def posSum (g : Vec F S784x128 .f32) : F .f32 :=
  extractAt ![0, 0, 0] (shapeCast S1x1x1 (multiReduction .add [1, 2] S1 (shapeCast S1x784x128
    (select (before 784 iota_S784x128_d0_w32 iota_S784x128_d1_w32 100000#32)
      (logEps (logistic (subf (broadcast S784x128 (Scalar.ofBits .f32 0x00000000#32)) (sqDist (shapeCast S784x128 g shapeCasts_S784x128_S784x128)))))
      (broadcast S784x128 (Scalar.ofBits .f32 0x00000000#32))) shapeCasts_S784x128_S1x784x128) 0x00000000#32 reduces_S1x784x128_S1 (.inl rfl) rfl)
    shapeCasts_S1_S1x1x1) inpos_S1x1x1_p0_0_0

/-- The sum of the false links' log-probabilities of being false. -/
def negSum (g : Vec F S3920x128 .f32) : F .f32 :=
  extractAt ![0, 0, 0] (shapeCast S1x1x1 (multiReduction .add [1, 2] S1 (shapeCast S1x3920x128
    (select (before 3920 iota_S3920x128_d0_w32 iota_S3920x128_d1_w32 500000#32)
      (logEps (logistic (sqDist (shapeCast S3920x128 g shapeCasts_S3920x128_S3920x128))))
      (broadcast S3920x128 (Scalar.ofBits .f32 0x00000000#32))) shapeCasts_S3920x128_S1x3920x128) 0x00000000#32 reduces_S1x3920x128_S1 (.inl rfl) rfl)
    shapeCasts_S1_S1x1x1) inpos_S1x1x1_p0_0_0

/-- The sum of the tiles' reciprocal ranks. -/
def rankSum (r : Vec F S4x128 .f32) : F .f32 :=
  extractAt ![0, 0, 0] (shapeCast S1x1x1 (multiReduction .add [1, 2] S1 (shapeCast S1x4x128 (shapeCast S4x128 r shapeCasts_S4x128_S4x128) shapeCasts_S4x128_S1x4x128) 0x00000000#32 reduces_S1x4x128_S1 (.inl rfl) rfl)
    shapeCasts_S1_S1x1x1) inpos_S1x1x1_p0_0_0

/-- What the step leaves: the loss in row 0, the mean reciprocal rank in row 1. -/
def outs (g : Vec F S784x128 .f32) (g' : Vec F S3920x128 .f32) (r : Vec F S4x128 .f32) : Vec F S2x128 .f32 :=
  concatenate S2x128 0
    [⟨S1x128, broadcast S1x128 (Scalar.subf (Scalar.subf (Scalar.ofBits .f32 0x00000000#32) (Scalar.divf (posSum g) (Scalar.ofBits .f32 0x47C35000#32)))
      (Scalar.divf (negSum g') (Scalar.ofBits .f32 0x48F42400#32)))⟩,
     ⟨S1x128, broadcast S1x128 (Scalar.divf (rankSum r) (Scalar.ofBits .f32 0x47C35000#32))⟩] concatenates_S1x128_S1x128_S2x128_d0

/-- Core `c`'s buffer `m` holds `X`. -/
def HasC {sp : Space} {sh : Shape} {e : EltTy} (c : Dev nD) (m : Memref sig .tc sp sh e) (X : sh.Idx → Elt F e) : sProp 𝕄 :=
  iprop(∃ f, ⌜m.view.read (Elt F) f = X⌝ ∗ (m.view.loc (c.tc : Thread nD τ) ↦{fullShare} f))

section Steps

variable {α : Type} (c : Dev nD) {Q : α → sProp (MT nD τ sig (HIx 1) (Elt F) ℕ UU ℕ)}

/-- Running a piece of the TensorCore's step. -/
abbrev wpC (p : Prog (TpuEff nD τ sig (Elt F) Λ₀ .tc) α) (Q : α → sProp (MT nD τ sig (HIx 1) (Elt F) ℕ UU ℕ)) : sProp 𝕄 :=
  wp frame (wpE (defs₀ (F := F)) 𝒱₀ (c.tc : Thread nD τ) none) Set.univ p Q

theorem getC {R C : ℕ} {sp : CoreSpace} {e : EltTy} {m : Memref sig .tc sp ⟨2, ![R, C]⟩ e}
    {hin : ∀ a, (![0, 0] : Fin 2 → ℕ) a + (⟨2, ![R, C]⟩ : Shape).size a ≤ (⟨2, ![R, C]⟩ : Shape).size a}
    {hl : m.view.LoadsAt (Rect.unit (s := ⟨2, ![R, C]⟩) ![0, 0] (⟨2, ![R, C]⟩ : Shape).size hin).toLoadRect}
    {k : ((⟨2, ![R, C]⟩ : Shape).Idx → Elt F e) → Prog (TpuEff nD τ sig (Elt F) Λ₀ .tc) α} {X : (⟨2, ![R, C]⟩ : Shape).Idx → Elt F e} :
    HasC c m X ⊢ iprop((HasC c m X -∗ wpC c (k X) Q) -∗ wpC c (.op (.load m (Rect.unit (s := ⟨2, ![R, C]⟩) ![0, 0] (⟨2, ![R, C]⟩ : Shape).size hin).toLoadRect hl) k) Q) := by
  unfold HasC
  iintro ⟨%f, %hf, H⟩ Hk
  iapply (wp_load_rect 𝒱₀ (c.tc : Thread nD τ) none Set.univ (S := Finset.univ) (f := f) (Finset.subset_univ _)) $$ [H]
  · iexact H
  iintro H
  rw [show ((m.access (Rect.unit (s := ⟨2, ![R, C]⟩) ![0, 0] (⟨2, ![R, C]⟩ : Shape).size hin)).read (Elt F) f) = X from by
    rw [← hf]; funext x
    show m.view.read (Elt F) f ((Rect.unit (s := ⟨2, ![R, C]⟩) ![0, 0] (⟨2, ![R, C]⟩ : Shape).size hin).emb x) = m.view.read (Elt F) f x
    congr 1; funext a; apply Fin.ext; rw [Rect.emb_apply]; fin_cases a <;> simp [Rect.unit]]
  iapply Hk
  iexists f
  isplitr
  · ipureintro; exact hf
  · iexact H

theorem putC {R C : ℕ} {sp : CoreSpace} {e : EltTy} {m : Memref sig .tc sp ⟨2, ![R, C]⟩ e}
    {hin : ∀ a, (![0, 0] : Fin 2 → ℕ) a + (⟨2, ![R, C]⟩ : Shape).size a ≤ (⟨2, ![R, C]⟩ : Shape).size a}
    {w : (⟨2, ![R, C]⟩ : Shape).Idx → Elt F e}
    {hx : (m.access (Rect.unit (s := ⟨2, ![R, C]⟩) ![0, 0] (⟨2, ![R, C]⟩ : Shape).size hin)).Stores Finset.univ}
    {hm : (Finset.univ : Finset (Rect.unit (s := ⟨2, ![R, C]⟩) ![0, 0] (⟨2, ![R, C]⟩ : Shape).size hin).shape.Idx) = Finset.univ ∨ ∀ a, (Rect.unit (s := ⟨2, ![R, C]⟩) ![0, 0] (⟨2, ![R, C]⟩ : Shape).size hin).stride a = 1}
    {k : PUnit → Prog (TpuEff nD τ sig (Elt F) Λ₀ .tc) α} {X : (⟨2, ![R, C]⟩ : Shape).Idx → Elt F e} :
    HasC c m X ⊢ iprop((HasC c m w -∗ wpC c (k ⟨⟩) Q) -∗ wpC c (.op (.store m (Rect.unit (s := ⟨2, ![R, C]⟩) ![0, 0] (⟨2, ![R, C]⟩ : Shape).size hin) w Finset.univ hx hm) k) Q) := by
  unfold HasC
  iintro ⟨%f, %hf, H⟩ Hk
  iapply (wp_store 𝒱₀ (c.tc : Thread nD τ) none Set.univ (S := Finset.univ) (f := f) (Finset.subset_univ _)) $$ [H]
  · iexact H
  iintro H
  iapply Hk
  iexists _
  isplitr
  rotate_left
  · iexact H
  · ipureintro
    funext x
    have hx' : (Rect.unit (s := ⟨2, ![R, C]⟩) ![0, 0] (⟨2, ![R, C]⟩ : Shape).size hin).emb x = x := by
      funext a; apply Fin.ext; rw [Rect.emb_apply]; fin_cases a <;> simp [Rect.unit]
    have h := View.read_slice_write_emb (Rect.unit (s := ⟨2, ![R, C]⟩) ![0, 0] (⟨2, ![R, C]⟩ : Shape).size hin) f w (v := m.view) (Finset.mem_univ x)
    rw [hx'] at h
    exact h

theorem retC {x : α} : Q x ⊢ wpC c (.ret x) Q := by
  rw [show wpC c (.ret x) Q = _ from wp_ret ..]
  iintro H; imodintro; iexact H

end Steps

/-- The TensorCore's step, from the three arrays staged. -/
theorem step_run (c : Dev nD) {M0 : Memref sig .tc .vmem S784x128 .f32} {h0 : M0.IsWhole} {M1 : Memref sig .tc .vmem S3920x128 .f32} {h1 : M1.IsWhole}
    {M2 : Memref sig .tc .vmem S4x128 .f32} {h2 : M2.IsWhole} {M3 : Memref sig .tc .vmem S2x128 .f32} {h3 : M3.IsWhole}
    (X0 : Vec F S784x128 .f32) (X1 : Vec F S3920x128 .f32) (X2 : Vec F S4x128 .f32) (X3 : Vec F S2x128 .f32) (Q : PUnit → sProp 𝕄) :
    iprop(HasC c M0 X0 ∗ HasC c M1 X1 ∗ HasC c M2 X2 ∗ HasC c M3 X3 ∗
        ((HasC c M0 X0 ∗ HasC c M1 X1 ∗ HasC c M2 X2 ∗ HasC c M3 (outs X0 X1 X2)) -∗ Q ⟨⟩))
      ⊢ wpC c (cc1__tc_body M0 h0 M1 h1 M2 h2 M3 h3) Q := by
  unfold cc1__tc_body k1_part1
  iintro ⟨H0, H1, H2, H3, Hk⟩
  iapply (getC c) $$ H0
  iintro H0
  iapply (getC c) $$ H1
  iintro H1
  iapply (getC c) $$ H2
  iintro H2
  iapply (getC c) $$ H3
  iintro H3
  iapply (putC c) $$ H3
  iintro H3
  iapply (retC (F := F) c (Q := Q) (x := PUnit.unit))
  iapply Hk
  isplitl [H0]; · iexact H0
  isplitl [H1]; · iexact H1
  isplitl [H2]; · iexact H2
  iexact H3

end Cert.Tile
-- ==== Proof.Region.lean ====
/-
  The TensorCore's step as a region of the host program: what the result's array holds after it.
-/
module

public import proofs.«01_k».proof.Proof.Losses
public import proofs.«01_k».proof.Proof.Gen.KernelIdeal.Points
public import Idealize.ShloMosaic.Lib.Pipeline.RegionArrays
public import Idealize.ShloMosaic.Lib.Pipeline.ValueKit.Geometry

@[expose] public section

set_option maxRecDepth 16384

noncomputable section

namespace Cert.Tile

open Cert.KernelIdeal Idealize.ShloMosaic
open Idealize.ShloMosaic.TcCoe
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

local notation "𝕄" => MT nD τ sig (HIx 1) (Elt F) ℕ UU ℕ

variable (W : Dev nD → Valuation τ sig (Elt F))

/-- The array of the true links' values, by rows of 128. -/
def posIn (c : Dev nD) : Vec F S784x128 .f32 := W c main_v8
/-- The array of the false links' values, by rows of 128. -/
def negIn (c : Dev nD) : Vec F S3920x128 .f32 := W c main_v10
/-- The tiles' reciprocal ranks, by rows of 128. -/
def rankIn (c : Dev nD) : Vec F S4x128 .f32 := W c main_v11

/-- What the step's buffers hold before and after: the three arrays as staged, and its result. -/
def dat (c : Dev nD) : Dat τ (Elt F) (HIx 1) ℕ UU ℕ cfg1 c where
  A w := W c (Proc.devRef .tc (Pipeline.arrRef spec1 w))
  after w _ := match w with
    | ⟨0, _⟩ => posIn W c
    | ⟨1, _⟩ => negIn W c
    | ⟨2, _⟩ => rankIn W c
    | ⟨3, _⟩ => outs (posIn W c) (negIn W c) (rankIn W c)
  Φ _ := Pipeline.scopedRest spec1 c
  q _ := fullShare
  owed _ := (K (F := F)).Otc c 1

def pdats : (p : Fin 1) → (c : Dev nD) → Dat τ (Elt F) (HIx 1) ℕ UU ℕ (Pipeline.pin (pcfgs (F := F)) (fun p => (cfgs p).toPCfg_adm) p) c
  | ⟨0, _⟩ => fun c => dat W c

theorem index_0 : ∀ a : Fin 2, win1_0.index Gen.t1_0 a = 0 := by decide

theorem before_0 (c : Dev nD) (d : (cfg1.win 0).block.Idx → Elt F (cfg1.win 0).elt) : (dat W c).before 0 Gen.t1_0 d = posIn W c := by
  unfold Dat.before; rw [if_pos (by decide)]
  funext x
  show W c main_v8 _ = W c main_v8 x
  have h0 := index_0 0
  have h1 := index_0 1
  congr 1; funext a; apply Fin.ext
  fin_cases a
  · blk_simp [h0]
  · blk_simp [h1]

theorem index_1 : ∀ a : Fin 2, win1_1.index Gen.t1_0 a = 0 := by decide

theorem before_1 (c : Dev nD) (d : (cfg1.win 1).block.Idx → Elt F (cfg1.win 1).elt) : (dat W c).before 1 Gen.t1_0 d = negIn W c := by
  unfold Dat.before; rw [if_pos (by decide)]
  funext x
  show W c main_v10 _ = W c main_v10 x
  have h0 := index_1 0
  have h1 := index_1 1
  congr 1; funext a; apply Fin.ext
  fin_cases a
  · blk_simp [h0]
  · blk_simp [h1]

theorem index_2 : ∀ a : Fin 2, win1_2.index Gen.t1_0 a = 0 := by decide

theorem before_2 (c : Dev nD) (d : (cfg1.win 2).block.Idx → Elt F (cfg1.win 2).elt) : (dat W c).before 2 Gen.t1_0 d = rankIn W c := by
  unfold Dat.before; rw [if_pos (by decide)]
  funext x
  show W c main_v11 _ = W c main_v11 x
  have h0 := index_2 0
  have h1 := index_2 1
  congr 1; funext a; apply Fin.ext
  fin_cases a
  · blk_simp [h0]
  · blk_simp [h1]

theorem body_ok (c : Dev nD) : BodyObligation (dat W c) (defs₀ (F := F)) 𝒱₀ (none : HIx 1) Set.univ := fun t => by
  obtain rfl := Gen.fin_N1 t
  rw [Gen.bigSep_W1, Gen.bigSep_W1]
  simp only [owns_whole_eq]
  rw [show (dat W c).Φ Gen.t1_0.castSucc = Pipeline.scopedRest spec1 c from rfl, show (dat W c).Φ Gen.t1_0.succ = Pipeline.scopedRest spec1 c from rfl,
    show (dat W c).owesAt (none : HIx 1) Gen.t1_0.succ = (dat W c).owesAt none Gen.t1_0.castSucc from rfl]
  iintro ⟨HΦ, Howes, ⟨%d0, %f0, %hf0, H0⟩, ⟨%d1, %f1, %hf1, H1⟩, ⟨%d2, %f2, %hf2, H2⟩, ⟨%d3, %f3, -, H3⟩⟩
  rw [before_0] at hf0
  rw [before_1] at hf1
  rw [before_2] at hf2
  iapply (step_run c (posIn W c) (negIn W c) (rankIn W c) f3 _)
  isplitl [H0]; · unfold HasC; iexists f0; isplitr; · (ipureintro; exact hf0)
                  iexact H0
  isplitl [H1]; · unfold HasC; iexists f1; isplitr; · (ipureintro; exact hf1)
                  iexact H1
  isplitl [H2]; · unfold HasC; iexists f2; isplitr; · (ipureintro; exact hf2)
                  iexact H2
  isplitl [H3]; · unfold HasC; iexists f3; isplitr; · (ipureintro; rfl)
                  iexact H3
  unfold HasC
  iintro ⟨⟨%g0, %hg0, H0⟩, ⟨%g1, %hg1, H1⟩, ⟨%g2, %hg2, H2⟩, ⟨%g3, %hg3, H3⟩⟩
  isplitl [HΦ]; · iexact HΦ
  isplitl [Howes]; · iexact Howes
  isplitl [H0]; · iexists g0; isplitr; swap; (· iexact H0); ipureintro; exact hg0
  isplitl [H1]; · iexists g1; isplitr; swap; (· iexact H1); ipureintro; exact hg1
  isplitl [H2]; · iexists g2; isplitr; swap; (· iexact H2); ipureintro; exact hg2
  iexists g3; isplitr; swap; (· iexact H3); ipureintro; exact hg3

end Cert.Tile
-- ==== Proof.Group.lean ====
/-
  A group of sixteen rows: what running its code leaves in the three tables of lane sums, and the sixteen values it yields.
-/
module

public import proofs.«01_k».proof.Proof.Setup

@[expose] public section

noncomputable section

namespace Cert.Tile

open Cert.KernelIdeal Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "𝕄" => MT nD τ sig (HIx 1) (Elt F) ℕ UU ℕ

variable (d : Dev nD) (c : Fin τ.nSC) (s : Fin τ.nSub)
variable {α : Type} {Q : α → sProp (MT nD τ sig (HIx 1) (Elt F) ℕ UU ℕ)}

/-- Lane `x` of a one-row block, cast to a vector. -/
theorem cast_row (X : S1x16.Idx → F .f32) (x : S16.Idx) :
    shapeCast S16 (X : Vec F S1x16 .f32) shapeCasts_S1x16_S16 x = X (i2 (0 : Fin 1) (lane x)) := by
  refine congrArg X (Shape.reshapeEquiv_eq_of_rowMajor _ ?_)
  rw [Shape.rowMajor_val_two, Shape.rowMajor_val_one]
  show 0 * 16 + (lane x).val = (lane x).val
  omega

theorem cast_back (X : FVec F S16 .f32) (x : S1x16.Idx) :
    shapeCast S1x16 X shapeCasts_S16_S1x16 x = X (i1 (x 1 : Fin 16)) := by
  refine congrArg X (Shape.reshapeEquiv_eq_of_rowMajor _ ?_)
  rw [Shape.rowMajor_val_two, Shape.rowMajor_val_one]
  show (x 1).val = (x 0).val * 16 + (x 1).val
  have h : (x 0).val < 1 := (x 0).isLt
  omega

variable {R : ℕ} {ru rv : Memref sig .scVector .vmem ⟨2, ![R, 128]⟩ .f32} {U W : Vec F ⟨2, ![R, 128]⟩ .f32}

/-- Chunk `q` of row `row`, as loaded and cast. -/
theorem chunk_row (U : Vec F ⟨2, ![R, 128]⟩ .f32) {row q : ℕ} (hr : row < R) (hq : q < 8) (x : S16.Idx) :
    shapeCast S16 ((fun y => U ((Rect.unit (s := ⟨2, ![R, 128]⟩) ![row, 16 * q] S1x16.size (inb_row hr hq)).emb y)) : Vec F S1x16 .f32)
      shapeCasts_S1x16_S16 x = rowOf U ⟨row, hr⟩ (Fin.ofNat 128 (16 * q + (lane x).val)) := by
  rw [cast_row]
  refine congrArg U (funext fun a => Fin.ext ?_)
  have hx := (lane x).isLt
  rw [Rect.emb_apply]
  fin_cases a
  · show row + 1 * 0 = row; omega
  · show 16 * q + 1 * (lane x).val = (16 * q + (lane x).val) % 128; omega

/-- The chunks of one row. -/
theorem acc_step (row : ℕ) (hr : row < R) (K : FVec F S16 .f32 → FVec F S16 .f32 → FVec F S16 .f32 → Prog (VEff F c s) α) :
    ∀ (n q : ℕ) (h : q + n = 8) (au av aw : FVec F S16 .f32)
      (_ : au = fun x => accS (rowOf U ⟨row, hr⟩) (rowOf U ⟨row, hr⟩) (lane x) q)
      (_ : av = fun x => accS (rowOf W ⟨row, hr⟩) (rowOf W ⟨row, hr⟩) (lane x) q)
      (_ : aw = fun x => accS (rowOf U ⟨row, hr⟩) (rowOf W ⟨row, hr⟩) (lane x) q),
    iprop(Has d c s ru U ∗ Has d c s rv W)
      ⊢ iprop((iprop(Has d c s ru U ∗ Has d c s rv W)
          -∗ wpT d c s (K (fun x => accS (rowOf U ⟨row, hr⟩) (rowOf U ⟨row, hr⟩) (lane x) 8) (fun x => accS (rowOf W ⟨row, hr⟩) (rowOf W ⟨row, hr⟩) (lane x) 8)
              (fun x => accS (rowOf U ⟨row, hr⟩) (rowOf W ⟨row, hr⟩) (lane x) 8)) Q)
        -∗ wpT d c s (accP ru rv row hr n q h au av aw K) Q)
  | 0, q, h, au, av, aw, hu, hv, hw => by
    obtain rfl : q = 8 := by omega
    subst hu hv hw
    unfold accP
    iintro H Hk
    iapply Hk $$ H
  | n + 1, q, h, au, av, aw, hu, hv, hw => by
    unfold accP
    have e1 : ∀ (A B : Vec F ⟨2, ![R, 128]⟩ .f32) (a : FVec F S16 .f32)
        (_ : a = fun x => accS (rowOf A ⟨row, hr⟩) (rowOf B ⟨row, hr⟩) (lane x) q),
        addf a
          (mulf (shapeCast S16 ((fun y => A ((Rect.unit (s := ⟨2, ![R, 128]⟩) ![row, 16 * q] S1x16.size (inb_row hr (by omega))).emb y)) : Vec F S1x16 .f32) shapeCasts_S1x16_S16)
            (shapeCast S16 ((fun y => B ((Rect.unit (s := ⟨2, ![R, 128]⟩) ![row, 16 * q] S1x16.size (inb_row hr (by omega))).emb y)) : Vec F S1x16 .f32) shapeCasts_S1x16_S16))
        = fun x : S16.Idx => accS (rowOf A ⟨row, hr⟩) (rowOf B ⟨row, hr⟩) (lane x) (q + 1) := by
      intro A B a ha; subst ha; funext x
      show FloatOps.addf _ (FloatOps.mulf _ _) = _
      rw [chunk_row A hr (by omega), chunk_row B hr (by omega)]
      rfl
    iintro ⟨Hu, Hv⟩ Hk
    iapply (get_step d c s) $$ Hu
    iintro Hu
    iapply (get_step d c s) $$ Hv
    iintro Hv
    iapply (acc_step row hr K n (q + 1) (by omega) _ _ _ (e1 U U au hu) (e1 W W av hv) (e1 U W aw hw)) $$ [Hu Hv]
    · isplitl [Hu] <;> iassumption
    iexact Hk

/-- One row of a table stored. -/
theorem putRow_step {m : Memref sig .scVector .vmem S16x17 .f32} {jj : ℕ} (hj : jj < 16) {g : Fin 16 → Fin 16 → F .f32} {X : Vec F S16x17 .f32}
    {K : PUnit → Prog (VEff F c s) α} :
    Has d c s m (matV g jj X) ⊢ iprop((Has d c s m (matV g (jj + 1) X) -∗ wpT d c s (K ⟨⟩) Q)
      -∗ wpT d c s (putRow m jj hj (fun x => g ⟨jj, hj⟩ (lane x)) K) Q) := by
  unfold putRow
  iintro H Hk
  iapply (get_step d c s) $$ H
  iintro H
  iapply (put_step d c s (X' := matV g (jj + 1) X) ?_ ?_) $$ H
  · intro x
    rw [cast_back]
    have e0 : ((Rect.unit (s := S16x17) ![jj, 0] S1x16.size (inb_mat hj)).emb x 0).val = jj := by
      rw [Rect.emb_apply]; show jj + 1 * (x 0).val = jj
      have : (x 0).val < 1 := (x 0).isLt
      omega
    have e1 : ((Rect.unit (s := S16x17) ![jj, 0] S1x16.size (inb_mat hj)).emb x 1).val = (x 1).val := by
      rw [Rect.emb_apply]; show 0 + 1 * (x 1).val = _; omega
    have hx : (x 1).val < 16 := (x 1).isLt
    unfold matV
    rw [dif_pos ⟨by omega, by omega⟩]
    congr 1
    · exact Fin.ext e0
    · exact Fin.ext e1
  · intro i hi
    have hn : ¬ ((i 0).val = jj ∧ (i 1).val < 16) := by
      rintro ⟨h0, h1⟩
      refine hi (Rect.mem_set_unit.mpr fun a => ?_)
      fin_cases a
      · exact ⟨h0.ge, by show (i 0).val < jj + 1; omega⟩
      · exact ⟨Nat.zero_le _, by show (i 1).val < 0 + 16; omega⟩
    unfold matV
    by_cases h : (i 0).val < jj ∧ (i 1).val < 16
    · rw [dif_pos h, dif_pos ⟨by omega, h.2⟩]
    · rw [dif_neg h, dif_neg (by omega)]
  iexact Hk

variable {mu mv md : Memref sig .scVector .vmem S16x17 .f32} {XU XV XD : Vec F S16x17 .f32}

/-- The rows of a group. -/
theorem rows_run (r0 : ℕ) (hr : r0 + 16 ≤ R) (K : Prog (VEff F c s) α) :
    ∀ (n jj : ℕ) (h : jj + n = 16),
    iprop(Has d c s ru U ∗ Has d c s rv W ∗ Has d c s mu (matV (lanesOf U U r0 hr) jj XU) ∗ Has d c s mv (matV (lanesOf W W r0 hr) jj XV)
        ∗ Has d c s md (matV (lanesOf U W r0 hr) jj XD))
      ⊢ iprop((iprop(Has d c s ru U ∗ Has d c s rv W ∗ Has d c s mu (matV (lanesOf U U r0 hr) 16 XU) ∗ Has d c s mv (matV (lanesOf W W r0 hr) 16 XV)
          ∗ Has d c s md (matV (lanesOf U W r0 hr) 16 XD)) -∗ wpT d c s K Q)
        -∗ wpT d c s (rowsP ru rv mu mv md r0 hr n jj h K) Q)
  | 0, jj, h => by
    obtain rfl : jj = 16 := by omega
    unfold rowsP
    iintro H Hk
    iapply Hk $$ H
  | n + 1, jj, h => by
    unfold rowsP rowP
    iintro ⟨Hu, Hv, Ha, Hb, Hc⟩ Hk
    iapply (acc_step d c s (U := U) (W := W) (r0 + jj) (by omega) _ 8 0 rfl _ _ _ rfl rfl rfl) $$ [Hu Hv]
    · isplitl [Hu] <;> iassumption
    iintro ⟨Hu, Hv⟩
    iapply (putRow_step d c s _ (g := lanesOf U U r0 hr)) $$ Ha
    iintro Ha
    iapply (putRow_step d c s _ (g := lanesOf W W r0 hr)) $$ Hb
    iintro Hb
    iapply (putRow_step d c s _ (g := lanesOf U W r0 hr)) $$ Hc
    iintro Hc
    iapply (rows_run r0 hr K n (jj + 1) _) $$ [Hu Hv Ha Hb Hc]
    · isplitl [Hu]; · iexact Hu
      isplitl [Hv]; · iexact Hv
      isplitl [Ha]; · iexact Ha
      isplitl [Hb]; · iexact Hb
      iexact Hc
    iexact Hk

/-- The checks pass. -/
theorem asm_run {K : Prog (VEff F c s) α} : ∀ (n q : ℕ) (_ : q + n ≤ 16), wpT d c s K Q ⊢ wpT d c s (asmP n q K) Q
  | 0, _, _ => .rfl
  | n + 1, q, h => by
    unfold asmP
    exact (asm_run n (q + 1) (by omega)).trans (assume_step d c s (k := fun _ => asmP n (q + 1) K) (show k0_chk1 lanes (broadcast S16 (BitVec.ofNat 32 q)) from ⟨col_inb (q := q) (by omega), col_inb (q := q) (by omega), col_inb (q := q) (by omega)⟩))

theorem col_run {m : Memref sig .scVector .vmem S16x17 .f32} {g : Fin 16 → Fin 16 → F .f32} {X : Vec F S16x17 .f32} {q : ℕ} (hq : q < 16)
    {K : FVec F S16 .f32 → Prog (VEff F c s) α} :
    Has d c s m (matV g 16 X) ⊢ iprop((Has d c s m (matV g 16 X) -∗ wpT d c s (K fun x => g (lane x) ⟨q, hq⟩) Q) -∗ wpT d c s (colP m q hq K) Q) := by
  unfold colP
  have e : (loadIdx (e := .f32) (matV g 16 X) ![lanes, broadcast S16 (BitVec.ofNat 32 q)] (col_inb hq)) = fun x => g (lane x) ⟨q, hq⟩ := by
    funext x
    have h0 := lanes_toNat x
    have hx : (x 0).val < 16 := (x 0).isLt
    have h1 : (BitVec.ofNat 32 q).toNat = q := by rw [BitVec.toNat_ofNat]; omega
    show matV g 16 X (idxAt _ _ x) = _
    have e0 : (idxAt (s := S16x17) (![lanes, broadcast S16 (BitVec.ofNat 32 q)] : Fin 2 → IVec S16 32) (col_inb hq) x 0).val = (x 0).val := h0
    have e1 : (idxAt (s := S16x17) (![lanes, broadcast S16 (BitVec.ofNat 32 q)] : Fin 2 → IVec S16 32) (col_inb hq) x 1).val = q := h1
    unfold matV
    rw [dif_pos ⟨by rw [e0]; exact hx, by rw [e1]; exact hq⟩]
    congr 1
    · exact Fin.ext e0
    · exact Fin.ext e1
  iintro H Hk
  iapply (gather_step d c s) $$ H
  iintro H
  rw [e]
  iapply Hk $$ H

theorem sum_run {m : Memref sig .scVector .vmem S16x17 .f32} {g : Fin 16 → Fin 16 → F .f32} {X : Vec F S16x17 .f32}
    {K : FVec F S16 .f32 → Prog (VEff F c s) α} :
    Has d c s m (matV g 16 X) ⊢ iprop((Has d c s m (matV g 16 X) -∗ wpT d c s (K fun x => treeS (g (lane x))) Q) -∗ wpT d c s (sumP m K) Q) := by
  unfold sumP
  iintro H Hk
  iapply (col_run d c s) $$ H; iintro H
  iapply (col_run d c s) $$ H; iintro H
  iapply (col_run d c s) $$ H; iintro H
  iapply (col_run d c s) $$ H; iintro H
  iapply (col_run d c s) $$ H; iintro H
  iapply (col_run d c s) $$ H; iintro H
  iapply (col_run d c s) $$ H; iintro H
  iapply (col_run d c s) $$ H; iintro H
  iapply (col_run d c s) $$ H; iintro H
  iapply (col_run d c s) $$ H; iintro H
  iapply (col_run d c s) $$ H; iintro H
  iapply (col_run d c s) $$ H; iintro H
  iapply (col_run d c s) $$ H; iintro H
  iapply (col_run d c s) $$ H; iintro H
  iapply (col_run d c s) $$ H; iintro H
  iapply (col_run d c s) $$ H; iintro H
  iapply Hk $$ H

/-- The three tables of lane sums, holding anything. -/
def Mats (A : Refs) : sProp 𝕄 := iprop(Own d c s A.arg20 ∗ Own d c s A.arg21 ∗ Own d c s A.arg19)

/-- A group. -/
theorem group_run (A : Refs) (r0 : ℕ) (hr : r0 + 16 ≤ R) (K : FVec F S16 .f32 → Prog (VEff F c s) α) :
    iprop(Has d c s ru U ∗ Has d c s rv W ∗ Mats d c s A)
      ⊢ iprop((iprop(Has d c s ru U ∗ Has d c s rv W ∗ Mats d c s A) -∗ wpT d c s (K (groupV U W r0 hr)) Q)
        -∗ wpT d c s (groupP ru rv A r0 hr K) Q) := by
  unfold groupP Mats Own
  iintro ⟨Hu, Hv, ⟨%XU, Ha⟩, ⟨%XV, Hb⟩, ⟨%XD, Hc⟩⟩ Hk
  have z : ∀ (g : Fin 16 → Fin 16 → F .f32) (X : Vec F S16x17 .f32), matV g 0 X = X := fun g X => by
    funext i; unfold matV; rw [dif_neg (by omega)]
  rw [← z (lanesOf U U r0 hr) XU, ← z (lanesOf W W r0 hr) XV, ← z (lanesOf U W r0 hr) XD]
  iapply (rows_run d c s r0 hr _ 16 0 rfl) $$ [Hu Hv Ha Hb Hc]
  · isplitl [Hu]; · iexact Hu
    isplitl [Hv]; · iexact Hv
    isplitl [Ha]; · iexact Ha
    isplitl [Hb]; · iexact Hb
    iexact Hc
  iintro ⟨Hu, Hv, Ha, Hb, Hc⟩
  unfold gatherP
  iapply (asm_run d c s 16 0 (by omega))
  iapply (sum_run d c s) $$ Ha; iintro Ha
  iapply (sum_run d c s) $$ Hb; iintro Hb
  iapply (sum_run d c s) $$ Hc; iintro Hc
  iapply Hk
  isplitl [Hu]; · iexact Hu
  isplitl [Hv]; · iexact Hv
  isplitl [Ha]; · iexists _; iexact Ha
  isplitl [Hb]; · iexists _; iexact Hb
  iexists _; iexact Hc

/-- Sixteen words stored. -/
theorem put16_run {n : ℕ} {m : Memref sig .scVector .vmem ⟨1, ![n]⟩ .f32} {o : Fin 1 → ℕ} {ho : ∀ a, o a + S16.size a ≤ (⟨1, ![n]⟩ : Shape).size a}
    {w : FVec F S16 .f32} {X : Vec F ⟨1, ![n]⟩ .f32} {K : Prog (VEff F c s) α} (p : ℕ) (hp : o 0 = p) :
    Has d c s m X ⊢ iprop((Has d c s m (setV p w X) -∗ wpT d c s K Q) -∗ wpT d c s (put16 m o ho w K) Q) := by
  subst hp
  unfold put16
  iintro H Hk
  iapply (get_step d c s) $$ H
  iintro H
  iapply (put_step d c s (X' := setV (o 0) w X) ?_ ?_) $$ H
  · intro x
    have e0 : ((Rect.unit (s := ⟨1, ![n]⟩) o S16.size ho).emb x 0).val = o 0 + (x 0).val := by
      rw [Rect.emb_apply]; show o 0 + 1 * (x 0).val = _; omega
    have hx : (x 0).val < 16 := (x 0).isLt
    unfold setV
    rw [dif_pos ⟨by omega, by omega⟩]
    congr 1
    funext a
    fin_cases a
    exact Fin.ext (by show _ - o 0 = (x 0).val; omega)
  · intro i hi
    unfold setV
    rw [dif_neg]
    rintro ⟨h0, h1⟩
    refine hi (Rect.mem_set_unit.mpr fun a => ?_)
    fin_cases a
    exact ⟨h0, h1⟩
  iexact Hk

end Cert.Tile
-- ==== Proof.Chunk.lean ====
/-
  One chunk: sixteen positives and their eighty negatives, what its code stores and what it adds to the sum of reciprocal ranks.
-/
module

public import proofs.«01_k».proof.Proof.Group

@[expose] public section

noncomputable section

namespace Cert.Tile

open Cert.KernelIdeal Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "𝕄" => MT nD τ sig (HIx 1) (Elt F) ℕ UU ℕ

variable (d : Dev nD) (c : Fin τ.nSC) (s : Fin τ.nSub)
variable {α : Type} {Q : α → sProp (MT nD τ sig (HIx 1) (Elt F) ℕ UU ℕ)}

/-- The first `k` of eighty words placed from `p` on. -/
def setN {n : ℕ} (p k : ℕ) (hk : k ≤ 80) (N : Vec F S80 .f32) (X : Vec F ⟨1, ![n]⟩ .f32) : Vec F ⟨1, ![n]⟩ .f32 :=
  fun i => if h : p ≤ (i1v i).val ∧ (i1v i).val < p + k then N (i1 (n := 80) ⟨(i1v i).val - p, by omega⟩) else X i

theorem setN_zero {n : ℕ} (p : ℕ) (N : Vec F S80 .f32) (X : Vec F ⟨1, ![n]⟩ .f32) : setN p 0 (by omega) N X = X := by
  funext i; unfold setN; rw [dif_neg (by omega)]

theorem setN_full (N : Vec F S80 .f32) (X : Vec F S80 .f32) : setN (n := 80) 0 80 le_rfl N X = N := by
  funext i
  have h := (i1v (n := 80) i).isLt
  unfold setN
  rw [dif_pos (by omega)]
  exact congrArg N ((congrArg i1 (Fin.ext (Nat.sub_zero (i1v (n := 80) i).val))).trans (i1_eta (n := 80) i))

theorem setN_succ {n : ℕ} (p g : ℕ) (hg : g < 5) (U W : Vec F S80x128 .f32) (X : Vec F ⟨1, ![n]⟩ .f32) (o : ℕ) (ho : o = p + 16 * g) :
    setV o (groupV U W (16 * g) (by omega)) (setN p (16 * g) (by omega) (negV U W) X) = setN p (16 * (g + 1)) (by omega) (negV U W) X := by
  subst ho
  funext i
  have e : (i 0).val = (i1v i).val := rfl
  unfold setV
  by_cases h : p + 16 * g ≤ (i 0).val ∧ (i 0).val < p + 16 * g + 16
  · rw [dif_pos h]
    unfold setN
    rw [dif_pos (by omega)]
    unfold groupV negV
    have e2 : (rowAt (16 * g) (by omega) (lane (i1 (n := 16) ⟨(i 0).val - (p + 16 * g), by omega⟩)) : Fin 80)
        = i1v (n := 80) (i1 (n := 80) ⟨(i1v i).val - p, by omega⟩) := Fin.ext (by
      show 16 * g + ((i 0).val - (p + 16 * g)) = (i1v i).val - p
      omega)
    rw [e2]
  · rw [dif_neg h]
    unfold setN
    by_cases h' : p ≤ (i1v i).val ∧ (i1v i).val < p + 16 * g
    · rw [dif_pos h', dif_pos (by omega)]
    · rw [dif_neg h', dif_neg (by omega)]

variable {nu nv : Memref sig .scVector .vmem S80x128 .f32} {NU NV : Vec F S80x128 .f32}
variable {pu pv : Memref sig .scVector .vmem S16x128 .f32} {PU PV : Vec F S16x128 .f32}
variable (A : Refs)

/-- A group of negatives. -/
theorem neg_run {XN : Vec F S15680 .f32} {X : Vec F S80 .f32} (g : ℕ) (hg : g < 5) (p : ℕ) {o : Fin 1 → ℕ}
    {ho : ∀ a, o a + S16.size a ≤ S15680.size a} (hp : o 0 = p + 16 * g) {K : Prog (VEff F c s) α} :
    iprop(Has d c s nu NU ∗ Has d c s nv NV ∗ Mats d c s A ∗ Has d c s A.arg24 (setN (n := 15680) p (16 * g) (by omega) (negV NU NV) XN)
        ∗ Has d c s A.arg22 (setN (n := 80) 0 (16 * g) (by omega) (negV NU NV) X))
      ⊢ iprop((iprop(Has d c s nu NU ∗ Has d c s nv NV ∗ Mats d c s A ∗ Has d c s A.arg24 (setN (n := 15680) p (16 * (g + 1)) (by omega) (negV NU NV) XN)
          ∗ Has d c s A.arg22 (setN (n := 80) 0 (16 * (g + 1)) (by omega) (negV NU NV) X)) -∗ wpT d c s K Q)
        -∗ wpT d c s (negP nu nv A g hg o ho K) Q) := by
  unfold negP
  iintro ⟨Hu, Hv, Hm, Hn, Hb⟩ Hk
  iapply (group_run d c s A (16 * g) _) $$ [Hu Hv Hm]
  · isplitl [Hu]; · iexact Hu
    isplitl [Hv]; · iexact Hv
    iexact Hm
  iintro ⟨Hu, Hv, Hm⟩
  iapply (put16_run d c s (p + 16 * g) hp) $$ Hn
  iintro Hn
  iapply (put16_run d c s (16 * g) rfl) $$ Hb
  iintro Hb
  rw [setN_succ p g hg NU NV XN _ rfl, setN_succ 0 g hg NU NV X (16 * g) (by omega)]
  iapply Hk
  isplitl [Hu]; · iexact Hu
  isplitl [Hv]; · iexact Hv
  isplitl [Hm]; · iexact Hm
  isplitl [Hn]; · iexact Hn
  iexact Hb

/-- The lanes' `k`-th negatives loaded. -/
theorem negLd_run {m : Memref sig .scVector .vmem S80 .f32} {N : Vec F S80 .f32} {k : ℕ} (hk : k < 5) {K : FVec F S16 .f32 → Prog (VEff F c s) α} :
    Has d c s m N ⊢ iprop((Has d c s m N -∗ wpT d c s (K fun x => N (i1 (n := 80) ⟨5 * (lane x).val + k, by omega⟩)) Q) -∗ wpT d c s (negLd m k hk K) Q) := by
  unfold negLd
  have e : (loadIdx (e := .f32) N ![negIx k] (neg_inb hk)) = fun x => N (i1 (n := 80) ⟨5 * (lane x).val + k, by omega⟩) := by
    funext x
    refine congrArg N (funext fun a => Fin.ext ?_)
    fin_cases a
    exact negIx_toNat hk x
  iintro H Hk
  iapply (assume_step d c s (neg_inb hk))
  iapply (gather_step d c s) $$ H
  iintro H
  rw [e]
  iapply Hk $$ H

/-- The ranks. -/
theorem rank_run {m : Memref sig .scVector .vmem S80 .f32} {N : Vec F S80 .f32} {gp : FVec F S16 .f32} {K : FVec F S16 .f32 → Prog (VEff F c s) α} :
    Has d c s m N ⊢ iprop((Has d c s m N -∗ wpT d c s (K (rankV gp N)) Q) -∗ wpT d c s (rankP m gp K) Q) := by
  unfold rankP
  iintro H Hk
  iapply (negLd_run d c s) $$ H; iintro H
  iapply (negLd_run d c s) $$ H; iintro H
  iapply (negLd_run d c s) $$ H; iintro H
  iapply (negLd_run d c s) $$ H; iintro H
  iapply (negLd_run d c s) $$ H; iintro H
  iapply Hk $$ H

/-- One chunk. -/
theorem chunk_run {XP : Vec F S3136 .f32} {XN : Vec F S15680 .f32} {op o0 o1 o2 o3 o4 : Fin 1 → ℕ} {hop : ∀ a, op a + S16.size a ≤ S3136.size a}
    {h0 : ∀ a, o0 a + S16.size a ≤ S15680.size a} {h1 : ∀ a, o1 a + S16.size a ≤ S15680.size a}
    {h2 : ∀ a, o2 a + S16.size a ≤ S15680.size a} {h3 : ∀ a, o3 a + S16.size a ≤ S15680.size a} {h4 : ∀ a, o4 a + S16.size a ≤ S15680.size a}
    {acc : FVec F S16 .f32} {p0 : BitVec 32} {K : FVec F S16 .f32 → Prog (VEff F c s) α} (pp pn : ℕ) (ep : op 0 = pp)
    (e0 : o0 0 = pn) (e1 : o1 0 = pn + 16) (e2 : o2 0 = pn + 32) (e3 : o3 0 = pn + 48) (e4 : o4 0 = pn + 64) :
    iprop(Has d c s pu PU ∗ Has d c s pv PV ∗ Has d c s nu NU ∗ Has d c s nv NV ∗ Mats d c s A ∗ Own d c s A.arg22
        ∗ Has d c s A.arg23 XP ∗ Has d c s A.arg24 XN)
      ⊢ iprop((iprop(Has d c s pu PU ∗ Has d c s pv PV ∗ Has d c s nu NU ∗ Has d c s nv NV ∗ Mats d c s A ∗ Own d c s A.arg22
          ∗ Has d c s A.arg23 (setV (n := 3136) pp (groupV PU PV 0 (by decide)) XP) ∗ Has d c s A.arg24 (setN (n := 15680) pn 80 le_rfl (negV NU NV) XN))
          -∗ wpT d c s (K (addRank acc p0 (rankV (groupV PU PV 0 (by decide)) (negV NU NV)))) Q)
        -∗ wpT d c s (chunkP pu pv nu nv A op hop o0 o1 o2 o3 o4 h0 h1 h2 h3 h4 acc p0 K) Q) := by
  unfold chunkP
  iintro ⟨Hpu, Hpv, Hu, Hv, Hm, Hb, Hp, Hn⟩ Hk
  unfold Own
  icases Hb with ⟨%X, Hb⟩
  iapply (group_run d c s A 0 _) $$ [Hpu Hpv Hm]
  · isplitl [Hpu]; · iexact Hpu
    isplitl [Hpv]; · iexact Hpv
    iexact Hm
  iintro ⟨Hpu, Hpv, Hm⟩
  iapply (put16_run d c s pp ep) $$ Hp
  iintro Hp
  ihave Hn := (Entails.of_eq (congrArg (Has d c s A.arg24) (setN_zero (n := 15680) pn (negV NU NV) XN).symm)) $$ Hn
  ihave Hb := (Entails.of_eq (congrArg (Has d c s A.arg22) (setN_zero (n := 80) 0 (negV NU NV) X).symm)) $$ Hb
  iapply (neg_run d c s A 0 _ pn e0) $$ [Hu Hv Hm Hn Hb]
  · isplitl [Hu]; · iexact Hu
    isplitl [Hv]; · iexact Hv
    isplitl [Hm]; · iexact Hm
    isplitl [Hn]; · iexact Hn
    iexact Hb
  iintro H
  iapply (neg_run d c s A 1 _ pn e1) $$ H
  iintro H
  iapply (neg_run d c s A 2 _ pn e2) $$ H
  iintro H
  iapply (neg_run d c s A 3 _ pn e3) $$ H
  iintro H
  iapply (neg_run d c s A 4 _ pn e4) $$ H
  iintro ⟨Hu, Hv, Hm, Hn, Hb⟩
  ihave Hb := (Entails.of_eq (congrArg (Has d c s A.arg22) (setN_full (negV NU NV) X))) $$ Hb
  iapply (rank_run d c s) $$ Hb
  iintro Hb
  iapply Hk
  isplitl [Hpu]; · iexact Hpu
  isplitl [Hpv]; · iexact Hpv
  isplitl [Hu]; · iexact Hu
  isplitl [Hv]; · iexact Hv
  isplitl [Hm]; · iexact Hm
  isplitl [Hb]; · iexists _; iexact Hb
  isplitl [Hp]; · iexact Hp
  iexact Hn

end Cert.Tile
-- ==== Proof.Gather.lean ====
/-
  The gathers of rows in flight: starting one, and waiting for it.
-/
module

public import proofs.«01_k».proof.Proof.Chunk

@[expose] public section

noncomputable section

namespace Cert.Tile

open Cert.KernelIdeal Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "𝕄" => MT nD τ sig (HIx 1) (Elt F) ℕ UU ℕ

variable (d : Dev nD) (c : Fin τ.nSC) (s : Fin τ.nSub)
variable {α : Type} {Q : α → sProp (MT nD τ sig (HIx 1) (Elt F) ℕ UU ℕ)}

/-- The row a word names. -/
def rowNo (b : BitVec 32) : Fin 100000 := Fin.ofNat 100000 b.toNat

theorem rowNo_val {b : BitVec 32} (h : b.toNat < 100000) : (rowNo b).val = b.toNat := Nat.mod_eq_of_lt h

/-- The tile's buffer `m` holds `X`, at a share. -/
def HasQ (q : PosShare TreeShare) {sp : Space} {sh : Shape} {e : EltTy} (m : Memref sig .scVector sp sh e) (X : sh.Idx → Elt F e) : sProp 𝕄 :=
  iprop(∃ f, ⌜m.view.read (Elt F) f = X⌝ ∗ (m.view.loc (V d c s) ↦{q} f))

/-- A share of the table of rows, holding `H`. -/
def Tab (A : Refs) (q : PosShare TreeShare) (H : S100000x128.Idx → Elt F .f32) : sProp 𝕄 :=
  iprop(∃ f, ⌜(tab A).view.read (Elt F) f = H⌝ ∗ ((tab A).view.loc (V d c s) ↦[(tab A).view.set]{q} f))

/-- The rows a list names from its entry `o` on. -/
def pick {R n : ℕ} (H : Vec F S100000x128 .f32) (LX : IVec ⟨1, ![n]⟩ 32) (o : ℕ) (ho : o + R ≤ n) : Vec F ⟨2, ![R, 128]⟩ .f32 :=
  fun x => H (i2 (rowNo (LX (i1 ⟨o + (x 0).val, lt_of_lt_of_le (Nat.add_lt_add_left (x 0).isLt o) ho⟩))) (x 1))

/-- A gather in flight into `dst`: at its end `dst` holds `Y`, and `B` is back. -/
def Fly {sh : Shape} {e : EltTy} (dst : Memref sig .scVector .vmem sh e) (sem : DmaSem sig) (Y : sh.Idx → Elt F e) (B : sProp 𝕄) : sProp 𝕄 :=
  iprop(∃ D, Transfers.Flight countersEmb (V d c s) (.dma sem) (default : HIx 1) dst.view.dmaCredit D ∗ (D -∗ iprop(Has d c s dst Y ∗ B)))

/-- What the tile owes, and what it has waited for. -/
def Ob (O : CellTallies nD τ sig (HIx 1)) (W₀ : Waits sig (HIx 1)) : sProp 𝕄 :=
  iprop(levAts (K (F := F)).L (K (F := F)).lev ∗ ∃ W', ⌜∀ p ∈ W', p ∈ W₀ ∨ p.2 = none⌝ ∗ owes (V d c s) O W')

theorem credit_sum {R : ℕ} (hg : S100000x128.Gathers 0 ⟨2, ![R, 128]⟩) (dst : Memref sig .scVector .vmem ⟨2, ![R, 128]⟩ .f32) :
    ∑ j, (dst.slice ((⟨2, ![R, 128]⟩ : Shape).rowRect hg.axis' j) (Shape.stride_rowRect hg.axis' j)).view.dmaCredit = dst.view.dmaCredit :=
  SparseCore.sum_rowCredit_eq_dmaCredit dst hg.axis' (fun _ => rfl)

variable (A : Refs) {O : CellTallies nD τ sig (HIx 1)} {W₀ : Waits sig (HIx 1)}

/-- What a gather brings is the rows the list names. -/
theorem payload_eq {R n : ℕ} {hg : S100000x128.Gathers 0 ⟨2, ![R, 128]⟩} {o : Fin 1 → ℕ}
    {ho : ∀ a, o a + (⟨1, ![R]⟩ : Shape).size a ≤ (⟨1, ![n]⟩ : Shape).size a} {hn : (⟨1, ![R]⟩ : Shape).numel = (⟨2, ![R, 128]⟩ : Shape).size hg.axis'}
    {H G : Vec F S100000x128 .f32} {LX : IVec ⟨1, ![n]⟩ 32} {ZX : IVec ⟨1, ![R]⟩ 32} (hG : G = H)
    (hZ : ∀ x, ZX x = LX ((Rect.unit (s := ⟨1, ![n]⟩) o (⟨1, ![R]⟩ : Shape).size ho).emb x))
    (hin : ∀ x, (ZX x).toNat < S100000x128.size hg.axis) (hL : ∀ i, (LX i).toNat < 100000) (p : ℕ) (ep : o 0 = p) (hpn : p + R ≤ n) :
    SparseCore.gatherPayload (F := F) (e := .f32) hg G (SparseCore.rows (F := F) (si := ⟨1, ![R]⟩) ZX hn hin) = pick H LX p hpn := by
  subst hG ep
  funext x
  show G (hg.idx _ x) = G (i2 _ _)
  congr 1
  funext b
  apply Fin.ext
  fin_cases b
  · have e1 := congrArg Fin.val (Shape.Gathers.idx_axis hg (SparseCore.rows (F := F) (si := ⟨1, ![R]⟩) ZX hn hin) x)
    refine e1.trans ?_
    show (ZX _).toNat = (rowNo _).val
    rw [rowNo_val (hL _), hZ]
    congr 2
    funext a
    apply Fin.ext
    fin_cases a
    rw [Rect.emb_apply]
    show o 0 + 1 * _ = o 0 + (x 0).val
    rw [Nat.one_mul]
    congr 1
    refine (Shape.rowMajor_val_one (d := ![R]) _).symm.trans ?_
    rw [Equiv.apply_symm_apply]
    rfl
  · exact Shape.Gathers.idx_of_ne hg _ x 1 (by decide)

theorem getR_step {R n : ℕ} (hR : 0 < R) {hg : S100000x128.Gathers 0 ⟨2, ![R, 128]⟩} {dst : Memref sig .scVector .vmem ⟨2, ![R, 128]⟩ .f32} (hd : dst.IsWhole)
    {ix : Memref sig .scVector .vmem ⟨1, ![n]⟩ .i32} {sem : DmaSem sig} {o : Fin 1 → ℕ}
    {ho : ∀ a, o a + (⟨1, ![R]⟩ : Shape).size a ≤ (⟨1, ![n]⟩ : Shape).size a}
    {hn : (⟨1, ![R]⟩ : Shape).numel = (⟨2, ![R, 128]⟩ : Shape).size hg.axis'} {hp : (V d c s : Thread nD τ).2.kind = .scVector} {hsrc : (tab A).view.WordExact}
    {he : EltTy.f32.bits = 32} {hsp : Space.hbm = .hbm ∨ Space.hbm = .shared} {hr : S100000x128.StreamRows 0}
    {k : PUnit → Prog (VEff F c s) α} {q qi : PosShare TreeShare} {H : Vec F S100000x128 .f32} {LX : IVec ⟨1, ![n]⟩ 32}
    (hL : ∀ i, (LX i).toNat < 100000) (p : ℕ) (ep : o 0 = p) (hpn : p + R ≤ n) :
    iprop(Own (F := F) d c s dst ∗ Tab d c s A q H ∗ HasQ (F := F) d c s qi ix LX ∗ semVal ((V d c s : Thread nD τ), SemLoc.dma sem) 0)
      ⊢ iprop((Fly d c s dst sem (pick H LX p hpn) iprop(Tab d c s A q H ∗ HasQ (F := F) d c s qi ix LX) -∗ wpT d c s (k ⟨⟩) Q)
        -∗ wpT d c s (SparseCore.enqueueIndirectGather hp (tab A) dst hg
            (ix.slice (Rect.unit (s := ⟨1, ![n]⟩) o (⟨1, ![R]⟩ : Shape).size ho) (fun _ => rfl)) hn sem hsrc he hsp hr >>= k) Q) := by
  unfold Own Has Tab HasQ
  iintro ⟨⟨%X, %fd, %hfd, Hd⟩, ⟨%fs, %hfs, Hs⟩, ⟨%fo, %hfo, Hi⟩, Hsem⟩ Hk
  have hset : dst.view.set = Finset.univ := hd.set_eq_univ
  ihave Hd := (Entails.of_eq (show (dst.view.loc (V d c s) ↦{fullShare} fd : sProp 𝕄) = dst.view.loc (V d c s) ↦[dst.view.set]{fullShare} fd by rw [hset])) $$ Hd
  ihave Hi := (pointsTo_split_subset (q := qi) (f := fo) (S := Finset.univ)
    (Finset.subset_univ (ix.slice (Rect.unit (s := ⟨1, ![n]⟩) o (⟨1, ![R]⟩ : Shape).size ho) (fun _ => rfl)).view.set)).1 $$ Hi
  icases Hi with ⟨Hi, Hrest⟩
  have hread : ∀ x, (ix.slice (Rect.unit (s := ⟨1, ![n]⟩) o (⟨1, ![R]⟩ : Shape).size ho) (fun _ => rfl)).view.read (Elt F) fo x
      = LX ((Rect.unit (s := ⟨1, ![n]⟩) o (⟨1, ![R]⟩ : Shape).size ho).emb x) := by
    intro x; rw [← hfo]; rfl
  have hin : ∀ x, ((ix.slice (Rect.unit (s := ⟨1, ![n]⟩) o (⟨1, ![R]⟩ : Shape).size ho) (fun _ => rfl)).view.read (Elt F) fo x).toNat
      < S100000x128.size hg.axis := by
    intro x; rw [hread]; exact hL _
  have hpos : 0 < (⟨2, ![R, 128]⟩ : Shape).numel := by
    rw [show (⟨2, ![R, 128]⟩ : Shape).numel = R * 128 from Fin.prod_univ_two _]; omega
  iapply (SparseCore.wp_indirectGatherLocal countersEmb 𝒱₀ (V d c s) none (hg := hg) (default : HIx 1) dst.view.dmaCredit
    (credit_sum hg dst) hpos hin) $$ [Hs Hd Hi Hsem]
  · isplitl [Hs]; · iexact Hs
    isplitl [Hd]; · iexact Hd
    isplitl [Hi]; · iexact Hi
    iexact Hsem
  iintro Hf
  iapply Hk
  unfold Fly
  iexists _
  isplitl [Hf]; · iexact Hf
  iintro ⟨Hd, Hs, Hi⟩
  isplitl [Hd]
  · unfold Has
    iexists _
    isplitr
    rotate_left
    · rw [hset]; iexact Hd
    · ipureintro
      exact (View.read_write_univ fd _).trans (payload_eq (hg := hg) hfs hread hin hL p ep hpn)
  isplitl [Hs]
  · iexists fs
    isplitr
    · ipureintro; exact hfs
    · iexact Hs
  iexists fo
  isplitr
  · ipureintro; exact hfo
  · iapply (pointsTo_split_subset (q := qi) (f := fo) (S := Finset.univ)
      (Finset.subset_univ (ix.slice (Rect.unit (s := ⟨1, ![n]⟩) o (⟨1, ![R]⟩ : Shape).size ho) (fun _ => rfl)).view.set)).2
    isplitl [Hi]; · iexact Hi
    iexact Hrest

/-- Waiting for a transfer. -/
theorem wait_raw (hO : ∀ g, O g none = 0) {spS sp : Space} {shS sh : Shape} {eS e : EltTy} {src : Memref sig .scVector spS shS eS} {dst : Memref sig .scVector sp sh e}
    {hs : src.view.WordExact} {hd : dst.view.WordExact} {sem : DmaSem sig} {D : sProp 𝕄} {k : PUnit → Prog (VEff F c s) α} :
    iprop(Transfers.Flight countersEmb (V d c s) (.dma sem) (default : HIx 1) dst.view.dmaCredit D ∗ Ob (F := F) d c s O W₀)
      ⊢ iprop((iprop(D ∗ semVal ((V d c s : Thread nD τ), SemLoc.dma sem) 0 ∗ Ob (F := F) d c s O W₀) -∗ wpT d c s (k ⟨⟩) Q)
        -∗ wpT d c s (.op (.waitDma2 sem src dst hs hd) k) Q) := by
  unfold Ob
  iintro ⟨Hf, ⟨#Hlv, %W', %hW', HO⟩⟩ Hk
  ihave Hmw := (show levAts (Cert.Tile.K (F := F)).L (Cert.Tile.K (F := F)).lev ⊢ Transfers.MayWaits (V d c s) (default : HIx 1) O from
    (Cert.Tile.K (F := F)).mayWaits_none (thr := V d c s) hO) $$ Hlv
  ihave Hmw := (Transfers.MayWaits.elim (SemLoc.dma sem)) $$ Hmw
  iapply (Transfers.wp_waitLocalO countersEmb 𝒱₀ (V d c s) none (default : HIx 1) (rfl : dst.view.dmaCredit = _)) $$ [Hf HO Hmw]
  · isplitl [Hf]; · iexact Hf
    isplitl [HO]; · iexact HO
    iexact Hmw
  iintro ⟨H, Hsem, HO⟩
  iapply Hk
  isplitl [H]; · iexact H
  isplitl [Hsem]; · iexact Hsem
  isplitr [HO]
  · iexact Hlv
  iexists _
  isplitr
  rotate_left
  · iexact HO
  · ipureintro
    intro p hp
    rcases Finset.mem_insert.mp hp with rfl | hp
    · exact .inr rfl
    · exact hW' p hp

/-- Waiting for a gather. -/
theorem wait_step (hO : ∀ g, O g none = 0) {sh : Shape} {dst : Memref sig .scVector .vmem sh .f32} {hd : dst.IsWhole} {sem : DmaSem sig}
    {Y : sh.Idx → Elt F .f32} {B : sProp 𝕄} {K : Prog (VEff F c s) α} :
    iprop(Fly d c s dst sem Y B ∗ Ob (F := F) d c s O W₀)
      ⊢ iprop((iprop(Has d c s dst Y ∗ B ∗ semVal ((V d c s : Thread nD τ), SemLoc.dma sem) 0 ∗ Ob (F := F) d c s O W₀) -∗ wpT d c s K Q)
        -∗ wpT d c s (waitP A sem dst hd K) Q) := by
  unfold Fly waitP
  iintro ⟨⟨%D, Hf, HD⟩, HO⟩ Hk
  iapply (wait_raw d c s hO) $$ [Hf HO]
  · isplitl [Hf]; · iexact Hf
    iexact HO
  iintro ⟨H, Hsem, HO⟩
  ihave H := HD $$ H
  icases H with ⟨Hd, HB⟩
  iapply Hk
  isplitl [Hd]; · iexact Hd
  isplitl [HB]; · iexact HB
  isplitl [Hsem]; · iexact Hsem
  iexact HO

end Cert.Tile
-- ==== Proof.Copy.lean ====
/-
  A tile's plain copies: the slices of row numbers in, the values out.
-/
module

public import proofs.«01_k».proof.Proof.Gather

@[expose] public section

noncomputable section

namespace Cert.Tile

open Cert.KernelIdeal Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "𝕄" => MT nD τ sig (HIx 1) (Elt F) ℕ UU ℕ

variable (d : Dev nD) (c : Fin τ.nSC) (s : Fin τ.nSub)
variable {α : Type} {Q : α → sProp (MT nD τ sig (HIx 1) (Elt F) ℕ UU ℕ)}
variable {O : CellTallies nD τ sig (HIx 1)} {W₀ : Waits sig (HIx 1)}

/-- The part of memory a window `m` covers holds `X`. -/
def Part {sp : Space} {sh : Shape} {e : EltTy} (m : Memref sig .scVector sp sh e) (X : sh.Idx → Elt F e) : sProp 𝕄 :=
  iprop(∃ f, ⌜m.view.read (Elt F) f = X⌝ ∗ (m.view.loc (V d c s) ↦[m.view.set]{fullShare} f))

/-- The part of a list from entry `p` on. -/
def cut {n m : ℕ} {e : EltTy} (X : (⟨1, ![m]⟩ : Shape).Idx → Elt F e) (p : ℕ) (hp : p + n ≤ m) : (⟨1, ![n]⟩ : Shape).Idx → Elt F e :=
  fun x => X (i1 ⟨p + (i1v x).val, lt_of_lt_of_le (Nat.add_lt_add_left (i1v x).isLt p) hp⟩)

theorem cut_eq {n m : ℕ} {e : EltTy} (X : (⟨1, ![m]⟩ : Shape).Idx → Elt F e) {o : Fin 1 → ℕ}
    (ho : ∀ a, o a + (⟨1, ![n]⟩ : Shape).size a ≤ (⟨1, ![m]⟩ : Shape).size a) (p : ℕ) (ep : o 0 = p) (hp : p + n ≤ m) :
    (fun x => X ((Rect.unit (s := ⟨1, ![m]⟩) o (⟨1, ![n]⟩ : Shape).size ho).emb x)) = cut X p hp := by
  subst ep
  funext x
  show X _ = X _
  congr 1
  funext a
  apply Fin.ext
  fin_cases a
  rw [Rect.emb_apply]
  show o 0 + 1 * (x 0).val = o 0 + (x 0).val
  rw [Nat.one_mul]

/-- A copy and its wait. -/
theorem send_run (hO : ∀ g, O g none = 0) {spS sp : Space} {sh : Shape} {e : EltTy} {src : Memref sig .scVector spS sh e} {dst : Memref sig .scVector sp sh e}
    (hpos : 0 < sh.numel) {hs : src.view.WordExact} {hd : dst.view.WordExact} {hs' : src.view.WordExact} {hd' : dst.view.WordExact} {sem : DmaSem sig}
    {ht : DmaTarget.Typed (nD := nD) (p := .scVector c s) spS (.dma sem) (.here dst)} {K : Prog (VEff F c s) α} {q : PosShare TreeShare}
    {fs : Buf (Elt F) (src.view.loc (V d c s))} {Sd : Finset (Idx (dst.view.loc (V d c s)))} {fd : Buf (Elt F) (dst.view.loc (V d c s))}
    (hSd : dst.view.set ⊆ Sd) :
    iprop((src.view.loc (V d c s) ↦[src.view.set]{q} fs) ∗ (dst.view.loc (V d c s) ↦[Sd]{fullShare} fd)
        ∗ semVal ((V d c s : Thread nD τ), SemLoc.dma sem) 0 ∗ Ob (F := F) d c s O W₀)
      ⊢ iprop((iprop((src.view.loc (V d c s) ↦[src.view.set]{q} fs)
            ∗ (dst.view.loc (V d c s) ↦[Sd]{fullShare} (dst.view.write (Elt F) fd (src.view.read (Elt F) fs) Finset.univ))
            ∗ semVal ((V d c s : Thread nD τ), SemLoc.dma sem) 0 ∗ Ob (F := F) d c s O W₀) -∗ wpT d c s K Q)
        -∗ wpT d c s (.op (.enqueueDma src (.here dst) (.dma sem) hs hd ht) fun _ => .op (.waitDma2 sem src dst hs' hd') fun _ => K) Q) := by
  iintro ⟨Hs, Hd, Hsem, HO⟩ Hk
  iapply (Transfers.wp_dmaLocal countersEmb 𝒱₀ (V d c s) none (src := src) (via := .same) (dst := dst) (sm := .dma sem) (q := q) (fs := fs) (Sd := Sd) (fd := fd)
    (default : HIx 1) dst.view.dmaCredit rfl (View.dmaCredit_pos _ hpos) hSd) $$ [Hs Hd Hsem]
  · isplitl [Hs]; · iexact Hs
    isplitl [Hd]; · iexact Hd
    iexact Hsem
  iintro Hf
  iapply (wait_raw d c s hO) $$ [Hf HO]
  · isplitl [Hf]; · iexact Hf
    iexact HO
  iintro ⟨⟨Hd, Hs⟩, Hsem, HO⟩
  iapply Hk
  isplitl [Hs]; · iexact Hs
  isplitl [Hd]; · iexact Hd
  isplitl [Hsem]; · iexact Hsem
  iexact HO

/-- A copy in: the buffer ends with its part of the list. -/
theorem copy_step (hO : ∀ g, O g none = 0) {src : Memref sig .scVector .hbm S602112 .i32} {n : ℕ} (hn : 0 < n) {dst : Memref sig .scVector .vmem ⟨1, ![n]⟩ .i32}
    {hd : dst.IsWhole} {sem : DmaSem sig} {o : Fin 1 → ℕ} {ho : ∀ a, o a + (⟨1, ![n]⟩ : Shape).size a ≤ S602112.size a}
    {K : Prog (VEff F c s) α} {q : PosShare TreeShare} {X : IVec S602112 32} (p : ℕ) (ep : o 0 = p) (hp : p + n ≤ 602112) :
    iprop(Own (F := F) d c s dst ∗ HasQ (F := F) d c s q src X ∗ semVal ((V d c s : Thread nD τ), SemLoc.dma sem) 0 ∗ Ob (F := F) d c s O W₀)
      ⊢ iprop((iprop(Has (F := F) d c s dst (cut (F := F) (m := 602112) (e := .i32) X p hp) ∗ HasQ (F := F) d c s q src X
            ∗ semVal ((V d c s : Thread nD τ), SemLoc.dma sem) 0 ∗ Ob (F := F) d c s O W₀) -∗ wpT d c s K Q)
        -∗ wpT d c s (copyP src dst hd sem o ho K) Q) := by
  unfold Own Has HasQ copyP
  iintro ⟨⟨%Y, %fd, %hfd, Hd⟩, ⟨%fs, %hfs, Hs⟩, Hsem, HO⟩ Hk
  ihave Hs := (pointsTo_split_subset (q := q) (f := fs) (S := Finset.univ)
    (Finset.subset_univ (src.slice (Rect.unit (s := S602112) o (⟨1, ![n]⟩ : Shape).size ho) (fun _ => rfl)).view.set)).1 $$ Hs
  icases Hs with ⟨Hs, Hrest⟩
  have hpos : 0 < (⟨1, ![n]⟩ : Shape).numel := by
    rw [show (⟨1, ![n]⟩ : Shape).numel = n from Fin.prod_univ_one _]; exact hn
  have hread : (src.slice (Rect.unit (s := S602112) o (⟨1, ![n]⟩ : Shape).size ho) (fun _ => rfl)).view.read (Elt F) fs
      = cut (F := F) (m := 602112) (e := .i32) X p hp := by
    rw [← hfs]
    exact cut_eq (F := F) (m := 602112) (e := .i32) (src.view.read (Elt F) fs) ho p ep hp
  iapply (send_run (src := src.slice (Rect.unit (s := S602112) o (⟨1, ![n]⟩ : Shape).size ho) (fun _ => rfl)) (dst := dst) d c s hO hpos (Finset.subset_univ _)) $$ [Hs Hd Hsem HO]
  · isplitl [Hs]; · iexact Hs
    isplitl [Hd]; · iexact Hd
    isplitl [Hsem]; · iexact Hsem
    iexact HO
  iintro ⟨Hs, Hd, Hsem, HO⟩
  iapply Hk
  isplitl [Hd]
  · iexists _
    isplitr
    rotate_left
    · iexact Hd
    · ipureintro
      exact (View.read_write_univ fd _).trans hread
  isplitl [Hs Hrest]
  · iexists fs
    isplitr
    · ipureintro; exact hfs
    · iapply (pointsTo_split_subset (q := q) (f := fs) (S := Finset.univ)
        (Finset.subset_univ (src.slice (Rect.unit (s := S602112) o (⟨1, ![n]⟩ : Shape).size ho) (fun _ => rfl)).view.set)).2
      isplitl [Hs]; · iexact Hs
      iexact Hrest
  isplitl [Hsem]; · iexact Hsem
  iexact HO

/-- A copy out: its part of the output ends with what the buffer holds. -/
theorem out_step (hO : ∀ g, O g none = 0) {n m : ℕ} (hn : 0 < n) {src : Memref sig .scVector .vmem ⟨1, ![n]⟩ .f32} {hs : src.view.WordExact}
    {dst : Memref sig .scVector .hbm ⟨1, ![m]⟩ .f32} {sem : DmaSem sig} {o : Fin 1 → ℕ}
    {ho : ∀ a, o a + (⟨1, ![n]⟩ : Shape).size a ≤ (⟨1, ![m]⟩ : Shape).size a} {K : Prog (VEff F c s) α} {fs : Buf (Elt F) (src.view.loc (V d c s))}
    {X Y : Vec F ⟨1, ![n]⟩ .f32} (hfs : src.view.read (Elt F) fs = X) :
    iprop((src.view.loc (V d c s) ↦[src.view.set]{fullShare} fs)
        ∗ Part (F := F) d c s (dst.slice (Rect.unit (s := ⟨1, ![m]⟩) o (⟨1, ![n]⟩ : Shape).size ho) (fun _ => rfl)) Y
        ∗ semVal ((V d c s : Thread nD τ), SemLoc.dma sem) 0 ∗ Ob (F := F) d c s O W₀)
      ⊢ iprop((iprop((src.view.loc (V d c s) ↦[src.view.set]{fullShare} fs)
            ∗ Part (F := F) d c s (dst.slice (Rect.unit (s := ⟨1, ![m]⟩) o (⟨1, ![n]⟩ : Shape).size ho) (fun _ => rfl)) X
            ∗ semVal ((V d c s : Thread nD τ), SemLoc.dma sem) 0 ∗ Ob (F := F) d c s O W₀) -∗ wpT d c s K Q)
        -∗ wpT d c s (outP src hs dst sem o ho K) Q) := by
  unfold Part outP
  iintro ⟨Hs, ⟨%fd, %hfd, Hd⟩, Hsem, HO⟩ Hk
  have hpos : 0 < (⟨1, ![n]⟩ : Shape).numel := by
    rw [show (⟨1, ![n]⟩ : Shape).numel = n from Fin.prod_univ_one _]; exact hn
  iapply (send_run (src := src) (dst := dst.slice (Rect.unit (s := ⟨1, ![m]⟩) o (⟨1, ![n]⟩ : Shape).size ho) (fun _ => rfl)) d c s hO hpos (Finset.Subset.refl _)) $$ [Hs Hd Hsem HO]
  · isplitl [Hs]; · iexact Hs
    isplitl [Hd]; · iexact Hd
    isplitl [Hsem]; · iexact Hsem
    iexact HO
  iintro ⟨Hs, Hd, Hsem, HO⟩
  iapply Hk
  isplitl [Hs]; · iexact Hs
  isplitl [Hd]
  · iexists _
    isplitr
    rotate_left
    · iexact Hd
    · ipureintro
      exact (View.read_write_univ fd _).trans hfs
  isplitl [Hsem]; · iexact Hsem
  iexact HO

end Cert.Tile
-- ==== Proof.Loop.lean ====
/-
  A tile's loop: what is in flight, what is done, after each trip.
-/
module

public import proofs.«01_k».proof.Proof.Copy

@[expose] public section

noncomputable section

namespace Cert.Tile

open Cert.KernelIdeal Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "𝕄" => MT nD τ sig (HIx 1) (Elt F) ℕ UU ℕ

/-! ## The values -/

/-- The values of a list of edges between rows of `H`. -/
def edgeG {n : ℕ} (H : Vec F S100000x128 .f32) (L L' : IVec ⟨1, ![n]⟩ 32) : Vec F ⟨1, ![n]⟩ .f32 :=
  fun i => rowGam (rowOf H (rowNo (L i))) (rowOf H (rowNo (L' i)))

/-- Lane `l` of chunk `j`. -/
def posOf (G : Vec F S3136 .f32) (j : ℕ) (hj : j < 196) : FVec F S16 .f32 := fun x => G (i1 ⟨16 * j + (lane x).val, by have := (lane x).isLt; omega⟩)

/-- The eighty negatives of chunk `j`. -/
def negOf (G : Vec F S15680 .f32) (j : ℕ) (hj : j < 196) : Vec F S80 .f32 := fun i => G (i1 ⟨80 * j + (i1v i).val, by have := (i1v i).isLt; omega⟩)

/-- The lanes' sums of reciprocal ranks over a tile's first `j` chunks. -/
def mrrAt (b : ℕ) (GP : Vec F S3136 .f32) (GN : Vec F S15680 .f32) : ℕ → FVec F S16 .f32
  | 0 => broadcast S16 (Scalar.ofBits .f32 0x00000000#32)
  | j + 1 => if h : j < 196 then addRank (mrrAt b GP GN j) (BitVec.ofNat 32 (b + 16 * j)) (rankV (posOf GP j h) (negOf GN j h)) else mrrAt b GP GN j

theorem mrrAt_succ (b : ℕ) (GP : Vec F S3136 .f32) (GN : Vec F S15680 .f32) {j : ℕ} (h : j < 196) :
    mrrAt b GP GN (j + 1) = addRank (mrrAt b GP GN j) (BitVec.ofNat 32 (b + 16 * j)) (rankV (posOf GP j h) (negOf GN j h)) := dif_pos h

/-- The first `k` entries are `G`'s. -/
def fill {n : ℕ} (k : ℕ) (G X : Vec F ⟨1, ![n]⟩ .f32) : Vec F ⟨1, ![n]⟩ .f32 := fun i => if (i1v i).val < k then G i else X i

theorem fill_zero {n : ℕ} (G X : Vec F ⟨1, ![n]⟩ .f32) : fill 0 G X = X := by
  funext i; exact if_neg (Nat.not_lt_zero _)

theorem fill_all {n k : ℕ} (h : n ≤ k) (G X : Vec F ⟨1, ![n]⟩ .f32) : fill k G X = G := by
  funext i; exact if_pos (lt_of_lt_of_le (i1v i).isLt h)

section Chunk

variable (H : Vec F S100000x128 .f32) (P0 P1 : IVec S3136 32) (N0 N1 : IVec S15680 32)

theorem group_pos {j : ℕ} (hj : j < 196) (h : 16 * j + 16 ≤ 3136) :
    groupV (pick H P0 (16 * j) h) (pick H P1 (16 * j) h) 0 (by decide) = posOf (edgeG H P0 P1) j hj := by
  funext x
  have e : (⟨16 * j + (0 + (lane x).val), lt_of_lt_of_le (Nat.add_lt_add_left (rowAt (R := 16) 0 (by decide) (lane x)).isLt (16 * j)) h⟩ : Fin 3136)
      = ⟨16 * j + (lane x).val, by have := (lane x).isLt; omega⟩ := Fin.ext (by show 16 * j + (0 + (lane x).val) = 16 * j + (lane x).val; omega)
  unfold groupV posOf edgeG
  congr 1
  · funext l; exact congrArg (fun z => H (i2 (rowNo (P0 (i1 z))) l)) e
  · funext l; exact congrArg (fun z => H (i2 (rowNo (P1 (i1 z))) l)) e

theorem neg_neg {j : ℕ} (hj : j < 196) (h : 80 * j + 80 ≤ 15680) :
    negV (pick H N0 (80 * j) h) (pick H N1 (80 * j) h) = negOf (edgeG H N0 N1) j hj := rfl

theorem setV_fill {j : ℕ} (hj : j < 196) (G X : Vec F S3136 .f32) :
    setV (n := 3136) (16 * j) (posOf G j hj) (fill (16 * j) G X) = fill (16 * (j + 1)) G X := by
  funext i
  have e : (i 0).val = (i1v (n := 3136) i).val := rfl
  unfold setV fill
  by_cases h : 16 * j ≤ (i 0).val ∧ (i 0).val < 16 * j + 16
  · rw [dif_pos h, if_pos (by omega)]
    unfold posOf
    have e2 : (⟨16 * j + (lane (i1 (n := 16) ⟨(i 0).val - 16 * j, by omega⟩)).val, by
        have := (lane (i1 (n := 16) ⟨(i 0).val - 16 * j, by omega⟩)).isLt; omega⟩ : Fin 3136) = i1v (n := 3136) i :=
      Fin.ext (by show 16 * j + ((i 0).val - 16 * j) = (i 0).val; omega)
    exact congrArg G ((congrArg i1 e2).trans (i1_eta (n := 3136) i))
  · rw [dif_neg h]
    by_cases h2 : (i1v (n := 3136) i).val < 16 * j
    · rw [if_pos h2, if_pos (by omega)]
    · rw [if_neg h2, if_neg (by omega)]

theorem setN_fill {j : ℕ} (hj : j < 196) (G X : Vec F S15680 .f32) :
    setN (n := 15680) (80 * j) 80 le_rfl (negOf G j hj) (fill (80 * j) G X) = fill (80 * (j + 1)) G X := by
  funext i
  unfold setN fill
  by_cases h : 80 * j ≤ (i1v (n := 15680) i).val ∧ (i1v (n := 15680) i).val < 80 * j + 80
  · rw [dif_pos h, if_pos (by omega)]
    unfold negOf
    have e2 : (⟨80 * j + (i1v (i1 (n := 80) ⟨(i1v (n := 15680) i).val - 80 * j, by omega⟩)).val, by
        have := (i1v (i1 (n := 80) ⟨(i1v (n := 15680) i).val - 80 * j, by omega⟩)).isLt; omega⟩ : Fin 15680) = i1v (n := 15680) i :=
      Fin.ext (by show 80 * j + ((i1v (n := 15680) i).val - 80 * j) = (i1v (n := 15680) i).val; omega)
    exact congrArg G ((congrArg i1 e2).trans (i1_eta (n := 15680) i))
  · rw [dif_neg h]
    by_cases h2 : (i1v (n := 15680) i).val < 80 * j
    · rw [if_pos h2, if_pos (by omega)]
    · rw [if_neg h2, if_neg (by omega)]

end Chunk

/-! ## The two slots -/

variable (d : Dev nD) (c : Fin τ.nSC) (s : Fin τ.nSub)
variable {α : Type} {Q : α → sProp (MT nD τ sig (HIx 1) (Elt F) ℕ UU ℕ)}
variable (A : Refs) {O : CellTallies nD τ sig (HIx 1)} {W₀ : Waits sig (HIx 1)}
variable (H : Vec F S100000x128 .f32) (P0 P1 : IVec S3136 32) (N0 N1 : IVec S15680 32)

/-- A slot: its buffers, its semaphores, its shares of the table and of the lists. -/
structure Slot where
  pu : Memref sig .scVector .vmem S16x128 .f32
  hpu : pu.IsWhole
  pv : Memref sig .scVector .vmem S16x128 .f32
  hpv : pv.IsWhole
  nu : Memref sig .scVector .vmem S80x128 .f32
  hnu : nu.IsWhole
  nv : Memref sig .scVector .vmem S80x128 .f32
  hnv : nv.IsWhole
  s0 : DmaSem sig
  s1 : DmaSem sig
  s2 : DmaSem sig
  s3 : DmaSem sig
  q0 : PosShare TreeShare
  q1 : PosShare TreeShare
  q2 : PosShare TreeShare
  q3 : PosShare TreeShare
  ql : PosShare TreeShare

variable (Z : Slot)

/-- One gather's share of the table and of its list. -/
abbrev Src {n : ℕ} (q ql : PosShare TreeShare) (ix : Memref sig .scVector .vmem ⟨1, ![n]⟩ .i32) (L : IVec ⟨1, ![n]⟩ 32) : sProp 𝕄 :=
  iprop(Tab d c s A q H ∗ HasQ (F := F) d c s ql ix L)

/-- What a slot's gathers start from. -/
def Rsc : sProp 𝕄 :=
  iprop((semVal ((V d c s : Thread nD τ), SemLoc.dma Z.s0) 0 ∗ Src d c s A H Z.q0 Z.ql A.arg7 P0)
    ∗ (semVal ((V d c s : Thread nD τ), SemLoc.dma Z.s1) 0 ∗ Src d c s A H Z.q1 Z.ql A.arg8 P1)
    ∗ (semVal ((V d c s : Thread nD τ), SemLoc.dma Z.s2) 0 ∗ Src d c s A H Z.q2 Z.ql A.arg9 N0)
    ∗ (semVal ((V d c s : Thread nD τ), SemLoc.dma Z.s3) 0 ∗ Src d c s A H Z.q3 Z.ql A.arg10 N1))

/-- A slot's buffers, holding something. -/
def Bufs : sProp 𝕄 :=
  iprop(Own (F := F) d c s Z.pu ∗ Own (F := F) d c s Z.pv ∗ Own (F := F) d c s Z.nu ∗ Own (F := F) d c s Z.nv)

/-- A slot's buffers, holding the rows of chunk `j`. -/
def Rows (j : ℕ) (hj : j < 196) : sProp 𝕄 :=
  iprop(Has d c s Z.pu (pick H P0 (16 * j) (by omega)) ∗ Has d c s Z.pv (pick H P1 (16 * j) (by omega))
    ∗ Has d c s Z.nu (pick H N0 (80 * j) (by omega)) ∗ Has d c s Z.nv (pick H N1 (80 * j) (by omega)))

/-- A slot with the gathers of chunk `j` in flight. -/
def Flying (j : ℕ) (hj : j < 196) : sProp 𝕄 :=
  iprop(Fly d c s Z.pu Z.s0 (pick H P0 (16 * j) (by omega)) (Src d c s A H Z.q0 Z.ql A.arg7 P0)
    ∗ Fly d c s Z.pv Z.s1 (pick H P1 (16 * j) (by omega)) (Src d c s A H Z.q1 Z.ql A.arg8 P1)
    ∗ Fly d c s Z.nu Z.s2 (pick H N0 (80 * j) (by omega)) (Src d c s A H Z.q2 Z.ql A.arg9 N0)
    ∗ Fly d c s Z.nv Z.s3 (pick H N1 (80 * j) (by omega)) (Src d c s A H Z.q3 Z.ql A.arg10 N1))

theorem bufs_of_rows {j : ℕ} {hj : j < 196} : Rows d c s H P0 P1 N0 N1 Z j hj ⊢ Bufs (F := F) d c s Z := by
  unfold Rows Bufs
  iintro ⟨H0, H1, H2, H3⟩
  isplitl [H0]; · iapply (own_of d c s) $$ H0
  isplitl [H1]; · iapply (own_of d c s) $$ H1
  isplitl [H2]; · iapply (own_of d c s) $$ H2
  iapply (own_of d c s) $$ H3

/-- Starting the gathers of chunk `j`. -/
theorem start_run (hP0 : ∀ i, (P0 i).toNat < 100000) (hP1 : ∀ i, (P1 i).toNat < 100000) (hN0 : ∀ i, (N0 i).toNat < 100000) (hN1 : ∀ i, (N1 i).toNat < 100000)
    {o : Fin 1 → ℕ} {ho : ∀ a, o a + S16.size a ≤ S3136.size a} {p : Fin 1 → ℕ} {hp : ∀ a, p a + S80.size a ≤ S15680.size a} {K : Prog (VEff F c s) α}
    (j : ℕ) (hj : j < 196) (eo : o 0 = 16 * j) (ep : p 0 = 80 * j) :
    iprop(Bufs (F := F) d c s Z ∗ Rsc d c s A H P0 P1 N0 N1 Z)
      ⊢ iprop((Flying d c s A H P0 P1 N0 N1 Z j hj -∗ wpT d c s K Q)
        -∗ wpT d c s (getP A Z.s0 Z.pu A.arg7 o ho (getP A Z.s1 Z.pv A.arg8 o ho (getN A Z.s2 Z.nu A.arg9 p hp (getN A Z.s3 Z.nv A.arg10 p hp K)))) Q) := by
  unfold Bufs Rsc Flying getP getN
  iintro ⟨⟨B0, B1, B2, B3⟩, ⟨S0, T0, L0⟩, ⟨S1, T1, L1⟩, ⟨S2, T2, L2⟩, ⟨S3, T3, L3⟩⟩ Hk
  iapply (getR_step d c s A (R := 16) (n := 3136) (by decide) Z.hpu hP0 (16 * j) eo (by omega)) $$ [B0 T0 L0 S0]
  · isplitl [B0]; · iexact B0
    isplitl [T0]; · iexact T0
    isplitl [L0]; · iexact L0
    iexact S0
  iintro F0
  iapply (getR_step d c s A (R := 16) (n := 3136) (by decide) Z.hpv hP1 (16 * j) eo (by omega)) $$ [B1 T1 L1 S1]
  · isplitl [B1]; · iexact B1
    isplitl [T1]; · iexact T1
    isplitl [L1]; · iexact L1
    iexact S1
  iintro F1
  iapply (getR_step d c s A (R := 80) (n := 15680) (by decide) Z.hnu hN0 (80 * j) ep (by omega)) $$ [B2 T2 L2 S2]
  · isplitl [B2]; · iexact B2
    isplitl [T2]; · iexact T2
    isplitl [L2]; · iexact L2
    iexact S2
  iintro F2
  iapply (getR_step d c s A (R := 80) (n := 15680) (by decide) Z.hnv hN1 (80 * j) ep (by omega)) $$ [B3 T3 L3 S3]
  · isplitl [B3]; · iexact B3
    isplitl [T3]; · iexact T3
    isplitl [L3]; · iexact L3
    iexact S3
  iintro F3
  iapply Hk
  isplitl [F0]; · iexact F0
  isplitl [F1]; · iexact F1
  isplitl [F2]; · iexact F2
  iexact F3

/-- Waiting for the gathers of chunk `j`. -/
theorem land_run (hO : ∀ g, O g none = 0) {K : Prog (VEff F c s) α} (j : ℕ) (hj : j < 196) :
    iprop(Flying d c s A H P0 P1 N0 N1 Z j hj ∗ Ob (F := F) d c s O W₀)
      ⊢ iprop((iprop(Rows d c s H P0 P1 N0 N1 Z j hj ∗ Rsc d c s A H P0 P1 N0 N1 Z ∗ Ob (F := F) d c s O W₀) -∗ wpT d c s K Q)
        -∗ wpT d c s (waitP A Z.s0 Z.pu Z.hpu (waitP A Z.s1 Z.pv Z.hpv (waitP A Z.s2 Z.nu Z.hnu (waitP A Z.s3 Z.nv Z.hnv K)))) Q) := by
  unfold Flying Rows Rsc
  iintro ⟨⟨F0, F1, F2, F3⟩, HO⟩ Hk
  iapply (wait_step d c s A hO) $$ [F0 HO]
  · isplitl [F0]; · iexact F0
    iexact HO
  iintro ⟨B0, T0, S0, HO⟩
  iapply (wait_step d c s A hO) $$ [F1 HO]
  · isplitl [F1]; · iexact F1
    iexact HO
  iintro ⟨B1, T1, S1, HO⟩
  iapply (wait_step d c s A hO) $$ [F2 HO]
  · isplitl [F2]; · iexact F2
    iexact HO
  iintro ⟨B2, T2, S2, HO⟩
  iapply (wait_step d c s A hO) $$ [F3 HO]
  · isplitl [F3]; · iexact F3
    iexact HO
  iintro ⟨B3, T3, S3, HO⟩
  iapply Hk
  isplitl [B0 B1 B2 B3]
  · isplitl [B0]; · iexact B0
    isplitl [B1]; · iexact B1
    isplitl [B2]; · iexact B2
    iexact B3
  isplitr [HO]
  · isplitl [T0 S0]
    · isplitl [S0]; · iexact S0
      iexact T0
    isplitl [T1 S1]
    · isplitl [S1]; · iexact S1
      iexact T1
    isplitl [T2 S2]
    · isplitl [S2]; · iexact S2
      iexact T2
    isplitl [S3]; · iexact S3
    iexact T3
  iexact HO

/-- What the chunks before chunk `j` leave. -/
def Done (j : ℕ) : sProp 𝕄 :=
  iprop(Mats d c s A ∗ Own (F := F) d c s A.arg22 ∗ (∃ X, Has d c s A.arg23 (fill (16 * j) (edgeG H P0 P1) X))
    ∗ ∃ X, Has d c s A.arg24 (fill (80 * j) (edgeG H N0 N1) X))

/-- Chunk `j`, its rows in a slot. -/
theorem work_run {op o0 o1 o2 o3 o4 : Fin 1 → ℕ} {hop : ∀ a, op a + S16.size a ≤ S3136.size a}
    {h0 : ∀ a, o0 a + S16.size a ≤ S15680.size a} {h1 : ∀ a, o1 a + S16.size a ≤ S15680.size a}
    {h2 : ∀ a, o2 a + S16.size a ≤ S15680.size a} {h3 : ∀ a, o3 a + S16.size a ≤ S15680.size a} {h4 : ∀ a, o4 a + S16.size a ≤ S15680.size a}
    {b : ℕ} {p0 : BitVec 32} {K : FVec F S16 .f32 → Prog (VEff F c s) α} (j : ℕ) (hj : j < 196) (hb : p0 = BitVec.ofNat 32 (b + 16 * j)) (ep : op 0 = 16 * j)
    (e0 : o0 0 = 80 * j) (e1 : o1 0 = 80 * j + 16) (e2 : o2 0 = 80 * j + 32) (e3 : o3 0 = 80 * j + 48) (e4 : o4 0 = 80 * j + 64) :
    iprop(Rows d c s H P0 P1 N0 N1 Z j hj ∗ Done d c s A H P0 P1 N0 N1 j)
      ⊢ iprop((iprop(Rows d c s H P0 P1 N0 N1 Z j hj ∗ Done d c s A H P0 P1 N0 N1 (j + 1)) -∗ wpT d c s (K (mrrAt b (edgeG H P0 P1) (edgeG H N0 N1) (j + 1))) Q)
        -∗ wpT d c s (chunkP Z.pu Z.pv Z.nu Z.nv A op hop o0 o1 o2 o3 o4 h0 h1 h2 h3 h4 (mrrAt b (edgeG H P0 P1) (edgeG H N0 N1) j) p0 K) Q) := by
  subst hb
  unfold Rows Done
  iintro ⟨⟨Hpu, Hpv, Hnu, Hnv⟩, Hm, Hb, ⟨%X, HX⟩, ⟨%Y, HY⟩⟩ Hk
  iapply (chunk_run d c s A (16 * j) (80 * j) ep e0 e1 e2 e3 e4) $$ [Hpu Hpv Hnu Hnv Hm Hb HX HY]
  · isplitl [Hpu]; · iexact Hpu
    isplitl [Hpv]; · iexact Hpv
    isplitl [Hnu]; · iexact Hnu
    isplitl [Hnv]; · iexact Hnv
    isplitl [Hm]; · iexact Hm
    isplitl [Hb]; · iexact Hb
    isplitl [HX]; · iexact HX
    iexact HY
  iintro ⟨Hpu, Hpv, Hnu, Hnv, Hm, Hb, HX, HY⟩
  have eP := group_pos H P0 P1 hj (by omega)
  have eN := neg_neg H N0 N1 hj (by omega)
  ihave HX := (Entails.of_eq (congrArg (Has d c s A.arg23) ((congrArg (fun w => setV (n := 3136) (16 * j) w (fill (16 * j) (edgeG H P0 P1) X)) eP).trans
    (setV_fill hj (edgeG H P0 P1) X)))) $$ HX
  ihave HY := (Entails.of_eq (congrArg (Has d c s A.arg24) ((congrArg (fun w => setN (n := 15680) (80 * j) 80 le_rfl w (fill (80 * j) (edgeG H N0 N1) Y)) eN).trans
    (setN_fill hj (edgeG H N0 N1) Y)))) $$ HY
  rw [mrrAt_succ b _ _ hj, eP, eN]
  iapply Hk
  isplitr [Hm Hb HX HY]
  · isplitl [Hpu]; · iexact Hpu
    isplitl [Hpv]; · iexact Hpv
    isplitl [Hnu]; · iexact Hnu
    iexact Hnv
  isplitl [Hm]; · iexact Hm
  isplitl [Hb]; · iexact Hb
  isplitl [HX]; · iexists X; iexact HX
  iexists Y; iexact HY

end Cert.Tile
-- ==== Proof.Trip.lean ====
/-
  One trip of a tile's loop, and the loop.
-/
module

public import proofs.«01_k».proof.Proof.Loop

@[expose] public section

noncomputable section

namespace Cert.Tile

open Cert.KernelIdeal Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "𝕄" => MT nD τ sig (HIx 1) (Elt F) ℕ UU ℕ

/-! ## The numbers of a trip -/

theorem trips_eq : k0_t1_loop.trips = 98 := by decide +kernel

theorem cond1_iff : ∀ t : Fin k0_t1_loop.trips, k0_cond1 t = 1#1 ↔ t.val < 97 := by decide +kernel

theorem even_word : ∀ t : Fin k0_t1_loop.trips, Scalar.muli (v19' t) 16#32 = BitVec.ofNat 32 (16 * (2 * t.val)) := by decide +kernel

theorem odd_word : ∀ t : Fin k0_t1_loop.trips, Scalar.muli (Scalar.addi (v19' t) 1#32) 16#32 = BitVec.ofNat 32 (16 * (2 * t.val + 1)) := by decide +kernel

theorem word_add (b n : ℕ) {v w : BitVec 32} (hv : v = BitVec.ofNat 32 b) (hw : w = BitVec.ofNat 32 n) : Scalar.addi v w = BitVec.ofNat 32 (b + n) := by
  subst hv hw
  exact (BitVec.ofNat_add b n).symm

/-- The first slot, its shares of the table cut from `q`. -/
abbrev slot0 (A : Refs) (q : PosShare TreeShare) : Slot :=
  ⟨A.arg11, A.harg11, A.arg12, A.harg12, A.arg13, A.harg13, A.arg14, A.harg14, A.arg25.sem, A.arg26.sem, A.arg27.sem, A.arg28.sem,
    q.left.left.left, q.left.left.right, q.left.right.left, q.left.right.right, fullShare.left⟩

/-- The second slot. -/
abbrev slot1 (A : Refs) (q : PosShare TreeShare) : Slot :=
  ⟨A.arg15, A.harg15, A.arg16, A.harg16, A.arg17, A.harg17, A.arg18, A.harg18, A.arg29.sem, A.arg30.sem, A.arg31.sem, A.arg32.sem,
    q.right.left.left, q.right.left.right, q.right.right.left, q.right.right.right, fullShare.right⟩

variable (d : Dev nD) (c : Fin τ.nSC) (s : Fin τ.nSub)
variable {α : Type} {Q : FVec F S16 .f32 → sProp (MT nD τ sig (HIx 1) (Elt F) ℕ UU ℕ)}
variable (A : Refs) {O : CellTallies nD τ sig (HIx 1)} {W₀ : Waits sig (HIx 1)}
variable (H : Vec F S100000x128 .f32) (P0 P1 : IVec S3136 32) (N0 N1 : IVec S15680 32) (q : PosShare TreeShare)

/-- The first slot before trip `t`: its gathers in flight, but after the last. -/
def Slot0At (t : ℕ) : sProp 𝕄 :=
  if h : t < 98 then Flying d c s A H P0 P1 N0 N1 (slot0 A q) (2 * t) (by omega)
  else iprop(Bufs (F := F) d c s (slot0 A q) ∗ Rsc d c s A H P0 P1 N0 N1 (slot0 A q))

/-- What holds before trip `t`. -/
def Inv (O : CellTallies nD τ sig (HIx 1)) (W₀ : Waits sig (HIx 1)) (b : ℕ) (t : ℕ) (acc : FVec F S16 .f32) : sProp 𝕄 :=
  iprop(⌜acc = mrrAt b (edgeG H P0 P1) (edgeG H N0 N1) (2 * t)⌝ ∗ Slot0At d c s A H P0 P1 N0 N1 q t
    ∗ Bufs (F := F) d c s (slot1 A q) ∗ Rsc d c s A H P0 P1 N0 N1 (slot1 A q) ∗ Done d c s A H P0 P1 N0 N1 (2 * t) ∗ Ob (F := F) d c s O W₀)

theorem wpT_ret {β : Type} {a : β} {Q : β → sProp (MT nD τ sig (HIx 1) (Elt F) ℕ UU ℕ)} : Q a ⊢ wpT d c s (.ret a) Q := by
  show Q a ⊢ wp frame (wpE (defs₀ (F := F)) 𝒱₀ (V d c s) none) Set.univ (.ret a) Q
  rw [wp_ret]
  iintro H
  imodintro
  iexact H

/-- The second half of a trip. -/
theorem second_run (hO : ∀ g, O g none = 0) {b : ℕ} {v2 : BitVec 32} (hv : v2 = BitVec.ofNat 32 b) (t : Fin k0_t1_loop.trips) (ht : 2 * t.val + 1 < 196) :
    iprop(Flying d c s A H P0 P1 N0 N1 (slot1 A q) (2 * t.val + 1) ht ∗ Done d c s A H P0 P1 N0 N1 (2 * t.val + 1) ∗ Ob (F := F) d c s O W₀
        ∗ Slot0At d c s A H P0 P1 N0 N1 q (t.val + 1))
      ⊢ wpT d c s (second A v2 t (mrrAt b (edgeG H P0 P1) (edgeG H N0 N1) (2 * t.val + 1))) (Inv d c s A H P0 P1 N0 N1 q O W₀ b (t.val + 1)) := by
  unfold second wait1
  iintro ⟨Hf, Hd, HO, H0⟩
  iapply (land_run d c s A H P0 P1 N0 N1 (slot1 A q) hO (2 * t.val + 1) ht) $$ [Hf HO]
  · isplitl [Hf]; · iexact Hf
    iexact HO
  iintro ⟨Hr, Hs, HO⟩
  iapply (work_run d c s A H P0 P1 N0 N1 (slot1 A q) (2 * t.val + 1) ht (word_add b _ hv (odd_word t))
    ((congrFun (Gen.k0_off17_eq t) 0).trans (by show 32 * t.val + 16 = _; omega))
    ((congrFun (Gen.k0_off18_eq t) 0).trans (by show 160 * t.val + 80 = _; omega))
    ((congrFun (Gen.k0_off19_eq t) 0).trans (by show 160 * t.val + 96 = _; omega))
    ((congrFun (Gen.k0_off20_eq t) 0).trans (by show 160 * t.val + 112 = _; omega))
    ((congrFun (Gen.k0_off21_eq t) 0).trans (by show 160 * t.val + 128 = _; omega))
    ((congrFun (Gen.k0_off22_eq t) 0).trans (by show 160 * t.val + 144 = _; omega))) $$ [Hr Hd]
  · isplitl [Hr]; · iexact Hr
    iexact Hd
  iintro ⟨Hr, Hd⟩
  ihave Hr := (bufs_of_rows d c s H P0 P1 N0 N1 (slot1 A q)) $$ Hr
  iapply (wpT_ret d c s)
  unfold Inv
  isplitr
  · ipureintro; rfl
  isplitl [H0]; · iexact H0
  isplitl [Hr]; · iexact Hr
  isplitl [Hs]; · iexact Hs
  isplitl [Hd]; · iexact Hd
  iexact HO

theorem slot0At_lt {t : ℕ} (h : t < 98) :
    Slot0At d c s A H P0 P1 N0 N1 q t = Flying d c s A H P0 P1 N0 N1 (slot0 A q) (2 * t) (by omega) := dif_pos h

theorem slot0At_ge {t : ℕ} (h : ¬ t < 98) :
    Slot0At d c s A H P0 P1 N0 N1 q t = iprop(Bufs (F := F) d c s (slot0 A q) ∗ Rsc d c s A H P0 P1 N0 N1 (slot0 A q)) := dif_neg h

/-- One trip, from what the trips before it computed. -/
theorem pair_from (hO : ∀ g, O g none = 0) (hP0 : ∀ i, (P0 i).toNat < 100000) (hP1 : ∀ i, (P1 i).toNat < 100000) (hN0 : ∀ i, (N0 i).toNat < 100000)
    (hN1 : ∀ i, (N1 i).toNat < 100000) {b : ℕ} {v2 : BitVec 32} (hv : v2 = BitVec.ofNat 32 b) (t : Fin k0_t1_loop.trips) :
    iprop(Slot0At d c s A H P0 P1 N0 N1 q t.val
        ∗ Bufs (F := F) d c s (slot1 A q) ∗ Rsc d c s A H P0 P1 N0 N1 (slot1 A q) ∗ Done d c s A H P0 P1 N0 N1 (2 * t.val) ∗ Ob (F := F) d c s O W₀)
      ⊢ wpT d c s (pairP A v2 t (mrrAt b (edgeG H P0 P1) (edgeG H N0 N1) (2 * t.val))) (Inv d c s A H P0 P1 N0 N1 q O W₀ b (t.val + 1)) := by
  have ht : t.val < 98 := lt_of_lt_of_eq t.isLt trips_eq
  rw [slot0At_lt d c s A H P0 P1 N0 N1 q ht]
  iintro ⟨H0, Hb, Hs, Hd, HO⟩
  unfold pairP wait0 get1
  iapply (land_run d c s A H P0 P1 N0 N1 (slot0 A q) hO (2 * t.val) (by omega)) $$ [H0 HO]
  · isplitl [H0]; · iexact H0
    iexact HO
  iintro ⟨Hr, Hs0, HO⟩
  iapply (start_run d c s A H P0 P1 N0 N1 (slot1 A q) hP0 hP1 hN0 hN1 (2 * t.val + 1) (by omega)
    ((congrFun (Gen.k0_off5_eq t) 0).trans (by show 32 * t.val + 16 = _; omega))
    ((congrFun (Gen.k0_off6_eq t) 0).trans (by show 160 * t.val + 80 = _; omega))) $$ [Hb Hs]
  · isplitl [Hb]; · iexact Hb
    iexact Hs
  iintro H1
  iapply (work_run d c s A H P0 P1 N0 N1 (slot0 A q) (2 * t.val) (by omega) (word_add b _ hv (even_word t))
    ((congrFun (Gen.k0_off7_eq t) 0).trans (by show 32 * t.val = _; omega))
    ((congrFun (Gen.k0_off8_eq t) 0).trans (by show 160 * t.val = _; omega))
    ((congrFun (Gen.k0_off9_eq t) 0).trans (by show 160 * t.val + 16 = _; omega))
    ((congrFun (Gen.k0_off10_eq t) 0).trans (by show 160 * t.val + 32 = _; omega))
    ((congrFun (Gen.k0_off11_eq t) 0).trans (by show 160 * t.val + 48 = _; omega))
    ((congrFun (Gen.k0_off12_eq t) 0).trans (by show 160 * t.val + 64 = _; omega))) $$ [Hr Hd]
  · isplitl [Hr]; · iexact Hr
    iexact Hd
  iintro ⟨Hr, Hd⟩
  ihave Hr := (bufs_of_rows d c s H P0 P1 N0 N1 (slot0 A q)) $$ Hr
  by_cases hc : k0_cond1 t = 1#1
  · have hlt := (cond1_iff t).mp hc
    rw [dif_pos hc]
    unfold get0
    iapply (start_run d c s A H P0 P1 N0 N1 (slot0 A q) hP0 hP1 hN0 hN1 (2 * (t.val + 1)) (by omega)
      ((congrFun (Gen.k0_off13_eq t) 0).trans (by show 32 * t.val + 32 = _; omega))
      ((congrFun (Gen.k0_off14_eq t) 0).trans (by show 160 * t.val + 160 = _; omega))) $$ [Hr Hs0]
    · isplitl [Hr]; · iexact Hr
      iexact Hs0
    iintro H0
    iapply (second_run d c s A H P0 P1 N0 N1 q hO hv t (by omega))
    isplitl [H1]; · iexact H1
    isplitl [Hd]; · iexact Hd
    isplitl [HO]; · iexact HO
    rw [slot0At_lt d c s A H P0 P1 N0 N1 q (t := t.val + 1) (by omega)]
    iexact H0
  · have hge : ¬ t.val + 1 < 98 := fun h => hc ((cond1_iff t).mpr (by omega))
    rw [dif_neg hc]
    iapply (second_run d c s A H P0 P1 N0 N1 q hO hv t (by omega))
    isplitl [H1]; · iexact H1
    isplitl [Hd]; · iexact Hd
    isplitl [HO]; · iexact HO
    rw [slot0At_ge d c s A H P0 P1 N0 N1 q hge]
    isplitl [Hr]; · iexact Hr
    iexact Hs0

/-- One trip. -/
theorem pair_run (hO : ∀ g, O g none = 0) (hP0 : ∀ i, (P0 i).toNat < 100000) (hP1 : ∀ i, (P1 i).toNat < 100000) (hN0 : ∀ i, (N0 i).toNat < 100000)
    (hN1 : ∀ i, (N1 i).toNat < 100000) {b : ℕ} {v2 : BitVec 32} (hv : v2 = BitVec.ofNat 32 b) (t : Fin k0_t1_loop.trips) (acc : FVec F S16 .f32) :
    Inv d c s A H P0 P1 N0 N1 q O W₀ b t.val acc ⊢ wpT d c s (pairP A v2 t acc) (Inv d c s A H P0 P1 N0 N1 q O W₀ b (t.val + 1)) := by
  have h := pair_from d c s A H P0 P1 N0 N1 q (O := O) (W₀ := W₀) hO hP0 hP1 hN0 hN1 hv t
  iintro Hi
  unfold Inv
  icases Hi with ⟨%hacc, Hi⟩
  rw [← hacc] at h
  unfold Inv at h
  iapply h
  iexact Hi

end Cert.Tile
-- ==== Proof.Tile.lean ====
/-
  One tile from its start to its end.
-/
module

public import proofs.«01_k».proof.Proof.Trip

@[expose] public section

noncomputable section

namespace Cert.Tile

open Cert.KernelIdeal Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "𝕄" => MT nD τ sig (HIx 1) (Elt F) ℕ UU ℕ

/-! ## The numbers of a tile -/

/-- The number of a tile. -/
def wid (i : grid0.Coords) : ℕ := 2 * (i 1).val + (i 0).val

theorem wid_lt : ∀ i : grid0.Coords, wid i < 32 := by decide +kernel
theorem base2_eq : ∀ i : grid0.Coords, base2 i = BitVec.ofNat 32 (3136 * wid i) := by decide +kernel
theorem off1_eq (i : grid0.Coords) : k0_off1 i 0 = 3136 * wid i :=
  (congrFun (Gen.k0_off1_eq i) 0).trans (by unfold wid; show 6272 * (i 1).val + 3136 * (i 0).val = _; omega)
theorem off2_eq (i : grid0.Coords) : k0_off2 i 0 = 100352 + 15680 * wid i :=
  (congrFun (Gen.k0_off2_eq i) 0).trans (by unfold wid; show 31360 * (i 1).val + 15680 * (i 0).val + 100352 = _; omega)

variable (d : Dev nD) (c : Fin τ.nSC) (s : Fin τ.nSub)

/-! ## Shares -/

theorem eq_on_set {sp : Space} {sh : Shape} {e : EltTy} {m : Memref sig .scVector sp sh e} {f g : Buf (Elt F) (m.view.loc (V d c s))}
    (h : m.view.read (Elt F) f = m.view.read (Elt F) g) : ∀ i ∈ m.view.set, f i = g i := by
  intro i hi
  obtain ⟨x, -, rfl⟩ := Finset.mem_map.mp hi
  have hx := congrFun h x
  rw [View.read_apply, View.read_apply] at hx
  exact (cast_inj _).mp hx

variable (A : Refs) (H : Vec F S100000x128 .f32)

theorem tab_split (q : PosShare TreeShare) : Tab d c s A q H ⊢ iprop(Tab d c s A q.left H ∗ Tab d c s A q.right H) := by
  unfold Tab
  iintro ⟨%f, %hf, Hp⟩
  ihave Hp := (pointsTo_share (PosShare.mem_left_op_right q)).1 $$ Hp
  icases Hp with ⟨H1, H2⟩
  isplitl [H1]
  · iexists f
    isplitr
    · ipureintro; exact hf
    · iexact H1
  · iexists f
    isplitr
    · ipureintro; exact hf
    · iexact H2

theorem tab_join (q : PosShare TreeShare) : iprop(Tab d c s A q.left H ∗ Tab d c s A q.right H) ⊢ Tab d c s A q H := by
  unfold Tab
  iintro ⟨⟨%f, %hf, H1⟩, ⟨%g, %hg, H2⟩⟩
  ihave H2 := (Entails.of_eq (pointsTo_congr (eq_on_set d c s (hg.trans hf.symm)))) $$ H2
  iexists f
  isplitr
  · ipureintro; exact hf
  · iapply (pointsTo_share (PosShare.mem_left_op_right q)).2
    isplitl [H1]; · iexact H1
    iexact H2

variable {sp : Space} {sh : Shape} {e : EltTy} {m : Memref sig .scVector sp sh e} {X : sh.Idx → Elt F e}

theorem hasQ_split (q : PosShare TreeShare) : HasQ d c s q m X ⊢ iprop(HasQ d c s q.left m X ∗ HasQ d c s q.right m X) := by
  unfold HasQ
  iintro ⟨%f, %hf, Hp⟩
  ihave Hp := (pointsTo_share (PosShare.mem_left_op_right q)).1 $$ Hp
  icases Hp with ⟨H1, H2⟩
  isplitl [H1]
  · iexists f
    isplitr
    · ipureintro; exact hf
    · iexact H1
  · iexists f
    isplitr
    · ipureintro; exact hf
    · iexact H2

theorem hasQ_join (hm : m.IsWhole) (q : PosShare TreeShare) : iprop(HasQ d c s q.left m X ∗ HasQ d c s q.right m X) ⊢ HasQ d c s q m X := by
  unfold HasQ
  iintro ⟨⟨%f, %hf, H1⟩, ⟨%g, %hg, H2⟩⟩
  ihave H2 := (Entails.of_eq (pointsTo_congr (g := f) (fun i _ => eq_on_set d c s (hg.trans hf.symm) i (by rw [hm.set_eq_univ]; exact Finset.mem_univ i)))) $$ H2
  iexists f
  isplitr
  · ipureintro; exact hf
  · iapply (pointsTo_share (PosShare.mem_left_op_right q)).2
    isplitl [H1]; · iexact H1
    iexact H2

theorem has_full : Has d c s m X = HasQ d c s fullShare m X := rfl

/-! ## What a tile starts from and ends with -/

/-- The tile's semaphores, at rest, but the slots'. -/
def Sems : sProp 𝕄 :=
  iprop(semVal ((V d c s : Thread nD τ), SemLoc.dma A.r0.sem) 0 ∗ semVal ((V d c s : Thread nD τ), SemLoc.dma A.r1.sem) 0
    ∗ semVal ((V d c s : Thread nD τ), SemLoc.dma A.r2.sem) 0 ∗ semVal ((V d c s : Thread nD τ), SemLoc.dma A.r3.sem) 0
    ∗ semVal ((V d c s : Thread nD τ), SemLoc.dma A.r4.sem) 0 ∗ semVal ((V d c s : Thread nD τ), SemLoc.dma A.r5.sem) 0
    ∗ semVal ((V d c s : Thread nD τ), SemLoc.dma A.r6.sem) 0)

/-- A slot's semaphores, at rest. -/
def SlotSems (Z : Slot) : sProp 𝕄 :=
  iprop(semVal ((V d c s : Thread nD τ), SemLoc.dma Z.s0) 0 ∗ semVal ((V d c s : Thread nD τ), SemLoc.dma Z.s1) 0
    ∗ semVal ((V d c s : Thread nD τ), SemLoc.dma Z.s2) 0 ∗ semVal ((V d c s : Thread nD τ), SemLoc.dma Z.s3) 0)

/-- The lists of row numbers, at a share. -/
def Lists (q : PosShare TreeShare) (P0 P1 : IVec S3136 32) (N0 N1 : IVec S15680 32) : sProp 𝕄 :=
  iprop(HasQ (F := F) d c s q A.arg7 P0 ∗ HasQ (F := F) d c s q A.arg8 P1 ∗ HasQ (F := F) d c s q A.arg9 N0 ∗ HasQ (F := F) d c s q A.arg10 N1)

/-- Four shares of the table. -/
def Tab4 (q : PosShare TreeShare) : sProp 𝕄 :=
  iprop(Tab d c s A q.left.left H ∗ Tab d c s A q.left.right H ∗ Tab d c s A q.right.left H ∗ Tab d c s A q.right.right H)

theorem tab4_split (q : PosShare TreeShare) : Tab d c s A q H ⊢ Tab4 d c s A H q := by
  unfold Tab4
  iintro Hq
  ihave Hq := (tab_split d c s A H q) $$ Hq
  icases Hq with ⟨H1, H2⟩
  ihave H1 := (tab_split d c s A H q.left) $$ H1
  ihave H2 := (tab_split d c s A H q.right) $$ H2
  icases H1 with ⟨H1, H1'⟩
  icases H2 with ⟨H2, H2'⟩
  isplitl [H1]; · iexact H1
  isplitl [H1']; · iexact H1'
  isplitl [H2]; · iexact H2
  iexact H2'

theorem tab4_join (q : PosShare TreeShare) : Tab4 d c s A H q ⊢ Tab d c s A q H := by
  unfold Tab4
  iintro ⟨H1, H1', H2, H2'⟩
  iapply (tab_join d c s A H q)
  isplitl [H1 H1']
  · iapply (tab_join d c s A H q.left)
    isplitl [H1]; · iexact H1
    iexact H1'
  · iapply (tab_join d c s A H q.right)
    isplitl [H2]; · iexact H2
    iexact H2'

variable (P0 P1 : IVec S3136 32) (N0 N1 : IVec S15680 32)

theorem lists_split (q : PosShare TreeShare) :
    Lists (F := F) d c s A q P0 P1 N0 N1 ⊢ iprop(Lists (F := F) d c s A q.left P0 P1 N0 N1 ∗ Lists (F := F) d c s A q.right P0 P1 N0 N1) := by
  unfold Lists
  iintro ⟨H0, H1, H2, H3⟩
  ihave H0 := (hasQ_split d c s q) $$ H0
  ihave H1 := (hasQ_split d c s q) $$ H1
  ihave H2 := (hasQ_split d c s q) $$ H2
  ihave H3 := (hasQ_split d c s q) $$ H3
  icases H0 with ⟨H0, K0⟩
  icases H1 with ⟨H1, K1⟩
  icases H2 with ⟨H2, K2⟩
  icases H3 with ⟨H3, K3⟩
  isplitl [H0 H1 H2 H3]
  · isplitl [H0]; · iexact H0
    isplitl [H1]; · iexact H1
    isplitl [H2]; · iexact H2
    iexact H3
  · isplitl [K0]; · iexact K0
    isplitl [K1]; · iexact K1
    isplitl [K2]; · iexact K2
    iexact K3

theorem lists_join (q : PosShare TreeShare) :
    iprop(Lists (F := F) d c s A q.left P0 P1 N0 N1 ∗ Lists (F := F) d c s A q.right P0 P1 N0 N1) ⊢ Lists (F := F) d c s A q P0 P1 N0 N1 := by
  unfold Lists
  iintro ⟨⟨H0, H1, H2, H3⟩, ⟨K0, K1, K2, K3⟩⟩
  isplitl [H0 K0]
  · iapply (hasQ_join d c s A.harg7 q)
    isplitl [H0]; · iexact H0
    iexact K0
  isplitl [H1 K1]
  · iapply (hasQ_join d c s A.harg8 q)
    isplitl [H1]; · iexact H1
    iexact K1
  isplitl [H2 K2]
  · iapply (hasQ_join d c s A.harg9 q)
    isplitl [H2]; · iexact H2
    iexact K2
  · iapply (hasQ_join d c s A.harg10 q)
    isplitl [H3]; · iexact H3
    iexact K3

theorem rsc_pack (Z : Slot) {q : PosShare TreeShare} (h0 : Z.q0 = q.left.left) (h1 : Z.q1 = q.left.right) (h2 : Z.q2 = q.right.left) (h3 : Z.q3 = q.right.right) :
    iprop(SlotSems (F := F) d c s Z ∗ Tab4 d c s A H q ∗ Lists (F := F) d c s A Z.ql P0 P1 N0 N1) ⊢ Rsc d c s A H P0 P1 N0 N1 Z := by
  unfold SlotSems Tab4 Lists Rsc
  rw [h0, h1, h2, h3]
  iintro ⟨⟨S0, S1, S2, S3⟩, ⟨T0, T1, T2, T3⟩, ⟨L0, L1, L2, L3⟩⟩
  isplitl [S0 T0 L0]
  · isplitl [S0]; · iexact S0
    isplitl [T0]; · iexact T0
    iexact L0
  isplitl [S1 T1 L1]
  · isplitl [S1]; · iexact S1
    isplitl [T1]; · iexact T1
    iexact L1
  isplitl [S2 T2 L2]
  · isplitl [S2]; · iexact S2
    isplitl [T2]; · iexact T2
    iexact L2
  isplitl [S3]; · iexact S3
  isplitl [T3]; · iexact T3
  iexact L3

theorem rsc_unpack (Z : Slot) {q : PosShare TreeShare} (h0 : Z.q0 = q.left.left) (h1 : Z.q1 = q.left.right) (h2 : Z.q2 = q.right.left) (h3 : Z.q3 = q.right.right) :
    Rsc d c s A H P0 P1 N0 N1 Z ⊢ iprop(SlotSems (F := F) d c s Z ∗ Tab4 d c s A H q ∗ Lists (F := F) d c s A Z.ql P0 P1 N0 N1) := by
  unfold SlotSems Tab4 Lists Rsc
  rw [h0, h1, h2, h3]
  iintro ⟨⟨S0, T0, L0⟩, ⟨S1, T1, L1⟩, ⟨S2, T2, L2⟩, ⟨S3, T3, L3⟩⟩
  isplitl [S0 S1 S2 S3]
  · isplitl [S0]; · iexact S0
    isplitl [S1]; · iexact S1
    isplitl [S2]; · iexact S2
    iexact S3
  isplitl [T0 T1 T2 T3]
  · isplitl [T0]; · iexact T0
    isplitl [T1]; · iexact T1
    isplitl [T2]; · iexact T2
    iexact T3
  isplitl [L0]; · iexact L0
  isplitl [L1]; · iexact L1
  isplitl [L2]; · iexact L2
  iexact L3

/-- The tile's own buffers, holding something. -/
def Scr (q : PosShare TreeShare) : sProp 𝕄 :=
  iprop((Own (F := F) d c s A.arg7 ∗ Own (F := F) d c s A.arg8 ∗ Own (F := F) d c s A.arg9 ∗ Own (F := F) d c s A.arg10)
    ∗ Bufs (F := F) d c s (slot0 A q) ∗ Bufs (F := F) d c s (slot1 A q) ∗ Mats (F := F) d c s A
    ∗ Own (F := F) d c s A.arg22 ∗ Own (F := F) d c s A.arg23 ∗ Own (F := F) d c s A.arg24)

/-- The tile's semaphores, at rest. -/
def AllSems (q : PosShare TreeShare) : sProp 𝕄 :=
  iprop(Sems (F := F) d c s A ∗ SlotSems (F := F) d c s (slot0 A q) ∗ SlotSems (F := F) d c s (slot1 A q))

end Cert.Tile
-- ==== Proof.TileRun.lean ====
/-
  One tile's run.
-/
module

public import proofs.«01_k».proof.Proof.Tile

@[expose] public section

noncomputable section

namespace Cert.Tile

open Cert.KernelIdeal Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "𝕄" => MT nD τ sig (HIx 1) (Elt F) ℕ UU ℕ

variable (d : Dev nD) (i : grid0.Coords) (A : Refs)

/-- The processor that runs tile `i`. -/
abbrev cI (i : grid0.Coords) : Fin τ.nSC := (i 0).castLE hcore0
abbrev sI (i : grid0.Coords) : Fin τ.nSub := (i 1).castLE hsub0

/-- The tile's part of the values of the positive edges, of the negative ones, of the sums of reciprocal ranks. -/
abbrev win23 : Memref sig .scVector .hbm S3136 .f32 := A.arg5.slice (Rect.unit (s := S602112) (k0_off23 i) S3136.size (k0_off23_inb i)) (fun _ => rfl)
abbrev win24 : Memref sig .scVector .hbm S15680 .f32 := A.arg5.slice (Rect.unit (s := S602112) (k0_off24 i) S15680.size (k0_off24_inb i)) (fun _ => rfl)
abbrev win25 : Memref sig .scVector .hbm S16 .f32 := A.arg6.slice (Rect.unit (s := S512) (k0_off25 i) S16.size (k0_off25_inb i)) (fun _ => rfl)

variable {O : CellTallies nD τ sig (HIx 1)} {W₀ : Waits sig (HIx 1)}
variable {Q : PUnit → sProp (MT nD τ sig (HIx 1) (Elt F) ℕ UU ℕ)}

/-- The head of the list of negatives, after the sums are stored there. -/
theorem head_read (acc : FVec F S16 .f32) (X : Vec F S80 .f32) {f : Buf (Elt F) (A.arg22.view.loc (V d (cI i) (sI i)))}
    (hf : A.arg22.view.read (Elt F) f = setV (n := 80) 0 acc X) : (head22 A).view.read (Elt F) f = acc := by
  funext x
  have h : (head22 A).view.read (Elt F) f x = A.arg22.view.read (Elt F) f ((Rect.unit (s := S80) ![0] S16.size inb_S80_S16_0).emb x) := rfl
  rw [h, hf]
  have e : ((Rect.unit (s := S80) ![0] S16.size inb_S80_S16_0).emb x 0).val = (lane x).val := by
    rw [Rect.emb_apply]
    show 0 + 1 * (x 0).val = (lane x).val
    unfold lane; omega
  have hl := (lane x).isLt
  unfold setV
  rw [dif_pos (by omega)]
  refine congrArg acc ?_
  refine Eq.trans ?_ (i1_eta (n := 16) x)
  exact congrArg i1 (Fin.ext (by show _ - 0 = (lane x).val; omega))

/-- After the loop: the sums stored, and the three copies out. -/
theorem finish_run (hO : ∀ g, O g none = 0) (acc : FVec F S16 .f32) (GP : Vec F S3136 .f32) (GN : Vec F S15680 .f32) :
    iprop(Own (F := F) d (cI i) (sI i) A.arg22 ∗ Has d (cI i) (sI i) A.arg23 GP ∗ Has d (cI i) (sI i) A.arg24 GN
        ∗ (∃ Y, Part (F := F) d (cI i) (sI i) (win23 i A) Y) ∗ (∃ Y, Part (F := F) d (cI i) (sI i) (win24 i A) Y) ∗ (∃ Y, Part (F := F) d (cI i) (sI i) (win25 i A) Y)
        ∗ semVal ((V d (cI i) (sI i) : Thread nD τ), SemLoc.dma A.r4.sem) 0 ∗ semVal ((V d (cI i) (sI i) : Thread nD τ), SemLoc.dma A.r5.sem) 0
        ∗ semVal ((V d (cI i) (sI i) : Thread nD τ), SemLoc.dma A.r6.sem) 0 ∗ Ob (F := F) d (cI i) (sI i) O W₀)
      ⊢ iprop((iprop(Own (F := F) d (cI i) (sI i) A.arg22 ∗ Own (F := F) d (cI i) (sI i) A.arg23 ∗ Own (F := F) d (cI i) (sI i) A.arg24
        ∗ Part (F := F) d (cI i) (sI i) (win23 i A) GP ∗ Part (F := F) d (cI i) (sI i) (win24 i A) GN ∗ Part (F := F) d (cI i) (sI i) (win25 i A) acc
        ∗ semVal ((V d (cI i) (sI i) : Thread nD τ), SemLoc.dma A.r4.sem) 0 ∗ semVal ((V d (cI i) (sI i) : Thread nD τ), SemLoc.dma A.r5.sem) 0
        ∗ semVal ((V d (cI i) (sI i) : Thread nD τ), SemLoc.dma A.r6.sem) 0 ∗ Ob (F := F) d (cI i) (sI i) O W₀) -∗ Q ⟨⟩)
      -∗ wpT d (cI i) (sI i) (put16 A.arg22 ![0] inb_S80_S16_0 acc (
  outP A.arg23 A.harg23.wordExact A.arg5 A.r4.sem (k0_off23 i) (k0_off23_inb i) (
  outP A.arg24 A.harg24.wordExact A.arg5 A.r5.sem (k0_off24 i) (k0_off24_inb i) (
  outP (head22 A) (View.wordExact_bits rfl) A.arg6 A.r6.sem (k0_off25 i) (k0_off25_inb i) (.ret ⟨⟩))))) Q) := by
  iintro ⟨Hb, HP, HN, ⟨%Y0, W0⟩, ⟨%Y1, W1⟩, ⟨%Y2, W2⟩, S4, S5, S6, HO⟩ Hk
  unfold Own
  icases Hb with ⟨%X, Hb⟩
  iapply (put16_run d (cI i) (sI i) 0 rfl) $$ Hb
  iintro Hb
  unfold Has
  icases HP with ⟨%fp, %hfp, HP⟩
  icases HN with ⟨%fn, %hfn, HN⟩
  icases Hb with ⟨%fb, %hfb, Hb⟩
  have sP : A.arg23.view.set = Finset.univ := A.harg23.set_eq_univ
  have sN : A.arg24.view.set = Finset.univ := A.harg24.set_eq_univ
  ihave HP := (Entails.of_eq (show (A.arg23.view.loc (V d (cI i) (sI i)) ↦{fullShare} fp : sProp 𝕄)
    = A.arg23.view.loc (V d (cI i) (sI i)) ↦[A.arg23.view.set]{fullShare} fp by rw [sP])) $$ HP
  ihave HN := (Entails.of_eq (show (A.arg24.view.loc (V d (cI i) (sI i)) ↦{fullShare} fn : sProp 𝕄)
    = A.arg24.view.loc (V d (cI i) (sI i)) ↦[A.arg24.view.set]{fullShare} fn by rw [sN])) $$ HN
  iapply (out_step d (cI i) (sI i) hO (n := 3136) (m := 602112) (by decide) hfp) $$ [HP W0 S4 HO]
  · isplitl [HP]; · iexact HP
    isplitl [W0]; · iexact W0
    isplitl [S4]; · iexact S4
    iexact HO
  iintro ⟨HP, W0, S4, HO⟩
  iapply (out_step d (cI i) (sI i) hO (n := 15680) (m := 602112) (by decide) hfn) $$ [HN W1 S5 HO]
  · isplitl [HN]; · iexact HN
    isplitl [W1]; · iexact W1
    isplitl [S5]; · iexact S5
    iexact HO
  iintro ⟨HN, W1, S5, HO⟩
  ihave Hb := (pointsTo_split_subset (q := fullShare) (f := fb) (S := Finset.univ) (Finset.subset_univ (head22 A).view.set)).1 $$ Hb
  icases Hb with ⟨Hb, Hr⟩
  iapply (out_step d (cI i) (sI i) hO (n := 16) (m := 512) (src := head22 A) (by decide) (head_read d i A acc X hfb)) $$ [Hb W2 S6 HO]
  · isplitl [Hb]; · iexact Hb
    isplitl [W2]; · iexact W2
    isplitl [S6]; · iexact S6
    iexact HO
  iintro ⟨Hb, W2, S6, HO⟩
  iapply (wpT_ret d (cI i) (sI i))
  iapply Hk
  isplitl [Hb Hr]
  · iexists _
    iexists fb
    isplitr
    · ipureintro; exact hfb
    · iapply (pointsTo_split_subset (q := fullShare) (f := fb) (S := Finset.univ) (Finset.subset_univ (head22 A).view.set)).2
      isplitl [Hb]; · iexact Hb
      iexact Hr
  isplitl [HP]
  · iexists _
    iexists fp
    isplitr
    · ipureintro; exact hfp
    · rw [← sP]; iexact HP
  isplitl [HN]
  · iexists _
    iexists fn
    isplitr
    · ipureintro; exact hfn
    · rw [← sN]; iexact HN
  isplitl [W0]; · iexact W0
  isplitl [W1]; · iexact W1
  isplitl [W2]; · iexact W2
  isplitl [S4]; · iexact S4
  isplitl [S5]; · iexact S5
  isplitl [S6]; · iexact S6
  iexact HO

/-- A loop at the head of a program a tile runs, by an invariant. -/
theorem loop_bind {σ : Type} (l : Scf.Loop 32) (hok : l.OK) (init : σ) (body : Fin l.trips → σ → Prog (VEff F (cI i) (sI i)) σ)
    (I : ℕ → σ → sProp (MT nD τ sig (HIx 1) (Elt F) ℕ UU ℕ))
    (hbody : ∀ (k : Fin l.trips) (acc : σ), I k.val acc ⊢ wpT d (cI i) (sI i) (body k acc) (I (k.val + 1)))
    {β : Type} {kk : σ → Prog (VEff F (cI i) (sI i)) β} {R : β → sProp (MT nD τ sig (HIx 1) (Elt F) ℕ UU ℕ)} :
    I 0 init ⊢ iprop((∀ acc, I l.trips acc -∗ wpT d (cI i) (sI i) (kk acc) R) -∗ wpT d (cI i) (sI i) (Scf.Loop.for l hok init body >>= kk) R) :=
  Scf.wp_for_bind frame (wpE (defs₀ (F := F)) 𝒱₀ (V d (cI i) (sI i)) none) Set.univ l.lb l.ub l.st hok init body I hbody

variable (H : Vec F S100000x128 .f32) (SRC DST : IVec S602112 32) (q qi : PosShare TreeShare)

section
variable (P0 P1 : IVec S3136 32) (N0 N1 : IVec S15680 32)

/-- Before the loop: the semaphores, the table and the lists, dealt to the two slots. -/
theorem ready :
    iprop(Tab d (cI i) (sI i) A q H ∗ (SlotSems (F := F) d (cI i) (sI i) (slot0 A q) ∗ SlotSems (F := F) d (cI i) (sI i) (slot1 A q))
        ∗ Has (F := F) d (cI i) (sI i) A.arg7 P0 ∗ Has (F := F) d (cI i) (sI i) A.arg8 P1 ∗ Has (F := F) d (cI i) (sI i) A.arg9 N0
        ∗ Has (F := F) d (cI i) (sI i) A.arg10 N1)
      ⊢ iprop(Rsc d (cI i) (sI i) A H P0 P1 N0 N1 (slot0 A q) ∗ Rsc d (cI i) (sI i) A H P0 P1 N0 N1 (slot1 A q)) := by
  iintro ⟨HT, ⟨G0, G1⟩, B7, B8, B9, B10⟩
  ihave HL := (lists_split (F := F) d (cI i) (sI i) A P0 P1 N0 N1 fullShare) $$ [B7 B8 B9 B10]
  · unfold Lists
    rw [← has_full, ← has_full, ← has_full, ← has_full]
    isplitl [B7]; · iexact B7
    isplitl [B8]; · iexact B8
    isplitl [B9]; · iexact B9
    iexact B10
  icases HL with ⟨L0, L1⟩
  ihave HT := (tab_split d (cI i) (sI i) A H q) $$ HT
  icases HT with ⟨T0, T1⟩
  ihave T0 := (tab4_split d (cI i) (sI i) A H q.left) $$ T0
  ihave T1 := (tab4_split d (cI i) (sI i) A H q.right) $$ T1
  isplitl [G0 T0 L0]
  · iapply (rsc_pack d (cI i) (sI i) A H P0 P1 N0 N1 (slot0 A q) (q := q.left) rfl rfl rfl rfl)
    isplitl [G0]; · iexact G0
    isplitl [T0]; · iexact T0
    iexact L0
  · iapply (rsc_pack d (cI i) (sI i) A H P0 P1 N0 N1 (slot1 A q) (q := q.right) rfl rfl rfl rfl)
    isplitl [G1]; · iexact G1
    isplitl [T1]; · iexact T1
    iexact L1

/-- After the loop: all of it back. -/
theorem settle :
    iprop(Rsc d (cI i) (sI i) A H P0 P1 N0 N1 (slot0 A q) ∗ Rsc d (cI i) (sI i) A H P0 P1 N0 N1 (slot1 A q))
      ⊢ iprop(Tab d (cI i) (sI i) A q H ∗ (SlotSems (F := F) d (cI i) (sI i) (slot0 A q) ∗ SlotSems (F := F) d (cI i) (sI i) (slot1 A q))
        ∗ Own (F := F) d (cI i) (sI i) A.arg7 ∗ Own (F := F) d (cI i) (sI i) A.arg8 ∗ Own (F := F) d (cI i) (sI i) A.arg9
        ∗ Own (F := F) d (cI i) (sI i) A.arg10) := by
  iintro ⟨R0, R1⟩
  ihave R0 := (rsc_unpack d (cI i) (sI i) A H P0 P1 N0 N1 (slot0 A q) (q := q.left) rfl rfl rfl rfl) $$ R0
  ihave R1 := (rsc_unpack d (cI i) (sI i) A H P0 P1 N0 N1 (slot1 A q) (q := q.right) rfl rfl rfl rfl) $$ R1
  icases R0 with ⟨G0, T0, L0⟩
  icases R1 with ⟨G1, T1, L1⟩
  isplitl [T0 T1]
  · iapply (tab_join d (cI i) (sI i) A H q)
    isplitl [T0]
    · iapply (tab4_join d (cI i) (sI i) A H q.left) $$ T0
    · iapply (tab4_join d (cI i) (sI i) A H q.right) $$ T1
  isplitl [G0 G1]
  · isplitl [G0]; · iexact G0
    iexact G1
  ihave HL := (lists_join (F := F) d (cI i) (sI i) A P0 P1 N0 N1 fullShare) $$ [L0 L1]
  · isplitl [L0]; · iexact L0
    iexact L1
  unfold Lists Own
  rw [← has_full, ← has_full, ← has_full, ← has_full]
  icases HL with ⟨B7, B8, B9, B10⟩
  isplitl [B7]; · iexists _; iexact B7
  isplitl [B8]; · iexists _; iexact B8
  isplitl [B9]; · iexists _; iexact B9
  iexists _; iexact B10

/-- The loop starts from nothing stored. -/
theorem done_zero :
    iprop(Mats (F := F) d (cI i) (sI i) A ∗ Own (F := F) d (cI i) (sI i) A.arg22 ∗ Own (F := F) d (cI i) (sI i) A.arg23 ∗ Own (F := F) d (cI i) (sI i) A.arg24)
      ⊢ Done d (cI i) (sI i) A H P0 P1 N0 N1 (2 * 0) := by
  unfold Done Own
  iintro ⟨HM, B22, ⟨%X, B23⟩, ⟨%Y, B24⟩⟩
  isplitl [HM]; · iexact HM
  isplitl [B22]; · iexact B22
  isplitl [B23]
  · iexists X
    ihave B23 := (Entails.of_eq (congrArg (Has d (cI i) (sI i) A.arg23) (fill_zero (n := 3136) (edgeG H P0 P1) X).symm)) $$ B23
    iexact B23
  · iexists Y
    ihave B24 := (Entails.of_eq (congrArg (Has d (cI i) (sI i) A.arg24) (fill_zero (n := 15680) (edgeG H N0 N1) Y).symm)) $$ B24
    iexact B24

/-- The loop ends with everything stored. -/
theorem done_all :
    Done d (cI i) (sI i) A H P0 P1 N0 N1 (2 * 98)
      ⊢ iprop(Mats (F := F) d (cI i) (sI i) A ∗ Own (F := F) d (cI i) (sI i) A.arg22 ∗ Has d (cI i) (sI i) A.arg23 (edgeG H P0 P1)
        ∗ Has d (cI i) (sI i) A.arg24 (edgeG H N0 N1)) := by
  unfold Done
  iintro ⟨HM, B22, ⟨%X, B23⟩, ⟨%Y, B24⟩⟩
  isplitl [HM]; · iexact HM
  isplitl [B22]; · iexact B22
  isplitl [B23]
  · ihave B23 := (Entails.of_eq (congrArg (Has d (cI i) (sI i) A.arg23) (fill_all (n := 3136) (by decide) (edgeG H P0 P1) X))) $$ B23
    iexact B23
  · ihave B24 := (Entails.of_eq (congrArg (Has d (cI i) (sI i) A.arg24) (fill_all (n := 15680) (by decide) (edgeG H N0 N1) Y))) $$ B24
    iexact B24

/-- What the loop's end says. -/
theorem inv_end {b : ℕ} {acc : FVec F S16 .f32} :
    Inv d (cI i) (sI i) A H P0 P1 N0 N1 q O W₀ b 98 acc
      ⊢ iprop(⌜acc = mrrAt b (edgeG H P0 P1) (edgeG H N0 N1) 196⌝
        ∗ (Bufs (F := F) d (cI i) (sI i) (slot0 A q) ∗ Rsc d (cI i) (sI i) A H P0 P1 N0 N1 (slot0 A q))
        ∗ Bufs (F := F) d (cI i) (sI i) (slot1 A q) ∗ Rsc d (cI i) (sI i) A H P0 P1 N0 N1 (slot1 A q) ∗ Done d (cI i) (sI i) A H P0 P1 N0 N1 (2 * 98)
        ∗ Ob (F := F) d (cI i) (sI i) O W₀) := by
  unfold Inv
  rw [slot0At_ge d (cI i) (sI i) A H P0 P1 N0 N1 q (t := 98) (by decide)]

/-- The loop of pairs. -/
theorem loop_run (hO : ∀ g, O g none = 0) (hP0 : ∀ j, (P0 j).toNat < 100000) (hP1 : ∀ j, (P1 j).toNat < 100000) (hN0 : ∀ j, (N0 j).toNat < 100000)
    (hN1 : ∀ j, (N1 j).toNat < 100000) {β : Type} {kk : FVec F S16 .f32 → Prog (VEff F (cI i) (sI i)) β} {R : β → sProp 𝕄} :
    Inv d (cI i) (sI i) A H P0 P1 N0 N1 q O W₀ (3136 * wid i) 0 (broadcast S16 (Scalar.ofBits .f32 0x00000000#32))
      ⊢ iprop((∀ acc, Inv d (cI i) (sI i) A H P0 P1 N0 N1 q O W₀ (3136 * wid i) 98 acc -∗ wpT d (cI i) (sI i) (kk acc) R)
      -∗ wpT d (cI i) (sI i) (Scf.Loop.for k0_t1_loop k0_t1_ok (broadcast S16 (Scalar.ofBits .f32 0x00000000#32)) (fun t acc => pairP A (base2 i) t acc) >>= kk) R) := by
  have hb : ∀ (t : Fin k0_t1_loop.trips) (acc : FVec F S16 .f32), Inv d (cI i) (sI i) A H P0 P1 N0 N1 q O W₀ (3136 * wid i) t.val acc
      ⊢ wpT d (cI i) (sI i) (pairP A (base2 i) t acc) (Inv d (cI i) (sI i) A H P0 P1 N0 N1 q O W₀ (3136 * wid i) (t.val + 1)) :=
    fun t acc => pair_run d (cI i) (sI i) A H P0 P1 N0 N1 q hO hP0 hP1 hN0 hN1 (base2_eq i) t acc
  have h := @loop_bind F _ _ d i (FVec F S16 .f32) k0_t1_loop k0_t1_ok (broadcast S16 (Scalar.ofBits (F := F) .f32 0x00000000#32)) (fun t acc => pairP A (base2 i) t acc)
    (Inv d (cI i) (sI i) A H P0 P1 N0 N1 q O W₀ (3136 * wid i))
  refine (h hb (β := β) (kk := kk) (R := R)).trans ?_
  iintro H1 H2
  iapply H1
  iintro %acc H3
  iapply H2
  rw [trips_eq]
  iexact H3

end

/-- The tile's lists. -/
abbrev posL (X : IVec S602112 32) : IVec S3136 32 := cut (F := F) (n := 3136) (m := 602112) (e := .i32) X (3136 * wid i) (by have := wid_lt i; omega)
abbrev negL (X : IVec S602112 32) : IVec S15680 32 := cut (F := F) (n := 15680) (m := 602112) (e := .i32) X (100352 + 15680 * wid i) (by have := wid_lt i; omega)

/-- What the tile leaves: the values of its positive edges, of its negative edges, its lanes' sums. -/
abbrev posV : Vec F S3136 .f32 := edgeG H (posL (F := F) i SRC) (posL (F := F) i DST)
abbrev negVs : Vec F S15680 .f32 := edgeG H (negL (F := F) i SRC) (negL (F := F) i DST)
abbrev mrrV : FVec F S16 .f32 := mrrAt (3136 * wid i) (posV i H SRC DST) (negVs i H SRC DST) 196

/-- A tile's run. -/
theorem tile_run (hO : ∀ g, O g none = 0) (hS : ∀ j, (SRC j).toNat < 100000) (hD : ∀ j, (DST j).toNat < 100000) :
    iprop(Tab d (cI i) (sI i) A q H ∗ HasQ (F := F) d (cI i) (sI i) qi A.arg3 SRC ∗ HasQ (F := F) d (cI i) (sI i) qi A.arg4 DST
        ∗ ((∃ Y, Part (F := F) d (cI i) (sI i) (win23 i A) Y) ∗ (∃ Y, Part (F := F) d (cI i) (sI i) (win24 i A) Y) ∗ (∃ Y, Part (F := F) d (cI i) (sI i) (win25 i A) Y))
        ∗ Scr (F := F) d (cI i) (sI i) A q ∗ AllSems (F := F) d (cI i) (sI i) A q ∗ Ob (F := F) d (cI i) (sI i) O W₀)
      ⊢ wpT d (cI i) (sI i) (tileP (F := F) i A) (fun _ => iprop(Tab d (cI i) (sI i) A q H ∗ HasQ (F := F) d (cI i) (sI i) qi A.arg3 SRC ∗ HasQ (F := F) d (cI i) (sI i) qi A.arg4 DST
        ∗ (Part (F := F) d (cI i) (sI i) (win23 i A) (posV i H SRC DST) ∗ Part (F := F) d (cI i) (sI i) (win24 i A) (negVs i H SRC DST)
          ∗ Part (F := F) d (cI i) (sI i) (win25 i A) (mrrV i H SRC DST))
        ∗ Scr (F := F) d (cI i) (sI i) A q ∗ AllSems (F := F) d (cI i) (sI i) A q ∗ Ob (F := F) d (cI i) (sI i) O W₀)) := by
  unfold tileP Scr AllSems Sems
  iintro ⟨HT, HS, HD, HW, ⟨⟨B7, B8, B9, B10⟩, Z0, Z1, HM, B22, B23, B24⟩, ⟨⟨R0, R1, R2, R3, R4, R5, R6⟩, G0, G1⟩, HO⟩
  have hw := wid_lt i
  iapply (copy_step d (cI i) (sI i) hO (n := 3136) (by decide) (3136 * wid i) (off1_eq i) (by omega)) $$ [B7 HS R0 HO]
  · isplitl [B7]; · iexact B7
    isplitl [HS]; · iexact HS
    isplitl [R0]; · iexact R0
    iexact HO
  iintro ⟨B7, HS, R0, HO⟩
  iapply (copy_step d (cI i) (sI i) hO (n := 3136) (by decide) (3136 * wid i) (off1_eq i) (by omega)) $$ [B8 HD R1 HO]
  · isplitl [B8]; · iexact B8
    isplitl [HD]; · iexact HD
    isplitl [R1]; · iexact R1
    iexact HO
  iintro ⟨B8, HD, R1, HO⟩
  iapply (copy_step d (cI i) (sI i) hO (n := 15680) (by decide) (100352 + 15680 * wid i) (off2_eq i) (by omega)) $$ [B9 HS R2 HO]
  · isplitl [B9]; · iexact B9
    isplitl [HS]; · iexact HS
    isplitl [R2]; · iexact R2
    iexact HO
  iintro ⟨B9, HS, R2, HO⟩
  iapply (copy_step d (cI i) (sI i) hO (n := 15680) (by decide) (100352 + 15680 * wid i) (off2_eq i) (by omega)) $$ [B10 HD R3 HO]
  · isplitl [B10]; · iexact B10
    isplitl [HD]; · iexact HD
    isplitl [R3]; · iexact R3
    iexact HO
  iintro ⟨B10, HD, R3, HO⟩
  ihave HQ := (ready d i A H q (posL (F := F) i SRC) (posL (F := F) i DST) (negL (F := F) i SRC) (negL (F := F) i DST)) $$ [HT G0 G1 B7 B8 B9 B10]
  · isplitl [HT]; · iexact HT
    isplitl [G0 G1]
    · isplitl [G0]; · iexact G0
      iexact G1
    isplitl [B7]; · iexact B7
    isplitl [B8]; · iexact B8
    isplitl [B9]; · iexact B9
    iexact B10
  icases HQ with ⟨Q0, Q1⟩
  unfold get0
  iapply (start_run d (cI i) (sI i) A H (posL (F := F) i SRC) (posL (F := F) i DST) (negL (F := F) i SRC) (negL (F := F) i DST) (slot0 A q)
    (fun _ => hS _) (fun _ => hD _) (fun _ => hS _) (fun _ => hD _) 0 (by decide) rfl rfl) $$ [Z0 Q0]
  · isplitl [Z0]; · iexact Z0
    iexact Q0
  iintro Hf
  iapply (loop_run d i A H q (posL (F := F) i SRC) (posL (F := F) i DST) (negL (F := F) i SRC) (negL (F := F) i DST) hO
      (fun _ => hS _) (fun _ => hD _) (fun _ => hS _) (fun _ => hD _)) $$ [Hf Z1 Q1 HM B22 B23 B24 HO]
  · unfold Inv
    isplitr
    · ipureintro; rfl
    isplitl [Hf]
    · rw [slot0At_lt d (cI i) (sI i) A H _ _ _ _ q (t := 0) (by decide)]
      iexact Hf
    isplitl [Z1]; · iexact Z1
    isplitl [Q1]; · iexact Q1
    isplitl [HM B22 B23 B24]
    · iapply (done_zero d i A H)
      isplitl [HM]; · iexact HM
      isplitl [B22]; · iexact B22
      isplitl [B23]; · iexact B23
      iexact B24
    iexact HO
  iintro %acc HI
  ihave HI := (inv_end d i A H q (posL (F := F) i SRC) (posL (F := F) i DST) (negL (F := F) i SRC) (negL (F := F) i DST)) $$ HI
  icases HI with ⟨%hacc, ⟨Z0, Q0⟩, Z1, Q1, HD0, HO⟩
  ihave HD0 := (done_all d i A H (posL (F := F) i SRC) (posL (F := F) i DST) (negL (F := F) i SRC) (negL (F := F) i DST)) $$ HD0
  icases HD0 with ⟨HM, B22, B23, B24⟩
  ihave HQ := (settle d i A H q (posL (F := F) i SRC) (posL (F := F) i DST) (negL (F := F) i SRC) (negL (F := F) i DST)) $$ [Q0 Q1]
  · isplitl [Q0]; · iexact Q0
    iexact Q1
  icases HQ with ⟨HT, ⟨G0, G1⟩, B7, B8, B9, B10⟩
  icases HW with ⟨W0, W1, W2⟩
  iapply (finish_run d i A hO acc (posV i H SRC DST) (negVs i H SRC DST)) $$ [B22 B23 B24 W0 W1 W2 R4 R5 R6 HO]
  · isplitl [B22]; · iexact B22
    isplitl [B23]; · iexact B23
    isplitl [B24]; · iexact B24
    isplitl [W0]; · iexact W0
    isplitl [W1]; · iexact W1
    isplitl [W2]; · iexact W2
    isplitl [R4]; · iexact R4
    isplitl [R5]; · iexact R5
    isplitl [R6]; · iexact R6
    iexact HO
  iintro ⟨B22, B23, B24, W0, W1, W2, R4, R5, R6, HO⟩
  ihave W2 := (Entails.of_eq (congrArg (Part (F := F) d (cI i) (sI i) (win25 i A)) hacc)) $$ W2
  isplitl [HT]; · iexact HT
  isplitl [HS]; · iexact HS
  isplitl [HD]; · iexact HD
  isplitl [W0 W1 W2]
  · isplitl [W0]; · iexact W0
    isplitl [W1]; · iexact W1
    iexact W2
  isplitl [B7 B8 B9 B10 Z0 Z1 HM B22 B23 B24]
  · isplitl [B7 B8 B9 B10]
    · isplitl [B7]; · iexact B7
      isplitl [B8]; · iexact B8
      isplitl [B9]; · iexact B9
      iexact B10
    isplitl [Z0]; · iexact Z0
    isplitl [Z1]; · iexact Z1
    isplitl [HM]; · iexact HM
    isplitl [B22]; · iexact B22
    isplitl [B23]; · iexact B23
    iexact B24
  isplitl [R0 R1 R2 R3 R4 R5 R6 G0 G1]
  · isplitl [R0 R1 R2 R3 R4 R5 R6]
    · isplitl [R0]; · iexact R0
      isplitl [R1]; · iexact R1
      isplitl [R2]; · iexact R2
      isplitl [R3]; · iexact R3
      isplitl [R4]; · iexact R4
      isplitl [R5]; · iexact R5
      iexact R6
    isplitl [G0]; · iexact G0
    iexact G1
  iexact HO

end Cert.Tile
-- ==== Proof.Concrete.lean ====
/-
  The launch's own memrefs, and a tile's storage as the launch deals it.
-/
module

public import proofs.«01_k».proof.Proof.TileRun

@[expose] public section

noncomputable section

namespace Cert.Tile

open Cert.KernelIdeal Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "𝕄" => MT nD τ sig (HIx 1) (Elt F) ℕ UU ℕ

/-! ## Some members of a family, taken out one at a time -/

section Chain

variable {I : Type} [DecidableEq I]

/-- A list's members of a family. -/
def chain (Φ : I → sProp (MT nD τ sig (HIx 1) (Elt F) ℕ UU ℕ)) : List I → sProp (MT nD τ sig (HIx 1) (Elt F) ℕ UU ℕ)
  | [] => iprop(emp)
  | a :: l => iprop(Φ a ∗ chain Φ l)

/-- A set with a list's members taken out. -/
def without (s : Finset I) : List I → Finset I
  | [] => s
  | a :: l => without (s.erase a) l

theorem chain_out {Φ : I → sProp (MT nD τ sig (HIx 1) (Elt F) ℕ UU ℕ)} : ∀ (l : List I) (s : Finset I), l.Nodup → (∀ a ∈ l, a ∈ s) →
    bigSep s Φ = iprop(chain Φ l ∗ bigSep (without s l) Φ)
  | [], s, _, _ => by
    refine BI.Entails.antisymm ?_ ?_
    · show _ ⊢ iprop(emp ∗ bigSep s Φ)
      iintro H
      isplitr; · iempintro
      iexact H
    · show iprop(emp ∗ bigSep s Φ) ⊢ _
      iintro ⟨-, H⟩
      iexact H
  | a :: l, s, hn, hs => by
    rw [SparseCore.bigSep_erase' (hs a List.mem_cons_self),
      chain_out l (s.erase a) (List.nodup_cons.mp hn).2
        (fun b hb => Finset.mem_erase.mpr ⟨fun e => (List.nodup_cons.mp hn).1 (e ▸ hb), hs b (List.mem_cons_of_mem a hb)⟩)]
    refine BI.Entails.antisymm ?_ ?_
    · show iprop(Φ a ∗ chain Φ l ∗ bigSep (without (s.erase a) l) Φ) ⊢ iprop((Φ a ∗ chain Φ l) ∗ bigSep (without (s.erase a) l) Φ)
      iintro ⟨H1, H2, H3⟩
      isplitl [H1 H2]
      · isplitl [H1]; · iexact H1
        iexact H2
      iexact H3
    · show iprop((Φ a ∗ chain Φ l) ∗ bigSep (without (s.erase a) l) Φ) ⊢ iprop(Φ a ∗ chain Φ l ∗ bigSep (without (s.erase a) l) Φ)
      iintro ⟨⟨H1, H2⟩, H3⟩
      isplitl [H1]; · iexact H1
      isplitl [H2]; · iexact H2
      iexact H3

end Chain

/-! ## The memrefs the launch passes -/

/-- The memrefs and semaphores of the launch. -/
def A₀ : Refs where
  arg2 := Memref.whole main_arg0_scv
  harg2 := Memref.isWhole_whole _
  arg3 := Memref.whole main_v2_scv
  harg3 := Memref.isWhole_whole _
  arg4 := Memref.whole main_v5_scv
  harg4 := Memref.isWhole_whole _
  arg5 := Memref.whole main_v6_0_scv
  harg5 := Memref.isWhole_whole _
  arg6 := Memref.whole main_v6_1_scv
  harg6 := Memref.isWhole_whole _
  arg7 := Memref.whole cc0_scratch0
  harg7 := Memref.isWhole_whole _
  arg8 := Memref.whole cc0_scratch1
  harg8 := Memref.isWhole_whole _
  arg9 := Memref.whole cc0_scratch2
  harg9 := Memref.isWhole_whole _
  arg10 := Memref.whole cc0_scratch3
  harg10 := Memref.isWhole_whole _
  arg11 := Memref.whole cc0_scratch4
  harg11 := Memref.isWhole_whole _
  arg12 := Memref.whole cc0_scratch5
  harg12 := Memref.isWhole_whole _
  arg13 := Memref.whole cc0_scratch6
  harg13 := Memref.isWhole_whole _
  arg14 := Memref.whole cc0_scratch7
  harg14 := Memref.isWhole_whole _
  arg15 := Memref.whole cc0_scratch8
  harg15 := Memref.isWhole_whole _
  arg16 := Memref.whole cc0_scratch9
  harg16 := Memref.isWhole_whole _
  arg17 := Memref.whole cc0_scratch10
  harg17 := Memref.isWhole_whole _
  arg18 := Memref.whole cc0_scratch11
  harg18 := Memref.isWhole_whole _
  arg19 := Memref.whole cc0_scratch12
  harg19 := Memref.isWhole_whole _
  arg20 := Memref.whole cc0_scratch13
  harg20 := Memref.isWhole_whole _
  arg21 := Memref.whole cc0_scratch14
  harg21 := Memref.isWhole_whole _
  arg22 := Memref.whole cc0_scratch15
  harg22 := Memref.isWhole_whole _
  arg23 := Memref.whole cc0_scratch16
  harg23 := Memref.isWhole_whole _
  arg24 := Memref.whole cc0_scratch17
  harg24 := Memref.isWhole_whole _
  arg25 := cc0_scratch18
  arg26 := cc0_scratch19
  arg27 := cc0_scratch20
  arg28 := cc0_scratch21
  arg29 := cc0_scratch22
  arg30 := cc0_scratch23
  arg31 := cc0_scratch24
  arg32 := cc0_scratch25
  r0 := cc0_scoped0
  r1 := cc0_scoped1
  r2 := cc0_scoped2
  r3 := cc0_scoped3
  r4 := cc0_scoped4
  r5 := cc0_scoped5
  r6 := cc0_scoped6

variable (d : Dev nD) (c : Fin τ.nSC) (s : Fin τ.nSub)

/-- A tile's buffers, in the order `Scr` names them. -/
def refs : List (Ref sig .scVector) :=
  [cc0_scratch0, cc0_scratch1, cc0_scratch2, cc0_scratch3, cc0_scratch4, cc0_scratch5, cc0_scratch6, cc0_scratch7, cc0_scratch8, cc0_scratch9,
    cc0_scratch10, cc0_scratch11, cc0_scratch13, cc0_scratch14, cc0_scratch12, cc0_scratch15, cc0_scratch16, cc0_scratch17]

/-- A tile's semaphores, in the order `AllSems` names them. -/
def sems : List (SemLoc sig) :=
  [.dma cc0_scoped0.sem, .dma cc0_scoped1.sem, .dma cc0_scoped2.sem, .dma cc0_scoped3.sem, .dma cc0_scoped4.sem, .dma cc0_scoped5.sem, .dma cc0_scoped6.sem,
    .dma cc0_scratch18.sem, .dma cc0_scratch19.sem, .dma cc0_scratch20.sem, .dma cc0_scratch21.sem,
    .dma cc0_scratch22.sem, .dma cc0_scratch23.sem, .dma cc0_scratch24.sem, .dma cc0_scratch25.sem]

theorem refs_nodup : refs.Nodup := by decide
theorem sems_nodup : sems.Nodup := by decide
theorem sems_scoped : ∀ x ∈ sems, x.isScoped .scVector = true := by decide

/-- Something in a buffer. -/
abbrev some' (b : DevRef τ sig) : sProp 𝕄 := iprop(∃ f, ((d, b) : Loc nD τ sig) ↦{fullShare} f)

theorem bufs_out :
    (ownBufs (V d c s) : sProp 𝕄)
      = iprop(chain (some' (F := F) d) (refs.map (Proc.scVector c s).devRef) ∗ bigSep (without (ownRefs (τ := τ) (.scVector c s)) (refs.map (Proc.scVector c s).devRef)) (some' (F := F) d)) := by
  unfold SparseCore.Cfg.ownBufs
  refine chain_out _ _ ((List.nodup_map_iff (Proc.devRef_injective _)).mpr refs_nodup) ?_
  intro b hb
  obtain ⟨r, hr, rfl⟩ := List.mem_map.mp hb
  have : ∀ r ∈ refs, ((Proc.scVector c s).devRef r).owner = .proc (.scVector c s) := by
    intro r hr
    simp only [refs, List.mem_cons, List.not_mem_nil, _root_.or_false] at hr
    rcases hr with h | h | h | h | h | h | h | h | h | h | h | h | h | h | h | h | h | h <;> subst h <;> rfl
  exact SparseCore.Cfg.mem_ownRefs_of_owner (this r hr)

theorem sems_out :
    (ownSems0 (V d c s) : sProp 𝕄)
      = iprop(chain (fun g : GSem nD τ sig => (semVal g 0 : sProp 𝕄)) (sems.map fun x => ((V d c s : Thread nD τ), x))
        ∗ bigSep (without (ownCells (V d c s : Thread nD τ)) (sems.map fun x => ((V d c s : Thread nD τ), x))) fun g => semVal g 0) := by
  unfold SparseCore.Cfg.ownSems0
  refine chain_out _ _ ((List.nodup_map_iff (fun a b h => congrArg Prod.snd h)).mpr sems_nodup) ?_
  intro g hg
  obtain ⟨x, hx, rfl⟩ := List.mem_map.mp hg
  refine mem_ownCells.mpr ⟨rfl, ?_⟩
  exact sems_scoped x hx

end Cert.Tile
-- ==== Proof.TileEq.lean ====
/-
  The printed text of one tile's program is the folded one.
-/
module

public import proofs.«01_k».proof.Proof.Body

@[expose] public section

noncomputable section

namespace Cert.Tile

open Cert.KernelIdeal Idealize.ShloMosaic Idealize.SL.Sem
open Facts₀ Facts

variable {F : FTy → Type} [FloatOps F]
variable [Facts]

set_option maxHeartbeats 0
set_option maxRecDepth 100000

/-- One tile's printed program is the folded one. -/
theorem tile_eq (i : grid0.Coords) (A : Refs) :
    tileP (F := F) i A = cc0__sc_body (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.arg26 A.arg27 A.arg28 A.arg29 A.arg30 A.arg31 A.arg32 A.r0 A.r1 A.r2 A.r3 A.r4 A.r5 A.r6 := by
  refine op_step fun _ => op_step fun _ => op_step fun _ => op_step fun _ => op_step fun _ => op_step fun _ => op_step fun _ => op_step fun _ => ?_
  refine op_step fun _ => op_step fun _ => op_step fun _ => op_step fun _ => ?_
  refine congrArg₂ (fun a b => a >>= b) (congrArg _ (funext fun t => funext fun acc => ?_)) rfl
  refine op_step fun _ => op_step fun _ => op_step fun _ => op_step fun _ => op_step fun _ => op_step fun _ => op_step fun _ => op_step fun _ => ?_
  iterate 16 (refine rows_step (by decide) (by decide) fun _ => ?_)
  iterate 66 (refine op_step fun _ => ?_)
  iterate 5
    iterate 16 (refine rows_step (by decide) (by decide) fun _ => ?_)
    iterate 68 (refine op_step fun _ => ?_)
  iterate 10 (refine op_step fun _ => ?_)
  refine dite_step ?_ fun e h => op_step fun _ => op_step fun _ => op_step fun _ => op_step fun _ => e
  iterate 4 (refine op_step fun _ => ?_)
  iterate 16 (refine rows_step (by decide) (by decide) fun _ => ?_)
  iterate 66 (refine op_step fun _ => ?_)
  iterate 5
    iterate 16 (refine rows_step (by decide) (by decide) fun _ => ?_)
    iterate 68 (refine op_step fun _ => ?_)
  iterate 10 (refine op_step fun _ => ?_)
  exact rfl

end Cert.Tile
-- ==== Proof.TileBody.lean ====
/-
  One tile's run from what the launch deals it to what it hands back.
-/
module

public import proofs.«01_k».proof.Proof.Concrete
public import proofs.«01_k».proof.Proof.TileEq

@[expose] public section

set_option maxRecDepth 16384

noncomputable section

namespace Cert.Tile

open Cert.KernelIdeal Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "𝕄" => MT nD τ sig (HIx 1) (Elt F) ℕ UU ℕ

theorem eqv {P Q : sProp 𝕄} (h₁ : P ⊢ Q) (h₂ : Q ⊢ P) : P = Q := BI.Entails.antisymm h₁ h₂
theorem trans' {P Q R : sProp 𝕄} (h₁ : P ⊢ Q) (h₂ : Q ⊢ R) : P ⊢ R := BI.Entails.trans h₁ h₂

/-- The table, the two padded lists of indices, the edges' values, the sums: the arrays a tile is passed. -/
abbrev hLoc (d : Dev nD) : Loc nD τ sig := (SparseCore.T d).loc main_arg0
abbrev srcLoc (d : Dev nD) : Loc nD τ sig := (SparseCore.T d).loc main_v2
abbrev dstLoc (d : Dev nD) : Loc nD τ sig := (SparseCore.T d).loc main_v5
abbrev gamLoc (d : Dev nD) : Loc nD τ sig := (SparseCore.T d).loc main_v6_0
abbrev mrrLoc (d : Dev nD) : Loc nD τ sig := (SparseCore.T d).loc main_v6_1

variable (d : Dev nD)

/-! ## A buffer held, and the memref over it -/

section Whole

variable (c : Fin τ.nSC) (s : Fin τ.nSub)

theorem own_whole (r : Ref sig .scVector) :
    (Own (F := F) d c s (Memref.whole r) : sProp 𝕄) = some' (F := F) d ((Proc.scVector c s).devRef r) := by
  refine eqv ?_ ?_
  · unfold Own Has
    iintro ⟨%X, %f, -, H⟩
    iexists f; iexact H
  · unfold Own Has
    iintro ⟨%f, H⟩
    iexists _, f
    isplitr; · ipureintro; rfl
    iexact H

theorem tab_read (d : Dev nD) (c : Fin τ.nSC) (s : Fin τ.nSub) (h : Buf (Elt F) (hLoc d)) : (tab A₀).view.read (Elt F) (h : Buf (Elt F) ((tab A₀).view.loc (V d c s))) = h := by
  funext x
  show h ((Rect.unit (s := S100000x128) ![0, 0] S100000x128.size inb_S100000x128_S100000x128_0_0).emb x) = h x
  refine congrArg h (funext fun k => Fin.ext ?_)
  rw [Rect.emb_apply]
  match k with
  | 0 => show 0 + 1 * (x 0).val = (x 0).val; omega
  | 1 => show 0 + 1 * (x 1).val = (x 1).val; omega

/-- A share of the table. -/
theorem tab_open (q : PosShare TreeShare) (h : Buf (Elt F) (hLoc d)) :
    (hLoc d ↦{q} h : sProp 𝕄) ⊢ iprop(Tab d c s A₀ q h ∗ (Tab d c s A₀ q h -∗ (hLoc d ↦{q} h))) := by
  iintro H
  ihave H := (pointsTo_split_subset (q := q) (ℓ := hLoc d) (f := h) (S := Finset.univ) (Finset.subset_univ (tab A₀).view.set)).1 $$ H
  icases H with ⟨H1, H2⟩
  unfold Tab
  isplitl [H1]
  · iexists h
    isplitr; · ipureintro; exact tab_read d c s h
    iexact H1
  iintro ⟨%f, %hf, H1⟩
  ihave H1 := (Entails.of_eq (pointsTo_congr (eq_on_set d c s (hf.trans (tab_read d c s h).symm)))) $$ H1
  iapply (pointsTo_split_subset (q := q) (ℓ := hLoc d) (f := h) (S := Finset.univ) (Finset.subset_univ (tab A₀).view.set)).2
  isplitl [H1]; · iexact H1
  iexact H2

theorem src_open (q : PosShare TreeShare) (f : Buf (Elt F) (srcLoc d)) :
    (HasQ d c s q A₀.arg3 (f : S602112.Idx → Elt F .i32) : sProp 𝕄) = (srcLoc d ↦{q} f) := by
  unfold HasQ
  refine eqv ?_ ?_
  · iintro ⟨%g, %hg, H⟩
    have e : g = f := hg
    rw [← e]
    iexact H
  · iintro H
    iexists f
    isplitr; · ipureintro; rfl
    iexact H

theorem dst_open (q : PosShare TreeShare) (f : Buf (Elt F) (dstLoc d)) :
    (HasQ d c s q A₀.arg4 (f : S602112.Idx → Elt F .i32) : sProp 𝕄) = (dstLoc d ↦{q} f) := by
  unfold HasQ
  refine eqv ?_ ?_
  · iintro ⟨%g, %hg, H⟩
    have e : g = f := hg
    rw [← e]
    iexact H
  · iintro H
    iexists f
    isplitr; · ipureintro; rfl
    iexact H

/-- A tile's buffers, as the run names them. -/
theorem scr_eq (q : PosShare TreeShare) :
    (Scr (F := F) d c s A₀ q : sProp 𝕄) = chain (some' (F := F) d) (refs.map (Proc.scVector c s).devRef) := by
  unfold Scr Bufs Mats
  show iprop((Own (F := F) d c s (Memref.whole cc0_scratch0) ∗ Own (F := F) d c s (Memref.whole cc0_scratch1) ∗ Own (F := F) d c s (Memref.whole cc0_scratch2) ∗ Own (F := F) d c s (Memref.whole cc0_scratch3))
    ∗ (Own (F := F) d c s (Memref.whole cc0_scratch4) ∗ Own (F := F) d c s (Memref.whole cc0_scratch5) ∗ Own (F := F) d c s (Memref.whole cc0_scratch6) ∗ Own (F := F) d c s (Memref.whole cc0_scratch7))
    ∗ (Own (F := F) d c s (Memref.whole cc0_scratch8) ∗ Own (F := F) d c s (Memref.whole cc0_scratch9) ∗ Own (F := F) d c s (Memref.whole cc0_scratch10) ∗ Own (F := F) d c s (Memref.whole cc0_scratch11))
    ∗ (Own (F := F) d c s (Memref.whole cc0_scratch13) ∗ Own (F := F) d c s (Memref.whole cc0_scratch14) ∗ Own (F := F) d c s (Memref.whole cc0_scratch12))
    ∗ Own (F := F) d c s (Memref.whole cc0_scratch15) ∗ Own (F := F) d c s (Memref.whole cc0_scratch16) ∗ Own (F := F) d c s (Memref.whole cc0_scratch17)) = _
  simp only [own_whole, refs, List.map, chain]
  refine eqv ?_ ?_
  · iintro ⟨⟨H1, H2, H3, H4⟩, ⟨H5, H6, H7, H8⟩, ⟨H9, H10, H11, H12⟩, ⟨H13, H14, H15⟩, H16, H17, H18⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iempintro
  · iintro ⟨H1, H2, H3, H4, H5, H6, H7, H8, H9, H10, H11, H12, H13, H14, H15, H16, H17, H18, -⟩
    isplitl [H1 H2 H3 H4]
    · isplitl [H1]; · iexact H1
      isplitl [H2]; · iexact H2
      isplitl [H3]; · iexact H3
      iexact H4
    isplitl [H5 H6 H7 H8]
    · isplitl [H5]; · iexact H5
      isplitl [H6]; · iexact H6
      isplitl [H7]; · iexact H7
      iexact H8
    isplitl [H9 H10 H11 H12]
    · isplitl [H9]; · iexact H9
      isplitl [H10]; · iexact H10
      isplitl [H11]; · iexact H11
      iexact H12
    isplitl [H13 H14 H15]
    · isplitl [H13]; · iexact H13
      isplitl [H14]; · iexact H14
      iexact H15
    isplitl [H16]; · iexact H16
    isplitl [H17]; · iexact H17
    iexact H18

theorem chain_group {I : Type} (Φ : I → sProp (MT nD τ sig (HIx 1) (Elt F) ℕ UU ℕ)) (a1 a2 a3 a4 a5 a6 a7 a8 a9 a10 a11 a12 a13 a14 a15 : I) :
    iprop((Φ a1 ∗ Φ a2 ∗ Φ a3 ∗ Φ a4 ∗ Φ a5 ∗ Φ a6 ∗ Φ a7) ∗ (Φ a8 ∗ Φ a9 ∗ Φ a10 ∗ Φ a11) ∗ Φ a12 ∗ Φ a13 ∗ Φ a14 ∗ Φ a15)
      = chain Φ [a1, a2, a3, a4, a5, a6, a7, a8, a9, a10, a11, a12, a13, a14, a15] := by
  simp only [chain]
  refine eqv ?_ ?_
  · iintro ⟨⟨H1, H2, H3, H4, H5, H6, H7⟩, ⟨H8, H9, H10, H11⟩, H12, H13, H14, H15⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iempintro
  · iintro ⟨H1, H2, H3, H4, H5, H6, H7, H8, H9, H10, H11, H12, H13, H14, H15, -⟩
    isplitl [H1 H2 H3 H4 H5 H6 H7]
    · isplitl [H1]; · iexact H1
      isplitl [H2]; · iexact H2
      isplitl [H3]; · iexact H3
      isplitl [H4]; · iexact H4
      isplitl [H5]; · iexact H5
      isplitl [H6]; · iexact H6
      iexact H7
    isplitl [H8 H9 H10 H11]
    · isplitl [H8]; · iexact H8
      isplitl [H9]; · iexact H9
      isplitl [H10]; · iexact H10
      iexact H11
    isplitl [H12]; · iexact H12
    isplitl [H13]; · iexact H13
    isplitl [H14]; · iexact H14
    iexact H15

/-- A tile's semaphores, as the run names them. -/
theorem sems_eq (q : PosShare TreeShare) :
    (AllSems (F := F) d c s A₀ q : sProp 𝕄) = chain (fun g : GSem nD τ sig => (semVal g 0 : sProp 𝕄)) (sems.map fun x => ((V d c s : Thread nD τ), x)) := by
  unfold AllSems Sems SlotSems
  exact chain_group (F := F) (fun g : GSem nD τ sig => (semVal g 0 : sProp 𝕄)) _ _ _ _ _ _ _ _ _ _ _ _ _ _ _

end Whole

/-! ## The run -/

/-- The arrays' contents as the buffers hold them. -/
abbrev hB (h : Vec F S100000x128 .f32) : Buf (Elt F) (hLoc d) := (h : S100000x128.Idx → Elt F .f32)
abbrev srcB (x : IVec S602112 32) : Buf (Elt F) (srcLoc d) := (x : S602112.Idx → Elt F .i32)
abbrev dstB (x : IVec S602112 32) : Buf (Elt F) (dstLoc d) := (x : S602112.Idx → Elt F .i32)

variable (i : grid0.Coords) (h : Vec F S100000x128 .f32) (src dst : IVec S602112 32) (q : PosShare TreeShare)

/-- What a tile is handed. -/
def goT : sProp 𝕄 :=
  iprop((hLoc d ↦{q} hB d h) ∗ (srcLoc d ↦{q} srcB d src) ∗ (dstLoc d ↦{q} dstB d dst)
    ∗ (∃ Y, Part (F := F) d (cI i) (sI i) (win23 i A₀) Y) ∗ (∃ Y, Part (F := F) d (cI i) (sI i) (win24 i A₀) Y) ∗ (∃ Y, Part (F := F) d (cI i) (sI i) (win25 i A₀) Y))

/-- What a tile hands back. -/
def tdT : sProp 𝕄 :=
  iprop((hLoc d ↦{q} hB d h) ∗ (srcLoc d ↦{q} srcB d src) ∗ (dstLoc d ↦{q} dstB d dst)
    ∗ Part (F := F) d (cI i) (sI i) (win23 i A₀) (posV i h src dst) ∗ Part (F := F) d (cI i) (sI i) (win24 i A₀) (negVs i h src dst)
    ∗ Part (F := F) d (cI i) (sI i) (win25 i A₀) (mrrV i h src dst))

theorem tile_body (hF : (K (F := F)).Facts) (hS : ∀ j, (src j).toNat < 100000) (hD : ∀ j, (dst j).toNat < 100000)
    (O : CellTallies nD τ sig (HIx 1)) (W : Waits sig (HIx 1)) (hO : ∀ g, O g none = 0) :
    iprop(levAts (K (F := F)).L (K (F := F)).lev ∗ emp ∗ goT d i h src dst q
        ∗ scopedBufs (V d (cI i) (sI i)) ∗ scopedSems0 (V d (cI i) (sI i)) ∗ owes (V d (cI i) (sI i)) O W)
      ⊢ wp frame (wpE (defs₀ (F := F)) 𝒱₀ (V d (cI i) (sI i)) none) Set.univ
          (cc0__sc_body (F := F) i (Memref.whole main_arg0_scv) (Memref.isWhole_whole _) (Memref.whole main_v2_scv) (Memref.isWhole_whole _)
            (Memref.whole main_v5_scv) (Memref.isWhole_whole _) (Memref.whole main_v6_0_scv) (Memref.isWhole_whole _) (Memref.whole main_v6_1_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            cc0_scratch18 cc0_scratch19 cc0_scratch20 cc0_scratch21 cc0_scratch22 cc0_scratch23 cc0_scratch24 cc0_scratch25
            cc0_scoped0 cc0_scoped1 cc0_scoped2 cc0_scoped3 cc0_scoped4 cc0_scoped5 cc0_scoped6)
          fun _ => iprop(tdT d i h src dst q ∗ scopedBufs (V d (cI i) (sI i)) ∗ scopedSems0 (V d (cI i) (sI i))
            ∗ ∃ W', ⌜∀ p ∈ W', p ∈ W ∨ p.2 = none⌝ ∗ owes (V d (cI i) (sI i)) O W') := by
  refine trans' ?_ (Entails.of_eq (congrArg (fun P => wpT d (cI i) (sI i) P _) (tile_eq (F := F) i A₀)))
  rw [(K (F := F)).scopedBufs_V hF d (cI i) (sI i), SparseCore.Cfg.scopedSems0_V (Val := Elt F) d (cI i) (sI i), sems_out, bufs_out, ← scr_eq d _ _ q, ← sems_eq d _ _ q]
  unfold goT tdT
  iintro ⟨#Hlv, -, ⟨Hh, Hs, Hd, Hw⟩, ⟨Hb, Hbr⟩, ⟨Hm, Hmr⟩, HO⟩
  ihave Hh := (tab_open d (cI i) (sI i) q (hB d h)) $$ Hh
  icases Hh with ⟨Hh, Hhk⟩
  ihave Hs := (Entails.of_eq (src_open d (cI i) (sI i) q (srcB d src)).symm) $$ Hs
  ihave Hd := (Entails.of_eq (dst_open d (cI i) (sI i) q (dstB d dst)).symm) $$ Hd
  ihave Hwp := (tile_run d i A₀ h src dst q q (O := O) (W₀ := W) hO hS hD) $$ [Hh Hs Hd Hw Hb Hm HO]
  · isplitl [Hh]; · iexact Hh
    isplitl [Hs]; · iexact Hs
    isplitl [Hd]; · iexact Hd
    isplitl [Hw]; · iexact Hw
    isplitl [Hb]; · iexact Hb
    isplitl [Hm]; · iexact Hm
    unfold Ob
    isplitr; · iexact Hlv
    iexists W
    isplitr; · ipureintro; exact fun _ h => Or.inl h
    iexact HO
  iapply wp_wand_r
  isplitl [Hwp]; · iexact Hwp
  iintro %x ⟨Hh, Hs, Hd, Hw, Hb, Hm, HO⟩
  unfold Ob
  icases HO with ⟨-, HO⟩
  isplitl [Hh Hs Hd Hw Hhk]
  · isplitl [Hh Hhk]; · iapply Hhk; iexact Hh
    isplitl [Hs]; · iapply (Entails.of_eq (src_open d (cI i) (sI i) q (srcB d src))); iexact Hs
    isplitl [Hd]; · iapply (Entails.of_eq (dst_open d (cI i) (sI i) q (dstB d dst))); iexact Hd
    iexact Hw
  isplitl [Hb Hbr]
  · isplitl [Hb]; · iexact Hb
    iexact Hbr
  isplitl [Hm Hmr]
  · isplitl [Hm]; · iexact Hm
    iexact Hmr
  iexact HO

end Cert.Tile
-- ==== Proof.Deal.lean ====
/-
  The arrays dealt to the thirty-two tiles and taken back.
-/
module

public import proofs.«01_k».proof.Proof.TileBody
public import Idealize.ShloMosaic.Lib.Ring

@[expose] public section

set_option maxRecDepth 16384

noncomputable section

namespace Cert.Tile

open Cert.KernelIdeal Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "𝕄" => MT nD τ sig (HIx 1) (Elt F) ℕ UU ℕ

/-! ## Thirty-two read shares of one array -/

/-- What is left of the full share after `k` halvings. -/
def peel : ℕ → PosShare TreeShare
  | 0 => fullShare
  | k + 1 => (peel k).right

/-- The share of tile `k`. -/
def tq (k : ℕ) : PosShare TreeShare := (peel k).left

theorem peel_split (ℓ : Loc nD τ sig) (f : Buf (Elt F) ℓ) (n : ℕ) :
    (ℓ ↦{fullShare} f : sProp 𝕄) = iprop((bigSep (Finset.range n) fun k => ℓ ↦{tq k} f) ∗ ℓ ↦{peel n} f) := by
  induction n with
  | zero =>
    refine eqv ?_ ?_
    · iintro H
      isplitr; · iempintro
      iexact H
    · iintro ⟨-, H⟩
      iexact H
  | succ n ih =>
    rw [ih, Finset.range_add_one, SparseCore.bigSep_insert' Finset.notMem_range_self]
    refine eqv ?_ ?_
    · iintro ⟨H1, H2⟩
      ihave H2 := (pointsTo_share (PosShare.mem_left_op_right (peel n))).1 $$ H2
      icases H2 with ⟨H2, H3⟩
      isplitl [H1 H2]
      · isplitl [H2]; · iexact H2
        iexact H1
      iexact H3
    · iintro ⟨⟨H2, H1⟩, H3⟩
      isplitl [H1]; · iexact H1
      iapply (pointsTo_share (PosShare.mem_left_op_right (peel n))).2
      isplitl [H2]; · iexact H2
      iexact H3

theorem monoU {Φ Ψ : Fin 32 → sProp 𝕄} (h : ∀ w, Φ w ⊢ Ψ w) : bigSep Finset.univ Φ ⊢ bigSep Finset.univ Ψ := bigSep_mono fun w _ => h w

/-! ## The tiles -/

/-- The tile on core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- Tile number `w`. -/
def tileOf (w : Fin 32) : grid0.Coords :=
  coordsV ⟨w.val % 2, Nat.mod_lt _ (by decide)⟩ ⟨w.val / 2, by show _ < 16; have := w.isLt; omega⟩

theorem wid_coords (c : Fin 2) (s : Fin 16) : wid (coordsV c s) = 2 * s.val + c.val := rfl

theorem wid_tileOf (w : Fin 32) : wid (tileOf w) = w.val := by
  show 2 * (w.val / 2) + w.val % 2 = w.val
  omega

theorem tileOf_wid (i : grid0.Coords) : tileOf ⟨wid i, wid_lt i⟩ = i := by
  have h0 : (i 0).val < 2 := (i 0).isLt
  funext k
  match k with
  | 0 => exact Fin.ext (by show (2 * (i 1).val + (i 0).val) % 2 = (i 0).val; omega)
  | 1 => exact Fin.ext (by show (2 * (i 1).val + (i 0).val) / 2 = (i 1).val; omega)

/-- Tile numbers, as a core and a subcore. -/
def tileEquiv : Fin 32 ≃ (_ : Fin 2) × Fin 16 where
  toFun w := ⟨⟨w.val % 2, Nat.mod_lt _ (by decide)⟩, ⟨w.val / 2, by have := w.isLt; omega⟩⟩
  invFun p := ⟨2 * p.2.val + p.1.val, by have := p.1.isLt; have := p.2.isLt; omega⟩
  left_inv w := Fin.ext (by show 2 * (w.val / 2) + w.val % 2 = w.val; omega)
  right_inv p := by
    obtain ⟨c, s⟩ := p
    have := c.isLt
    have h1 : (2 * s.val + c.val) % 2 = c.val := by omega
    have h2 : (2 * s.val + c.val) / 2 = s.val := by omega
    have e1 : (⟨(2 * s.val + c.val) % 2, Nat.mod_lt _ (by decide)⟩ : Fin 2) = c := Fin.ext h1
    have e2 : (⟨(2 * s.val + c.val) / 2, by have := s.isLt; omega⟩ : Fin 16) = s := Fin.ext h2
    show (⟨_, _⟩ : (_ : Fin 2) × Fin 16) = ⟨c, s⟩
    rw [e1, e2]

theorem tiles_bigSep (Φ : grid0.Coords → sProp 𝕄) :
    (bigSep Finset.univ fun c : Fin 2 => bigSep Finset.univ fun s : Fin 16 => Φ (coordsV c s)) = bigSep Finset.univ fun w : Fin 32 => Φ (tileOf w) := by
  have h := Pipeline.bigSep_univ_sigma (nD := nD) (τ := τ) (sig := sig) (Ix := HIx 1) (Val := Elt F) (Name := ℕ) (U := UU) (Lvl := ℕ)
    (α := Fin 2) (β := fun _ => Fin 16) (fun p => Φ (coordsV p.1 p.2))
  refine (h.symm.trans ?_)
  exact (bigSep_univ_equiv tileEquiv (fun p : (_ : Fin 2) × Fin 16 => Φ (coordsV p.1 p.2))).trans rfl

/-! ## The parts of the two outputs -/

theorem mem23 (i : grid0.Coords) (y : S602112.Idx) :
    y ∈ (Rect.unit (s := S602112) (k0_off23 i) S3136.size (k0_off23_inb i)).set ↔ 3136 * wid i ≤ (i1v y).val ∧ (i1v y).val < 3136 * wid i + 3136 := by
  have e : k0_off23 i 0 = 3136 * wid i := (congrFun (Gen.k0_off23_eq i) 0).trans (by unfold wid; show 6272 * (i 1).val + 3136 * (i 0).val = _; omega)
  rw [Rect.mem_set_unit]
  constructor
  · intro h
    have h0 := h 0
    rw [e] at h0
    exact h0
  · intro h a
    match a with
    | 0 => rw [e]; exact h

theorem mem24 (i : grid0.Coords) (y : S602112.Idx) :
    y ∈ (Rect.unit (s := S602112) (k0_off24 i) S15680.size (k0_off24_inb i)).set
      ↔ 100352 + 15680 * wid i ≤ (i1v y).val ∧ (i1v y).val < 100352 + 15680 * wid i + 15680 := by
  have e : k0_off24 i 0 = 100352 + 15680 * wid i := (congrFun (Gen.k0_off24_eq i) 0).trans (by unfold wid; show 31360 * (i 1).val + 15680 * (i 0).val + 100352 = _; omega)
  rw [Rect.mem_set_unit]
  constructor
  · intro h
    have h0 := h 0
    rw [e] at h0
    exact h0
  · intro h a
    match a with
    | 0 => rw [e]; exact h

theorem mem25 (i : grid0.Coords) (y : S512.Idx) :
    y ∈ (Rect.unit (s := S512) (k0_off25 i) S16.size (k0_off25_inb i)).set ↔ 16 * wid i ≤ (i1v y).val ∧ (i1v y).val < 16 * wid i + 16 := by
  have e : k0_off25 i 0 = 16 * wid i := (congrFun (Gen.k0_off25_eq i) 0).trans (by unfold wid; show 32 * (i 1).val + 16 * (i 0).val = _; omega)
  rw [Rect.mem_set_unit]
  constructor
  · intro h
    have h0 := h 0
    rw [e] at h0
    exact h0
  · intro h a
    match a with
    | 0 => rw [e]; exact h

/-- Where the two parts of a tile lie in the list of values. -/
def gamSet (p : Fin 32 ⊕ Fin 32) : Finset S602112.Idx :=
  match p with
  | .inl w => (Rect.unit (s := S602112) (k0_off23 (tileOf w)) S3136.size (k0_off23_inb (tileOf w))).set
  | .inr w => (Rect.unit (s := S602112) (k0_off24 (tileOf w)) S15680.size (k0_off24_inb (tileOf w))).set

def mrrSet (w : Fin 32) : Finset S512.Idx := (Rect.unit (s := S512) (k0_off25 (tileOf w)) S16.size (k0_off25_inb (tileOf w))).set

theorem gam_disjoint : ∀ p ∈ (Finset.univ : Finset (Fin 32 ⊕ Fin 32)), ∀ p' ∈ (Finset.univ : Finset (Fin 32 ⊕ Fin 32)), p ≠ p' → Disjoint (gamSet p) (gamSet p') := by
  intro p _ p' _ hne
  rw [Finset.disjoint_left]
  intro y h h'
  match p, p' with
  | .inl w, .inl w' =>
    have h1 := (mem23 _ _).mp h
    have h2 := (mem23 _ _).mp h'
    rw [wid_tileOf] at h1 h2
    exact hne (congrArg _ (Fin.ext (by omega)))
  | .inl w, .inr w' =>
    have h1 := (mem23 _ _).mp h
    have h2 := (mem24 _ _).mp h'
    rw [wid_tileOf] at h1 h2
    have := w.isLt
    omega
  | .inr w, .inl w' =>
    have h1 := (mem24 _ _).mp h
    have h2 := (mem23 _ _).mp h'
    rw [wid_tileOf] at h1 h2
    have := w'.isLt
    omega
  | .inr w, .inr w' =>
    have h1 := (mem24 _ _).mp h
    have h2 := (mem24 _ _).mp h'
    rw [wid_tileOf] at h1 h2
    exact hne (congrArg _ (Fin.ext (by omega)))

theorem gam_cover : (Finset.univ : Finset (Fin 32 ⊕ Fin 32)).biUnion gamSet = Finset.univ := by
  refine Finset.eq_univ_of_forall fun y => Finset.mem_biUnion.mpr ?_
  have hy : (i1v y).val < 602112 := (i1v y).isLt
  by_cases h : (i1v y).val < 100352
  · refine ⟨.inl ⟨(i1v y).val / 3136, by omega⟩, Finset.mem_univ _, (mem23 _ _).mpr ?_⟩
    rw [wid_tileOf]
    show 3136 * ((i1v y).val / 3136) ≤ _ ∧ _ < 3136 * ((i1v y).val / 3136) + 3136
    omega
  · refine ⟨.inr ⟨((i1v y).val - 100352) / 15680, by omega⟩, Finset.mem_univ _, (mem24 _ _).mpr ?_⟩
    rw [wid_tileOf]
    show 100352 + 15680 * (((i1v y).val - 100352) / 15680) ≤ _ ∧ _ < 100352 + 15680 * (((i1v y).val - 100352) / 15680) + 15680
    omega

theorem mrr_disjoint : ∀ p ∈ (Finset.univ : Finset (Fin 32)), ∀ p' ∈ (Finset.univ : Finset (Fin 32)), p ≠ p' → Disjoint (mrrSet p) (mrrSet p') := by
  intro w _ w' _ hne
  rw [Finset.disjoint_left]
  intro y h h'
  have h1 := (mem25 _ _).mp h
  have h2 := (mem25 _ _).mp h'
  rw [wid_tileOf] at h1 h2
  exact hne (Fin.ext (by omega))

theorem mrr_cover : (Finset.univ : Finset (Fin 32)).biUnion mrrSet = Finset.univ := by
  refine Finset.eq_univ_of_forall fun y => Finset.mem_biUnion.mpr ?_
  have hy : (i1v y).val < 512 := (i1v y).isLt
  refine ⟨⟨(i1v y).val / 16, by omega⟩, Finset.mem_univ _, (mem25 _ _).mpr ?_⟩
  rw [wid_tileOf]
  show 16 * ((i1v y).val / 16) ≤ _ ∧ _ < 16 * ((i1v y).val / 16) + 16
  omega

theorem win23_set (i : grid0.Coords) : (win23 i A₀).view.set = (Rect.unit (s := S602112) (k0_off23 i) S3136.size (k0_off23_inb i)).set :=
  View.set_slice_whole main_v6_0_scv _
theorem win24_set (i : grid0.Coords) : (win24 i A₀).view.set = (Rect.unit (s := S602112) (k0_off24 i) S15680.size (k0_off24_inb i)).set :=
  View.set_slice_whole main_v6_0_scv _
theorem win25_set (i : grid0.Coords) : (win25 i A₀).view.set = (Rect.unit (s := S512) (k0_off25 i) S16.size (k0_off25_inb i)).set :=
  View.set_slice_whole main_v6_1_scv _

/-- The values of the edges in one list. -/
def gamAll (h : Vec F S100000x128 .f32) (src dst : IVec S602112 32) : Vec F S602112 .f32 := edgeG h src dst

/-- The lanes' sums in one list. -/
def mrrAll (h : Vec F S100000x128 .f32) (src dst : IVec S602112 32) : Vec F S512 .f32 := fun y =>
  mrrV (tileOf ⟨(i1v y).val / 16, by have := (i1v y).isLt; omega⟩) h src dst (i1 ⟨(i1v y).val % 16, Nat.mod_lt _ (by decide)⟩)

variable (d : Dev nD)

abbrev gamB (X : Vec F S602112 .f32) : Buf (Elt F) (gamLoc d) := (X : S602112.Idx → Elt F .f32)
abbrev mrrB (X : Vec F S512 .f32) : Buf (Elt F) (mrrLoc d) := (X : S512.Idx → Elt F .f32)

theorem gam_parts (f : Buf (Elt F) (gamLoc d)) :
    (gamLoc d ↦{fullShare} f : sProp 𝕄)
      = iprop((bigSep Finset.univ fun w : Fin 32 => gamLoc d ↦[(win23 (tileOf w) A₀).view.set]{fullShare} f)
        ∗ bigSep Finset.univ fun w : Fin 32 => gamLoc d ↦[(win24 (tileOf w) A₀).view.set]{fullShare} f) := by
  have e : (gamLoc d ↦{fullShare} f : sProp 𝕄) = bigSep Finset.univ fun p : Fin 32 ⊕ Fin 32 => gamLoc d ↦[gamSet p]{fullShare} f := by
    rw [← pointsTo_biUnion Finset.univ (ℓ := gamLoc d) gamSet gam_disjoint, gam_cover]; try rfl
  rw [e, bigSep_univ_sum]
  exact congrArg₂ (fun X Y : sProp 𝕄 => iprop(X ∗ Y))
    (bigSep_congr fun w _ => congrArg (fun S => (gamLoc d ↦[S]{fullShare} f : sProp 𝕄)) (win23_set (tileOf w)).symm)
    (bigSep_congr fun w _ => congrArg (fun S => (gamLoc d ↦[S]{fullShare} f : sProp 𝕄)) (win24_set (tileOf w)).symm)

theorem mrr_parts (f : Buf (Elt F) (mrrLoc d)) :
    (mrrLoc d ↦{fullShare} f : sProp 𝕄) = bigSep Finset.univ fun w : Fin 32 => mrrLoc d ↦[(win25 (tileOf w) A₀).view.set]{fullShare} f := by
  have e : (mrrLoc d ↦{fullShare} f : sProp 𝕄) = bigSep Finset.univ fun p : Fin 32 => mrrLoc d ↦[mrrSet p]{fullShare} f := by
    rw [← pointsTo_biUnion Finset.univ (ℓ := mrrLoc d) mrrSet mrr_disjoint, mrr_cover]; try rfl
  rw [e]
  exact bigSep_congr fun w _ => congrArg (fun S => (mrrLoc d ↦[S]{fullShare} f : sProp 𝕄)) (win25_set (tileOf w)).symm

/-! ## What the parts hold -/

variable (h : Vec F S100000x128 .f32) (src dst : IVec S602112 32)

theorem read23 (i : grid0.Coords) : (win23 i A₀).view.read (Elt F) (gamB d (gamAll h src dst) : Buf (Elt F) ((win23 i A₀).view.loc (V d (cI i) (sI i)))) = posV i h src dst := by
  funext x
  have e : k0_off23 i 0 = 3136 * wid i := (congrFun (Gen.k0_off23_eq i) 0).trans (by unfold wid; show 6272 * (i 1).val + 3136 * (i 0).val = _; omega)
  have hx : (Rect.unit (s := S602112) (k0_off23 i) S3136.size (k0_off23_inb i)).emb x
      = i1 (n := 602112) ⟨3136 * wid i + (i1v x).val, by have := wid_lt i; have := (i1v x).isLt; omega⟩ := by
    funext a
    match a with
    | 0 =>
      refine Fin.ext ?_
      rw [Rect.emb_apply]
      show k0_off23 i 0 + 1 * (x 0).val = 3136 * wid i + (i1v x).val
      rw [e]; unfold i1v; omega
  show edgeG h src dst ((Rect.unit (s := S602112) (k0_off23 i) S3136.size (k0_off23_inb i)).emb x) = _
  rw [hx]
  rfl

theorem read24 (i : grid0.Coords) : (win24 i A₀).view.read (Elt F) (gamB d (gamAll h src dst) : Buf (Elt F) ((win24 i A₀).view.loc (V d (cI i) (sI i)))) = negVs i h src dst := by
  funext x
  have e : k0_off24 i 0 = 100352 + 15680 * wid i := (congrFun (Gen.k0_off24_eq i) 0).trans (by unfold wid; show 31360 * (i 1).val + 15680 * (i 0).val + 100352 = _; omega)
  have hx : (Rect.unit (s := S602112) (k0_off24 i) S15680.size (k0_off24_inb i)).emb x
      = i1 (n := 602112) ⟨100352 + 15680 * wid i + (i1v x).val, by have := wid_lt i; have := (i1v x).isLt; omega⟩ := by
    funext a
    match a with
    | 0 =>
      refine Fin.ext ?_
      rw [Rect.emb_apply]
      show k0_off24 i 0 + 1 * (x 0).val = 100352 + 15680 * wid i + (i1v x).val
      rw [e]; unfold i1v; omega
  show edgeG h src dst ((Rect.unit (s := S602112) (k0_off24 i) S15680.size (k0_off24_inb i)).emb x) = _
  rw [hx]
  rfl

theorem read25 (i : grid0.Coords) : (win25 i A₀).view.read (Elt F) (mrrB d (mrrAll h src dst) : Buf (Elt F) ((win25 i A₀).view.loc (V d (cI i) (sI i)))) = mrrV i h src dst := by
  funext x
  have e : k0_off25 i 0 = 16 * wid i := (congrFun (Gen.k0_off25_eq i) 0).trans (by unfold wid; show 32 * (i 1).val + 16 * (i 0).val = _; omega)
  have hl : (i1v x).val < 16 := (i1v x).isLt
  have hw := wid_lt i
  have hx : (Rect.unit (s := S512) (k0_off25 i) S16.size (k0_off25_inb i)).emb x
      = i1 (n := 512) ⟨16 * wid i + (i1v x).val, by omega⟩ := by
    funext a
    match a with
    | 0 =>
      refine Fin.ext ?_
      rw [Rect.emb_apply]
      show k0_off25 i 0 + 1 * (x 0).val = 16 * wid i + (i1v x).val
      rw [e]; unfold i1v; omega
  show mrrAll h src dst ((Rect.unit (s := S512) (k0_off25 i) S16.size (k0_off25_inb i)).emb x) = _
  rw [hx]
  have e1 : (⟨(16 * wid i + (i1v x).val) / 16, by omega⟩ : Fin 32) = ⟨wid i, hw⟩ := Fin.ext (by show (16 * wid i + (i1v x).val) / 16 = wid i; omega)
  have e2 : (i1 ⟨(16 * wid i + (i1v x).val) % 16, Nat.mod_lt _ (by decide)⟩ : S16.Idx) = x := by
    refine Eq.trans ?_ (i1_eta (n := 16) x)
    exact congrArg i1 (Fin.ext (by show (16 * wid i + (i1v x).val) % 16 = (i1v x).val; omega))
  show mrrV (tileOf ⟨(16 * wid i + (i1v x).val) / 16, _⟩) h src dst (i1 ⟨(16 * wid i + (i1v x).val) % 16, _⟩) = _
  rw [e2, e1, tileOf_wid]

theorem part23 (i : grid0.Coords) : (Part (F := F) d (cI i) (sI i) (win23 i A₀) (posV i h src dst) : sProp 𝕄)
    ⊢ (gamLoc d ↦[(win23 i A₀).view.set]{fullShare} gamB d (gamAll h src dst)) := by
  unfold Part
  iintro ⟨%f, %hf, H⟩
  ihave H := (Entails.of_eq (pointsTo_congr (eq_on_set d (cI i) (sI i) (hf.trans (read23 d h src dst i).symm)))) $$ H
  iexact H
theorem part24 (i : grid0.Coords) : (Part (F := F) d (cI i) (sI i) (win24 i A₀) (negVs i h src dst) : sProp 𝕄)
    ⊢ (gamLoc d ↦[(win24 i A₀).view.set]{fullShare} gamB d (gamAll h src dst)) := by
  unfold Part
  iintro ⟨%f, %hf, H⟩
  ihave H := (Entails.of_eq (pointsTo_congr (eq_on_set d (cI i) (sI i) (hf.trans (read24 d h src dst i).symm)))) $$ H
  iexact H
theorem part25 (i : grid0.Coords) : (Part (F := F) d (cI i) (sI i) (win25 i A₀) (mrrV i h src dst) : sProp 𝕄)
    ⊢ (mrrLoc d ↦[(win25 i A₀).view.set]{fullShare} mrrB d (mrrAll h src dst)) := by
  unfold Part
  iintro ⟨%f, %hf, H⟩
  ihave H := (Entails.of_eq (pointsTo_congr (eq_on_set d (cI i) (sI i) (hf.trans (read25 d h src dst i).symm)))) $$ H
  iexact H

theorem any23 (i : grid0.Coords) (f : Buf (Elt F) (gamLoc d)) : (gamLoc d ↦[(win23 i A₀).view.set]{fullShare} f : sProp 𝕄)
    ⊢ iprop(∃ Y, Part (F := F) d (cI i) (sI i) (win23 i A₀) Y) := by
  unfold Part
  iintro H
  iexists _, f
  isplitr; · ipureintro; rfl
  iexact H
theorem any24 (i : grid0.Coords) (f : Buf (Elt F) (gamLoc d)) : (gamLoc d ↦[(win24 i A₀).view.set]{fullShare} f : sProp 𝕄)
    ⊢ iprop(∃ Y, Part (F := F) d (cI i) (sI i) (win24 i A₀) Y) := by
  unfold Part
  iintro H
  iexists _, f
  isplitr; · ipureintro; rfl
  iexact H
theorem any25 (i : grid0.Coords) (f : Buf (Elt F) (mrrLoc d)) : (mrrLoc d ↦[(win25 i A₀).view.set]{fullShare} f : sProp 𝕄)
    ⊢ iprop(∃ Y, Part (F := F) d (cI i) (sI i) (win25 i A₀) Y) := by
  unfold Part
  iintro H
  iexists _, f
  isplitr; · ipureintro; rfl
  iexact H

/-! ## Dealing and taking back -/

/-- What stays behind while the tiles run. -/
def kept : sProp 𝕄 :=
  iprop((hLoc d ↦{peel 32} hB d h) ∗ (srcLoc d ↦{peel 32} srcB d src) ∗ (dstLoc d ↦{peel 32} dstB d dst))

theorem shares (ℓ : Loc nD τ sig) (f : Buf (Elt F) ℓ) :
    (ℓ ↦{fullShare} f : sProp 𝕄) = iprop((bigSep Finset.univ fun w : Fin 32 => ℓ ↦{tq (wid (tileOf w))} f) ∗ ℓ ↦{peel 32} f) := by
  rw [peel_split ℓ f 32]
  refine congrArg (fun X : sProp 𝕄 => iprop(X ∗ ℓ ↦{peel 32} f)) ?_
  refine (Ring.bigSep_fin_eq_range 32 _ (fun k => (ℓ ↦{tq k} f : sProp 𝕄)) fun t ht => ?_).symm
  show (ℓ ↦{tq t} f : sProp 𝕄) = ℓ ↦{tq (wid (tileOf ⟨t, ht⟩))} f
  rw [wid_tileOf]

theorem deal (fg : Buf (Elt F) (gamLoc d)) (fm : Buf (Elt F) (mrrLoc d)) :
    iprop((hLoc d ↦{fullShare} hB d h) ∗ (srcLoc d ↦{fullShare} srcB d src) ∗ (dstLoc d ↦{fullShare} dstB d dst)
        ∗ (gamLoc d ↦{fullShare} fg) ∗ (mrrLoc d ↦{fullShare} fm))
      ⊢ (iprop((bigSep Finset.univ fun c : Fin 2 => bigSep Finset.univ fun s : Fin 16 => goT d (coordsV c s) h src dst (tq (wid (coordsV c s)))) ∗ kept d h src dst) : sProp 𝕄) := by
  rw [tiles_bigSep (fun i => goT d i h src dst (tq (wid i)))]
  unfold goT kept
  rw [bigSep_sep', bigSep_sep', bigSep_sep', bigSep_sep', bigSep_sep',
    shares (hLoc d), shares (srcLoc d), shares (dstLoc d), gam_parts, mrr_parts]
  iintro ⟨⟨H, H'⟩, ⟨S, S'⟩, ⟨D, D'⟩, ⟨G, G'⟩, M⟩
  isplitl [H S D G G' M]
  · isplitl [H]; · iexact H
    isplitl [S]; · iexact S
    isplitl [D]; · iexact D
    isplitl [G]; · iapply (monoU fun w => any23 d (tileOf w) fg); iexact G
    isplitl [G']; · iapply (monoU fun w => any24 d (tileOf w) fg); iexact G'
    iapply (monoU fun w => any25 d (tileOf w) fm); iexact M
  isplitl [H']; · iexact H'
  isplitl [S']; · iexact S'
  iexact D'

theorem take :
    iprop((bigSep Finset.univ fun c : Fin 2 => bigSep Finset.univ fun s : Fin 16 => tdT d (coordsV c s) h src dst (tq (wid (coordsV c s)))) ∗ kept d h src dst)
      ⊢ (iprop((hLoc d ↦{fullShare} hB d h) ∗ (srcLoc d ↦{fullShare} srcB d src) ∗ (dstLoc d ↦{fullShare} dstB d dst)
        ∗ (gamLoc d ↦{fullShare} gamB d (gamAll h src dst)) ∗ (mrrLoc d ↦{fullShare} mrrB d (mrrAll h src dst))) : sProp 𝕄) := by
  rw [tiles_bigSep (fun i => tdT d i h src dst (tq (wid i)))]
  unfold tdT kept
  rw [bigSep_sep', bigSep_sep', bigSep_sep', bigSep_sep', bigSep_sep',
    shares (hLoc d), shares (srcLoc d), shares (dstLoc d), gam_parts, mrr_parts]
  iintro ⟨⟨H, S, D, G, G', M⟩, H', S', D'⟩
  isplitl [H H']
  · isplitl [H]; · iexact H
    iexact H'
  isplitl [S S']
  · isplitl [S]; · iexact S
    iexact S'
  isplitl [D D']
  · isplitl [D]; · iexact D
    iexact D'
  isplitl [G G']
  · isplitl [G]; · iapply (monoU fun w => part23 d h src dst (tileOf w)); iexact G
    iapply (monoU fun w => part24 d h src dst (tileOf w)); iexact G'
  iapply (monoU fun w => part25 d h src dst (tileOf w)); iexact M

end Cert.Tile
-- ==== Proof.Host.lean ====
/-
  The host's operations around the two calls, and what they leave.
-/
module

public import proofs.«01_k».proof.Proof.Region
public import proofs.«01_k».proof.Proof.Deal

@[expose] public section

set_option maxRecDepth 16384

noncomputable section

namespace Cert.Tile

open Cert.KernelIdeal Idealize.ShloMosaic Idealize.ShloMosaic.StableHlo
open Idealize.ShloMosaic.TcCoe
open Idealize.SL.Sem
open Facts₀ Facts

variable {F : FTy → Type} [FloatOps F]

/-- What the host does before the kernel call: the two lists of row numbers, padded to the tiles' whole windows. -/
abbrev opsA : List (HloOp τ sig (Elt F)) :=
  [ nullary main_c (constantI S_ 32 0#32),
    TRef.unary (.of (T := ⟨S_, .i32⟩) main_c) main_call0.v0 id,
    TRef.binary (.of (T := ⟨S100000, .i32⟩) main_arg1) main_call0.v0 main_call0.v1 (fun x v => pad S100352 ![0] ![352] ![0] x v pads_S100000_S100352_03520 h_S_),
    nullary main_c_0 (constantI S_ 32 0#32),
    TRef.unary (.of (T := ⟨S_, .i32⟩) main_c_0) main_call1.v0 id,
    TRef.binary (.of (T := ⟨S500000, .i32⟩) main_arg3) main_call1.v0 main_call1.v1 (fun x v => pad S501760 ![0] ![1760] ![0] x v pads_S500000_S501760_017600 h_S_),
    binary main_v0 main_v1 main_v2 ((fun a b => concatenate S602112 0 [⟨S100352, a⟩, ⟨S501760, b⟩] concatenates_S100352_S501760_S602112_d0) : (⟨S100352, .i32⟩ : BufTy).Contents (Elt F) → (⟨S501760, .i32⟩ : BufTy).Contents (Elt F) → (⟨S602112, .i32⟩ : BufTy).Contents (Elt F)),
    nullary main_c_1 (constantI S_ 32 0#32),
    TRef.unary (.of (T := ⟨S_, .i32⟩) main_c_1) main_call2.v0 id,
    TRef.binary (.of (T := ⟨S100000, .i32⟩) main_arg2) main_call2.v0 main_call2.v1 (fun x v => pad S100352 ![0] ![352] ![0] x v pads_S100000_S100352_03520 h_S_),
    nullary main_c_2 (constantI S_ 32 0#32),
    TRef.unary (.of (T := ⟨S_, .i32⟩) main_c_2) main_call3.v0 id,
    TRef.binary (.of (T := ⟨S500000, .i32⟩) main_arg4) main_call3.v0 main_call3.v1 (fun x v => pad S501760 ![0] ![1760] ![0] x v pads_S500000_S501760_017600 h_S_),
    binary main_v3 main_v4 main_v5 ((fun a b => concatenate S602112 0 [⟨S100352, a⟩, ⟨S501760, b⟩] concatenates_S100352_S501760_S602112_d0) : (⟨S100352, .i32⟩ : BufTy).Contents (Elt F) → (⟨S501760, .i32⟩ : BufTy).Contents (Elt F) → (⟨S602112, .i32⟩ : BufTy).Contents (Elt F)) ]

/-- Between the two calls: the tiles' results cut at the end of the true links and laid out by rows of 128. -/
abbrev opsB : List (HloOp τ sig (Elt F)) :=
  [ unary main_v6_0 main_v7 ((extractStridedSlice S100352 ![0] · slices_S602112_S100352_0) : (⟨S602112, .f32⟩ : BufTy).Contents (Elt F) → (⟨S100352, .f32⟩ : BufTy).Contents (Elt F)),
    reshape main_v7 main_v8 (rfl : (.f32 : EltTy) = .f32) shapeCasts_S100352_S784x128,
    unary main_v6_0 main_v9 ((extractStridedSlice S501760 ![100352] · slices_S602112_S501760_100352) : (⟨S602112, .f32⟩ : BufTy).Contents (Elt F) → (⟨S501760, .f32⟩ : BufTy).Contents (Elt F)),
    reshape main_v9 main_v10 (rfl : (.f32 : EltTy) = .f32) shapeCasts_S501760_S3920x128,
    reshape main_v6_1 main_v11 (rfl : (.f32 : EltTy) = .f32) shapeCasts_S512_S4x128 ]

/-- After the second call: the two results taken out. -/
abbrev opsC : List (HloOp τ sig (Elt F)) :=
  [ unary main_v12 main_v13 ((extractStridedSlice S1x1 ![0, 0] · slices_S2x128_S1x1_0_0) : (⟨S2x128, .f32⟩ : BufTy).Contents (Elt F) → (⟨S1x1, .f32⟩ : BufTy).Contents (Elt F)),
    reshape main_v13 main_v14 (rfl : (.f32 : EltTy) = .f32) shapeCasts_S1x1_S_,
    unary main_v12 main_v15 ((extractStridedSlice S1x1 ![1, 0] · slices_S2x128_S1x1_1_0) : (⟨S2x128, .f32⟩ : BufTy).Contents (Elt F) → (⟨S1x1, .f32⟩ : BufTy).Contents (Elt F)),
    reshape main_v15 main_v16 (rfl : (.f32 : EltTy) = .f32) shapeCasts_S1x1_S_ ]

/-- The row numbers of one end of every link: the true links', the false links', each padded with zeros. -/
def ends (p : IVec S100000 32) (n : IVec S500000 32) : IVec S602112 32 :=
  concatenate S602112 0
    [⟨S100352, pad S100352 ![0] ![352] ![0] p (constantI S_ 32 0#32) pads_S100000_S100352_03520 h_S_⟩,
     ⟨S501760, pad S501760 ![0] ![1760] ![0] n (constantI S_ 32 0#32) pads_S500000_S501760_017600 h_S_⟩] concatenates_S100352_S501760_S602112_d0

/-- The true links' values by rows of 128, out of the tiles' results. -/
def posRows (g : Vec F S602112 .f32) : Vec F S784x128 .f32 :=
  shapeCast S784x128 (extractStridedSlice S100352 ![0] g slices_S602112_S100352_0) shapeCasts_S100352_S784x128
/-- The false links' values by rows of 128. -/
def negRows (g : Vec F S602112 .f32) : Vec F S3920x128 .f32 :=
  shapeCast S3920x128 (extractStridedSlice S501760 ![100352] g slices_S602112_S501760_100352) shapeCasts_S501760_S3920x128
/-- The tiles' reciprocal ranks by rows of 128. -/
def rankRows (r : Vec F S512 .f32) : Vec F S4x128 .f32 := shapeCast S4x128 r shapeCasts_S512_S4x128
/-- The loss, out of the step's result. -/
def lossOf (o : Vec F S2x128 .f32) : Vec F S_ .f32 :=
  shapeCast S_ (extractStridedSlice S1x1 ![0, 0] o slices_S2x128_S1x1_0_0) shapeCasts_S1x1_S_
/-- The mean reciprocal rank, out of the step's result. -/
def mrrOf (o : Vec F S2x128 .f32) : Vec F S_ .f32 :=
  shapeCast S_ (extractStridedSlice S1x1 ![1, 0] o slices_S2x128_S1x1_1_0) shapeCasts_S1x1_S_

section

variable (V : Valuation τ sig (Elt F))

theorem A_src : after opsA V main_v2 = ends (V main_arg1) (V main_arg3) := by
  simp only [opsA, TRef.binary, TRef.unary, TRef.toBuf, TRef.ofBuf, cast_eq]; after_results_simp <;> rfl
theorem A_dst : after opsA V main_v5 = ends (V main_arg2) (V main_arg4) := by
  simp only [opsA, TRef.binary, TRef.unary, TRef.toBuf, TRef.ofBuf, cast_eq]; after_results_simp <;> rfl

theorem B_pos : after opsB V main_v8 = posRows (V main_v6_0) := by after_results_simp <;> rfl
theorem B_neg : after opsB V main_v10 = negRows (V main_v6_0) := by after_results_simp <;> rfl
theorem B_rank : after opsB V main_v11 = rankRows (V main_v6_1) := by after_results_simp <;> rfl

theorem C_loss : after opsC V main_v14 = lossOf (V main_v12) := by after_results_simp <;> rfl
theorem C_mrr : after opsC V main_v16 = mrrOf (V main_v12) := by after_results_simp <;> rfl

/-- The arrays the program is given, which no operation writes. -/
def IsArg (r : Ref sig .tc) : Prop := r = main_arg0 ∨ r = main_arg1 ∨ r = main_arg2 ∨ r = main_arg3 ∨ r = main_arg4

theorem A_arg {r : Ref sig .tc} (hr : IsArg r) : after opsA V r = V r := by
  rcases hr with rfl | rfl | rfl | rfl | rfl <;>
  · simp only [opsA, TRef.binary, TRef.unary, TRef.toBuf, TRef.ofBuf, cast_eq]; after_results_simp
theorem B_arg {r : Ref sig .tc} (hr : IsArg r) : after opsB V r = V r := by
  rcases hr with rfl | rfl | rfl | rfl | rfl <;> after_results_simp
theorem C_arg {r : Ref sig .tc} (hr : IsArg r) : after opsC V r = V r := by
  rcases hr with rfl | rfl | rfl | rfl | rfl <;> after_results_simp

end

theorem A_sub : ∀ op ∈ (opsA : List (HloOp τ sig (Elt F))), op.bufs ⊆ Pipeline.ucRefs τ sig := fun op h =>
  Pipeline.sub_ucRefs op ((List.forall_iff_forall_mem.mp (show (opsA : List (HloOp τ sig (Elt F))).Forall fun op => op.bufs ⊆ tcRefs τ sig from by
    refine ⟨?_, ?_, ?_, ?_, ?_, ?_, ?_, ?_, ?_, ?_, ?_, ?_, ?_, ?_⟩ <;> simp [TRef.unary, TRef.binary])) op h)
theorem B_sub : ∀ op ∈ (opsB : List (HloOp τ sig (Elt F))), op.bufs ⊆ Pipeline.ucRefs τ sig := fun op h =>
  Pipeline.sub_ucRefs op ((List.forall_iff_forall_mem.mp (show (opsB : List (HloOp τ sig (Elt F))).Forall fun op => op.bufs ⊆ tcRefs τ sig from by
    refine ⟨?_, ?_, ?_, ?_, ?_⟩ <;> simp)) op h)
theorem C_sub : ∀ op ∈ (opsC : List (HloOp τ sig (Elt F))), op.bufs ⊆ Pipeline.ucRefs τ sig := fun op h =>
  Pipeline.sub_ucRefs op ((List.forall_iff_forall_mem.mp (show (opsC : List (HloOp τ sig (Elt F))).Forall fun op => op.bufs ⊆ tcRefs τ sig from by
    refine ⟨?_, ?_, ?_, ?_⟩ <;> simp)) op h)

theorem A_fresh : ∀ op ∈ (opsA : List (HloOp τ sig (Elt F))), op.fresh = ∅ := by
  simp only [List.mem_cons, List.not_mem_nil]; rintro op (rfl | rfl | rfl | rfl | rfl | rfl | rfl | rfl | rfl | rfl | rfl | rfl | rfl | rfl | h) <;> first | rfl | exact h.elim
theorem B_fresh : ∀ op ∈ (opsB : List (HloOp τ sig (Elt F))), op.fresh = ∅ := by
  simp only [List.mem_cons, List.not_mem_nil]; rintro op (rfl | rfl | rfl | rfl | rfl | h) <;> first | rfl | exact h.elim
theorem C_fresh : ∀ op ∈ (opsC : List (HloOp τ sig (Elt F))), op.fresh = ∅ := by
  simp only [List.mem_cons, List.not_mem_nil]; rintro op (rfl | rfl | rfl | rfl | h) <;> first | rfl | exact h.elim

/-- The program: the host's operations, the kernel's call, more, the TensorCore's step, more. -/
theorem main_eq (d : Dev nD) : main (F := F) d = seqK opsA ((K (F := F)).run d 0 >>= fun _ => seqK opsB
    (Prog.lift (.customCall (SparseCore.inner (Pipeline.entry 0)) ()) >>= fun _ => seqK opsC (pure ⟨⟩))) := rfl

end Cert.Tile
-- ==== Proof.Step.lean ====
/-
  The TensorCore's step as one call of the host program.
-/
module

public import proofs.«01_k».proof.Proof.Host

@[expose] public section

set_option maxRecDepth 16384

noncomputable section

namespace Cert.Tile

open Cert.KernelIdeal Idealize.ShloMosaic
open Idealize.ShloMosaic.TcCoe
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig (HIx 1) (Elt F) ℕ UU ℕ

/-- The contents `V` with the step's result in place. -/
def stepped (V : Valuation τ sig (Elt F)) : Valuation τ sig (Elt F) :=
  Function.update V (Proc.devRef .tc main_v12) (outs (V main_v8) (V main_v10) (V main_v11))

theorem stepped_out (V : Valuation τ sig (Elt F)) : stepped V main_v12 = outs (V main_v8) (V main_v10) (V main_v11) := Function.update_self ..
theorem stepped_ne (V : Valuation τ sig (Elt F)) {r : Ref sig .tc} (h : r ≠ main_v12) : stepped V r = V r :=
  Function.update_of_ne (StableHlo.devRef_ne_of_ne h) ..

theorem whole_3 : win1_3.WholeAt Gen.t1_0 := by decide +kernel

variable (W : Dev nD → Valuation τ sig (Elt F))

theorem arr_end (c : Dev nD) (w : Fin 4) : (dat W c).arrAt w cfg1.N = stepped (W c) (Proc.devRef .tc (Pipeline.arrRef spec1 w)) := by
  fin_cases w
  · exact ((dat W c).arrAt_in 0 rfl _).trans (stepped_ne (W c) (r := main_v8) (by decide)).symm
  · exact ((dat W c).arrAt_in 1 rfl _).trans (stepped_ne (W c) (r := main_v10) (by decide)).symm
  · exact ((dat W c).arrAt_in 2 rfl _).trans (stepped_ne (W c) (r := main_v11) (by decide)).symm
  · refine ((dat W c).arrAt_eq_of_after_last 3 Gen.t1_0 whole_3 (outs (W c main_v8) (W c main_v10) (W c main_v11)) (fun j => rfl)).trans (stepped_out (W c)).symm

abbrev adm (p : Fin 1) : ((pcfgs (F := F)) p).Adm := (cfgs p).toPCfg_adm

/-- The step's region: entered with its four arrays at `W`, left with its result in place. -/
def region : Pipeline.RegionSeg (pcfgs (F := F)) adm (pdats W) (none : HIx 1) defs₀ 𝒱₀ (K (F := F)).L (K (F := F)).lev 0 :=
  Pipeline.RegionSeg.ofHeld (pcfgs (F := F)) adm (pdats W) (none : HIx 1) defs₀ 𝒱₀ (K (F := F)).L (K (F := F)).lev 0
    (fun c => (K (F := F)).Otc c 1) (fun _ => iprop(emp)) (fun _ => iprop(emp)) Gen.launch1.toP rfl (fun c => (body_ok W c).loose)
    (fun _ _ => rfl) (fun _ => rfl) (fun c => (pdats W 0 c).share_full fun _ => rfl)
    (fun c => by
      rw [show (pdats W 0 c).Φ 0 = Pipeline.scopedRest spec1 c from rfl]
      iintro ⟨H, -⟩; iexact H)
    (fun c => by
      rw [show (pdats W 0 c).Φ (Fin.last _) = Pipeline.scopedRest spec1 c from rfl]
      iintro H
      isplitl [H]; · iexact H
      iempintro)
    (fun _ => 0)
    { hι := fun _ _ _ => Finset.mem_univ _
      hιb := fun _ _ _ => le_rfl
      hD := fun c g i h => ⟨Finset.mem_univ _, by have := (K (F := F)).lev_of_Otc_pos h; omega⟩ }
    (fun _ => iprop(emp)) W (fun c => stepped (W c)) (fun _ _ => rfl) (fun c w => arr_end W c w)

/-- What the launch hands the TensorCore of `c` for the step. -/
def ghost (c : Dev nD) : sProp 𝕄 :=
  iprop(Pipeline.cellsGhost (Pipeline.pin (pcfgs (F := F)) adm) EP 0 c ∗ Pipeline.toksInit (Pipeline.pin (pcfgs (F := F)) adm) EP 0 c)

/-- The TensorCore's thread around the step: the step's arrays at `V`, and what it owes. -/
def around (c : Dev nD) (V : Valuation τ sig (Elt F)) : sProp 𝕄 :=
  iprop(StableHlo.held (c.tc : Thread nD τ) (Pipeline.arrRefs spec1) V ∗ emp ∗ emp ∗ ∃ Wd, owes (c : Thread nD τ) ((K (F := F)).Otc c 1) Wd)

theorem region_pre (c : Dev nD) : (region W).pre c = around c (W c) := rfl
theorem region_post (c : Dev nD) : (region W).post c = around c (stepped (W c)) := rfl

theorem shuffle (b A L C T B w : sProp 𝕄) (h : iprop(b ∗ B) ⊢ w) : iprop(b ∗ A ∗ L ∗ C ∗ T) ⊢ iprop((b ∗ B -∗ w) ∗ b ∗ A ∗ L ∗ C ∗ T) := by
  iintro ⟨Hb, Hh, HL, Hc, Ht⟩
  isplitr [Hb Hh HL Hc Ht]
  · iintro H
    iapply h
    iexact H
  isplitl [Hb]; · iexact Hb
  isplitl [Hh]; · iexact Hh
  isplitl [HL]; · iexact HL
  isplitl [Hc]; · iexact Hc
  iexact Ht

/-- The step as its own definitions run it. -/
theorem step_inner (c : Dev nD) (V : Valuation τ sig (Elt F)) :
    iprop(boundary (c.tc : Thread nD τ) ∗ around c V ∗ levAts (K (F := F)).L (K (F := F)).lev ∗ ghost c)
      ⊢ wp frame (wpE (D (F := F)) 𝒱 (c.tc : Thread nD τ) none) Set.univ (.op (.customCall (Pipeline.entry 0) ()) fun _ => .ret PUnit.unit)
          fun _ => (iprop(boundary (c.tc : Thread nD τ) ∗ around c (stepped V)) : sProp 𝕄) := by
  have h := Pipeline.RegionSeg.wp (pcfgs (F := F)) adm (pdats fun _ => V) (none : HIx 1) Gen.cellOf_inj EP defs₀ 𝒱₀ (K (F := F)).L (K (F := F)).lev
    (region fun _ => V) c none (fun _ h => by cases h) (fun _ => .ret PUnit.unit)
    (fun _ => (iprop(boundary (c.tc : Thread nD τ) ∗ around c (stepped V)) : sProp 𝕄))
  rw [region_pre, region_post] at h
  refine BI.Entails.trans ?_ h
  refine shuffle _ _ _ _ _ _ _ ?_
  rw [wp_ret]
  exact fupd_intro

/-- The step called: its result's array is written, the arrays it reads are as they were. -/
theorem step_call (c : Dev nD) (V : Valuation τ sig (Elt F)) :
    iprop(boundary (c.tc : Thread nD τ) ∗ around c V ∗ levAts (K (F := F)).L (K (F := F)).lev ∗ ghost c)
      ⊢ wp frame (wpE ((K (F := F)).defs (D (F := F))) 𝒱 (c.tc : Thread nD τ) none) Set.univ (Prog.lift (.customCall (SparseCore.inner (Pipeline.entry 0)) ()))
          fun _ => (iprop(boundary (c.tc : Thread nD τ) ∗ around c (stepped V)) : sProp 𝕄) :=
  BI.Entails.trans (step_inner c V)
    ((K (F := F)).wp_liftProg (D (F := F)) 𝒱 (c.tc : Thread nD τ) Set.univ none (.op (.customCall (Pipeline.entry 0) ()) fun _ => .ret PUnit.unit) _)

end Cert.Tile
-- ==== Proof.Call.lean ====
/-
  The kernel call's obligations.
-/
module

public import proofs.«01_k».proof.Proof.Deal

@[expose] public section

set_option maxRecDepth 16384

noncomputable section

namespace Cert.Tile

open Cert.KernelIdeal Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "𝕄" => MT nD τ sig (HIx 1) (Elt F) ℕ UU ℕ

section Storable

variable (d : Dev nD) (i : grid0.Coords) (h : Vec F S100000x128 .f32) (src dst : IVec S602112 32) (q : PosShare TreeShare)

instance part_storable {sp : Space} {sh : Shape} {e : EltTy} (c : Fin τ.nSC) (s : Fin τ.nSub) (m : Memref sig .scVector sp sh e) (X : sh.Idx → Elt F e) :
    BI.Storable (upEmb : UEmb _ 𝕄) (Part (F := F) d c s m X) := by
  unfold Part; infer_instance
instance go_storable : BI.Storable (upEmb : UEmb _ 𝕄) (goT d i h src dst q) := by unfold goT; infer_instance
instance td_storable : BI.Storable (upEmb : UEmb _ 𝕄) (tdT d i h src dst q) := by unfold tdT; infer_instance

end Storable

/-- The contents of the three arrays the tiles read, when the call starts. -/
structure Ins (F : FTy → Type) [FloatOps F] where
  h : Dev nD → Vec F S100000x128 .f32
  src : Dev nD → IVec S602112 32
  dst : Dev nD → IVec S602112 32

variable (I : Ins F)

abbrev Ins.go (I : Ins F) (d : Dev nD) (c : Fin 2) (s : Fin 16) : sProp 𝕄 := goT d (coordsV c s) (I.h d) (I.src d) (I.dst d) (tq (wid (coordsV c s)))
abbrev Ins.td (I : Ins F) (d : Dev nD) (c : Fin 2) (s : Fin 16) : sProp 𝕄 := tdT d (coordsV c s) (I.h d) (I.src d) (I.dst d) (tq (wid (coordsV c s)))

/-- What the call's handshakes carry. -/
def P : (K (F := F)).Pay (nD := nD) (Val := Elt F) (Name := ℕ) (U := UU) where
  st := fun q d c => match q with | 0 => bigSep Finset.univ fun s : Fin 16 => I.go d c s
  dn := fun q d c => match q with | 0 => bigSep Finset.univ fun s : Fin 16 => I.td d c s
  go := fun q d c s => match q with | 0 => I.go d c s
  td := fun q d c s => match q with | 0 => I.td d c s
  x := fun _ _ => iprop(emp)

theorem st_storable (d : Dev nD) (c : Fin 2) : BI.Storable (upEmb : UEmb _ 𝕄) (bigSep Finset.univ fun s : Fin 16 => I.go d c s) :=
  haveI := fun s : Fin 16 => go_storable (F := F) d (coordsV c s) (I.h d) (I.src d) (I.dst d) (tq (wid (coordsV c s)))
  BI.Storable.bigSep _ _ _
theorem dn_storable (d : Dev nD) (c : Fin 2) : BI.Storable (upEmb : UEmb _ 𝕄) (bigSep Finset.univ fun s : Fin 16 => I.td d c s) :=
  haveI := fun s : Fin 16 => td_storable (F := F) d (coordsV c s) (I.h d) (I.src d) (I.dst d) (tq (wid (coordsV c s)))
  BI.Storable.bigSep _ _ _

instance P_storable : (P (F := F) I).IsStorable where
  st q d c := match q with
    | 0 => st_storable I d c
  dn q d c := match q with
    | 0 => dn_storable I d c
  go q d c s := match q with
    | 0 => (inferInstance : BI.Storable (upEmb : UEmb _ 𝕄) (I.go d c s))
  td q d c s := match q with
    | 0 => (inferInstance : BI.Storable (upEmb : UEmb _ 𝕄) (I.td d c s))

/-- The indices name rows of the table. -/
structure Ins.Ok (I : Ins F) : Prop where
  src : ∀ d j, (I.src d j).toNat < 100000
  dst : ∀ d j, (I.dst d j).toNat < 100000

theorem defs₀_vector (c : Fin τ.nSC) (s : Fin τ.nSub) :
    defs₀ (F := F) (.scVector c s) 0 ()
      = SparseCore.onTile hcore0 hsub0 (fun c s => cc0__sc_body (F := F) (coordsV c s) (Memref.whole main_arg0_scv) (Memref.isWhole_whole _) (Memref.whole main_v2_scv) (Memref.isWhole_whole _)
            (Memref.whole main_v5_scv) (Memref.isWhole_whole _) (Memref.whole main_v6_0_scv) (Memref.isWhole_whole _) (Memref.whole main_v6_1_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _)
            (Memref.whole cc0_scratch15) (Memref.isWhole_whole _) (Memref.whole cc0_scratch16) (Memref.isWhole_whole _) (Memref.whole cc0_scratch17) (Memref.isWhole_whole _)
            cc0_scratch18 cc0_scratch19 cc0_scratch20 cc0_scratch21 cc0_scratch22 cc0_scratch23 cc0_scratch24 cc0_scratch25
            cc0_scoped0 cc0_scoped1 cc0_scoped2 cc0_scoped3 cc0_scoped4 cc0_scoped5 cc0_scoped6) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hI : I.Ok) : (K (F := F)).TileObl (D (F := F)) 𝒱 (P I) v₀ 0 := by
  intro d c i O W hO _ _
  simp only [show (P I).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (I.h d) (I.src d) (I.dst d) (tq (wid (coordsV ⟨_, hci.1⟩ ⟨_, hci.2⟩))) facts (hI.src d) (hI.dst d) O W hO).trans
    (wp_mono frame _ _ fun _ => obl_post)

theorem vecSplit : (K (F := F)).VecSplit' (P I) 0 := by
  intro d c
  show (bigSep Finset.univ fun s : Fin 16 => I.go d c s) ⊢ |={Set.univ}=> iprop(
      (bigSep Finset.univ fun s : Fin 16 => I.go d c s)
      ∗ ((bigSep Finset.univ fun s : Fin 16 => I.td d c s) -∗ (bigSep Finset.univ fun s : Fin 16 => I.td d c s)))
  iintro H; imodintro
  isplitl [H]; · iexact H
  iintro H
  iexact H

end Cert.Tile
-- ==== Proof.Steps.lean ====
/-
  The two calls of the host program, each as a step from all the host's arrays to all of them.
-/
module

public import proofs.«01_k».proof.Proof.Step
public import proofs.«01_k».proof.Proof.Call

@[expose] public section

set_option maxRecDepth 16384

noncomputable section

namespace Cert.Tile

open Cert.KernelIdeal Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig (HIx 1) (Elt F) ℕ UU ℕ

/-- All the host's arrays of device `d`, at `V`. -/
abbrev all (d : Dev nD) (V : Valuation τ sig (Elt F)) : sProp 𝕄 := StableHlo.held (d.tc : Thread nD τ) (Pipeline.ucRefs τ sig) V

/-- The five arrays the kernel call reads or writes. -/
def five : Finset (DevRef τ sig) :=
  ({main_arg0, main_v2, main_v5, main_v6_0, main_v6_1} : Finset (Ref sig .tc)).map ⟨Proc.devRef (sig := sig) .tc, Proc.devRef_injective _⟩

theorem sub_uc (s : Finset (Ref sig .tc)) (h : ∀ r ∈ s, r.isScoped = false) :
    s.map ⟨Proc.devRef (sig := sig) .tc, Proc.devRef_injective _⟩ ⊆ Pipeline.ucRefs τ sig := by
  intro b hb
  obtain ⟨r, hr, rfl⟩ := Finset.mem_map.mp hb
  refine Finset.mem_filter.mpr ⟨Finset.mem_map.mpr ⟨r, Finset.mem_univ _, rfl⟩, ?_⟩
  show ¬ (Proc.devRef .tc r : DevRef τ sig).isScoped = true
  have e := h r hr
  rw [show (Proc.devRef .tc r : DevRef τ sig).isScoped = r.isScoped from rfl, e]
  exact Bool.false_ne_true

theorem five_sub : five ⊆ Pipeline.ucRefs τ sig := sub_uc _ (by decide)

theorem five_eq (d : Dev nD) (V : Valuation τ sig (Elt F)) :
    (StableHlo.held (d.tc : Thread nD τ) five V : sProp 𝕄)
      = iprop((hLoc d ↦{fullShare} hB d (V main_arg0)) ∗ (srcLoc d ↦{fullShare} srcB d (V main_v2)) ∗ (dstLoc d ↦{fullShare} dstB d (V main_v5))
        ∗ (gamLoc d ↦{fullShare} gamB d (V main_v6_0)) ∗ (mrrLoc d ↦{fullShare} mrrB d (V main_v6_1))) := by
  unfold StableHlo.held five
  rw [bigSep_map, SparseCore.bigSep_insert' (by decide), SparseCore.bigSep_insert' (by decide), SparseCore.bigSep_insert' (by decide),
    SparseCore.bigSep_insert' (by decide), bigSep_singleton]
  rfl

/-- The contents `V` with the kernel call's results in place. -/
def called (V : Valuation τ sig (Elt F)) : Valuation τ sig (Elt F) :=
  Function.update (Function.update V (Proc.devRef .tc main_v6_0) (gamAll (V main_arg0) (V main_v2) (V main_v5)))
    (Proc.devRef .tc main_v6_1) (mrrAll (V main_arg0) (V main_v2) (V main_v5))

theorem called_mrr (V : Valuation τ sig (Elt F)) : called V main_v6_1 = mrrAll (V main_arg0) (V main_v2) (V main_v5) := Function.update_self ..
theorem called_gam (V : Valuation τ sig (Elt F)) : called V main_v6_0 = gamAll (V main_arg0) (V main_v2) (V main_v5) :=
  (Function.update_of_ne (StableHlo.devRef_ne_of_ne (by decide)) ..).trans (Function.update_self ..)
theorem called_ne (V : Valuation τ sig (Elt F)) {r : Ref sig .tc} (h0 : r ≠ main_v6_0) (h1 : r ≠ main_v6_1) : called V r = V r :=
  (Function.update_of_ne (StableHlo.devRef_ne_of_ne h1) ..).trans (Function.update_of_ne (StableHlo.devRef_ne_of_ne h0) ..)

theorem mem_map_tc {s : Finset (Ref sig .tc)} {r : Ref sig .tc} (h : r ∈ s) :
    (Proc.devRef .tc r : DevRef τ sig) ∈ s.map ⟨Proc.devRef (sig := sig) .tc, Proc.devRef_injective _⟩ := Finset.mem_map.mpr ⟨r, h, rfl⟩

theorem called_rest (V : Valuation τ sig (Elt F)) : ∀ b ∈ Pipeline.ucRefs τ sig \ five, V b = called V b := by
  intro b hb
  have h := (Finset.mem_sdiff.mp hb).2
  unfold called
  rw [Function.update_of_ne, Function.update_of_ne]
  · rintro rfl; exact h (mem_map_tc (by decide))
  · rintro rfl; exact h (mem_map_tc (by decide))

variable (I : Ins F)

theorem st_eq (d : Dev nD) {h : Vec F S100000x128 .f32} {src dst : IVec S602112 32} (hh : I.h d = h) (hs : I.src d = src) (hd : I.dst d = dst) :
    (bigSep Finset.univ fun c : Fin ((K (F := F)).nCore 0) => (P I).st 0 d c)
      = (bigSep Finset.univ fun c : Fin 2 => bigSep Finset.univ fun s : Fin 16 => goT d (coordsV c s) h src dst (tq (wid (coordsV c s))) : sProp 𝕄) := by
  subst hh hs hd; rfl
theorem dn_eq (d : Dev nD) {h : Vec F S100000x128 .f32} {src dst : IVec S602112 32} (hh : I.h d = h) (hs : I.src d = src) (hd : I.dst d = dst) :
    (bigSep Finset.univ fun c : Fin ((K (F := F)).nCore 0) => (P I).dn 0 d c)
      = (bigSep Finset.univ fun c : Fin 2 => bigSep Finset.univ fun s : Fin 16 => tdT d (coordsV c s) h src dst (tq (wid (coordsV c s))) : sProp 𝕄) := by
  subst hh hs hd; rfl

/-- The kernel call, from all the host's arrays. -/
theorem call_step (κ : GSem nD τ sig → ℕ) (d : Dev nD) (V : Valuation τ sig (Elt F)) (hh : I.h d = V main_arg0) (hs : I.src d = V main_v2) (hd : I.dst d = V main_v5) :
    iprop((K (F := F)).ctx EH (P I) κ ∗ (K (F := F)).tcSt EH d 0 ∗ all d V)
      ⊢ wp frame (wpE ((K (F := F)).defs (D (F := F))) 𝒱 (SparseCore.T d) none) Set.univ ((K (F := F)).run d 0)
          fun _ => iprop((K (F := F)).tcSt EH d 1 ∗ all d (called V)) := by
  unfold all
  rw [StableHlo.held_sub_split _ five_sub V, StableHlo.held_sub_split _ five_sub (called V), ← StableHlo.held_congr (c := (d.tc : Thread nD τ)) (called_rest V), five_eq, five_eq,
    called_mrr, called_gam, called_ne V (by decide) (by decide), called_ne V (by decide) (by decide), called_ne V (by decide) (by decide)]
  iintro ⟨#Hctx, Hst, Hf, Hr⟩
  ihave Hf := (deal d (V main_arg0) (V main_v2) (V main_v5) (gamB d (V main_v6_0)) (mrrB d (V main_v6_1))) $$ Hf
  icases Hf with ⟨Hgo, Hkept⟩
  iapply ((K (F := F)).wp_run (D (F := F)) 𝒱 (EH := EH) (P := P I) κ d 0) $$ [Hst Hgo Hkept Hr]
  isplitr; · iexact Hctx
  isplitl [Hst]; · iexact Hst
  isplitl [Hgo]
  · iapply (Entails.of_eq (st_eq I d hh hs hd).symm)
    iexact Hgo
  iintro ⟨Hst, Hdn⟩
  ihave Hdn := (Entails.of_eq (dn_eq I d hh hs hd)) $$ Hdn
  isplitl [Hst]; · iexact Hst
  isplitr [Hr]
  · iapply (take d (V main_arg0) (V main_v2) (V main_v5))
    isplitl [Hdn]; · iexact Hdn
    iexact Hkept
  iexact Hr

theorem arr_sub : Pipeline.arrRefs (spec1) ⊆ Pipeline.ucRefs τ sig := by
  unfold Pipeline.arrRefs
  exact sub_uc _ (by decide)

theorem stepped_rest (V : Valuation τ sig (Elt F)) : ∀ b ∈ Pipeline.ucRefs τ sig \ Pipeline.arrRefs (spec1), V b = stepped V b := by
  intro b hb
  have h := (Finset.mem_sdiff.mp hb).2
  unfold stepped
  rw [Function.update_of_ne]
  rintro rfl; exact h (mem_map_tc (by decide))

/-- What a level is at most. -/
theorem lev_le (g : GSem nD τ sig) (i : HIx 1) : (K (F := F)).lev g i ≤ 8 := by
  rcases i with _ | z
  · exact Nat.zero_le _
  · have := (K (F := F)).lev_some_le g z
    have := z.isLt
    omega

/-- The TensorCore's step, from all the host's arrays. -/
theorem tc_step (κ : GSem nD τ sig → ℕ) (d : Dev nD) (V : Valuation τ sig (Elt F)) :
    iprop((K (F := F)).ctx EH (P I) κ ∗ boundary (d.tc : Thread nD τ) ∗ (K (F := F)).tcSt EH d 1 ∗ all d V ∗ ghost d)
      ⊢ wp frame (wpE ((K (F := F)).defs (D (F := F))) 𝒱 (SparseCore.T d) none) Set.univ (Prog.lift (.customCall (SparseCore.inner (Pipeline.entry 0)) ()))
          fun _ => iprop(boundary (d.tc : Thread nD τ) ∗ (K (F := F)).tcSt EH d 1 ∗ all d (stepped V)) := by
  unfold all
  rw [StableHlo.held_sub_split _ arr_sub V, StableHlo.held_sub_split _ arr_sub (stepped V), ← StableHlo.held_congr (c := (d.tc : Thread nD τ)) (stepped_rest V)]
  unfold SparseCore.Cfg.tcSt
  iintro ⟨#Hctx, Hb, ⟨⟨%W, -, HO⟩, Ht⟩, ⟨Ha, Hr⟩, Hg⟩
  ihave Hlev := (SparseCore.Cfg.ctx_levAts κ) $$ Hctx
  iapply (wp_wand_r frame)
  isplitl [Hb HO Ha Hg]
  · iapply (step_call d V)
    isplitl [Hb]; · iexact Hb
    isplitl [HO Ha]
    · unfold around
      isplitl [Ha]; · iexact Ha
      isplitr; · iempintro
      isplitr; · iempintro
      iexists W; iexact HO
    isplitr [Hg]; · iexact Hlev
    iexact Hg
  iintro %_ ⟨Hb, Ha⟩
  unfold around
  icases Ha with ⟨Ha, -, -, %W', HO⟩
  isplitl [Hb]; · iexact Hb
  isplitl [HO Ht]
  · isplitl [HO]
    · iexists W'
      isplitr; · ipureintro; exact fun p _ => lev_le _ _
      iexact HO
    iexact Ht
  isplitl [Ha]; · iexact Ha
  iexact Hr

end Cert.Tile
-- ==== Proof.Main.lean ====
/-
  The whole program's run: what its arrays hold at the end.
-/
module

public import proofs.«01_k».proof.Proof.Steps

@[expose] public section

set_option maxRecDepth 16384

noncomputable section

namespace Cert.Tile

open Cert.KernelIdeal Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig (HIx 1) (Elt F) ℕ UU ℕ

variable (m : (ℓ : Loc nD τ sig) → Buf (Elt F) ℓ) (ρ : Dev nD → PrngReg)

/-! ## The contents of the host's arrays as the program goes -/

/-- Before the kernel call. -/
def V1 (d : Dev nD) : Valuation τ sig (Elt F) := StableHlo.after opsA (StableHlo.launchContents m d)
/-- After the kernel call. -/
def V2 (d : Dev nD) : Valuation τ sig (Elt F) := called (V1 m d)
/-- Before the TensorCore's step. -/
def V3 (d : Dev nD) : Valuation τ sig (Elt F) := StableHlo.after opsB (V2 m d)
/-- After the step. -/
def V4 (d : Dev nD) : Valuation τ sig (Elt F) := stepped (V3 m d)
/-- At the end. -/
def V5 (d : Dev nD) : Valuation τ sig (Elt F) := StableHlo.after opsC (V4 m d)

/-- An argument's contents at the launch. -/
abbrev arg (d : Dev nD) (r : Ref sig .tc) : Buf (Elt F) ((d.tc : Thread nD τ).loc r) := m ((d.tc : Thread nD τ).loc r)

/-- What the kernel call reads. -/
def ins : Ins F where
  h d := arg m d main_arg0
  src d := ends (arg m d main_arg1) (arg m d main_arg3)
  dst d := ends (arg m d main_arg2) (arg m d main_arg4)

theorem V1_h (d : Dev nD) : (ins m).h d = V1 m d main_arg0 := (A_arg (StableHlo.launchContents m d) (.inl rfl)).symm
theorem V1_src (d : Dev nD) : (ins m).src d = V1 m d main_v2 := (A_src (StableHlo.launchContents m d)).symm
theorem V1_dst (d : Dev nD) : (ins m).dst d = V1 m d main_v5 := (A_dst (StableHlo.launchContents m d)).symm

/-- The step's two rows of results on device `d`. -/
def res (d : Dev nD) : Vec F S2x128 .f32 :=
  outs (posRows (gamAll ((ins m).h d) ((ins m).src d) ((ins m).dst d))) (negRows (gamAll ((ins m).h d) ((ins m).src d) ((ins m).dst d)))
    (rankRows (mrrAll ((ins m).h d) ((ins m).src d) ((ins m).dst d)))

theorem V2_gam (d : Dev nD) : V2 m d main_v6_0 = gamAll ((ins m).h d) ((ins m).src d) ((ins m).dst d) := by
  rw [V1_h, V1_src, V1_dst]; exact called_gam _
theorem V2_mrr (d : Dev nD) : V2 m d main_v6_1 = mrrAll ((ins m).h d) ((ins m).src d) ((ins m).dst d) := by
  rw [V1_h, V1_src, V1_dst]; exact called_mrr _

theorem V4_out (d : Dev nD) : V4 m d main_v12 = res m d := by
  refine (stepped_out (V3 m d)).trans ?_
  unfold res V3
  rw [B_pos, B_neg, B_rank, V2_gam, V2_mrr]

theorem V5_loss (d : Dev nD) : V5 m d main_v14 = lossOf (res m d) := (C_loss (V4 m d)).trans (congrArg lossOf (V4_out m d))
theorem V5_mrr (d : Dev nD) : V5 m d main_v16 = mrrOf (res m d) := (C_mrr (V4 m d)).trans (congrArg mrrOf (V4_out m d))
theorem V5_arg (d : Dev nD) {r : Ref sig .tc} (hr : IsArg r) : V5 m d r = arg m d r := by
  have h0 : r ≠ main_v6_0 := by rcases hr with rfl | rfl | rfl | rfl | rfl <;> decide
  have h1 : r ≠ main_v6_1 := by rcases hr with rfl | rfl | rfl | rfl | rfl <;> decide
  have h2 : r ≠ main_v12 := by rcases hr with rfl | rfl | rfl | rfl | rfl <;> decide
  exact (C_arg _ hr).trans ((stepped_ne _ h2).trans ((B_arg _ hr).trans ((called_ne _ h0 h1).trans (A_arg _ hr))))

/-! ## The program on the TensorCore -/

theorem run_seqA (d : Dev nD) (k : Prog (TpuEff nD τ sig (Elt F) (SparseCore.Sig (ΛP (F := F)) 1) .tc) PUnit) (ops : List (HloOp τ sig (Elt F)))
    (hs : ∀ op ∈ ops, op.bufs ⊆ Pipeline.ucRefs τ sig) (hf : ∀ op ∈ ops, op.fresh = ∅) (V : Valuation τ sig (Elt F)) (Q : PUnit → sProp 𝕄) :
    iprop(boundary (d.tc : Thread nD τ) ∗ all d V)
      ⊢ iprop(((boundary (d.tc : Thread nD τ) ∗ all d (StableHlo.after ops V)) -∗ wp frame (wpE ((K (F := F)).defs (D (F := F))) 𝒱 (SparseCore.T d) none) Set.univ k Q)
          -∗ wp frame (wpE ((K (F := F)).defs (D (F := F))) 𝒱 (SparseCore.T d) none) Set.univ (StableHlo.seqK ops k) Q) := by
  rw [← StableHlo.seq_bind_seqK ops k]
  exact StableHlo.wp_seq 𝒱 none Set.univ d (Pipeline.ucRefs τ sig) (fun _ => k) ops hs hf V

/-- The program, from what the launch hands the TensorCore. -/
theorem hmain (κ : GSem nD τ sig → ℕ) (d : Dev nD) :
    iprop((K (F := F)).ctx EH (P (ins m)) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ all d (V5 m d) ∗ (K (F := F)).tcEnd d) := by
  rw [main_eq]
  unfold SparseCore.Cfg.tcRes SparseCore.Cfg.tcEnd
  rw [show (unscopedBufs d (fun b => m ((SparseCore.T d).loc b)) : sProp 𝕄) = all d (StableHlo.launchContents m d) from
    Pipeline.unscopedBufs_held d (StableHlo.launchContents m d)]
  iintro ⟨#Hctx, Hst, ⟨Hb, Hh, Hts, -⟩, Hg⟩
  iapply (run_seqA d _ opsA A_sub A_fresh (StableHlo.launchContents m d) _) $$ [Hb Hh]
  · isplitl [Hb]; · iexact Hb
    iexact Hh
  iintro ⟨Hb, Hh⟩
  rw [wp_bind]
  iapply (wp_wand_r frame)
  isplitl [Hst Hh]
  · iapply (call_step (ins m) κ d (V1 m d) (V1_h m d) (V1_src m d) (V1_dst m d))
    isplitr; · iexact Hctx
    isplitl [Hst]; · iexact Hst
    iexact Hh
  iintro %_ ⟨Hst, Hh⟩
  iapply (run_seqA d _ opsB B_sub B_fresh (V2 m d) _) $$ [Hb Hh]
  · isplitl [Hb]; · iexact Hb
    iexact Hh
  iintro ⟨Hb, Hh⟩
  rw [wp_bind]
  iapply (wp_wand_r frame)
  isplitl [Hb Hst Hh Hg]
  · iapply (tc_step (ins m) κ d (V3 m d))
    isplitr; · iexact Hctx
    isplitl [Hb]; · iexact Hb
    isplitl [Hst]; · iexact Hst
    isplitl [Hh]; · iexact Hh
    iexact Hg
  iintro %_ ⟨Hb, Hst, Hh⟩
  iapply (run_seqA d _ opsC C_sub C_fresh (V4 m d) _) $$ [Hb Hh]
  · isplitl [Hb]; · iexact Hb
    iexact Hh
  iintro ⟨Hb, Hh⟩
  rw [wp_pure]
  imodintro
  isplitl [Hst]; · iexact Hst
  isplitl [Hh]; · iexact Hh
  isplitl [Hb]; · iexact Hb
  iexact Hts

/-! ## The launch -/

/-- The ghost state the launch starts from: the handshakes', the step's, no counters. -/
def u₀ : UU :=
  (initOf (K (F := F)).hsCells (K (F := F)).hsToks,
    (initOf (Pipeline.cells (Pipeline.pin (pcfgs (F := F)) adm) Gen.cellOf_inj) (Pipeline.launchToks (Pipeline.pin (pcfgs (F := F)) adm) Gen.cellOf_inj), 1))

theorem one_p (Φ : Fin 1 → sProp 𝕄) : bigSep Finset.univ Φ = Φ 0 := bigSep_univ_of_subsingleton (0 : Fin 1)

theorem emps {J : Type} [DecidableEq J] (s : Finset J) : (bigSep s fun _ => iprop(emp)) = (iprop(emp) : sProp 𝕄) := bigSep_emp_const s
theorem one_of {J : Type} [DecidableEq J] {s : Finset J} (Φ : J → sProp 𝕄) {b : J} (hb : b ∈ s) : bigSep s Φ ⊢ Φ b := bigSep_elim hb

/-- What the step's rounds begin from, dealt to the cores. -/
theorem ghost_all :
    BI.own (((Emb.inl : Emb UP (UP × Counters)).trans (embR : Emb (UP × Counters) 𝕄)) (initOf (Pipeline.cells (Pipeline.pin (pcfgs (F := F)) adm) Gen.cellOf_inj) (Pipeline.launchToks (Pipeline.pin (pcfgs (F := F)) adm) Gen.cellOf_inj)))
      ⊢ iprop(|==> bigSep Finset.univ fun d : Dev nD => ghost (F := F) d) := by
  have h := Pipeline.fund_ghost (Ix := HIx 1) (Val := Elt F) (Name := ℕ) (U := UU) (Lvl := ℕ) (Pipeline.pin (pcfgs (F := F)) adm) EP Gen.cellOf_inj
  simp only [fun d : Dev nD => one_p (F := F) fun p => Pipeline.cellsGhost (Pipeline.pin (pcfgs (F := F)) adm) EP p d,
    fun d : Dev nD => one_p (F := F) fun p => Pipeline.toksInit (Pipeline.pin (pcfgs (F := F)) adm) EP p d] at h
  unfold ghost
  rw [bigSep_sep']
  exact h

theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P (ins m)).x q thr) := by
  unfold u₀
  iintro Hu
  ihave H := (ownU_pair (initOf (K (F := F)).hsCells (K (F := F)).hsToks) _) $$ Hu
  icases H with ⟨HH, HR⟩
  ihave HR := (own_pair_emb embR _ (1 : Counters)) $$ HR
  icases HR with ⟨HP, -⟩
  ihave HP := (ghost_all (F := F)) $$ HP
  imod HP with HP
  imodintro
  isplitl [HH]; · iexact HH
  isplitl [HP]; · iexact HP
  rw [show (bigSep Finset.univ fun thr : Thread nD τ => bigSep Finset.univ fun q : Fin 1 => (P (F := F) (ins m)).x q thr) = bigSep Finset.univ fun _ => iprop(emp) from
    bigSep_congr fun _ _ => bigSep_univ_of_subsingleton (0 : Fin 1), emps]
  iempintro

/-- What the end says of device `d`. -/
def fq (d : Dev nD) (s' : Phys nD τ sig (Elt F)) : Prop := ∀ b ∈ Pipeline.ucRefs τ sig, s'.mem.mem (d, b) = V5 m d b

theorem held_reads (d : Dev nD) (V : Valuation τ sig (Elt F)) (s' : Phys nD τ sig (Elt F)) {b : DevRef τ sig} (hb : b ∈ Pipeline.ucRefs τ sig) :
    iprop(all d V ∗ SI s') ⊢ (⌜s'.mem.mem (d, b) = V b⌝ : sProp 𝕄) := by
  unfold all StableHlo.held
  iintro ⟨Hh, HSI⟩
  ihave Hb := (one_of (fun b : DevRef τ sig => (((d, b) : Loc nD τ sig) ↦{fullShare} V b : sProp 𝕄)) hb) $$ Hh
  ihave H := (SI_pointsTo_agree (st := s') (ℓ := ((d, b) : Loc nD τ sig)) (I := Finset.univ) (q := fullShare) (f := V b)) $$ [HSI Hb]
  · isplitl [HSI] <;> iassumption
  icases H with %h
  ipureintro
  exact funext fun i => h i (Finset.mem_univ i)

theorem hfin (d : Dev nD) (s' : Phys nD τ sig (Elt F)) : iprop(all d (V5 m d) ∗ SI s') ⊢ (⌜fq m d s'⌝ : sProp 𝕄) := by
  exact (forall_intro fun b => (forall_intro fun hb => held_reads d _ s' hb).trans pure_forall.2).trans pure_forall.2

/-! ## The run -/

theorem arg_uc {r : Ref sig .tc} (h : r.isScoped = false) : (Proc.devRef .tc r : DevRef τ sig) ∈ Pipeline.ucRefs τ sig :=
  sub_uc {r} (by simpa using h) (mem_map_tc (Finset.mem_singleton_self r))

/-- How the program ends: the arguments as they were, the two results, every semaphore at zero. -/
def Ends (r : PUnit × MemSt nD τ sig (Elt F)) : Prop :=
  (∀ d : Dev nD, (∀ a, IsArg a → r.2.mem ((d.tc : Thread nD τ).loc a) = m ((d.tc : Thread nD τ).loc a))
      ∧ r.2.mem ((d.tc : Thread nD τ).loc main_v14) = lossOf (res m d) ∧ r.2.mem ((d.tc : Thread nD τ).loc main_v16) = mrrOf (res m d))
    ∧ r.2.sem = fun _ => 0

theorem run_main [∀ e, Nonempty (Elt F e)] (hI : (ins m).Ok) :
    θ_run (defs (F := F)) (threads (F := F)) ⟨m, fun _ => 0, ρ⟩ (Ends m) :=
  SparseCore.Cfg.θ_run_sc_quiescent (K := K (F := F)) (D := D (F := F)) (𝒱 := 𝒱) (EH := EH) (P := P (ins m)) (A := ∅) facts v₀
    (fun q hq => match q with | 0 => nomatch hq)
    (fun q _ => match q with | 0 => tileObl (ins m) hI)
    (fun q _ => match q with | 0 => SparseCore.Cfg.VecSplit.of_plain (vecSplit (ins m)))
    m ρ main (fun d => ghost d) (fun d => all d (V5 m d)) (u₀ (F := F)) (sep_elim_left.trans (hu₀ m)) (hmain m ρ) (fq m) (hfin m) (Ends m)
    (fun s' h hz => ⟨fun d => ⟨fun a ha => (h d _ (arg_uc (by rcases ha with rfl | rfl | rfl | rfl | rfl <;> rfl))).trans (V5_arg m d ha),
      (h d _ (arg_uc rfl)).trans (V5_loss m d), (h d _ (arg_uc rfl)).trans (V5_mrr m d)⟩, hz⟩)

end Cert.Tile
-- ==== Proof.Same.lean ====
/-
  The kernel as first captured and the kernel read with extended reals are one program text: what is proved of the second
  at any float type is proved of the first.
-/
module
public import proofs.«01_k».proof.Proof.Concrete
public import proofs.«01_k».proof.Defs
public import proofs.«01_k».proof.Proof.Gen.Kernel
@[expose] public section
set_option maxRecDepth 65536
noncomputable section
namespace Cert.Tile
open Cert.KernelIdeal Idealize.ShloMosaic
variable {F : FTy → Type} [FloatOps F]
/-- The label tables agree, label by label. -/
theorem same_defs₀ : (Cert.Kernel.defs₀ (F := F)) = Cert.KernelIdeal.defs₀ (F := F) := by
  funext p l a
  match p, l, a with
  | .scVector c s, 0, _ => rfl
  | .scVector c s, 1, _ => rfl
  | .tc, 0, _ => rfl
  | .tc, 1, (t, s) => rfl
  | .scScalar _, 0, _ => rfl
  | .scScalar _, 1, _ => rfl

theorem same_defs : (Cert.Kernel.defs (F := F)) = Cert.KernelIdeal.defs (F := F) :=
  congrArg (fun D => Cert.KernelIdeal.sc.defs (Idealize.ShloMosaic.Pipeline.defs Cert.KernelIdeal.pcfgs D)) same_defs₀

theorem same_threads : (Cert.Kernel.threads (F := F)) = Cert.KernelIdeal.threads (F := F) := rfl

end Cert.Tile
-- ==== Proof.Frames.lean ====
/-
  The programs run to their ends, nothing faulting, the arguments kept, every semaphore at zero.
-/
module

public import proofs.«01_k».proof.Proof.Main
public import proofs.«01_k».proof.Proof.Same
public import proofs.«01_k».proof.Defs
public import proofs.«01_k».proof.Proof.Gen.Kernel
public import proofs.«01_k».proof.Proof.Gen.ReferenceIdeal.Run
public import Idealize.ShloMosaic.Lib.Quiescent
public import Idealize.ShloMosaic.Lib.Pointwise.SelectCore
public import Idealize.ShloMosaic.Lib.Pointwise.ShapeOpsCore

@[expose] public section

set_option maxRecDepth 65536

noncomputable section

namespace Cert.Tile

open Cert.KernelIdeal Idealize.ShloMosaic
open Idealize.ShloMosaic.TcCoe
open Idealize.SL.Sem
open Facts₀ Facts

variable {F : FTy → Type} [FloatOps F]

instance pre_facts : Cert.Pre_indices_name_rows.Facts := ⟨by decide, by decide⟩

/-- A word that jax's test `(0 ≤ v) & (v < 100000)` passes. -/
theorem in_range (v : BitVec 32) (e : IntOp.andi (IntOp.cmpi .sge v 0#32) (IntOp.cmpi .slt v 100000#32) = 1#1) : v.toNat < 100000 := by
  have h1 : ∀ p q : Bool, IntOp.andi (BitVec.ofBool p) (BitVec.ofBool q) = BitVec.ofBool (p && q) := by decide
  have h2 : ∀ p : Bool, (BitVec.ofBool p = 1#1) ↔ p = true := by decide
  simp only [IntOp.cmpi, h1, h2, Bool.and_eq_true, BitVec.sle_eq_decide, BitVec.slt_eq_decide, decide_eq_true_eq, BitVec.toInt_eq_toNat_cond,
    BitVec.toNat_ofNat, Nat.reducePow, Nat.reduceMod] at e
  omega

/-- Padding and joining two lists of row numbers gives row numbers. -/
theorem ends_lt (p : IVec S100000 32) (n : IVec S500000 32) (hp : ∀ j, (p j).toNat < 100000) (hn : ∀ j, (n j).toNat < 100000) (j : S602112.Idx) :
    (ends p n j).toNat < 100000 := by
  refine concatenate_forall (P := fun v : BitVec 32 => v.toNat < 100000) S602112 0 _ _ (fun q hq i => ?_) j
  rcases List.mem_cons.mp hq with rfl | hq
  · show (pad S100352 ![0] ![352] ![0] p (constantI S_ 32 0#32) pads_S100000_S100352_03520 h_S_ i).toNat < 100000
    rw [pad_apply]
    split
    · exact hp _
    · exact (by decide : (0#32).toNat < 100000)
  · rcases List.mem_singleton.mp hq with rfl
    show (pad S501760 ![0] ![1760] ![0] n (constantI S_ 32 0#32) pads_S500000_S501760_017600 h_S_ i).toNat < 100000
    rw [pad_apply]
    split
    · exact hn _
    · exact (by decide : (0#32).toNat < 100000)

/-- What the range test says of the argument arrays. -/
theorem ranges {a0 : FVec F S100000x128 .f32} {a1 a2 : IVec S100000 32} {a3 a4 : IVec S500000 32}
    (h : (Cert.Pre_indices_name_rows.fn (F := F) a0 a1 a2 a3 a4).1 = (fun _ => 1#1)
      ∧ (Cert.Pre_indices_name_rows.fn (F := F) a0 a1 a2 a3 a4).2.1 = (fun _ => 1#1)
      ∧ (Cert.Pre_indices_name_rows.fn (F := F) a0 a1 a2 a3 a4).2.2.1 = (fun _ => 1#1)
      ∧ (Cert.Pre_indices_name_rows.fn (F := F) a0 a1 a2 a3 a4).2.2.2 = (fun _ => 1#1)) :
    (∀ j, (a1 j).toNat < 100000) ∧ (∀ j, (a2 j).toNat < 100000) ∧ (∀ j, (a3 j).toNat < 100000) ∧ (∀ j, (a4 j).toNat < 100000) :=
  ⟨fun j => in_range _ (congrFun h.1 j), fun j => in_range _ (congrFun h.2.1 j), fun j => in_range _ (congrFun h.2.2.1 j), fun j => in_range _ (congrFun h.2.2.2 j)⟩

/-- Argument arrays in range give the kernel call row numbers. -/
theorem ins_ok (m : (ℓ : Loc nD τ sig) → Buf (Elt F) ℓ)
    (h : ∀ d : Dev nD, (∀ j, ((arg m d main_arg1 : IVec S100000 32) j).toNat < 100000) ∧ (∀ j, ((arg m d main_arg2 : IVec S100000 32) j).toNat < 100000)
      ∧ (∀ j, ((arg m d main_arg3 : IVec S500000 32) j).toNat < 100000) ∧ (∀ j, ((arg m d main_arg4 : IVec S500000 32) j).toNat < 100000)) :
    (ins m).Ok :=
  ⟨fun d j => ends_lt _ _ (h d).1 (h d).2.2.1 j, fun d j => ends_lt _ _ (h d).2.1 (h d).2.2.2 j⟩

/-- The run keeps the arguments and returns every semaphore to zero. -/
def Kept (m : (ℓ : Loc nD τ sig) → Buf (Elt F) ℓ) (r : PUnit × MemSt nD τ sig (Elt F)) : Prop :=
  (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0

theorem run_kept [∀ e, Nonempty (Elt F e)] (m : (ℓ : Loc nD τ sig) → Buf (Elt F) ℓ) (ρ) (hI : (ins m).Ok) :
    θ_run (defs (F := F)) (threads (F := F)) ⟨m, fun _ => 0, ρ⟩ (Kept m) :=
  (θ_run (defs (F := F)) _ _).mono
    (fun _ h => ⟨fun c => ⟨(h.1 c).1 _ (.inl rfl), (h.1 c).1 _ (.inr (.inl rfl)), (h.1 c).1 _ (.inr (.inr (.inl rfl))),
      (h.1 c).1 _ (.inr (.inr (.inr (.inl rfl)))), (h.1 c).1 _ (.inr (.inr (.inr (.inr rfl))))⟩, h.2⟩)
    (run_main m ρ hI)

theorem frame_ideal : Cert.quiescent_KernelIdeal := fun m g hpre =>
  run_kept (F := Ideal) m g (ins_ok m fun d => ranges (hpre d))

theorem frame_bits : Cert.quiescent_Kernel := fun m g hpre =>
  (congrArg (fun D => (θ_run D (threads (F := Bits)) ⟨m, fun _ => 0, g⟩) (Kept m)) (same_defs (F := Bits))).mpr
    (run_kept (F := Bits) m g (ins_ok (F := Bits) m fun d => ranges (hpre d)))

theorem frame_ref : Cert.quiescent_ReferenceIdeal := fun m g _ =>
  (θ_run (Cert.ReferenceIdeal.defs (F := Ideal)) _ _).mono
    (fun _ h => ⟨fun c => (h c).2.2, sem_eq_zero_of_no_sems rfl _⟩) (Cert.ReferenceIdeal.Value.run m g)

end Cert.Tile
-- ==== Proof.Reals.lean ====
/-
  Over the extended reals, with finite rows: what a tile computes of an edge is the Poincaré formula's argument of arccosh.
-/
module

public import proofs.«01_k».proof.Proof.Values
public import Idealize.ShloMosaic.Lib.Pointwise

@[expose] public section

noncomputable section

namespace Cert.Tile

open Idealize.ShloMosaic
open scoped BigOperators

/-! ## Real numbers among the extended ones -/

theorem coe_sum {ι : Type} [Fintype ι] (f : ι → ℝ) : (∑ i, ((f i : ℝ) : EReal)) = ((∑ i, f i : ℝ) : EReal) := by
  classical
  induction (Finset.univ : Finset ι) using Finset.induction_on with
  | empty => simp
  | insert a s ha ih => rw [Finset.sum_insert ha, Finset.sum_insert ha, ih, EReal.coe_add]

theorem coe_maxr (a b : ℝ) : max (a : EReal) (b : EReal) = ((max a b : ℝ) : EReal) := (EReal.coe_strictMono.monotone.map_max).symm

theorem coe_divr (a b : ℝ) (hb : b ≠ 0) : Ideal.div (a : EReal) (b : EReal) = ((a / b : ℝ) : EReal) := by
  have h : (b : EReal) ≠ 0 := by exact_mod_cast hb
  unfold Ideal.div
  rw [if_neg h, ← EReal.coe_inv, ← EReal.coe_mul, div_eq_mul_inv]

/-- The word of `1 + ε`, as a number. -/
def cR : ℝ := 1 + 84 / 8388608

theorem word_c : Ideal.ofBits .f32 0x3F800054#32 = (cR : EReal) := by
  have h : Ideal.ofBits .f32 0x3F800054#32 = ((8388692 : ℝ) : EReal) * ((1 / 8388608 : ℝ) : EReal) := by
    simp [Ideal.ofBits, Ideal.ieee]
    norm_num
  rw [h, ← EReal.coe_mul, cR]
  norm_num

theorem word_e : ∃ e : ℝ, 0 < e ∧ Ideal.ofBits .f32 0x3727C5AC#32 = (e : EReal) := by
  have h : Ideal.ofBits .f32 0x3727C5AC#32 = ((10995116 : ℝ) : EReal) * ((1 / 1099511627776 : ℝ) : EReal) := by
    simp [Ideal.ofBits, Ideal.ieee]
    norm_num
  exact ⟨10995116 * (1 / 1099511627776), by norm_num, by rw [h, ← EReal.coe_mul]⟩

theorem word_two : Ideal.ofBits .f32 0x40000000#32 = ((2 : ℝ) : EReal) := by
  have h : Ideal.ofBits .f32 0x40000000#32 = ((8388608 : ℝ) : EReal) * ((1 / 4194304 : ℝ) : EReal) := by
    simp [Ideal.ofBits, Ideal.ieee]
    norm_num
  rw [h, ← EReal.coe_mul]
  norm_num

def eR : ℝ := Classical.choose word_e

theorem eR_pos : 0 < eR := (Classical.choose_spec word_e).1

theorem word_eps : Ideal.ofBits .f32 0x3727C5AC#32 = (eR : EReal) := (Classical.choose_spec word_e).2

/-! ## The sum over a row, as a tile adds it -/

/-- Part `l` after `n` blocks of sixteen columns. -/
theorem accS_eq (x y : Fin 128 → Ideal .f32) (l : Fin 16) (n : ℕ) :
    accS x y l n = (∑ k : Fin n, x (Fin.ofNat 128 (16 * k.val + l.val)) * y (Fin.ofNat 128 (16 * k.val + l.val)) : EReal) := by
  induction n with
  | zero => simp [accS, w0]
  | succ n ih => rw [accS, ih, Fin.sum_univ_castSucc]; rfl

/-- Sixteen parts, added in halves. -/
theorem treeS_eq (f : Fin 16 → Ideal .f32) : treeS f = (∑ l : Fin 16, (f l : EReal)) := by
  unfold treeS
  simp only [Fin.sum_univ_succ, Ideal.addf_def]
  simp
  abel

/-- The tile's inner product is the sum over the hundred and twenty-eight columns. -/
theorem dotS_eq (x y : Fin 128 → Ideal .f32) : dotS x y = (∑ k : Fin 128, x k * y k : EReal) := by
  unfold dotS
  rw [treeS_eq]
  simp only [accS_eq]
  rw [Finset.sum_comm, ← Fintype.sum_prod_type']
  refine Fintype.sum_equiv (finProdFinEquiv (m := 8) (n := 16)) _ _ fun q => ?_
  have e : Fin.ofNat 128 (16 * q.1.val + q.2.val) = finProdFinEquiv (m := 8) (n := 16) q := by
    refine Fin.ext ?_
    have := q.1.isLt
    have := q.2.isLt
    simp only [Fin.ofNat, finProdFinEquiv_apply_val]
    omega
  rw [e]

/-- With finite rows it is a number's. -/
theorem dotS_coe (x y : Fin 128 → ℝ) : dotS (F := Ideal) (fun k => (x k : EReal)) (fun k => (y k : EReal)) = ((∑ k, x k * y k : ℝ) : EReal) := by
  rw [dotS_eq, ← coe_sum]
  exact Finset.sum_congr rfl fun k _ => (EReal.coe_mul _ _).symm

/-! ## The argument of arccosh -/

/-- `max (1 - |x|², ε)`. -/
def roomR (x : Fin 128 → ℝ) : ℝ := max (1 - ∑ k, x k * x k) eR

theorem roomR_pos (x : Fin 128 → ℝ) : 0 < roomR x := lt_max_of_lt_right eR_pos

/-- `max (1 + 2 |x - y|² / (α β)) (1 + ε)`. -/
def gamR (x y : Fin 128 → ℝ) : ℝ := max (1 + 2 * (∑ k, (x k - y k) * (x k - y k)) / (roomR x * roomR y)) cR

theorem one_lt_gamR (x y : Fin 128 → ℝ) : 1 < gamR x y := lt_max_of_lt_right (by unfold cR; norm_num)

theorem cR_le_gamR (x y : Fin 128 → ℝ) : cR ≤ gamR x y := le_max_right _ _

theorem word_one : Ideal.ofBits .f32 0x3F800000#32 = ((1 : ℝ) : EReal) := by
  rw [Ideal.ofBits_one_f32]
  rfl

theorem rowGam_coe (x y : Fin 128 → ℝ) :
    rowGam (F := Ideal) (fun k => (x k : EReal)) (fun k => (y k : EReal)) = ((gamR x y : ℝ) : EReal) := by
  have hd : (roomR x * roomR y) ≠ 0 := (mul_pos (roomR_pos x) (roomR_pos y)).ne'
  have hs : (∑ k, x k * x k) + (∑ k, y k * y k) - 2 * (∑ k, x k * y k) = ∑ k, (x k - y k) * (x k - y k) := by
    rw [Finset.mul_sum, ← Finset.sum_add_distrib, ← Finset.sum_sub_distrib]
    exact Finset.sum_congr rfl fun k _ => by ring
  unfold rowGam gammaS
  simp only [dotS_coe]
  change max (Ideal.ofBits .f32 0x3F800000#32 + Ideal.div (Ideal.ofBits .f32 0x40000000#32 * (_ + _ - Ideal.ofBits .f32 0x40000000#32 * _))
    (max (Ideal.ofBits .f32 0x3F800000#32 - _) (Ideal.ofBits .f32 0x3727C5AC#32) * max (Ideal.ofBits .f32 0x3F800000#32 - _) (Ideal.ofBits .f32 0x3727C5AC#32)))
    (Ideal.ofBits .f32 0x3F800054#32) = _
  rw [word_one, word_two, word_c, word_eps]
  simp only [← EReal.coe_mul, ← EReal.coe_add, ← EReal.coe_sub, coe_maxr]
  rw [hs]
  change max (_ + Ideal.div _ ((roomR x * roomR y : ℝ) : EReal)) _ = _
  rw [coe_divr _ _ hd, ← EReal.coe_add, coe_maxr]
  rfl

end Cert.Tile
-- ==== Proof.RefForm.lean ====
/-
  The reference's two results, put together from named pieces: rows, squared distances, the mean logarithms, the ranks.
-/
module

public import proofs.«01_k».proof.Proof.Gen.ReferenceIdeal.Run

@[expose] public section

set_option maxRecDepth 65536

noncomputable section

namespace Cert.Ref

open Cert.ReferenceIdeal Idealize.ShloMosaic
open Idealize.ShloMosaic.TcCoe
open Idealize.SL.Sem

open Facts₀ Facts

variable {F : FTy → Type} [FloatOps F] [Facts]

/-- The index of the positive ends, as the reference reads it: a negative one counts from the end. -/
def idx1 (a : (⟨S100000, .i32⟩ : BufTy).Contents (Elt F)) : (⟨S100000x1, .i32⟩ : BufTy).Contents (Elt F) :=
  broadcastInDim S100000x1 ![0] bcast_S100000_S100000x1_0 (select (cmpi .slt a (broadcastInDim S100000 ![] bcast_S_S100000 (constantI S_ 32 0#32))) (addi a (broadcastInDim S100000 ![] bcast_S_S100000 (constantI S_ 32 100000#32))) a)

/-- The rows the positive ends name. -/
def rows1 (h : (⟨S100000x128, .f32⟩ : BufTy).Contents (Elt F)) (a : (⟨S100000, .i32⟩ : BufTy).Contents (Elt F)) : (⟨S100000x128, .f32⟩ : BufTy).Contents (Elt F) :=
  Host.gather gather_S100000x128_S100000x1_S100000x128_1_0_n_n_0_1_1128 h (idx1 a)

/-- The squared length of each row. -/
def sq1 (u : (⟨S100000x128, .f32⟩ : BufTy).Contents (Elt F)) : (⟨S100000x1, .f32⟩ : BufTy).Contents (Elt F) :=
  broadcastInDim S100000x1 ![0] bcast_S100000_S100000x1_0 (Host.reduceAdd (mulf u u) (constant S_ .f32 0x00000000#32) reducesTo_S100000x128_S100000_d1 h_S_)

/-- `max (1 - |u|², ε)`. -/
def room1 (u : (⟨S100000x128, .f32⟩ : BufTy).Contents (Elt F)) : (⟨S100000x1, .f32⟩ : BufTy).Contents (Elt F) :=
  maximumf (broadcastInDim S100000x1 ![] bcast_S_S100000x1 (id (constant S_ .f32 0x3727C5AC#32))) (subf (broadcastInDim S100000x1 ![] bcast_S_S100000x1 (constant S_ .f32 0x3F800000#32)) (sq1 u))

/-- The argument of arccosh for each edge. -/
def gam1 (u v : (⟨S100000x128, .f32⟩ : BufTy).Contents (Elt F)) : (⟨S100000x1, .f32⟩ : BufTy).Contents (Elt F) :=
  maximumf (broadcastInDim S100000x1 ![] bcast_S_S100000x1 (id (constant S_ .f32 0x3F800054#32))) (addf (broadcastInDim S100000x1 ![] bcast_S_S100000x1 (constant S_ .f32 0x3F800000#32)) (Host.divf (mulf (broadcastInDim S100000x1 ![] bcast_S_S100000x1 (constant S_ .f32 0x40000000#32)) (sq1 (subf u v))) (mulf (room1 u) (room1 v))))

/-- The squared distance of each edge. -/
def score1 (h : (⟨S100000x128, .f32⟩ : BufTy).Contents (Elt F)) (a b : (⟨S100000, .i32⟩ : BufTy).Contents (Elt F)) : (⟨S100000x1, .f32⟩ : BufTy).Contents (Elt F) :=
  mulf (Host.acosh (gam1 (rows1 h a) (rows1 h b))) (Host.acosh (gam1 (rows1 h a) (rows1 h b)))

/-- The index of the negative ends, as the reference reads it: a negative one counts from the end. -/
def idx5 (a : (⟨S500000, .i32⟩ : BufTy).Contents (Elt F)) : (⟨S500000x1, .i32⟩ : BufTy).Contents (Elt F) :=
  broadcastInDim S500000x1 ![0] bcast_S500000_S500000x1_0 (select (cmpi .slt a (broadcastInDim S500000 ![] bcast_S_S500000 (constantI S_ 32 0#32))) (addi a (broadcastInDim S500000 ![] bcast_S_S500000 (constantI S_ 32 100000#32))) a)

/-- The rows the negative ends name. -/
def rows5 (h : (⟨S100000x128, .f32⟩ : BufTy).Contents (Elt F)) (a : (⟨S500000, .i32⟩ : BufTy).Contents (Elt F)) : (⟨S500000x128, .f32⟩ : BufTy).Contents (Elt F) :=
  Host.gather gather_S100000x128_S500000x1_S500000x128_1_0_n_n_0_1_1128 h (idx5 a)

/-- The squared length of each row. -/
def sq5 (u : (⟨S500000x128, .f32⟩ : BufTy).Contents (Elt F)) : (⟨S500000x1, .f32⟩ : BufTy).Contents (Elt F) :=
  broadcastInDim S500000x1 ![0] bcast_S500000_S500000x1_0 (Host.reduceAdd (mulf u u) (constant S_ .f32 0x00000000#32) reducesTo_S500000x128_S500000_d1 h_S_)

/-- `max (1 - |u|², ε)`. -/
def room5 (u : (⟨S500000x128, .f32⟩ : BufTy).Contents (Elt F)) : (⟨S500000x1, .f32⟩ : BufTy).Contents (Elt F) :=
  maximumf (broadcastInDim S500000x1 ![] bcast_S_S500000x1 (id (constant S_ .f32 0x3727C5AC#32))) (subf (broadcastInDim S500000x1 ![] bcast_S_S500000x1 (constant S_ .f32 0x3F800000#32)) (sq5 u))

/-- The argument of arccosh for each edge. -/
def gam5 (u v : (⟨S500000x128, .f32⟩ : BufTy).Contents (Elt F)) : (⟨S500000x1, .f32⟩ : BufTy).Contents (Elt F) :=
  maximumf (broadcastInDim S500000x1 ![] bcast_S_S500000x1 (id (constant S_ .f32 0x3F800054#32))) (addf (broadcastInDim S500000x1 ![] bcast_S_S500000x1 (constant S_ .f32 0x3F800000#32)) (Host.divf (mulf (broadcastInDim S500000x1 ![] bcast_S_S500000x1 (constant S_ .f32 0x40000000#32)) (sq5 (subf u v))) (mulf (room5 u) (room5 v))))

/-- The squared distance of each edge. -/
def score5 (h : (⟨S100000x128, .f32⟩ : BufTy).Contents (Elt F)) (a b : (⟨S500000, .i32⟩ : BufTy).Contents (Elt F)) : (⟨S500000x1, .f32⟩ : BufTy).Contents (Elt F) :=
  mulf (Host.acosh (gam5 (rows5 h a) (rows5 h b))) (Host.acosh (gam5 (rows5 h a) (rows5 h b)))

/-- Minus the positives' mean logarithm, less the negatives'. -/
def lossR (s1 : (⟨S100000x1, .f32⟩ : BufTy).Contents (Elt F)) (s5 : (⟨S500000x1, .f32⟩ : BufTy).Contents (Elt F)) : (⟨S_, .f32⟩ : BufTy).Contents (Elt F) :=
  subf (Host.negf (Host.divf (Host.reduceAdd (Host.log (addf (subf (broadcastInDim S100000 ![] bcast_S_S100000 (constant S_ .f32 0x3F800000#32)) (Host.divf (broadcastInDim S100000 ![] bcast_S_S100000 (constant S_ .f32 0x3F800000#32)) (addf (broadcastInDim S100000 ![] bcast_S_S100000 (constant S_ .f32 0x3F800000#32)) (Host.exp (Host.negf (shapeCast _ s1 shapeCasts_S100000x1_S100000)))))) (broadcastInDim S100000 ![] bcast_S_S100000 (constant S_ .f32 0x3727C5AC#32)))) (constant S_ .f32 0x00000000#32) reducesTo_S100000_S_d0 h_S_) (constant S_ .f32 0x47C35000#32)))
    (Host.divf (Host.reduceAdd (Host.log (addf (Host.divf (broadcastInDim S500000 ![] bcast_S_S500000 (constant S_ .f32 0x3F800000#32)) (addf (broadcastInDim S500000 ![] bcast_S_S500000 (constant S_ .f32 0x3F800000#32)) (Host.exp (Host.negf (shapeCast _ s5 shapeCasts_S500000x1_S500000))))) (broadcastInDim S500000 ![] bcast_S_S500000 (constant S_ .f32 0x3727C5AC#32)))) (constant S_ .f32 0x00000000#32) reducesTo_S500000_S_d0 h_S_) (constant S_ .f32 0x48F42400#32))

/-- Six columns a positive edge: its five negatives' squared distances, then its own. -/
def six (s1 : (⟨S100000x1, .f32⟩ : BufTy).Contents (Elt F)) (s5 : (⟨S500000x1, .f32⟩ : BufTy).Contents (Elt F)) : (⟨S100000x6, .f32⟩ : BufTy).Contents (Elt F) :=
  concatenate S100000x6 1 [⟨S100000x5, (Host.negf (shapeCast _ s5 shapeCasts_S500000x1_S100000x5))⟩, ⟨S100000x1, (Host.negf s1)⟩] concatenates_S100000x5_S100000x1_S100000x6_d1

/-- The rank of each positive edge's own column. -/
def rankR (x : (⟨S100000x6, .f32⟩ : BufTy).Contents (Elt F)) : (⟨S100000x6, .i32⟩ : BufTy).Contents (Elt F) :=
  (Host.topK S100000x6 1 (IntOp.cmpi .sgt) (negi ((Host.topK S100000x6 1 (FloatOps.cmpfTotal .gt) x sliceFits_S100000x6_S100000x6).2)) sliceFits_S100000x6_S100000x6).2

/-- The mean of `1 / (rank + 1)`. -/
def mrrR (r : (⟨S100000x6, .i32⟩ : BufTy).Contents (Elt F)) : (⟨S_, .f32⟩ : BufTy).Contents (Elt F) :=
  Host.divf (Host.reduceAdd (Host.divf (broadcastInDim S100000 ![] bcast_S_S100000 (constant S_ .f32 0x3F800000#32)) (addf (sitofp .f32 (shapeCast _ (extractStridedSlice S100000x1 ![0, 5] r slices_S100000x6_S100000x1_0_5) shapeCasts_S100000x1_S100000)) (broadcastInDim S100000 ![] bcast_S_S100000 (constant S_ .f32 0x3F800000#32)))) (constant S_ .f32 0x00000000#32) reducesTo_S100000_S_d0 h_S_) (constant S_ .f32 0x47C35000#32)

/-! ## The results are these -/

theorem loss_eq (m : (ℓ : Loc nD τ sig) → Buf (Elt F) ℓ) (c : Dev nD) :
    Value.res_main_v119 m c = lossR (score1 (m ((c.tc : Thread nD τ).loc main_arg0)) (m ((c.tc : Thread nD τ).loc main_arg1)) (m ((c.tc : Thread nD τ).loc main_arg2)))
      (score5 (m ((c.tc : Thread nD τ).loc main_arg0)) (m ((c.tc : Thread nD τ).loc main_arg3)) (m ((c.tc : Thread nD τ).loc main_arg4))) := rfl

theorem mrr_eq (m : (ℓ : Loc nD τ sig) → Buf (Elt F) ℓ) (c : Dev nD) :
    Value.res_main_v91 m c = mrrR (rankR (six (score1 (m ((c.tc : Thread nD τ).loc main_arg0)) (m ((c.tc : Thread nD τ).loc main_arg1)) (m ((c.tc : Thread nD τ).loc main_arg2)))
      (score5 (m ((c.tc : Thread nD τ).loc main_arg0)) (m ((c.tc : Thread nD τ).loc main_arg3)) (m ((c.tc : Thread nD τ).loc main_arg4))))) := rfl

end Cert.Ref
-- ==== Proof.RefRead.lean ====
/-
  The reference's pieces, read entry by entry over the extended reals.
-/
module

public import proofs.«01_k».proof.Proof.RefForm
public import Idealize.ShloMosaic.Lib.Pointwise
public import Idealize.ShloMosaic.Lib.Routing.Ops

@[expose] public section

set_option maxRecDepth 65536

noncomputable section

namespace Cert.Ref

open Cert.ReferenceIdeal Idealize.ShloMosaic
open scoped BigOperators

open Facts₀ Facts

variable [Facts]

/-- The argument of arccosh from two rows, as the reference reckons it. -/
def gamF (x y : Fin 128 → EReal) : EReal :=
  max (Ideal.ofBits .f32 0x3F800054#32) (1 + Ideal.div (Ideal.ofBits .f32 0x40000000#32 * ∑ l, (x l - y l) * (x l - y l))
    (max (Ideal.ofBits .f32 0x3727C5AC#32) (1 - ∑ l, x l * x l) * max (Ideal.ofBits .f32 0x3727C5AC#32) (1 - ∑ l, y l * y l)))

/-- A word below 100000 is not negative. -/
theorem not_neg (w : BitVec 32) (h : w.toNat < 100000) : IntOp.cmpi CmpIPredicate.slt w 0#32 = 0#1 := by
  have h' : w.slt 0#32 = false := by
    rw [BitVec.slt_eq_decide, decide_eq_false_iff_not, BitVec.toInt_eq_toNat_of_lt (by omega)]
    simp
  simp [IntOp.cmpi, h']

theorem idx1_at (a : (⟨S100000, .i32⟩ : BufTy).Contents (Elt Ideal)) (k : Fin 100000) (ha : (a (ix1 k)).toNat < 100000) :
    idx1 a (ix2 k 0) = a (ix1 k) := by
  pointwise [idx1]
  rw [not_neg _ ha]
  rfl

theorem rows1_at (h : (⟨S100000x128, .f32⟩ : BufTy).Contents (Elt Ideal)) (a : (⟨S100000, .i32⟩ : BufTy).Contents (Elt Ideal)) (k : Fin 100000) (l : Fin 128)
    (ha : (a (ix1 k)).toNat < 100000) : rows1 h a (ix2 k l) = h (ix2 ⟨(a (ix1 k)).toNat, ha⟩ l) :=
  Routing.gather_row (nb := 100000) (B := 128) (n := 100000) gather_S100000x128_S100000x1_S100000x128_1_0_n_n_0_1_1128 rfl rfl rfl rfl rfl h (idx1 a) k l
    ⟨(a (ix1 k)).toNat, ha⟩ ((idx1_at a k ha).trans (by simp)) (by omega)

theorem gam1_at (u v : (⟨S100000x128, .f32⟩ : BufTy).Contents (Elt Ideal)) (k : Fin 100000) :
    gam1 u v (ix2 k 0) = gamF (fun l => u (ix2 k l)) (fun l => v (ix2 k l)) := by
  unfold gamF
  pointwise [gam1, room1, sq1, id]

theorem score1_at (h : (⟨S100000x128, .f32⟩ : BufTy).Contents (Elt Ideal)) (a b : (⟨S100000, .i32⟩ : BufTy).Contents (Elt Ideal)) (k : Fin 100000)
    (ha : (a (ix1 k)).toNat < 100000) (hb : (b (ix1 k)).toNat < 100000) :
    score1 h a b (ix2 k 0) = Ideal.acosh (gamF (fun l => h (ix2 ⟨(a (ix1 k)).toNat, ha⟩ l)) (fun l => h (ix2 ⟨(b (ix1 k)).toNat, hb⟩ l)))
      * Ideal.acosh (gamF (fun l => h (ix2 ⟨(a (ix1 k)).toNat, ha⟩ l)) (fun l => h (ix2 ⟨(b (ix1 k)).toNat, hb⟩ l))) := by
  have e : gam1 (rows1 h a) (rows1 h b) (ix2 k 0) = gamF (fun l => h (ix2 ⟨(a (ix1 k)).toNat, ha⟩ l)) (fun l => h (ix2 ⟨(b (ix1 k)).toNat, hb⟩ l)) := by
    rw [gam1_at]
    exact congrArg₂ gamF (funext fun l => rows1_at h a k l ha) (funext fun l => rows1_at h b k l hb)
  rw [← e]
  unfold score1
  generalize gam1 (rows1 h a) (rows1 h b) = G
  rfl

theorem idx5_at (a : (⟨S500000, .i32⟩ : BufTy).Contents (Elt Ideal)) (k : Fin 500000) (ha : (a (ix1 k)).toNat < 100000) :
    idx5 a (ix2 k 0) = a (ix1 k) := by
  pointwise [idx5]
  rw [not_neg _ ha]
  rfl

theorem rows5_at (h : (⟨S100000x128, .f32⟩ : BufTy).Contents (Elt Ideal)) (a : (⟨S500000, .i32⟩ : BufTy).Contents (Elt Ideal)) (k : Fin 500000) (l : Fin 128)
    (ha : (a (ix1 k)).toNat < 100000) : rows5 h a (ix2 k l) = h (ix2 ⟨(a (ix1 k)).toNat, ha⟩ l) :=
  Routing.gather_row (nb := 100000) (B := 128) (n := 500000) gather_S100000x128_S500000x1_S500000x128_1_0_n_n_0_1_1128 rfl rfl rfl rfl rfl h (idx5 a) k l
    ⟨(a (ix1 k)).toNat, ha⟩ ((idx5_at a k ha).trans (by simp)) (by omega)

theorem gam5_at (u v : (⟨S500000x128, .f32⟩ : BufTy).Contents (Elt Ideal)) (k : Fin 500000) :
    gam5 u v (ix2 k 0) = gamF (fun l => u (ix2 k l)) (fun l => v (ix2 k l)) := by
  unfold gamF
  pointwise [gam5, room5, sq5, id]

theorem score5_at (h : (⟨S100000x128, .f32⟩ : BufTy).Contents (Elt Ideal)) (a b : (⟨S500000, .i32⟩ : BufTy).Contents (Elt Ideal)) (k : Fin 500000)
    (ha : (a (ix1 k)).toNat < 100000) (hb : (b (ix1 k)).toNat < 100000) :
    score5 h a b (ix2 k 0) = Ideal.acosh (gamF (fun l => h (ix2 ⟨(a (ix1 k)).toNat, ha⟩ l)) (fun l => h (ix2 ⟨(b (ix1 k)).toNat, hb⟩ l)))
      * Ideal.acosh (gamF (fun l => h (ix2 ⟨(a (ix1 k)).toNat, ha⟩ l)) (fun l => h (ix2 ⟨(b (ix1 k)).toNat, hb⟩ l))) := by
  have e : gam5 (rows5 h a) (rows5 h b) (ix2 k 0) = gamF (fun l => h (ix2 ⟨(a (ix1 k)).toNat, ha⟩ l)) (fun l => h (ix2 ⟨(b (ix1 k)).toNat, hb⟩ l)) := by
    rw [gam5_at]
    exact congrArg₂ gamF (funext fun l => rows5_at h a k l ha) (funext fun l => rows5_at h b k l hb)
  rw [← e]
  unfold score5
  generalize gam5 (rows5 h a) (rows5 h b) = G
  rfl

theorem lossR_at (s1 : (⟨S100000x1, .f32⟩ : BufTy).Contents (Elt Ideal)) (s5 : (⟨S500000x1, .f32⟩ : BufTy).Contents (Elt Ideal)) :
    lossR s1 s5 ix0 = -(Ideal.div (∑ k : Fin 100000, Ideal.log (1 - Ideal.div 1 (1 + Ideal.exp (-(s1 (ix2 k 0)))) + Ideal.ofBits .f32 0x3727C5AC#32)) (Ideal.ofBits .f32 0x47C35000#32))
      - Ideal.div (∑ k : Fin 500000, Ideal.log (Ideal.div 1 (1 + Ideal.exp (-(s5 (ix2 k 0)))) + Ideal.ofBits .f32 0x3727C5AC#32)) (Ideal.ofBits .f32 0x48F42400#32) := by
  pointwise [lossR]

theorem mrrR_at (r : (⟨S100000x6, .i32⟩ : BufTy).Contents (Elt Ideal)) :
    mrrR r ix0 = Ideal.div (∑ k : Fin 100000, Ideal.div 1 ((FloatOps.sitofp .f32 (r (ix2 k 5)) : Ideal .f32) + 1 : EReal)) (Ideal.ofBits .f32 0x47C35000#32) := by
  pointwise [mrrR]

theorem six_neg (s1 : (⟨S100000x1, .f32⟩ : BufTy).Contents (Elt Ideal)) (s5 : (⟨S500000x1, .f32⟩ : BufTy).Contents (Elt Ideal)) (k : Fin 100000) (j : Fin 5) :
    six s1 s5 (ix2 k ⟨j.val, by omega⟩) = (-(s5 (ix2 ⟨5 * k.val + j.val, by omega⟩ 0) : EReal) : EReal) := by
  pointwise [six]
  have e : (⟨k.val * 5 + j.val, by omega⟩ : Fin 500000) = ⟨5 * k.val + j.val, by omega⟩ := Fin.ext (by simp only; omega)
  rw [e]

theorem six_pos (s1 : (⟨S100000x1, .f32⟩ : BufTy).Contents (Elt Ideal)) (s5 : (⟨S500000x1, .f32⟩ : BufTy).Contents (Elt Ideal)) (k : Fin 100000) :
    six s1 s5 (ix2 k 5) = (-(s1 (ix2 k 0) : EReal) : EReal) := by
  pointwise [six]

end Cert.Ref
-- ==== Proof.KerRead.lean ====
/-
  The TensorCore's three sums, read entry by entry over the extended reals.
-/
module

public import proofs.«01_k».proof.Proof.Host
public import Idealize.ShloMosaic.Lib.Pointwise
public import Idealize.ShloMosaic.Lib.KernelVsHost

@[expose] public section

set_option maxRecDepth 65536

noncomputable section

namespace Cert.Tile

open Cert.KernelIdeal Idealize.ShloMosaic
open scoped BigOperators

open Facts₀ Facts

/-- The squared distance from the argument of arccosh, by the logarithm. -/
def sqE (g : EReal) : EReal :=
  Ideal.log (max g (Ideal.ofBits .f32 0x3F800054#32) + Ideal.sqrt ((max g (Ideal.ofBits .f32 0x3F800054#32) - 1) * (max g (Ideal.ofBits .f32 0x3F800054#32) + 1)))
    * Ideal.log (max g (Ideal.ofBits .f32 0x3F800054#32) + Ideal.sqrt ((max g (Ideal.ofBits .f32 0x3F800054#32) - 1) * (max g (Ideal.ofBits .f32 0x3F800054#32) + 1)))

/-- A true link's log-probability. -/
def posE (g : EReal) : EReal := Ideal.log (Ideal.logistic (0 - sqE g) + Ideal.ofBits .f32 0x3727C5AC#32)
/-- A false link's. -/
def negE (g : EReal) : EReal := Ideal.log (Ideal.logistic (sqE g) + Ideal.ofBits .f32 0x3727C5AC#32)

/-- Small words compare as their numbers. -/
theorem slt_small (v : BitVec 32) (a n : ℕ) (hv : v = BitVec.ofNat 32 a) (ha : a < 2 ^ 31) (hn : n < 2 ^ 31) :
    IntOp.cmpi CmpIPredicate.slt v (BitVec.ofNat 32 n) = if a < n then 1#1 else 0#1 := by
  subst hv
  have e : (BitVec.ofNat 32 a).slt (BitVec.ofNat 32 n) = decide (a < n) := by
    rw [BitVec.slt_eq_decide, BitVec.toInt_eq_toNat_of_lt (by simp; omega), BitVec.toInt_eq_toNat_of_lt (by simp; omega)]
    simp [Nat.mod_eq_of_lt (show a < 4294967296 by omega), Nat.mod_eq_of_lt (show n < 4294967296 by omega)]
  by_cases h : a < n <;> simp [IntOp.cmpi, e, h]

theorem sel_if {α : Type} (p : Prop) [Decidable p] (x y : α) : Scalar.select (if p then 1#1 else 0#1) x y = if p then x else y := by
  by_cases h : p <;> simp [h, Scalar.select]

theorem mask_at {α : Type} (x y n : ℕ) (hx : x < 4000) (hy : y < 128) (hn : n < 2 ^ 31) (s t : α) :
    Scalar.select (IntOp.cmpi CmpIPredicate.slt (IntOp.addi (IntOp.muli (BitVec.ofNat 32 x) 128#32) (BitVec.ofNat 32 y)) (BitVec.ofNat 32 n)) s t
      = if x * 128 + y < n then s else t := by
  rw [slt_small _ (x * 128 + y) n (by
    show BitVec.ofNat 32 x * 128#32 + BitVec.ofNat 32 y = _
    apply BitVec.eq_of_toNat_eq
    simp [BitVec.toNat_add, BitVec.toNat_mul]) (by omega) hn, sel_if]

variable [Facts]

theorem posSum_at (g : Vec Ideal S784x128 .f32) :
    posSum g = (∑ x : Fin 784, ∑ y : Fin 128, if x.val * 128 + y.val < 100000 then posE (g (ix2 x y)) else 0 : EReal) := by
  have h : posSum g = (∑ x : Fin 784, ∑ y : Fin 128, Scalar.select (IntOp.cmpi CmpIPredicate.slt
      (IntOp.addi (IntOp.muli (BitVec.ofNat 32 x.val) 128#32) (BitVec.ofNat 32 y.val)) 100000#32) (posE (g (ix2 x y))) 0 : EReal) := by
    unfold posE sqE
    pointwise [posSum, before, sqDist, logEps]
  rw [h]
  exact Finset.sum_congr rfl fun x _ => Finset.sum_congr rfl fun y _ => mask_at x.val y.val 100000 (by omega) y.isLt (by norm_num) _ _

theorem negSum_at (g : Vec Ideal S3920x128 .f32) :
    negSum g = (∑ x : Fin 3920, ∑ y : Fin 128, if x.val * 128 + y.val < 500000 then negE (g (ix2 x y)) else 0 : EReal) := by
  have h : negSum g = (∑ x : Fin 3920, ∑ y : Fin 128, Scalar.select (IntOp.cmpi CmpIPredicate.slt
      (IntOp.addi (IntOp.muli (BitVec.ofNat 32 x.val) 128#32) (BitVec.ofNat 32 y.val)) 500000#32) (negE (g (ix2 x y))) 0 : EReal) := by
    unfold negE sqE
    pointwise [negSum, before, sqDist, logEps]
  rw [h]
  exact Finset.sum_congr rfl fun x _ => Finset.sum_congr rfl fun y _ => mask_at x.val y.val 500000 (by omega) y.isLt (by norm_num) _ _

theorem rankSum_at (r : Vec Ideal S4x128 .f32) : rankSum r = (∑ x : Fin 4, ∑ y : Fin 128, r (ix2 x y) : EReal) := by
  pointwise [rankSum]

theorem mrr_at (g : Vec Ideal S784x128 .f32) (g' : Vec Ideal S3920x128 .f32) (r : Vec Ideal S4x128 .f32) (i : S_.Idx) :
    mrrOf (outs g g' r) i = Ideal.div (rankSum r) (Ideal.ofBits .f32 0x47C35000#32) := by
  pointwise [mrrOf, outs]

theorem loss_at (g : Vec Ideal S784x128 .f32) (g' : Vec Ideal S3920x128 .f32) (r : Vec Ideal S4x128 .f32) (i : S_.Idx) :
    lossOf (outs g g' r) i = (0 - Ideal.div (posSum g) (Ideal.ofBits .f32 0x47C35000#32) - Ideal.div (negSum g') (Ideal.ofBits .f32 0x48F42400#32) : EReal) := by
  pointwise [lossOf, outs]

theorem posRows_at (g : Vec Ideal S602112 .f32) (k : Fin 784) (l : Fin 128) : posRows g (ix2 k l) = g (ix1 ⟨k.val * 128 + l.val, by omega⟩) := by
  pointwise [posRows]

theorem negRows_at (g : Vec Ideal S602112 .f32) (k : Fin 3920) (l : Fin 128) : negRows g (ix2 k l) = g (ix1 ⟨100352 + (k.val * 128 + l.val), by omega⟩) := by
  pointwise [negRows]

theorem rankRows_at (g : Vec Ideal S512 .f32) (k : Fin 4) (l : Fin 128) : rankRows g (ix2 k l) = g (ix1 ⟨k.val * 128 + l.val, by omega⟩) := by
  pointwise [rankRows]

/-! ## The row numbers of a link -/

theorem ends_pos (p : IVec S100000 32) (n : IVec S500000 32) (k : Fin 100000) : ends p n (ix1 ⟨k.val, by omega⟩) = p (ix1 k) := by
  refine (concatenate_pair_apply_left (s₁ := S100352) (s₂ := S501760) (t := S602112) 0 _ _ _ _ rfl (ix1 (⟨k.val, by omega⟩ : Fin 100352)) (fun b => by fin_cases b; rfl)).trans ?_
  exact pad_apply_of_inside _ _ _ _ _ _ _ _ (ix1 k) (fun a => by fin_cases a; simp)

theorem ends_neg (p : IVec S100000 32) (n : IVec S500000 32) (k : Fin 500000) : ends p n (ix1 ⟨100352 + k.val, by omega⟩) = n (ix1 k) := by
  refine (concatenate_pair_apply_right (s₁ := S100352) (s₂ := S501760) (t := S602112) 0 _ _ _ _ rfl rfl (ix1 (⟨k.val, by omega⟩ : Fin 501760))
    (fun b hb => by fin_cases b; exact absurd rfl hb) (by show k.val + 100352 = 100352 + k.val; omega)).trans ?_
  exact pad_apply_of_inside _ _ _ _ _ _ _ _ (ix1 k) (fun a => by fin_cases a; simp)

end Cert.Tile
-- ==== Proof.Ranks.lean ====
/-
  Ranks by two sorts: the place a stable sort gives the last of six entries is the number of the others not above it.
-/
module

public import proofs.«01_k».proof.Proof.RefForm
public import Idealize.ShloMosaic.Lib.Pointwise
public import Idealize.ShloMosaic.Lib.SortFacts

@[expose] public section

set_option maxRecDepth 65536

noncomputable section

namespace Cert.Ref

open Cert.ReferenceIdeal Idealize.ShloMosaic
open scoped BigOperators

/-! ## A stable sort goes by the key, then by the position -/

/-- Key first, position next. -/
def lex {n : ℕ} (S : Fin n → EReal) (a b : Fin n) : Bool := decide (S a < S b ∨ (S a = S b ∧ a < b))

theorem stableSort_lex {n : ℕ} (S : Fin n → EReal) (R : Fin n → Fin n → Bool) (hR : ∀ a b, R a b = decide (S a < S b)) (l : List (Fin n))
    (hl : l.Pairwise (· < ·)) : stableSort R l = stableSort (lex S) l := by
  induction l with
  | nil => rfl
  | cons a l ih =>
    rw [List.pairwise_cons] at hl
    unfold stableSort
    rw [ih hl.2]
    refine insertBefore_congr R (lex S) a _ fun b hb => ?_
    have hab : a < b := hl.1 b ((perm_stableSort _ l).mem_iff.mp hb)
    rw [hR]
    unfold lex
    have : ¬ b < a := not_lt.mpr hab.le
    simp [this]

theorem sortedFrom_lex {n : ℕ} (S : Fin n → EReal) (R : Fin n → Fin n → Bool) (hR : ∀ a b, R a b = decide (S a < S b)) (k : Fin n) :
    sortedFrom R k = sortedFrom (lex S) k := by
  unfold sortedFrom
  have e : sortPositions n R = sortPositions n (lex S) := stableSort_lex S R hR _ (List.pairwise_lt_finRange n)
  rw [List.get_of_eq e]
  rfl

theorem lex_asymm {n : ℕ} (S : Fin n → EReal) (a b : Fin n) (h : lex S a b = true) : lex S b a = false := by
  unfold lex at *
  rw [decide_eq_true_eq] at h
  rw [decide_eq_false_iff_not]
  rintro (h' | ⟨h', h''⟩)
  · rcases h with h | ⟨h, _⟩
    · exact lt_asymm h h'
    · exact absurd h h'.ne'
  · rcases h with h | ⟨_, h⟩
    · exact absurd h' h.ne'
    · exact lt_asymm h h''

theorem lex_total {n : ℕ} (S : Fin n → EReal) (a b : Fin n) (h : lex S b a = false) (hne : a ≠ b) : lex S a b = true := by
  unfold lex at *
  rw [decide_eq_false_iff_not] at h
  rw [decide_eq_true_eq]
  push Not at h
  rcases lt_or_eq_of_le h.1 with h1 | h1
  · exact .inl h1
  · exact .inr ⟨h1, lt_of_le_of_ne (h.2 h1.symm) hne⟩

theorem lex_negTrans {n : ℕ} (S : Fin n → EReal) (a b c : Fin n) (h : lex S a b = false) (h' : lex S b c = false) : lex S a c = false := by
  unfold lex at *
  rw [decide_eq_false_iff_not] at *
  push Not at *
  refine ⟨h'.1.trans h.1, fun e => ?_⟩
  have e1 : S a = S b := le_antisymm (e ▸ h'.1) h.1
  exact (h'.2 (e1 ▸ e)).trans (h.2 e1)

/-- The sorted positions are in that order. -/
theorem lex_sorted {n : ℕ} (S : Fin n → EReal) (i j : Fin n) : i < j ↔ lex S (sortedFrom (lex S) i) (sortedFrom (lex S) j) = true := by
  have h : ∀ i j : Fin n, i < j → lex S (sortedFrom (lex S) i) (sortedFrom (lex S) j) = true := fun i j hij =>
    lex_total S _ _ (sortedFrom_noInversion (lex S) (lex S) (lex_asymm S) (fun _ _ h => h) (lex_negTrans S) i j hij)
      fun e => hij.ne (sortedFrom_injective _ e)
  refine ⟨h i j, fun hl => ?_⟩
  by_contra hn
  rcases lt_or_eq_of_le (not_lt.mp hn) with h1 | h1
  · rw [lex_asymm S _ _ (h j i h1)] at hl
    exact absurd hl (by simp)
  · subst h1
    rw [lex_asymm S _ _ hl] at hl
    exact absurd hl (by simp)

/-- The place of position `a` is the number of the positions before it. -/
theorem place_eq {n : ℕ} (S : Fin n → EReal) (p a : Fin n) (hp : sortedFrom (lex S) p = a) :
    p.val = ∑ j : Fin n, if lex S j a = true then 1 else 0 := by
  subst hp
  rw [← (Equiv.ofBijective _ (Finite.injective_iff_bijective.mp (sortedFrom_injective (lex S)))).sum_comp]
  have e : ∀ q : Fin n, (if lex S (Equiv.ofBijective _ (Finite.injective_iff_bijective.mp (sortedFrom_injective (lex S))) q) (sortedFrom (lex S) p) = true then 1 else 0)
      = if q < p then 1 else 0 := fun q => if_congr (lex_sorted S q p).symm rfl rfl
  rw [Finset.sum_congr rfl fun q _ => e q]
  rw [Finset.sum_boole, Finset.filter_gt_eq_Iio, Fin.card_Iio]
  rfl

/-- Sorting a sort's positions by their place finds each position's place. -/
theorem sort_back {n : ℕ} (σ : Fin n → Fin n) (hσ : Function.Injective σ) (R : Fin n → Fin n → Bool) (hR : ∀ a b, R a b = decide (σ a < σ b)) (k : Fin n) :
    σ (sortedFrom R k) = k := by
  have hm : StrictMono fun k => σ (sortedFrom R k) := fun i j hij => by
    have h := sortedFrom_noInversion R R (fun a b h => by rw [hR] at *; simp at *; exact h.le) (fun _ _ h => h)
      (fun a b c h h' => by rw [hR] at *; simp at *; exact h'.trans h) i j hij
    rw [hR] at h
    exact lt_of_le_of_ne (by simpa using h) fun e => hij.ne (sortedFrom_injective _ (hσ e))
  exact le_antisymm hm.apply_le hm.le_apply

variable [Facts]
open Facts₀ Facts

theorem topK_at {α : Type} (gt : α → α → BitVec 1) (x : S100000x6.Idx → α) (k : Fin 100000) (p : Fin 6) :
    (Host.topK S100000x6 1 gt x sliceFits_S100000x6_S100000x6).2 (ix2 k p)
      = BitVec.ofNat 32 (sortedFrom (fun a b : Fin 6 => gt (x (ix2 k a)) (x (ix2 k b)) == 1#1) p).val := by
  have ha : ∀ q : Fin 6, Shape.Idx.along (s := S100000x6) (ix2 k p) 1 q = ix2 k q := fun q => by
    funext d
    match d with
    | ⟨0, _⟩ => rfl
    | ⟨1, _⟩ => rfl
  unfold Host.topK Host.sort2
  pointwise []
  show BitVec.ofNat 32 (sortedFrom (fun a b : Fin 6 => gt (x (Shape.Idx.along (s := S100000x6) (ix2 k p) 1 a)) (x (Shape.Idx.along (s := S100000x6) (ix2 k p) 1 b)) == 1#1) p).val = _
  simp only [ha]

omit [Facts] in
theorem gt_word (u v : EReal) : (Ideal.cmp .ogt u v == 1#1) = decide (-u < -v) := by
  rw [decide_eq_decide.mpr EReal.neg_lt_neg_iff]
  show (BitVec.ofBool (decide (v < u)) == 1#1) = decide (v < u)
  by_cases h : v < u <;> simp [h]

/-- The rank of the last of six entries: how many of the other five are not below it. -/
theorem rankR_at (x : FVec Ideal S100000x6 .f32) (k : Fin 100000) :
    rankR (F := Ideal) x (ix2 k 5) = BitVec.ofNat 32 (∑ j : Fin 5, if (x (ix2 k 5) : EReal) ≤ x (ix2 k ⟨j.val, by omega⟩) then 1 else 0) := by
  let S : Fin 6 → EReal := fun a => -(x (ix2 k a) : EReal)
  let R : Fin 6 → Fin 6 → Bool := fun a b => FloatOps.cmpfTotal (F := Ideal) .gt (x (ix2 k a)) (x (ix2 k b)) == 1#1
  have hR : ∀ a b, R a b = decide (S a < S b) := fun a b => gt_word _ _
  let σ : Fin 6 → Fin 6 := sortedFrom R
  let R2 : Fin 6 → Fin 6 → Bool := fun a b => IntOp.cmpi .sgt (-BitVec.ofNat 32 (σ a).val) (-BitVec.ofNat 32 (σ b).val) == 1#1
  have hw : ∀ a b : Fin 6, (IntOp.cmpi .sgt (-BitVec.ofNat 32 a.val) (-BitVec.ofNat 32 b.val) == 1#1) = decide (a < b) := by decide
  have hR2 : ∀ a b, R2 a b = decide (σ a < σ b) := fun a b => hw _ _
  have e1 : rankR (F := Ideal) x (ix2 k 5) = BitVec.ofNat 32 (sortedFrom R2 5).val := by
    unfold rankR
    rw [topK_at]
    have e : ∀ a : Fin 6, negi (Host.topK S100000x6 1 (FloatOps.cmpfTotal (F := Ideal) .gt) x sliceFits_S100000x6_S100000x6).2 (ix2 k a) = -BitVec.ofNat 32 (σ a).val :=
      fun a => congrArg (fun v : BitVec 32 => -v) (topK_at _ x k a)
    simp only [e]
    rfl
  have e2 : σ (sortedFrom R2 5) = 5 := sort_back σ (sortedFrom_injective R) R2 hR2 5
  have e3 := place_eq S (sortedFrom R2 5) 5 ((sortedFrom_lex S R hR _).symm.trans e2)
  rw [e1, e3, Fin.sum_univ_castSucc]
  have e4 : lex S (Fin.last 5) 5 = false := by unfold lex; simp
  rw [if_neg (by rw [e4]; simp), add_zero]
  refine congrArg (BitVec.ofNat 32) (Finset.sum_congr rfl fun j _ => if_congr ?_ rfl rfl)
  have hj : j.castSucc < (5 : Fin 6) := by rw [Fin.lt_def]; simp
  have hj' : (⟨j.val, by omega⟩ : Fin 6) = j.castSucc := rfl
  rw [hj']
  unfold lex
  rw [decide_eq_true_eq]
  simp only [hj, and_true, ← le_iff_lt_or_eq]
  exact EReal.neg_le_neg_iff

end Cert.Ref
-- ==== Proof.Scores.lean ====
/-
  Over the extended reals, on numbers: both programs' squared distances, log-probabilities and ranks.
-/
module

public import proofs.«01_k».proof.Proof.Reals
public import proofs.«01_k».proof.Proof.RefRead
public import proofs.«01_k».proof.Proof.KerRead
public import proofs.«01_k».proof.Proof.Ranks

@[expose] public section

set_option maxRecDepth 65536

noncomputable section

namespace Cert.Tile

open Idealize.ShloMosaic
open scoped BigOperators

/-! ## The reference's argument of arccosh -/

theorem gamF_coe (x y : Fin 128 → ℝ) : Cert.Ref.gamF (fun k => (x k : EReal)) (fun k => (y k : EReal)) = ((gamR x y : ℝ) : EReal) := by
  have hd : (roomR x * roomR y) ≠ 0 := (mul_pos (roomR_pos x) (roomR_pos y)).ne'
  have h1 : (1 : EReal) = ((1 : ℝ) : EReal) := rfl
  unfold Cert.Ref.gamF
  rw [word_two, word_c, word_eps, h1]
  simp only [← EReal.coe_mul, ← EReal.coe_sub, coe_sum, coe_maxr]
  have e : ∀ z : Fin 128 → ℝ, max eR (1 - ∑ k, z k * z k) = roomR z := fun z => max_comm _ _
  rw [e x, e y, coe_divr _ _ hd, ← EReal.coe_add, coe_maxr, max_comm]
  rfl

/-! ## The squared distance -/

/-- The square of arccosh. -/
def dist2 (g : ℝ) : ℝ := Real.arcosh g * Real.arcosh g

theorem acosh_coe (g : ℝ) (hg : 1 < g) : Ideal.acosh (g : EReal) = ((Real.arcosh g : ℝ) : EReal) := by
  show (if g < 1 then ⊥ else (Real.arcosh g : EReal)) = _
  rw [if_neg (not_lt.mpr hg.le)]

theorem one_lt_cR : 1 < cR := by unfold cR; norm_num

theorem sqE_coe (g : ℝ) (hg : cR ≤ g) : sqE (g : EReal) = ((dist2 g : ℝ) : EReal) := by
  have h1 : (1 : EReal) = ((1 : ℝ) : EReal) := rfl
  have hg1 : 1 < g := lt_of_lt_of_le one_lt_cR hg
  have hs : ¬ (g - 1) * (g + 1) < 0 := not_lt.mpr (mul_nonneg (by linarith) (by linarith))
  have hsq : Ideal.sqrt (((g - 1) * (g + 1) : ℝ) : EReal) = ((Real.sqrt ((g - 1) * (g + 1)) : ℝ) : EReal) := by
    show (if (g - 1) * (g + 1) < 0 then ⊥ else (Real.sqrt ((g - 1) * (g + 1)) : EReal)) = _
    rw [if_neg hs]
  have hp : ¬ g + Real.sqrt ((g - 1) * (g + 1)) ≤ 0 := by
    have := Real.sqrt_nonneg ((g - 1) * (g + 1))
    linarith
  have hl : Ideal.log ((g + Real.sqrt ((g - 1) * (g + 1)) : ℝ) : EReal) = ((Real.arcosh g : ℝ) : EReal) := by
    show (if g + Real.sqrt ((g - 1) * (g + 1)) ≤ 0 then ⊥ else (Real.log (g + Real.sqrt ((g - 1) * (g + 1))) : EReal)) = _
    rw [if_neg hp, Real.arcosh, show (g - 1) * (g + 1) = g ^ 2 - 1 by ring]
  unfold sqE
  rw [word_c, coe_maxr, max_eq_left hg, h1, ← EReal.coe_sub, ← EReal.coe_add, ← EReal.coe_mul, hsq, ← EReal.coe_add, hl, ← EReal.coe_mul]
  rfl

/-- The square of arccosh keeps the order. -/
theorem dist2_le (a b : ℝ) (ha : 1 < a) (hb : 1 < b) : dist2 a ≤ dist2 b ↔ a ≤ b := by
  have h := Real.arcosh_le_arcosh (x := a) (y := b) (by linarith) (by linarith)
  rw [← h]
  unfold dist2
  exact (mul_self_le_mul_self_iff (Real.arcosh_nonneg ha.le) (Real.arcosh_nonneg hb.le)).symm

/-! ## The log-probabilities -/

theorem posE_coe (g : ℝ) (hg : cR ≤ g) :
    posE (g : EReal) = Ideal.log (1 - Ideal.div 1 (1 + Ideal.exp (-((dist2 g : ℝ) : EReal))) + Ideal.ofBits .f32 0x3727C5AC#32) := by
  have h1 : (1 : EReal) = ((1 : ℝ) : EReal) := rfl
  have h0 : (0 : EReal) = ((0 : ℝ) : EReal) := rfl
  have hE : ∀ r : ℝ, Ideal.exp (r : EReal) = ((Real.exp r : ℝ) : EReal) := fun _ => rfl
  have hp : ∀ r : ℝ, (1 + Real.exp r) ≠ 0 := fun r => (by have := Real.exp_pos r; linarith : (0 : ℝ) < 1 + Real.exp r).ne'
  unfold posE
  rw [sqE_coe g hg]
  refine congrArg (fun z : EReal => Ideal.log (z + _)) ?_
  unfold Ideal.logistic
  rw [h0, h1, ← EReal.coe_sub, ← EReal.coe_neg, ← EReal.coe_neg, hE, hE, ← EReal.coe_add, ← EReal.coe_add, coe_divr _ _ (hp _), coe_divr _ _ (hp _), ← EReal.coe_sub]
  refine congrArg (fun r : ℝ => (r : EReal)) ?_
  rw [show -(0 - dist2 g) = dist2 g by ring, Real.exp_neg]
  have hx := Real.exp_pos (dist2 g)
  field_simp
  ring

theorem negE_coe (g : ℝ) (hg : cR ≤ g) :
    negE (g : EReal) = Ideal.log (Ideal.div 1 (1 + Ideal.exp (-((dist2 g : ℝ) : EReal))) + Ideal.ofBits .f32 0x3727C5AC#32) := by
  unfold negE
  rw [sqE_coe g hg]
  rfl

/-! ## The rank -/

theorem rankS_eq (x : Fin 5 → Ideal .f32) (p : Ideal .f32) :
    rankS x p 5 = (∑ j : Fin 5, if (x j : EReal) ≤ p then 1 else 0 : EReal) := by
  have e : ∀ u : EReal, (if (Ideal.cmp .ole u p) = 1#1 then Ideal.ofBits .f32 0x3F800000#32 else Ideal.ofBits .f32 0x00000000#32) = if u ≤ p then 1 else 0 := fun u => by
    show (if BitVec.ofBool (decide (u ≤ p)) = 1#1 then _ else _) = _
    by_cases h : u ≤ p <;> simp [h]
  have hs : ∀ n, rankS x p n = (∑ j : Fin n, if (x (Fin.ofNat 5 j.val) : EReal) ≤ p then 1 else 0 : EReal) := fun n => by
    induction n with
    | zero => exact Ideal.ofBits_zero_f32
    | succ n ih =>
      rw [rankS, ih, Fin.sum_univ_castSucc]
      exact congrArg (fun z : EReal => _ + z) (e _)
  rw [hs 5]
  exact Finset.sum_congr rfl fun j _ => by rw [show Fin.ofNat 5 j.val = j from Fin.ext (Nat.mod_eq_of_lt j.isLt)]

/-- A small count, as a word and then as a number. -/
theorem count_coe (P : Fin 5 → Prop) [DecidablePred P] :
    (FloatOps.sitofp .f32 (BitVec.ofNat 32 (∑ j : Fin 5, if P j then 1 else 0)) : Ideal .f32) = (∑ j : Fin 5, if P j then 1 else 0 : EReal) := by
  have hc : (∑ j : Fin 5, if P j then 1 else 0) ≤ 5 := by
    refine (Finset.sum_le_card_nsmul _ _ 1 fun j _ => by split <;> omega).trans ?_
    simp
  have hw : (BitVec.ofNat 32 (∑ j : Fin 5, if P j then 1 else 0)).toInt = ((∑ j : Fin 5, if P j then 1 else 0 : ℕ) : ℤ) := by
    generalize (∑ j : Fin 5, if P j then 1 else 0) = n at hc
    interval_cases n <;> rfl
  show (((BitVec.ofNat 32 (∑ j : Fin 5, if P j then 1 else 0)).toInt : ℝ) : EReal) = _
  rw [hw, Int.cast_natCast, Nat.cast_sum, ← coe_sum]
  exact Finset.sum_congr rfl fun j _ => by split <;> simp

end Cert.Tile
-- ==== Proof.Sums.lean ====
/-
  The kernel's sums as sums over the links: rows of 128 with a mask, tiles by chunks by lanes with a mask.
-/
module

public import proofs.«01_k».proof.Proof.Scores

@[expose] public section

set_option maxRecDepth 65536

noncomputable section

namespace Cert.Tile

open Idealize.ShloMosaic
open scoped BigOperators

/-! ## Sums over the natural numbers below a product -/

/-- Rows of `n`. -/
theorem sum_split (m n : ℕ) (F : ℕ → EReal) : (∑ a : Fin m, ∑ b : Fin n, F (a.val * n + b.val)) = ∑ i : Fin (m * n), F i.val := by
  rw [← Fintype.sum_prod_type']
  refine Fintype.sum_equiv (finProdFinEquiv (m := m) (n := n)) _ _ fun q => congrArg F ?_
  rw [finProdFinEquiv_apply_val]
  ring

/-- A mask cuts a sum short. -/
theorem sum_mask (N n : ℕ) (hn : n ≤ N) (F : ℕ → EReal) : (∑ i : Fin N, if i.val < n then F i.val else 0) = ∑ i : Fin n, F i.val := by
  rw [Fin.sum_univ_eq_sum_range (fun i => if i < n then F i else 0) N, Fin.sum_univ_eq_sum_range F n, ← Finset.sum_filter]
  refine Finset.sum_congr (Finset.ext fun i => ?_) fun _ _ => rfl
  rw [Finset.mem_filter, Finset.mem_range, Finset.mem_range]
  omega

/-- Rows of 128 with a mask. -/
theorem sum_rows (R n : ℕ) (hn : n ≤ R * 128) (F : ℕ → EReal) :
    (∑ x : Fin R, ∑ y : Fin 128, if x.val * 128 + y.val < n then F (x.val * 128 + y.val) else 0) = ∑ i : Fin n, F i.val := by
  rw [sum_split R 128 fun i => if i < n then F i else 0]
  exact sum_mask _ n hn F

/-- Tiles, lanes, chunks with a mask. -/
theorem sum_tiles (F : ℕ → EReal) (Q : ℕ → EReal)
    (hQ : ∀ w : Fin 32, ∀ l : Fin 16, Q (w.val * 16 + l.val) = ∑ t : Fin 196, if 3136 * w.val + 16 * t.val + l.val < 100000 then F (3136 * w.val + 16 * t.val + l.val) else 0) :
    (∑ x : Fin 4, ∑ y : Fin 128, Q (x.val * 128 + y.val)) = ∑ i : Fin 100000, F i.val := by
  rw [sum_split 4 128 Q]
  show (∑ i : Fin (32 * 16), Q i.val) = _
  rw [← sum_split 32 16 Q]
  have h : ∀ w : Fin 32, (∑ l : Fin 16, Q (w.val * 16 + l.val)) = ∑ e : Fin 3136, if w.val * 3136 + e.val < 100000 then F (w.val * 3136 + e.val) else 0 := fun w => by
    rw [Finset.sum_congr rfl fun l _ => hQ w l, Finset.sum_comm]
    refine Eq.trans ?_ (sum_split 196 16 fun e => if w.val * 3136 + e < 100000 then F (w.val * 3136 + e) else 0)
    refine Finset.sum_congr rfl fun t _ => Finset.sum_congr rfl fun l _ => ?_
    rw [show 3136 * w.val + 16 * t.val + l.val = w.val * 3136 + (t.val * 16 + l.val) by ring]
  rw [Finset.sum_congr rfl fun w _ => h w, sum_split 32 3136 fun p => if p < 100000 then F p else 0]
  exact sum_mask _ 100000 (by norm_num) F

end Cert.Tile
-- ==== Proof.Results.lean ====
/-
  Over the extended reals, with finite rows and row numbers in range, the kernel's two results are the reference's.
-/
module

public import proofs.«01_k».proof.Proof.Sums

@[expose] public section

set_option maxRecDepth 65536

noncomputable section

namespace Cert.Tile

open Idealize.ShloMosaic
open scoped BigOperators

variable [Cert.KernelIdeal.Facts] [Cert.ReferenceIdeal.Facts]

section Links

variable (h : (⟨2, ![100000, 128]⟩ : Shape).Idx → EReal) (a1 a2 : (⟨1, ![100000]⟩ : Shape).Idx → BitVec 32) (a3 a4 : (⟨1, ![500000]⟩ : Shape).Idx → BitVec 32)
  (hr : Fin 100000 → Fin 128 → ℝ)

/-- The argument of arccosh of the true link `k`. -/
def gP (k : Fin 100000) : ℝ := gamR (hr (rowNo (a1 (ix1 k)))) (hr (rowNo (a2 (ix1 k))))
/-- And of the false link `k`. -/
def gN (k : Fin 500000) : ℝ := gamR (hr (rowNo (a3 (ix1 k)))) (hr (rowNo (a4 (ix1 k))))

/-- The kernel's values of every link. -/
abbrev gK : (⟨1, ![602112]⟩ : Shape).Idx → EReal := gamAll (F := Ideal) h (ends a1 a3) (ends a2 a4)

variable (hh : ∀ r l, h (ix2 r l) = ((hr r l : ℝ) : EReal))

include hh

theorem rowOf_eq (r : Fin 100000) : rowOf (F := Ideal) h r = fun l => ((hr r l : ℝ) : EReal) :=
  funext fun l => (congrArg h (by funext d; match d with | ⟨0, _⟩ => rfl | ⟨1, _⟩ => rfl)).trans (hh r l)

theorem gK_pos (k : Fin 100000) : gK h a1 a2 a3 a4 (ix1 ⟨k.val, by omega⟩) = ((gP a1 a2 hr k : ℝ) : EReal) := by
  show rowGam (F := Ideal) (rowOf h (rowNo (ends a1 a3 (ix1 ⟨k.val, by omega⟩)))) (rowOf h (rowNo (ends a2 a4 (ix1 ⟨k.val, by omega⟩)))) = _
  rw [ends_pos, ends_pos, rowOf_eq h hr hh, rowOf_eq h hr hh]
  exact rowGam_coe _ _

theorem gK_neg (k : Fin 500000) : gK h a1 a2 a3 a4 (ix1 ⟨100352 + k.val, by omega⟩) = ((gN a3 a4 hr k : ℝ) : EReal) := by
  show rowGam (F := Ideal) (rowOf h (rowNo (ends a1 a3 (ix1 ⟨100352 + k.val, by omega⟩)))) (rowOf h (rowNo (ends a2 a4 (ix1 ⟨100352 + k.val, by omega⟩)))) = _
  rw [ends_neg, ends_neg, rowOf_eq h hr hh, rowOf_eq h hr hh]
  exact rowGam_coe _ _

/-! ## The reference's squared distances -/

theorem score1_coe (h1 : ∀ j, (a1 j).toNat < 100000) (h2 : ∀ j, (a2 j).toNat < 100000) (k : Fin 100000) :
    Cert.Ref.score1 (F := Ideal) h a1 a2 (ix2 k 0) = ((dist2 (gP a1 a2 hr k) : ℝ) : EReal) := by
  have e : ∀ (a : (⟨1, ![100000]⟩ : Shape).Idx → BitVec 32) (ha : (a (ix1 k)).toNat < 100000),
      (fun l => h (ix2 ⟨(a (ix1 k)).toNat, ha⟩ l)) = fun l => ((hr (rowNo (a (ix1 k))) l : ℝ) : EReal) := fun a ha => by
    rw [show (⟨(a (ix1 k)).toNat, ha⟩ : Fin 100000) = rowNo (a (ix1 k)) from Fin.ext (rowNo_val ha).symm]
    exact funext fun l => hh _ l
  rw [Cert.Ref.score1_at h a1 a2 k (h1 _) (h2 _), e a1, e a2, gamF_coe, acosh_coe _ (one_lt_gamR _ _), ← EReal.coe_mul]
  rfl

theorem score5_coe (h3 : ∀ j, (a3 j).toNat < 100000) (h4 : ∀ j, (a4 j).toNat < 100000) (k : Fin 500000) :
    Cert.Ref.score5 (F := Ideal) h a3 a4 (ix2 k 0) = ((dist2 (gN a3 a4 hr k) : ℝ) : EReal) := by
  have e : ∀ (a : (⟨1, ![500000]⟩ : Shape).Idx → BitVec 32) (ha : (a (ix1 k)).toNat < 100000),
      (fun l => h (ix2 ⟨(a (ix1 k)).toNat, ha⟩ l)) = fun l => ((hr (rowNo (a (ix1 k))) l : ℝ) : EReal) := fun a ha => by
    rw [show (⟨(a (ix1 k)).toNat, ha⟩ : Fin 100000) = rowNo (a (ix1 k)) from Fin.ext (rowNo_val ha).symm]
    exact funext fun l => hh _ l
  rw [Cert.Ref.score5_at h a3 a4 k (h3 _) (h4 _), e a3, e a4, gamF_coe, acosh_coe _ (one_lt_gamR _ _), ← EReal.coe_mul]
  rfl

/-! ## The loss -/

theorem posSum_eq : posSum (F := Ideal) (posRows (gK h a1 a2 a3 a4)) = (∑ k : Fin 100000, posE ((gP a1 a2 hr k : ℝ) : EReal) : EReal) := by
  rw [posSum_at]
  let f : ℕ → EReal := fun n => if hn : n < 100000 then posE ((gP a1 a2 hr ⟨n, hn⟩ : ℝ) : EReal) else 0
  have e : ∀ (x : Fin 784) (y : Fin 128), (if x.val * 128 + y.val < 100000 then posE (posRows (F := Ideal) (gK h a1 a2 a3 a4) (ix2 x y)) else 0 : EReal)
      = if x.val * 128 + y.val < 100000 then f (x.val * 128 + y.val) else 0 := fun x y => by
    by_cases hn : x.val * 128 + y.val < 100000
    · rw [if_pos hn, if_pos hn, posRows_at, gK_pos h a1 a2 a3 a4 hr hh ⟨x.val * 128 + y.val, hn⟩]
      symm
      exact dif_pos hn
    · rw [if_neg hn, if_neg hn]
  rw [Finset.sum_congr rfl fun x _ => Finset.sum_congr rfl fun y _ => e x y, sum_rows 784 100000 (by norm_num) f]
  exact Finset.sum_congr rfl fun k _ => dif_pos k.isLt

theorem negSum_eq : negSum (F := Ideal) (negRows (gK h a1 a2 a3 a4)) = (∑ k : Fin 500000, negE ((gN a3 a4 hr k : ℝ) : EReal) : EReal) := by
  rw [negSum_at]
  let f : ℕ → EReal := fun n => if hn : n < 500000 then negE ((gN a3 a4 hr ⟨n, hn⟩ : ℝ) : EReal) else 0
  have e : ∀ (x : Fin 3920) (y : Fin 128), (if x.val * 128 + y.val < 500000 then negE (negRows (F := Ideal) (gK h a1 a2 a3 a4) (ix2 x y)) else 0 : EReal)
      = if x.val * 128 + y.val < 500000 then f (x.val * 128 + y.val) else 0 := fun x y => by
    by_cases hn : x.val * 128 + y.val < 500000
    · rw [if_pos hn, if_pos hn, negRows_at, gK_neg h a1 a2 a3 a4 hr hh ⟨x.val * 128 + y.val, hn⟩]
      symm
      exact dif_pos hn
    · rw [if_neg hn, if_neg hn]
  rw [Finset.sum_congr rfl fun x _ => Finset.sum_congr rfl fun y _ => e x y, sum_rows 3920 500000 (by norm_num) f]
  exact Finset.sum_congr rfl fun k _ => dif_pos k.isLt

theorem loss_same (h1 : ∀ j, (a1 j).toNat < 100000) (h2 : ∀ j, (a2 j).toNat < 100000) (h3 : ∀ j, (a3 j).toNat < 100000) (h4 : ∀ j, (a4 j).toNat < 100000)
    (r : (⟨2, ![4, 128]⟩ : Shape).Idx → EReal) :
    lossOf (F := Ideal) (outs (posRows (gK h a1 a2 a3 a4)) (negRows (gK h a1 a2 a3 a4)) r)
      = Cert.Ref.lossR (F := Ideal) (Cert.Ref.score1 h a1 a2) (Cert.Ref.score5 h a3 a4) := by
  funext i
  rw [show i = ix0 from funext fun a => a.elim0, loss_at, Cert.Ref.lossR_at, posSum_eq h a1 a2 a3 a4 hr hh, negSum_eq h a1 a2 a3 a4 hr hh, zero_sub,
    Finset.sum_congr rfl fun k _ => posE_coe (gP a1 a2 hr k) (cR_le_gamR _ _), Finset.sum_congr rfl fun k _ => negE_coe (gN a3 a4 hr k) (cR_le_gamR _ _)]
  simp only [score1_coe h a1 a2 hr hh h1 h2, score5_coe h a3 a4 hr hh h3 h4]

/-! ## The ranks -/

/-- The reciprocal rank of the true link `n`. -/
def recip (n : ℕ) : EReal :=
  if hn : n < 100000 then Ideal.div 1 ((∑ j : Fin 5, if (gN a3 a4 hr ⟨5 * n + j.val, by omega⟩ : ℝ) ≤ gP a1 a2 hr ⟨n, hn⟩ then 1 else 0 : EReal) + 1) else 0

omit hh in
theorem recip_eq (n : ℕ) (hn : n < 100000) :
    recip a1 a2 a3 a4 hr n = Ideal.div 1 ((∑ j : Fin 5, if (gN a3 a4 hr ⟨5 * n + j.val, by omega⟩ : ℝ) ≤ gP a1 a2 hr ⟨n, hn⟩ then 1 else 0 : EReal) + 1) :=
  dif_pos hn

omit hh [Cert.ReferenceIdeal.Facts] in
/-- A tile's lane after `j` chunks. -/
theorem mrrAt_eq (b : ℕ) (hb : b < 100352) (GP : Vec Ideal Cert.KernelIdeal.S3136 .f32) (GN : Vec Ideal Cert.KernelIdeal.S15680 .f32) (l : Fin 16) (f : ℕ → EReal)
    (hf : ∀ (t : ℕ) (ht : t < 196), b + 16 * t + l.val < 100000 → Ideal.div 1 ((rankV (posOf GP t ht) (negOf GN t ht) (i1 l) : EReal) + 1) = f (b + 16 * t + l.val)) (j : ℕ) (hj : j ≤ 196) :
    mrrAt b GP GN j (i1 l) = (∑ t : Fin j, if b + 16 * t.val + l.val < 100000 then f (b + 16 * t.val + l.val) else 0 : EReal) := by
  induction j with
  | zero => exact Ideal.ofBits_zero_f32
  | succ j ih =>
    have hl : lanes (i1 l : Cert.KernelIdeal.S16.Idx) = BitVec.ofNat 32 l.val := by
      apply BitVec.eq_of_toNat_eq
      rw [lanes_toNat, BitVec.toNat_ofNat, Nat.mod_eq_of_lt (by omega)]
      rfl
    have hw : (BitVec.ofNat 32 (b + 16 * j) + BitVec.ofNat 32 l.val) = BitVec.ofNat 32 (b + 16 * j + l.val) := by
      apply BitVec.eq_of_toNat_eq
      simp [BitVec.toNat_add]
    rw [mrrAt_succ b GP GN (by omega : j < 196), Fin.sum_univ_castSucc]
    show (mrrAt b GP GN j (i1 l) + Scalar.select (IntOp.cmpi .slt (BitVec.ofNat 32 (b + 16 * j) + lanes (i1 l)) (BitVec.ofNat 32 100000))
      (Ideal.div (Ideal.ofBits .f32 0x3F800000#32) ((rankV (posOf GP j (by omega)) (negOf GN j (by omega)) (i1 l) : EReal) + Ideal.ofBits .f32 0x3F800000#32)) (Ideal.ofBits .f32 0x00000000#32) : EReal) = _
    rw [ih (by omega), hl, slt_small _ (b + 16 * j + l.val) 100000 hw (by omega) (by norm_num), sel_if, Ideal.ofBits_one_f32, Ideal.ofBits_zero_f32]
    refine congrArg (fun z : EReal => _ + z) ?_
    by_cases hn : b + 16 * j + l.val < 100000
    · rw [if_pos hn]
      exact (hf j (by omega) hn).trans (if_pos hn).symm
    · rw [if_neg hn]
      exact (if_neg hn).symm

theorem lane_eq (w : Fin 32) (l : Fin 16) :
    mrrV (F := Ideal) (tileOf w) h (ends a1 a3) (ends a2 a4) (i1 l)
      = (∑ t : Fin 196, if 3136 * w.val + 16 * t.val + l.val < 100000 then recip a1 a2 a3 a4 hr (3136 * w.val + 16 * t.val + l.val) else 0 : EReal) := by
  have hw := wid_tileOf w
  have hwl := w.isLt
  have hll := l.isLt
  show mrrAt (3136 * wid (tileOf w)) _ _ 196 (i1 l) = _
  refine (mrrAt_eq (3136 * wid (tileOf w)) (by omega) _ _ l (recip a1 a2 a3 a4 hr) (fun t ht hn => ?_) 196 le_rfl).trans (by rw [hw])
  rw [recip_eq a1 a2 a3 a4 hr _ hn]
  refine congrArg (fun z : EReal => Ideal.div 1 (z + 1)) ?_
  have eP : posOf (F := Ideal) (posV (tileOf w) h (ends a1 a3) (ends a2 a4)) t ht (i1 l) = ((gP a1 a2 hr ⟨_, hn⟩ : ℝ) : EReal) := by
    rw [← gK_pos h a1 a2 a3 a4 hr hh ⟨_, hn⟩]
    refine congrArg (gK h a1 a2 a3 a4) (funext fun d => ?_)
    match d with
    | ⟨0, _⟩ => exact Fin.ext (by show 3136 * wid (tileOf w) + (16 * t + l.val) = 3136 * wid (tileOf w) + 16 * t + l.val; omega)
  have eN : ∀ j : Fin 5, negOf (F := Ideal) (negVs (tileOf w) h (ends a1 a3) (ends a2 a4)) t ht (i1 ⟨5 * l.val + j.val, by omega⟩)
      = ((gN a3 a4 hr ⟨5 * (3136 * wid (tileOf w) + 16 * t + l.val) + j.val, by omega⟩ : ℝ) : EReal) := fun j => by
    rw [← gK_neg h a1 a2 a3 a4 hr hh ⟨5 * (3136 * wid (tileOf w) + 16 * t + l.val) + j.val, by omega⟩]
    refine congrArg (gK h a1 a2 a3 a4) (funext fun d => ?_)
    match d with
    | ⟨0, _⟩ => exact Fin.ext (by show 100352 + 15680 * wid (tileOf w) + (80 * t + (5 * l.val + j.val)) = 100352 + (5 * (3136 * wid (tileOf w) + 16 * t + l.val) + j.val); omega)
  show rankS (F := Ideal) (fun k => negOf (F := Ideal) (negVs (tileOf w) h (ends a1 a3) (ends a2 a4)) t ht (i1 ⟨5 * l.val + k.val, by omega⟩))
    (posOf (F := Ideal) (posV (tileOf w) h (ends a1 a3) (ends a2 a4)) t ht (i1 l)) 5 = _
  rw [rankS_eq, eP]
  exact Finset.sum_congr rfl fun j _ => if_congr (by rw [eN j]; exact EReal.coe_le_coe_iff) rfl rfl

theorem rankSum_eq : rankSum (F := Ideal) (rankRows (mrrAll (F := Ideal) h (ends a1 a3) (ends a2 a4))) = (∑ k : Fin 100000, recip a1 a2 a3 a4 hr k.val : EReal) := by
  rw [rankSum_at]
  let Q : ℕ → EReal := fun n => if hn : n < 512 then mrrAll (F := Ideal) h (ends a1 a3) (ends a2 a4) (ix1 ⟨n, hn⟩) else 0
  have eQ : ∀ (x : Fin 4) (y : Fin 128), (rankRows (mrrAll (F := Ideal) h (ends a1 a3) (ends a2 a4)) (ix2 x y) : EReal) = Q (x.val * 128 + y.val) := fun x y => by
    rw [rankRows_at]
    symm
    exact dif_pos (by omega : x.val * 128 + y.val < 512)
  rw [Finset.sum_congr rfl fun x _ => Finset.sum_congr rfl fun y _ => eQ x y]
  refine sum_tiles (recip a1 a2 a3 a4 hr) Q fun w l => ?_
  have hwl := w.isLt
  have hll := l.isLt
  have hn : w.val * 16 + l.val < 512 := by omega
  rw [← lane_eq h a1 a2 a3 a4 hr hh w l]
  refine (dif_pos hn).trans ?_
  show mrrV (F := Ideal) (tileOf ⟨(w.val * 16 + l.val) / 16, _⟩) h (ends a1 a3) (ends a2 a4) (i1 ⟨(w.val * 16 + l.val) % 16, _⟩) = _
  have e1 : (⟨(w.val * 16 + l.val) / 16, by omega⟩ : Fin 32) = w := Fin.ext (by show (w.val * 16 + l.val) / 16 = w.val; omega)
  have e2 : (⟨(w.val * 16 + l.val) % 16, by omega⟩ : Fin 16) = l := Fin.ext (by show (w.val * 16 + l.val) % 16 = l.val; omega)
  rw [e1, e2]

theorem mrr_same (h1 : ∀ j, (a1 j).toNat < 100000) (h2 : ∀ j, (a2 j).toNat < 100000) (h3 : ∀ j, (a3 j).toNat < 100000) (h4 : ∀ j, (a4 j).toNat < 100000)
    (g : (⟨2, ![784, 128]⟩ : Shape).Idx → EReal) (g' : (⟨2, ![3920, 128]⟩ : Shape).Idx → EReal) :
    mrrOf (F := Ideal) (outs g g' (rankRows (mrrAll (F := Ideal) h (ends a1 a3) (ends a2 a4))))
      = Cert.Ref.mrrR (F := Ideal) (Cert.Ref.rankR (Cert.Ref.six (Cert.Ref.score1 h a1 a2) (Cert.Ref.score5 h a3 a4))) := by
  funext i
  rw [show i = ix0 from funext fun a => a.elim0, mrr_at, Cert.Ref.mrrR_at, rankSum_eq h a1 a2 a3 a4 hr hh]
  refine congrArg₂ Ideal.div ?_ rfl
  refine Finset.sum_congr rfl fun k _ => ?_
  rw [recip_eq a1 a2 a3 a4 hr k.val k.isLt, Cert.Ref.rankR_at, count_coe]
  refine congrArg (fun z : EReal => Ideal.div 1 (z + 1)) (Finset.sum_congr rfl fun j _ => if_congr ?_ rfl rfl)
  have key : ∀ p q u v : EReal, u = p → v = q → (u ≤ v ↔ p ≤ q) := fun p q u v hp hq => by rw [hp, hq]
  refine Iff.trans ?_ (key _ _ _ _ (Cert.Ref.six_pos (Cert.Ref.score1 (F := Ideal) h a1 a2) (Cert.Ref.score5 (F := Ideal) h a3 a4) k)
    (Cert.Ref.six_neg (Cert.Ref.score1 (F := Ideal) h a1 a2) (Cert.Ref.score5 (F := Ideal) h a3 a4) k j)).symm
  rw [score1_coe h a1 a2 hr hh h1 h2, score5_coe h a3 a4 hr hh h3 h4, EReal.neg_le_neg_iff, EReal.coe_le_coe_iff]
  exact (dist2_le _ _ (one_lt_gamR _ _) (one_lt_gamR _ _)).symm

end Links

end Cert.Tile
-- ==== Proof.Equal.lean ====
/-
  The kernel's two results are the reference's two results, on finite rows and row numbers in range.
-/
module

public import proofs.«01_k».proof.Proof.Frames
public import proofs.«01_k».proof.Proof.Results

@[expose] public section

set_option maxRecDepth 65536

noncomputable section

namespace Cert.Tile

open Cert.KernelIdeal Idealize.ShloMosaic
open Idealize.ShloMosaic.TcCoe
open Idealize.SL.Sem

instance finite_facts : Cert.Pre_finite_rows.Facts := ⟨by decide, by decide, by decide⟩

theorem word_inf : Ideal.ofBits .f32 0x7F800000#32 = (⊤ : EReal) := by
  simp [Ideal.ofBits, Ideal.ieee]

/-- An extended real that jax's test `|x| < inf` passes is a real number. -/
theorem real_of_test (x : EReal) (e : Ideal.cmp .olt (max x (-x) : EReal) (Ideal.ofBits .f32 0x7F800000#32) = 1#1) : x = ((x.toReal : ℝ) : EReal) := by
  have h2 : ∀ p : Bool, (BitVec.ofBool p = 1#1) ↔ p = true := by decide
  rw [word_inf] at e
  have hlt : max x (-x) < (⊤ : EReal) := by
    have e' : BitVec.ofBool (decide (max x (-x) < (⊤ : EReal))) = 1#1 := e
    rwa [h2, decide_eq_true_eq] at e'
  refine (EReal.coe_toReal ?_ ?_).symm
  · rintro rfl
    exact absurd (lt_of_le_of_lt (le_max_left _ _) hlt) (lt_irrefl _)
  · rintro rfl
    exact absurd (lt_of_le_of_lt (le_max_right _ _) hlt) (by simp)

/-- The test of the argument arrays passes. -/
def Passes (a0 : FVec Ideal S100000x128 .f32) (a1 a2 : IVec S100000 32) (a3 a4 : IVec S500000 32) : Prop :=
  (Cert.Pre_finite_rows.fn (F := Ideal) a0 a1 a2 a3 a4).1 = (fun _ => 1#1)
    ∧ (Cert.Pre_finite_rows.fn (F := Ideal) a0 a1 a2 a3 a4).2.1 = (fun _ => 1#1)
    ∧ (Cert.Pre_finite_rows.fn (F := Ideal) a0 a1 a2 a3 a4).2.2.1 = (fun _ => 1#1)
    ∧ (Cert.Pre_finite_rows.fn (F := Ideal) a0 a1 a2 a3 a4).2.2.2.1 = (fun _ => 1#1)
    ∧ (Cert.Pre_finite_rows.fn (F := Ideal) a0 a1 a2 a3 a4).2.2.2.2 = (fun _ => 1#1)

section Test

variable {a0 : FVec Ideal S100000x128 .f32} {a1 a2 : IVec S100000 32} {a3 a4 : IVec S500000 32} (h : Passes a0 a1 a2 a3 a4)

include h

theorem Passes.ranges : (∀ j, (a1 j).toNat < 100000) ∧ (∀ j, (a2 j).toNat < 100000) ∧ (∀ j, (a3 j).toNat < 100000) ∧ (∀ j, (a4 j).toNat < 100000) :=
  ⟨fun j => in_range _ (congrFun h.2.1 j), fun j => in_range _ (congrFun h.2.2.1 j), fun j => in_range _ (congrFun h.2.2.2.1 j),
    fun j => in_range _ (congrFun h.2.2.2.2 j)⟩

theorem Passes.real (i : S100000x128.Idx) : a0 i = (((a0 i : EReal).toReal : ℝ) : EReal) := real_of_test _ (congrFun h.1 i)

/-- The two losses are one. -/
theorem Passes.loss (r : (⟨2, ![4, 128]⟩ : Shape).Idx → EReal) :
    lossOf (F := Ideal) (outs (posRows (gamAll a0 (ends a1 a3) (ends a2 a4))) (negRows (gamAll a0 (ends a1 a3) (ends a2 a4))) r)
      = Cert.Ref.lossR (Cert.Ref.score1 a0 a1 a2) (Cert.Ref.score5 a0 a3 a4) :=
  loss_same a0 a1 a2 a3 a4 (fun r l => (a0 (ix2 r l) : EReal).toReal) (fun r l => h.real (ix2 r l)) h.ranges.1 h.ranges.2.1 h.ranges.2.2.1 h.ranges.2.2.2 r

/-- The two mean reciprocal ranks are one. -/
theorem Passes.mrr (g : (⟨2, ![784, 128]⟩ : Shape).Idx → EReal) (g' : (⟨2, ![3920, 128]⟩ : Shape).Idx → EReal) :
    mrrOf (F := Ideal) (outs g g' (rankRows (mrrAll a0 (ends a1 a3) (ends a2 a4))))
      = Cert.Ref.mrrR (Cert.Ref.rankR (Cert.Ref.six (Cert.Ref.score1 a0 a1 a2) (Cert.Ref.score5 a0 a3 a4))) :=
  mrr_same a0 a1 a2 a3 a4 (fun r l => (a0 (ix2 r l) : EReal).toReal) (fun r l => h.real (ix2 r l)) h.ranges.1 h.ranges.2.1 h.ranges.2.2.1 h.ranges.2.2.2 g g'

end Test

theorem frame_ideal_finite : Cert.quiescent_KernelIdeal_pre_finite_rows := fun m g hpre =>
  run_kept (F := Ideal) m g (ins_ok m fun d => Passes.ranges (hpre d))

theorem frame_ref_finite : Cert.quiescent_ReferenceIdeal_pre_finite_rows := fun m g _ => frame_ref m g trivial

theorem algebraic : Cert.algebraic_KernelIdeal_ReferenceIdeal_pre_finite_rows := fun m g m' g' hpre hargs =>
  ⟨fun c => lossOf (res m c), fun c => mrrOf (res m c),
    (θ_run (defs (F := Ideal)) _ _).mono
      (fun _ h c => ⟨(h.1 c).2.1, (h.1 c).2.2, (h.1 c).1 _ (.inl rfl), (h.1 c).1 _ (.inr (.inl rfl)), (h.1 c).1 _ (.inr (.inr (.inl rfl))),
        (h.1 c).1 _ (.inr (.inr (.inr (.inl rfl)))), (h.1 c).1 _ (.inr (.inr (.inr (.inr rfl))))⟩)
      (run_main m g (ins_ok m fun d => Passes.ranges (hpre d))),
    (θ_run (Cert.ReferenceIdeal.defs (F := Ideal)) _ _).mono
      (fun _ h c => by
        have hp : Passes (arg m c main_arg0) (arg m c main_arg1) (arg m c main_arg2) (arg m c main_arg3) (arg m c main_arg4) := hpre c
        obtain ⟨e0, e1, e2, e3, e4⟩ := hargs c
        refine ⟨(h c).1.trans ?_, (h c).2.1.trans ?_, (h c).2.2⟩
        · rw [Cert.Ref.loss_eq, e0, e1, e2, e3, e4]
          exact (hp.loss _).symm
        · rw [Cert.Ref.mrr_eq, e0, e1, e2, e3, e4]
          exact (hp.mrr _ _).symm)
      (Cert.ReferenceIdeal.Value.run m' g')⟩

end Cert.Tile
-- ==== Proof.lean ====
/-
  The certificate.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Equal

@[expose] public section

noncomputable section

namespace Cert.Proof

theorem claim : Cert.Claim :=
  ⟨Cert.Kernel.Gen.facts, Cert.KernelIdeal.Gen.facts, Cert.ReferenceIdeal.Gen.facts, Cert.Tile.pre_facts, Cert.Tile.finite_facts,
    Cert.Tile.frame_bits, Cert.Tile.frame_ideal, Cert.Tile.frame_ideal_finite, Cert.Tile.frame_ref, Cert.Tile.frame_ref_finite, trivial,
    Cert.Tile.algebraic⟩

end Cert.Proof

end
